-- ==== Defs.lean ====
def Pre_Kernel [hPre_in_rows : Cert.Pre_in_rows.Facts] (m : (ℓ : Loc Cert.Kernel.nD Cert.Kernel.τ Cert.Kernel.sig) → Buf (Elt Bits) ℓ) : Prop :=
  ∀ c : Dev Cert.Kernel.nD,
    (Cert.Pre_in_rows.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_rows : Cert.Pre_in_rows.Facts] (m : (ℓ : Loc Cert.KernelIdeal.nD Cert.KernelIdeal.τ Cert.KernelIdeal.sig) → Buf (Elt Ideal) ℓ) : Prop :=
  ∀ c : Dev Cert.KernelIdeal.nD,
    (Cert.Pre_in_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_in_rows : Cert.Pre_in_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_in_rows : Cert.Pre_in_rows.Facts] (m : (ℓ : Loc Cert.Reference.nD Cert.Reference.τ Cert.Reference.sig) → Buf (Elt Bits) ℓ) : Prop :=
  ∀ c : Dev Cert.Reference.nD,
    (Cert.Pre_in_rows.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Kernel2 [hPre_in_experts : Cert.Pre_in_experts.Facts] (m : (ℓ : Loc Cert.Kernel2.nD Cert.Kernel2.τ Cert.Kernel2.sig) → Buf (Elt Bits) ℓ) : Prop :=
  ∀ c : Dev Cert.Kernel2.nD,
    (Cert.Pre_in_experts.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))) = (fun _ => 1#1)

def Pre_Kernel2Ideal [hPre_in_experts : Cert.Pre_in_experts.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_in_experts.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal [hPre_in_experts : Cert.Pre_in_experts.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_in_experts.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_scores [hPre_finite_scores : Cert.Pre_finite_scores.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_scores.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_scores [hPre_finite_scores : Cert.Pre_finite_scores.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_scores.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_weights [hPre_finite_weights : Cert.Pre_finite_weights.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_weights.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_weights [hPre_finite_weights : Cert.Pre_finite_weights.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_weights.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))) = (fun _ => 1#1)

def quiescent_Kernel [hKernel : Cert.Kernel.Facts] [hPre_in_rows : Cert.Pre_in_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_rows : Cert.Pre_in_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] [hPre_in_rows : Cert.Pre_in_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_in_rows : Cert.Pre_in_rows.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Kernel2 [hKernel2 : Cert.Kernel2.Facts] [hPre_in_experts : Cert.Pre_in_experts.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_in_experts : Cert.Pre_in_experts.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] [hPre_in_experts : Cert.Pre_in_experts.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_finite_scores [hKernel3Ideal : Cert.Kernel3Ideal.Facts] [hPre_finite_scores : Cert.Pre_finite_scores.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_scores m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_finite_scores [hReference3Ideal : Cert.Reference3Ideal.Facts] [hPre_finite_scores : Cert.Pre_finite_scores.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_scores m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Kernel6Ideal_pre_finite_weights [hKernel6Ideal : Cert.Kernel6Ideal.Facts] [hPre_finite_weights : Cert.Pre_finite_weights.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_weights m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Reference6Ideal_pre_finite_weights [hReference6Ideal : Cert.Reference6Ideal.Facts] [hPre_finite_weights : Cert.Pre_finite_weights.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_weights m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_rows : Cert.Pre_in_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_in_rows : Cert.Pre_in_rows.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v11)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v11) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v7) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_Kernel2_Kernel2Ideal : Prop :=
  True

def algebraic_Kernel2Ideal_Reference2Ideal [hKernel2Ideal : Cert.Kernel2Ideal.Facts] [hReference2Ideal : Cert.Reference2Ideal.Facts] [hPre_in_experts : Cert.Pre_in_experts.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v32) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal_pre_finite_scores [hKernel3Ideal : Cert.Kernel3Ideal.Facts] [hReference3Ideal : Cert.Reference3Ideal.Facts] [hPre_finite_scores : Cert.Pre_finite_scores.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_scores m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v22)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v22) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v22) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v27) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v27) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal_pre_finite_weights [hKernel6Ideal : Cert.Kernel6Ideal.Facts] [hReference6Ideal : Cert.Reference6Ideal.Facts] [hPre_finite_weights : Cert.Pre_finite_weights.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_weights m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v65_0)) (v1 : (c : Dev Cert.Kernel6Ideal.nD) → Buf (Elt Ideal) ((c.tc : Thread Cert.Kernel6Ideal.nD Cert.Kernel6Ideal.τ).loc Cert.Kernel6Ideal.main_v65_1)) (v2 : (c : Dev Cert.Kernel6Ideal.nD) → Buf (Elt Ideal) ((c.tc : Thread Cert.Kernel6Ideal.nD Cert.Kernel6Ideal.τ).loc Cert.Kernel6Ideal.main_v65_2)) (v3 : (c : Dev Cert.Kernel6Ideal.nD) → Buf (Elt Ideal) ((c.tc : Thread Cert.Kernel6Ideal.nD Cert.Kernel6Ideal.τ).loc Cert.Kernel6Ideal.main_v65_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v65_0) = v0 c
          ∧ r.2.mem ((c.tc : Thread Cert.Kernel6Ideal.nD Cert.Kernel6Ideal.τ).loc Cert.Kernel6Ideal.main_v65_1) = v1 c
          ∧ r.2.mem ((c.tc : Thread Cert.Kernel6Ideal.nD Cert.Kernel6Ideal.τ).loc Cert.Kernel6Ideal.main_v65_2) = v2 c
          ∧ r.2.mem ((c.tc : Thread Cert.Kernel6Ideal.nD Cert.Kernel6Ideal.τ).loc Cert.Kernel6Ideal.main_v65_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v106) = v0 c
          ∧ r.2.mem ((c.tc : Thread Cert.Reference6Ideal.nD Cert.Reference6Ideal.τ).loc Cert.Reference6Ideal.main_v108) = v1 c
          ∧ r.2.mem ((c.tc : Thread Cert.Reference6Ideal.nD Cert.Reference6Ideal.τ).loc Cert.Reference6Ideal.main_v110) = v2 c
          ∧ r.2.mem ((c.tc : Thread Cert.Reference6Ideal.nD Cert.Reference6Ideal.τ).loc Cert.Reference6Ideal.main_v111) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_in_rows : Cert.Pre_in_rows.Facts) (hPre_in_experts : Cert.Pre_in_experts.Facts) (hPre_finite_scores : Cert.Pre_finite_scores.Facts) (hPre_finite_weights : Cert.Pre_finite_weights.Facts),
    quiescent_Kernel (hKernel := hKernel) (hPre_in_rows := hPre_in_rows)
    ∧ quiescent_KernelIdeal (hKernelIdeal := hKernelIdeal) (hPre_in_rows := hPre_in_rows)
    ∧ quiescent_ReferenceIdeal (hReferenceIdeal := hReferenceIdeal) (hPre_in_rows := hPre_in_rows)
    ∧ quiescent_Reference (hReference := hReference) (hPre_in_rows := hPre_in_rows)
    ∧ quiescent_Kernel2 (hKernel2 := hKernel2) (hPre_in_experts := hPre_in_experts)
    ∧ quiescent_Kernel2Ideal (hKernel2Ideal := hKernel2Ideal) (hPre_in_experts := hPre_in_experts)
    ∧ quiescent_Reference2Ideal (hReference2Ideal := hReference2Ideal) (hPre_in_experts := hPre_in_experts)
    ∧ quiescent_Kernel3 (hKernel3 := hKernel3)
    ∧ quiescent_Kernel3Ideal (hKernel3Ideal := hKernel3Ideal)
    ∧ quiescent_Kernel3Ideal_pre_finite_scores (hKernel3Ideal := hKernel3Ideal) (hPre_finite_scores := hPre_finite_scores)
    ∧ quiescent_Reference3Ideal (hReference3Ideal := hReference3Ideal)
    ∧ quiescent_Reference3Ideal_pre_finite_scores (hReference3Ideal := hReference3Ideal) (hPre_finite_scores := hPre_finite_scores)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite_weights (hKernel6Ideal := hKernel6Ideal) (hPre_finite_weights := hPre_finite_weights)
    ∧ quiescent_Reference6Ideal (hReference6Ideal := hReference6Ideal)
    ∧ quiescent_Reference6Ideal_pre_finite_weights (hReference6Ideal := hReference6Ideal) (hPre_finite_weights := hPre_finite_weights)
    ∧ preserves_Kernel_KernelIdeal
    ∧ algebraic_KernelIdeal_ReferenceIdeal (hKernelIdeal := hKernelIdeal) (hReferenceIdeal := hReferenceIdeal) (hPre_in_rows := hPre_in_rows)
    ∧ bitexact_Kernel_Reference (hKernel := hKernel) (hReference := hReference) (hPre_in_rows := hPre_in_rows)
    ∧ preserves_Kernel2_Kernel2Ideal
    ∧ algebraic_Kernel2Ideal_Reference2Ideal (hKernel2Ideal := hKernel2Ideal) (hReference2Ideal := hReference2Ideal) (hPre_in_experts := hPre_in_experts)
    ∧ preserves_Kernel3_Kernel3Ideal
    ∧ algebraic_Kernel3Ideal_Reference3Ideal_pre_finite_scores (hKernel3Ideal := hKernel3Ideal) (hReference3Ideal := hReference3Ideal) (hPre_finite_scores := hPre_finite_scores)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite_weights (hKernel6Ideal := hKernel6Ideal) (hReference6Ideal := hReference6Ideal) (hPre_finite_weights := hPre_finite_weights)
-- ==== Pre_finite_scores.lean ====
abbrev S16x4096x8x64 : Shape := ⟨4, ![16, 4096, 8, 64]⟩
abbrev S16x4096x8x32 : Shape := ⟨4, ![16, 4096, 8, 32]⟩
abbrev S16x4096x32 : Shape := ⟨3, ![16, 4096, 32]⟩
abbrev S_ : Shape := ⟨0, ![]⟩

class Facts : Prop where
  bcast_S_S16x4096x8x64 : S_.BroadcastsInDim S16x4096x8x64 (![] : Fin 0 → Fin S16x4096x8x64.rank)
  reducesTo_S16x4096x8x64_S_d0_1_2_3 : S16x4096x8x64.ReducesTo [0, 1, 2, 3] S_
  h_S_ : 0 < S_.numel
  bcast_S_S16x4096x8x32 : S_.BroadcastsInDim S16x4096x8x32 (![] : Fin 0 → Fin S16x4096x8x32.rank)
  reducesTo_S16x4096x8x32_S_d0_1_2_3 : S16x4096x8x32.ReducesTo [0, 1, 2, 3] S_
  bcast_S_S16x4096x32 : S_.BroadcastsInDim S16x4096x32 (![] : Fin 0 → Fin S16x4096x32.rank)
  reducesTo_S16x4096x32_S_d0_1_2 : S16x4096x32.ReducesTo [0, 1, 2] S_

variable [Facts]

def fn_part1 {F : FTy → Type} [FloatOps F] (main_v13 : IVec S_ 1) (main_v16 : IVec S16x4096x32 1) : IVec S_ 1 :=
  let main_c_5 : IVec S_ 1 := constantI S_ 1 1#1
  let main_v17 : IVec S_ 1 := (fun x v => Host.reduce IntOp.andi x v reducesTo_S16x4096x32_S_d0_1_2 h_S_) main_v16 main_c_5
  let main_v18 : IVec S_ 1 := andi main_v13 main_v17
  main_v18

def fn {F : FTy → Type} [FloatOps F] (main_arg0 : FVec F S16x4096x8x64 .f32) (main_arg1 : FVec F S16x4096x8x32 .f32) (main_arg2 : FVec F S16x4096x8x64 .f32) (main_arg3 : FVec F S16x4096x32 .f32) (main_arg4 : FVec F S16x4096x8x64 .f32) : IVec S_ 1 :=
  let main_v0 : FVec F S16x4096x8x64 .f32 := Host.absf main_arg0
  let main_cst : FVec F S_ .f32 := constant S_ .f32 0x7F800000#32
  let main_v1 : FVec F S16x4096x8x64 .f32 := broadcastInDim S16x4096x8x64 ![] bcast_S_S16x4096x8x64 main_cst
  let main_v2 : IVec S16x4096x8x64 1 := cmpf .olt main_v0 main_v1
  let main_c : IVec S_ 1 := constantI S_ 1 1#1
  let main_v3 : IVec S_ 1 := (fun x v => Host.reduce IntOp.andi x v reducesTo_S16x4096x8x64_S_d0_1_2_3 h_S_) main_v2 main_c
  let main_v4 : FVec F S16x4096x8x32 .f32 := Host.absf main_arg1
  let main_cst_0 : FVec F S_ .f32 := constant S_ .f32 0x7F800000#32
  let main_v5 : FVec F S16x4096x8x32 .f32 := broadcastInDim S16x4096x8x32 ![] bcast_S_S16x4096x8x32 main_cst_0
  let main_v6 : IVec S16x4096x8x32 1 := cmpf .olt main_v4 main_v5
  let main_c_1 : IVec S_ 1 := constantI S_ 1 1#1
  let main_v7 : IVec S_ 1 := (fun x v => Host.reduce IntOp.andi x v reducesTo_S16x4096x8x32_S_d0_1_2_3 h_S_) main_v6 main_c_1
  let main_v8 : IVec S_ 1 := andi main_v3 main_v7
  let main_v9 : FVec F S16x4096x8x64 .f32 := Host.absf main_arg2
  let main_cst_2 : FVec F S_ .f32 := constant S_ .f32 0x7F800000#32
  let main_v10 : FVec F S16x4096x8x64 .f32 := broadcastInDim S16x4096x8x64 ![] bcast_S_S16x4096x8x64 main_cst_2
  let main_v11 : IVec S16x4096x8x64 1 := cmpf .olt main_v9 main_v10
  let main_c_3 : IVec S_ 1 := constantI S_ 1 1#1
  let main_v12 : IVec S_ 1 := (fun x v => Host.reduce IntOp.andi x v reducesTo_S16x4096x8x64_S_d0_1_2_3 h_S_) main_v11 main_c_3
  let main_v13 : IVec S_ 1 := andi main_v8 main_v12
  let main_v14 : FVec F S16x4096x32 .f32 := Host.absf main_arg3
  let main_cst_4 : FVec F S_ .f32 := constant S_ .f32 0x7F800000#32
  let main_v15 : FVec F S16x4096x32 .f32 := broadcastInDim S16x4096x32 ![] bcast_S_S16x4096x32 main_cst_4
  let main_v16 : IVec S16x4096x32 1 := cmpf .olt main_v14 main_v15
  fn_part1 (F := F) main_v13 main_v16
-- ==== Pre_finite_weights.lean ====
abbrev S16x4096x1024 : Shape := ⟨3, ![16, 4096, 1024]⟩
abbrev S1024x1184 : Shape := ⟨2, ![1024, 1184]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S_ : Shape := ⟨0, ![]⟩

class Facts : Prop where
  bcast_S_S16x4096x1024 : S_.BroadcastsInDim S16x4096x1024 (![] : Fin 0 → Fin S16x4096x1024.rank)
  reducesTo_S16x4096x1024_S_d0_1_2 : S16x4096x1024.ReducesTo [0, 1, 2] S_
  h_S_ : 0 < S_.numel
  bcast_S_S1024x1184 : S_.BroadcastsInDim S1024x1184 (![] : Fin 0 → Fin S1024x1184.rank)
  reducesTo_S1024x1184_S_d0_1 : S1024x1184.ReducesTo [0, 1] S_
  bcast_S_S384 : S_.BroadcastsInDim S384 (![] : Fin 0 → Fin S384.rank)
  reducesTo_S384_S_d0 : S384.ReducesTo [0] S_
  bcast_S_S384x768 : S_.BroadcastsInDim S384x768 (![] : Fin 0 → Fin S384x768.rank)
  reducesTo_S384x768_S_d0_1 : S384x768.ReducesTo [0, 1] S_

variable [Facts]

def fn_part1 {F : FTy → Type} [FloatOps F] (main_v13 : IVec S_ 1) (main_v16 : IVec S384x768 1) : IVec S_ 1 :=
  let main_c_5 : IVec S_ 1 := constantI S_ 1 1#1
  let main_v17 : IVec S_ 1 := (fun x v => Host.reduce IntOp.andi x v reducesTo_S384x768_S_d0_1 h_S_) main_v16 main_c_5
  let main_v18 : IVec S_ 1 := andi main_v13 main_v17
  main_v18

def fn {F : FTy → Type} [FloatOps F] (main_arg0 : FVec F S16x4096x1024 .f32) (main_arg1 : FVec F S1024x1184 .f32) (main_arg2 : FVec F S384 .f32) (main_arg3 : FVec F S384x768 .f32) (main_arg4 : FVec F S256 .f32) (main_arg5 : FVec F S256x1024 .f32) : IVec S_ 1 :=
  let main_v0 : FVec F S16x4096x1024 .f32 := Host.absf main_arg0
  let main_cst : FVec F S_ .f32 := constant S_ .f32 0x7F800000#32
  let main_v1 : FVec F S16x4096x1024 .f32 := broadcastInDim S16x4096x1024 ![] bcast_S_S16x4096x1024 main_cst
  let main_v2 : IVec S16x4096x1024 1 := cmpf .olt main_v0 main_v1
  let main_c : IVec S_ 1 := constantI S_ 1 1#1
  let main_v3 : IVec S_ 1 := (fun x v => Host.reduce IntOp.andi x v reducesTo_S16x4096x1024_S_d0_1_2 h_S_) main_v2 main_c
  let main_v4 : FVec F S1024x1184 .f32 := Host.absf main_arg1
  let main_cst_0 : FVec F S_ .f32 := constant S_ .f32 0x7F800000#32
  let main_v5 : FVec F S1024x1184 .f32 := broadcastInDim S1024x1184 ![] bcast_S_S1024x1184 main_cst_0
  let main_v6 : IVec S1024x1184 1 := cmpf .olt main_v4 main_v5
  let main_c_1 : IVec S_ 1 := constantI S_ 1 1#1
  let main_v7 : IVec S_ 1 := (fun x v => Host.reduce IntOp.andi x v reducesTo_S1024x1184_S_d0_1 h_S_) main_v6 main_c_1
  let main_v8 : IVec S_ 1 := andi main_v3 main_v7
  let main_v9 : FVec F S384 .f32 := Host.absf main_arg2
  let main_cst_2 : FVec F S_ .f32 := constant S_ .f32 0x7F800000#32
  let main_v10 : FVec F S384 .f32 := broadcastInDim S384 ![] bcast_S_S384 main_cst_2
  let main_v11 : IVec S384 1 := cmpf .olt main_v9 main_v10
  let main_c_3 : IVec S_ 1 := constantI S_ 1 1#1
  let main_v12 : IVec S_ 1 := (fun x v => Host.reduce IntOp.andi x v reducesTo_S384_S_d0 h_S_) main_v11 main_c_3
  let main_v13 : IVec S_ 1 := andi main_v8 main_v12
  let main_v14 : FVec F S384x768 .f32 := Host.absf main_arg3
  let main_cst_4 : FVec F S_ .f32 := constant S_ .f32 0x7F800000#32
  let main_v15 : FVec F S384x768 .f32 := broadcastInDim S384x768 ![] bcast_S_S384x768 main_cst_4
  let main_v16 : IVec S384x768 1 := cmpf .olt main_v14 main_v15
  fn_part1 (F := F) main_v13 main_v16
-- ==== Pre_in_experts.lean ====
abbrev S147456x1024 : Shape := ⟨2, ![147456, 1024]⟩
abbrev S147456 : Shape := ⟨1, ![147456]⟩
abbrev S288 : Shape := ⟨1, ![288]⟩
abbrev S1 : Shape := ⟨1, ![1]⟩
abbrev S32x1024x256 : Shape := ⟨3, ![32, 1024, 256]⟩
abbrev S32x256x1024 : Shape := ⟨3, ![32, 256, 1024]⟩
abbrev S_ : Shape := ⟨0, ![]⟩

class Facts : Prop where
  bcast_S_S288 : S_.BroadcastsInDim S288 (![] : Fin 0 → Fin S288.rank)

variable [Facts]

def fn {F : FTy → Type} [FloatOps F] (main_arg0 : FVec F S147456x1024 .f32) (main_arg1 : FVec F S147456 .f32) (main_arg2 : IVec S288 32) (main_arg3 : IVec S1 32) (main_arg4 : FVec F S32x1024x256 .f32) (main_arg5 : FVec F S32x1024x256 .f32) (main_arg6 : FVec F S32x256x1024 .f32) : IVec S288 1 :=
  let main_c : IVec S_ 32 := constantI S_ 32 0#32
  let main_v0 : IVec S288 32 := broadcastInDim S288 ![] bcast_S_S288 main_c
  let main_v1 : IVec S288 1 := cmpi .sge main_arg2 main_v0
  let main_c_0 : IVec S_ 32 := constantI S_ 32 32#32
  let main_v2 : IVec S288 32 := broadcastInDim S288 ![] bcast_S_S288 main_c_0
  let main_v3 : IVec S288 1 := cmpi .slt main_arg2 main_v2
  let main_v4 : IVec S288 1 := andi main_v1 main_v3
  main_v4
-- ==== Pre_in_rows.lean ====
abbrev S65536x1024 : Shape := ⟨2, ![65536, 1024]⟩
abbrev S147456 : Shape := ⟨1, ![147456]⟩
abbrev S_ : Shape := ⟨0, ![]⟩

class Facts : Prop where
  bcast_S_S147456 : S_.BroadcastsInDim S147456 (![] : Fin 0 → Fin S147456.rank)

variable [Facts]

def fn {F : FTy → Type} [FloatOps F] (main_arg0 : FVec F S65536x1024 .f32) (main_arg1 : IVec S147456 32) : IVec S147456 1 :=
  let main_c : IVec S_ 32 := constantI S_ 32 0#32
  let main_v0 : IVec S147456 32 := broadcastInDim S147456 ![] bcast_S_S147456 main_c
  let main_v1 : IVec S147456 1 := cmpi .sge main_arg1 main_v0
  let main_c_0 : IVec S_ 32 := constantI S_ 32 65536#32
  let main_v2 : IVec S147456 32 := broadcastInDim S147456 ![] bcast_S_S147456 main_c_0
  let main_v3 : IVec S147456 1 := cmpi .slt main_arg1 main_v2
  let main_v4 : IVec S147456 1 := andi main_v1 main_v3
  main_v4
-- ==== Kernel.lean ====
abbrev S65536x1024 : Shape := ⟨2, ![65536, 1024]⟩
abbrev S147456 : Shape := ⟨1, ![147456]⟩
abbrev S524288x128 : Shape := ⟨2, ![524288, 128]⟩
abbrev S8 : Shape := ⟨1, ![8]⟩
abbrev S1x8 : Shape := ⟨2, ![1, 8]⟩
abbrev S147456x1 : Shape := ⟨2, ![147456, 1]⟩
abbrev S_ : Shape := ⟨0, ![]⟩
abbrev S147456x8 : Shape := ⟨2, ![147456, 8]⟩
abbrev S1179648 : Shape := ⟨1, ![1179648]⟩
abbrev S1x1179648 : Shape := ⟨2, ![1, 1179648]⟩
abbrev S1179648x128 : Shape := ⟨2, ![1179648, 128]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1x128 : Shape := ⟨2, ![1, 128]⟩
abbrev S1 : Shape := ⟨1, ![1]⟩
abbrev S1x128x128 : Shape := ⟨3, ![1, 128, 128]⟩
abbrev S128x128 : Shape := ⟨2, ![128, 128]⟩
abbrev S128 : Shape := ⟨1, ![128]⟩

abbrev nBuf : Table → Nat
  | .hbm => 15
  | .local .scVector .vmem => 2
  | _ => 0

abbrev bufTy : (tb : Table) → Fin (nBuf tb) → BufTy
  | .hbm, ⟨0, _⟩ => ⟨S65536x1024, .f32⟩
  | .hbm, ⟨1, _⟩ => ⟨S147456, .i32⟩
  | .hbm, ⟨2, _⟩ => ⟨S524288x128, .f32⟩
  | .hbm, ⟨3, _⟩ => ⟨S8, .i32⟩
  | .hbm, ⟨4, _⟩ => ⟨S1x8, .i32⟩
  | .hbm, ⟨5, _⟩ => ⟨S147456x1, .i32⟩
  | .hbm, ⟨6, _⟩ => ⟨S_, .i32⟩
  | .hbm, ⟨7, _⟩ => ⟨S147456x1, .i32⟩
  | .hbm, ⟨8, _⟩ => ⟨S147456x1, .i32⟩
  | .hbm, ⟨9, _⟩ => ⟨S147456x8, .i32⟩
  | .hbm, ⟨10, _⟩ => ⟨S147456x8, .i32⟩
  | .hbm, ⟨11, _⟩ => ⟨S147456x8, .i32⟩
  | .hbm, ⟨12, _⟩ => ⟨S1179648, .i32⟩
  | .hbm, ⟨13, _⟩ => ⟨S1x1179648, .i32⟩
  | .hbm, ⟨14, _⟩ => ⟨S1179648x128, .f32⟩
  | .local .scVector .vmem, ⟨0, _⟩ => ⟨S2x1x128, .i32⟩
  | .local .scVector .vmem, ⟨1, _⟩ => ⟨S2x128x128, .f32⟩
  | _, _ => ⟨S65536x1024, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v0_scv : Ref sig .scVector := ⟨.hbm, 2, rfl⟩
abbrev main_v10_scv : Ref sig .scVector := ⟨.hbm, 13, rfl⟩
abbrev main_v11_scv : Ref sig .scVector := ⟨.hbm, 14, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k0_off2 (i : grid0.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c288_i32 : BitVec 32 := 288#32
  let v4 : BitVec 32 := Scalar.muli v3 c288_i32
  let v7_r0 : BitVec 32 := Scalar.addi c0_i32_1_r0 v4
  let v22_r0 : BitVec 32 := Scalar.muli c128_i32_r0 v7_r0
  ![0, v22_r0.toNat]
def k0_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k0_t1_loop : Scf.Loop 32 :=
  let c0_i32_26_r0 : BitVec 32 := 0#32
  let c288_i32_27_r0 : BitVec 32 := 288#32
  let v32_r0 : BitVec 32 := Scalar.addi c0_i32_26_r0 c288_i32_27_r0
  let c1_i32_28_r0 : BitVec 32 := 1#32
  ⟨c0_i32_26_r0, v32_r0, c1_i32_28_r0⟩
def k0_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c288_i32 : BitVec 32 := 288#32
  let v4 : BitVec 32 := Scalar.muli v3 c288_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c288_i32_62_r0 : BitVec 32 := 288#32
  let v74_r0 : BitVec 1 := Scalar.cmpi .eq v73_r0 c288_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c287_i32_68_r0 : BitVec 32 := 287#32
  let v83_r0 : BitVec 1 := Scalar.cmpi .sge arg5_r0 c287_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k0_off5 (i : grid0.Coords) (arg10_r0 : BitVec 32) : Fin 2 → Nat :=
  let c0_i32_103_r0 : BitVec 32 := 0#32
  let c128_i32_100_r0 : BitVec 32 := 128#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c288_i32_62_r0 : BitVec 32 := 288#32
  let v74_r0 : BitVec 1 := Scalar.cmpi .eq v73_r0 c288_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c288_i32 : BitVec 32 := 288#32
  let v4 : BitVec 32 := Scalar.muli v3 c288_i32
  let v76_r0 : BitVec 32 := Scalar.addi v75_r0 v4
  let v145_r0 : BitVec 32 := Scalar.muli c128_i32_100_r0 v76_r0
  ![0, v145_r0.toNat]
def k0_off6 (arg6_r0 : BitVec 32) : Fin 1 → Nat :=
  let c2_i32_99_r0 : BitVec 32 := 2#32
  let v144_r0 : BitVec 32 := Scalar.remui arg6_r0 c2_i32_99_r0
  ![v144_r0.toNat]
def k0_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c288_i32 : BitVec 32 := 288#32
  let v4 : BitVec 32 := Scalar.muli v3 c288_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c287_i32_59_r0 : BitVec 32 := 287#32
  let v70_r0 : BitVec 32 := Scalar.select v69_r0 c287_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k0_off8 (i : grid0.Coords) (arg10_r0 : BitVec 32) : Fin 2 → Nat :=
  let c0_i32_103_r0 : BitVec 32 := 0#32
  let c128_i32_99_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c288_i32 : BitVec 32 := 288#32
  let v4 : BitVec 32 := Scalar.muli v3 c288_i32
  let v66_r0 : BitVec 32 := Scalar.addi arg10_r0 v4
  let v144_r0 : BitVec 32 := Scalar.muli c128_i32_99_r0 v66_r0
  ![0, v144_r0.toNat]
def k0_off9 (arg7_r0 : BitVec 32) : Fin 1 → Nat :=
  let c2_i32_100_r0 : BitVec 32 := 2#32
  let v145_r0 : BitVec 32 := Scalar.remui arg7_r0 c2_i32_100_r0
  ![v145_r0.toNat]
def k0_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k0_chk2 (arg8_r0 : BitVec 32) : Prop :=
  (∀ a, (k0_off10 arg8_r0) a + S1x128x128.size a ≤ S2x128x128.size a)
theorem k0_off10_inb : ∀ (arg8_r0 : BitVec 32) (k0_hw2 : k0_chk2 arg8_r0), ∀ a, (k0_off10 arg8_r0) a + S1x128x128.size a ≤ S2x128x128.size a := fun arg8_r0 k0_hw2 => k0_hw2

def k0_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k0_chk3 (arg7_r0 : BitVec 32) : Prop :=
  (∀ a, (k0_off11 arg7_r0) a + S1x1x128.size a ≤ S2x1x128.size a)
theorem k0_off11_inb : ∀ (arg7_r0 : BitVec 32) (k0_hw3 : k0_chk3 arg7_r0), ∀ a, (k0_off11 arg7_r0) a + S1x1x128.size a ≤ S2x1x128.size a := fun arg7_r0 k0_hw3 => k0_hw3

def k0_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c288_i32 : BitVec 32 := 288#32
  let v4 : BitVec 32 := Scalar.muli v3 c288_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c288_i32_62_r0 : BitVec 32 := 288#32
  let v74_r0 : BitVec 1 := Scalar.cmpi .eq v73_r0 c288_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c287_i32_55_r0 : BitVec 32 := 287#32
  let v65_r0 : BitVec 1 := Scalar.cmpi .eq arg5_r0 c287_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k0_off13 (i : grid0.Coords) (arg10_r0 : BitVec 32) : Fin 2 → Nat :=
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c288_i32 : BitVec 32 := 288#32
  let v4 : BitVec 32 := Scalar.muli v3 c288_i32
  let v66_r0 : BitVec 32 := Scalar.addi arg10_r0 v4
  let v145_r0 : BitVec 32 := Scalar.muli c128_i32_100_r0 v66_r0
  let c0_i32_103_r0 : BitVec 32 := 0#32
  ![v145_r0.toNat, 0]
def k0_off14 (arg8_r0 : BitVec 32) : Fin 1 → Nat :=
  let c2_i32_99_r0 : BitVec 32 := 2#32
  let v144_r0 : BitVec 32 := Scalar.remui arg8_r0 c2_i32_99_r0
  ![v144_r0.toNat]
def k0_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c288_i32 : BitVec 32 := 288#32
  let v4 : BitVec 32 := Scalar.muli v3 c288_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c287_i32_59_r0 : BitVec 32 := 287#32
  let v70_r0 : BitVec 32 := Scalar.select v69_r0 c287_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k0_off16 (i : grid0.Coords) (arg10_r0 : BitVec 32) : Fin 2 → Nat :=
  let c128_i32_100_r0 : BitVec 32 := 128#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c287_i32_59_r0 : BitVec 32 := 287#32
  let v70_r0 : BitVec 32 := Scalar.select v69_r0 c287_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c288_i32 : BitVec 32 := 288#32
  let v4 : BitVec 32 := Scalar.muli v3 c288_i32
  let v71_r0 : BitVec 32 := Scalar.addi v70_r0 v4
  let v145_r0 : BitVec 32 := Scalar.muli c128_i32_100_r0 v71_r0
  let c0_i32_103_r0 : BitVec 32 := 0#32
  ![v145_r0.toNat, 0]
def k0_off17 (arg9_r0 : BitVec 32) : Fin 1 → Nat :=
  let c2_i32_99_r0 : BitVec 32 := 2#32
  let v144_r0 : BitVec 32 := Scalar.remui arg9_r0 c2_i32_99_r0
  ![v144_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x128.size a ≤ S2x1x128.size a) ∧
  (∀ (k0_h1 : k0_cond1 i k0_t1 arg10_r0 = 1#1), ∀ a, (k0_off5 i arg10_r0) a + S1x128.size a ≤ S1x1179648.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x128.size a ≤ S2x1x128.size a) ∧
  (∀ (k0_h2 : k0_cond2 i k0_t1 arg10_r0 = 1#1), ∀ a, (k0_off8 i arg10_r0) a + S1x128.size a ≤ S1x1179648.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x128x128.size a ≤ S2x128x128.size a) ∧
  (∀ (k0_h5 : k0_cond5 i k0_t1 arg10_r0 = 1#1), ∀ a, (k0_off13 i arg10_r0) a + S128x128.size a ≤ S1179648x128.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x128x128.size a ≤ S2x128x128.size a) ∧
  (∀ (k0_h7 : k0_cond7 i k0_t1 arg10_r0 = 1#1), ∀ a, (k0_off16 i arg10_r0) a + S128x128.size a ≤ S1179648x128.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x128.size a ≤ S2x1x128.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x128.size a ≤ S1x1179648.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x128.size a ≤ S2x1x128.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x128.size a ≤ S1x1179648.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x128x128.size a ≤ S2x128x128.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S128x128.size a ≤ S1179648x128.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x128x128.size a ≤ S2x128x128.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S128x128.size a ≤ S1179648x128.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k0_off19 (i : grid0.Coords) (v33_4_r0 : BitVec 32) : Fin 2 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c287_i32_33_r0 : BitVec 32 := 287#32
  let v37_r0 : BitVec 32 := Scalar.select v36_r0 c287_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c288_i32 : BitVec 32 := 288#32
  let v4 : BitVec 32 := Scalar.muli v3 c288_i32
  let v38_r0 : BitVec 32 := Scalar.addi v37_r0 v4
  let v55_r0 : BitVec 32 := Scalar.muli c128_i32_47_r0 v38_r0
  let c0_i32_50_r0 : BitVec 32 := 0#32
  ![v55_r0.toNat, 0]

def k0_chk5 (i : grid0.Coords) (v33_4_r0 : BitVec 32) : Prop :=
  (∀ a, (k0_off19 i v33_4_r0) a + S128x128.size a ≤ S1179648x128.size a)
theorem k0_off19_inb : ∀ (i : grid0.Coords) (v33_4_r0 : BitVec 32) (k0_hw5 : k0_chk5 i v33_4_r0), ∀ a, (k0_off19 i v33_4_r0) a + S128x128.size a ≤ S1179648x128.size a := fun i v33_4_r0 k0_hw5 => k0_hw5

def k0_off20 (v33_3_r0 : BitVec 32) : Fin 1 → Nat :=
  let c2_i32_46_r0 : BitVec 32 := 2#32
  let v54_r0 : BitVec 32 := Scalar.remui v33_3_r0 c2_i32_46_r0
  ![v54_r0.toNat]
def k0_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k0_chk4 (v33_3_r0 : BitVec 32) : Prop :=
  (∀ a, (k0_off18 v33_3_r0) a + S1x128x128.size a ≤ S2x128x128.size a) ∧
  (∀ a, (k0_off20 v33_3_r0) a + S1.size a ≤ S2.size a) ∧
  (∀ a, (k0_off21 v33_3_r0) a + S1x128x128.size a ≤ S2x128x128.size a)
theorem k0_off18_inb : ∀ (v33_3_r0 : BitVec 32) (k0_hw4 : k0_chk4 v33_3_r0), ∀ a, (k0_off18 v33_3_r0) a + S1x128x128.size a ≤ S2x128x128.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x128x128.size a ≤ S2x128x128.size a := fun v33_3_r0 k0_hw4 => k0_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S65536x1024 : Shape := ⟨2, ![65536, 1024]⟩
abbrev S147456 : Shape := ⟨1, ![147456]⟩
abbrev S_ : Shape := ⟨0, ![]⟩
abbrev S147456x1 : Shape := ⟨2, ![147456, 1]⟩
abbrev S147456x1024 : Shape := ⟨2, ![147456, 1024]⟩
abbrev S1179648x128 : Shape := ⟨2, ![1179648, 128]⟩

abbrev nBuf : Space → Nat
  | .hbm => 12
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S147456, .i32⟩
  | .hbm, ⟨2, _⟩ => ⟨S_, .i32⟩
  | .hbm, ⟨3, _⟩ => ⟨S147456, .i32⟩
  | .hbm, ⟨4, _⟩ => ⟨S147456, .i1⟩
  | .hbm, ⟨5, _⟩ => ⟨S_, .i32⟩
  | .hbm, ⟨6, _⟩ => ⟨S147456, .i32⟩
  | .hbm, ⟨7, _⟩ => ⟨S147456, .i32⟩
  | .hbm, ⟨8, _⟩ => ⟨S147456, .i32⟩
  | .hbm, ⟨9, _⟩ => ⟨S147456x1, .i32⟩
  | .hbm, ⟨10, _⟩ => ⟨S147456x1024, .f32⟩
  | .hbm, ⟨11, _⟩ => ⟨S1179648x128, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel2.lean ====
abbrev S147456x1024 : Shape := ⟨2, ![147456, 1024]⟩
abbrev S147456 : Shape := ⟨1, ![147456]⟩
abbrev S288 : Shape := ⟨1, ![288]⟩
abbrev S1 : Shape := ⟨1, ![1]⟩
abbrev S32x1024x256 : Shape := ⟨3, ![32, 1024, 256]⟩
abbrev S32x256x1024 : Shape := ⟨3, ![32, 256, 1024]⟩
abbrev S1179648x128 : Shape := ⟨2, ![1179648, 128]⟩
abbrev S147456x1 : Shape := ⟨2, ![147456, 1]⟩
abbrev S4096x128 : Shape := ⟨2, ![4096, 128]⟩
abbrev S512x1 : Shape := ⟨2, ![512, 1]⟩
abbrev S1x1024x256 : Shape := ⟨3, ![1, 1024, 256]⟩
abbrev S1x256x1024 : Shape := ⟨3, ![1, 256, 1024]⟩
abbrev S512x128 : Shape := ⟨2, ![512, 128]⟩
abbrev S512x1024 : Shape := ⟨2, ![512, 1024]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 11
  | .vmem => 12
  | .smem => 2
  | _ => 0

abbrev bufTy : (tb : Table) → Fin (tcTables nBuf tb) → BufTy
  | .hbm, ⟨0, _⟩ => ⟨S147456x1024, .f32⟩
  | .hbm, ⟨1, _⟩ => ⟨S147456, .f32⟩
  | .hbm, ⟨2, _⟩ => ⟨S32x1024x256, .f32⟩
  | .hbm, ⟨3, _⟩ => ⟨S32x1024x256, .f32⟩
  | .hbm, ⟨4, _⟩ => ⟨S32x256x1024, .f32⟩
  | .hbm, ⟨5, _⟩ => ⟨S32x1024x256, .bf16⟩
  | .hbm, ⟨6, _⟩ => ⟨S32x1024x256, .bf16⟩
  | .hbm, ⟨7, _⟩ => ⟨S32x256x1024, .bf16⟩
  | .hbm, ⟨8, _⟩ => ⟨S1179648x128, .f32⟩
  | .hbm, ⟨9, _⟩ => ⟨S147456x1, .f32⟩
  | .hbm, ⟨10, _⟩ => ⟨S1179648x128, .f32⟩
  | .local _ .vmem, ⟨0, _⟩ => ⟨S4096x128, .f32⟩
  | .local _ .vmem, ⟨1, _⟩ => ⟨S4096x128, .f32⟩
  | .local _ .vmem, ⟨2, _⟩ => ⟨S512x1, .f32⟩
  | .local _ .vmem, ⟨3, _⟩ => ⟨S512x1, .f32⟩
  | .local _ .vmem, ⟨4, _⟩ => ⟨S1x1024x256, .bf16⟩
  | .local _ .vmem, ⟨5, _⟩ => ⟨S1x1024x256, .bf16⟩
  | .local _ .vmem, ⟨6, _⟩ => ⟨S1x1024x256, .bf16⟩
  | .local _ .vmem, ⟨7, _⟩ => ⟨S1x1024x256, .bf16⟩
  | .local _ .vmem, ⟨8, _⟩ => ⟨S1x256x1024, .bf16⟩
  | .local _ .vmem, ⟨9, _⟩ => ⟨S1x256x1024, .bf16⟩
  | .local _ .vmem, ⟨10, _⟩ => ⟨S4096x128, .f32⟩
  | .local _ .vmem, ⟨11, _⟩ => ⟨S4096x128, .f32⟩
  | .local _ .smem, ⟨0, _⟩ => ⟨S288, .i32⟩
  | .local _ .smem, ⟨1, _⟩ => ⟨S1, .i32⟩
  | _, _ => ⟨S147456x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_arg2 : Ref sig .tc := ⟨.smem, 0, rfl⟩
abbrev main_arg3 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_arg2.idx, main_arg3.idx], fun | 0 => main_arg2.names | 1 => main_arg3.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v0 : BitVec 32) : BitVec 1 :=
  let arg0 : BitVec 32 := BitVec.ofNat 32 (i 0).val
  let v4 : BitVec 1 := Scalar.cmpi .sge arg0 v0
  let v5 : BitVec 32 := Scalar.extui v4
  let c0_i32_0 : BitVec 32 := 0#32
  let v6 : BitVec 1 := Scalar.cmpi .ne v5 c0_i32_0
  v6

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S147456x1024 : Shape := ⟨2, ![147456, 1024]⟩
abbrev S147456 : Shape := ⟨1, ![147456]⟩
abbrev S288 : Shape := ⟨1, ![288]⟩
abbrev S1 : Shape := ⟨1, ![1]⟩
abbrev S32x1024x256 : Shape := ⟨3, ![32, 1024, 256]⟩
abbrev S32x256x1024 : Shape := ⟨3, ![32, 256, 1024]⟩
abbrev S_ : Shape := ⟨0, ![]⟩
abbrev S32 : Shape := ⟨1, ![32]⟩
abbrev S32x1 : Shape := ⟨2, ![32, 1]⟩
abbrev S147456x1 : Shape := ⟨2, ![147456, 1]⟩
abbrev S1x147456 : Shape := ⟨2, ![1, 147456]⟩
abbrev S32x147456 : Shape := ⟨2, ![32, 147456]⟩
abbrev S32x256x147456 : Shape := ⟨3, ![32, 256, 147456]⟩
abbrev S32x147456x256 : Shape := ⟨3, ![32, 147456, 256]⟩
abbrev S32x147456x1 : Shape := ⟨3, ![32, 147456, 1]⟩
abbrev S32x147456x1024 : Shape := ⟨3, ![32, 147456, 1024]⟩
abbrev S1179648x128 : Shape := ⟨2, ![1179648, 128]⟩

abbrev nBuf : Space → Nat
  | .hbm => 75
  | .vmem => 0
  | .smem => 0
  | _ => 0

abbrev bufTy : (tb : Table) → Fin (tcTables nBuf tb) → BufTy
  | .hbm, ⟨0, _⟩ => ⟨S147456x1024, .f32⟩
  | .hbm, ⟨1, _⟩ => ⟨S147456, .f32⟩
  | .hbm, ⟨2, _⟩ => ⟨S288, .i32⟩
  | .hbm, ⟨3, _⟩ => ⟨S1, .i32⟩
  | .hbm, ⟨4, _⟩ => ⟨S32x1024x256, .f32⟩
  | .hbm, ⟨5, _⟩ => ⟨S32x1024x256, .f32⟩
  | .hbm, ⟨6, _⟩ => ⟨S32x256x1024, .f32⟩
  | .hbm, ⟨7, _⟩ => ⟨S147456, .i32⟩
  | .hbm, ⟨8, _⟩ => ⟨S_, .i32⟩
  | .hbm, ⟨9, _⟩ => ⟨S_, .i32⟩
  | .hbm, ⟨10, _⟩ => ⟨S147456, .i32⟩
  | .hbm, ⟨11, _⟩ => ⟨S147456, .i32⟩
  | .hbm, ⟨12, _⟩ => ⟨S147456, .i32⟩
  | .hbm, ⟨13, _⟩ => ⟨S_, .i32⟩
  | .hbm, ⟨14, _⟩ => ⟨S147456, .i32⟩
  | .hbm, ⟨15, _⟩ => ⟨S147456, .i1⟩
  | .hbm, ⟨16, _⟩ => ⟨S147456, .i32⟩
  | .hbm, ⟨17, _⟩ => ⟨S147456, .i32⟩
  | .hbm, ⟨18, _⟩ => ⟨S_, .i32⟩
  | .hbm, ⟨19, _⟩ => ⟨S147456, .i32⟩
  | .hbm, ⟨20, _⟩ => ⟨S147456, .i1⟩
  | .hbm, ⟨21, _⟩ => ⟨S147456, .i1⟩
  | .hbm, ⟨22, _⟩ => ⟨S_, .i32⟩
  | .hbm, ⟨23, _⟩ => ⟨S147456, .i32⟩
  | .hbm, ⟨24, _⟩ => ⟨S147456, .i32⟩
  | .hbm, ⟨25, _⟩ => ⟨S147456, .i32⟩
  | .hbm, ⟨26, _⟩ => ⟨S_, .i32⟩
  | .hbm, ⟨27, _⟩ => ⟨S147456, .i32⟩
  | .hbm, ⟨28, _⟩ => ⟨S147456, .i1⟩
  | .hbm, ⟨29, _⟩ => ⟨S_, .f32⟩
  | .hbm, ⟨30, _⟩ => ⟨S_, .f32⟩
  | .hbm, ⟨31, _⟩ => ⟨S147456, .f32⟩
  | .hbm, ⟨32, _⟩ => ⟨S147456, .f32⟩
  | .hbm, ⟨33, _⟩ => ⟨S32, .i32⟩
  | .hbm, ⟨34, _⟩ => ⟨S32x1, .i32⟩
  | .hbm, ⟨35, _⟩ => ⟨S_, .i32⟩
  | .hbm, ⟨36, _⟩ => ⟨S147456, .i32⟩
  | .hbm, ⟨37, _⟩ => ⟨S147456, .i1⟩
  | .hbm, ⟨38, _⟩ => ⟨S_, .i32⟩
  | .hbm, ⟨39, _⟩ => ⟨S147456, .i32⟩
  | .hbm, ⟨40, _⟩ => ⟨S147456, .i32⟩
  | .hbm, ⟨41, _⟩ => ⟨S147456, .i32⟩
  | .hbm, ⟨42, _⟩ => ⟨S147456x1, .i32⟩
  | .hbm, ⟨43, _⟩ => ⟨S147456, .i32⟩
  | .hbm, ⟨44, _⟩ => ⟨S1x147456, .i32⟩
  | .hbm, ⟨45, _⟩ => ⟨S32x147456, .i32⟩
  | .hbm, ⟨46, _⟩ => ⟨S32x147456, .i32⟩
  | .hbm, ⟨47, _⟩ => ⟨S32x147456, .i1⟩
  | .hbm, ⟨48, _⟩ => ⟨S1x147456, .f32⟩
  | .hbm, ⟨49, _⟩ => ⟨S_, .f32⟩
  | .hbm, ⟨50, _⟩ => ⟨S_, .f32⟩
  | .hbm, ⟨51, _⟩ => ⟨S32x147456, .f32⟩
  | .hbm, ⟨52, _⟩ => ⟨S32x147456, .f32⟩
  | .hbm, ⟨53, _⟩ => ⟨S32x147456, .f32⟩
  | .hbm, ⟨54, _⟩ => ⟨S32x256x147456, .f32⟩
  | .hbm, ⟨55, _⟩ => ⟨S32x147456x256, .f32⟩
  | .hbm, ⟨56, _⟩ => ⟨S32x147456x256, .f32⟩
  | .hbm, ⟨57, _⟩ => ⟨S32x147456x256, .f32⟩
  | .hbm, ⟨58, _⟩ => ⟨S_, .f32⟩
  | .hbm, ⟨59, _⟩ => ⟨S32x147456x256, .f32⟩
  | .hbm, ⟨60, _⟩ => ⟨S32x147456x256, .f32⟩
  | .hbm, ⟨61, _⟩ => ⟨S_, .f32⟩
  | .hbm, ⟨62, _⟩ => ⟨S32x147456x256, .f32⟩
  | .hbm, ⟨63, _⟩ => ⟨S32x147456x256, .f32⟩
  | .hbm, ⟨64, _⟩ => ⟨S32x147456x256, .f32⟩
  | .hbm, ⟨65, _⟩ => ⟨S32x256x147456, .f32⟩
  | .hbm, ⟨66, _⟩ => ⟨S32x147456x256, .f32⟩
  | .hbm, ⟨67, _⟩ => ⟨S32x147456x256, .f32⟩
  | .hbm, ⟨68, _⟩ => ⟨S32x147456x1, .f32⟩
  | .hbm, ⟨69, _⟩ => ⟨S32x147456x1024, .f32⟩
  | .hbm, ⟨70, _⟩ => ⟨S32x147456x1024, .f32⟩
  | .hbm, ⟨71, _⟩ => ⟨S32x147456x1024, .f32⟩
  | .hbm, ⟨72, _⟩ => ⟨S_, .f32⟩
  | .hbm, ⟨73, _⟩ => ⟨S147456x1024, .f32⟩
  | .hbm, ⟨74, _⟩ => ⟨S1179648x128, .f32⟩
  | _, _ => ⟨S147456x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_cst : Ref sig .tc := ⟨.hbm, 29, rfl⟩
abbrev main_call1_v0 : Ref sig .tc := ⟨.hbm, 30, rfl⟩
abbrev main_call1_v1 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_c_0 : Ref sig .tc := ⟨.hbm, 35, rfl⟩
abbrev main_v8 : Ref sig .tc := ⟨.hbm, 36, rfl⟩
abbrev main_v9 : Ref sig .tc := ⟨.hbm, 37, rfl⟩
abbrev main_c_1 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_cst_2 : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_call3_v0 : Ref sig .tc := ⟨.hbm, 56, rfl⟩
abbrev main_call3_v1 : Ref sig .tc := ⟨.hbm, 57, rfl⟩
abbrev main_call3_cst : Ref sig .tc := ⟨.hbm, 58, rfl⟩
abbrev main_call3_v2 : Ref sig .tc := ⟨.hbm, 59, rfl⟩
abbrev main_call3_v3 : Ref sig .tc := ⟨.hbm, 60, rfl⟩
abbrev main_call3_cst_0 : Ref sig .tc := ⟨.hbm, 61, rfl⟩
abbrev main_call3_v4 : Ref sig .tc := ⟨.hbm, 62, rfl⟩
abbrev main_call3_v5 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_cst_3 : Ref sig .tc := ⟨.hbm, 72, rfl⟩
abbrev main_v31 : Ref sig .tc := ⟨.hbm, 73, rfl⟩
abbrev main_v32 : Ref sig .tc := ⟨.hbm, 74, rfl⟩

abbrev nD : Nat := 1
abbrev τ : Topo := Topo.v7x

variable {F : FTy → Type} [FloatOps F]
-- ==== Kernel3.lean ====
abbrev S16x4096x8x64 : Shape := ⟨4, ![16, 4096, 8, 64]⟩
abbrev S16x4096x8x32 : Shape := ⟨4, ![16, 4096, 8, 32]⟩
abbrev S16x4096x32 : Shape := ⟨3, ![16, 4096, 32]⟩
abbrev S_ : Shape := ⟨0, ![]⟩
abbrev S16x4096x8x1 : Shape := ⟨4, ![16, 4096, 8, 1]⟩
abbrev S16x4096x8x63 : Shape := ⟨4, ![16, 4096, 8, 63]⟩
abbrev S16x4096x8x128 : Shape := ⟨4, ![16, 4096, 8, 128]⟩
abbrev S16x4096x1x32 : Shape := ⟨4, ![16, 4096, 1, 32]⟩
abbrev S16x4096x1024 : Shape := ⟨3, ![16, 4096, 1024]⟩
abbrev S16x4096x512 : Shape := ⟨3, ![16, 4096, 512]⟩
abbrev S1x512x256 : Shape := ⟨3, ![1, 512, 256]⟩
abbrev S1x4096x256 : Shape := ⟨3, ![1, 4096, 256]⟩
abbrev S1x512x128 : Shape := ⟨3, ![1, 512, 128]⟩
abbrev S512x128 : Shape := ⟨2, ![512, 128]⟩
abbrev S512x1 : Shape := ⟨2, ![512, 1]⟩
abbrev S1x4096x128 : Shape := ⟨3, ![1, 4096, 128]⟩
abbrev S4096x128 : Shape := ⟨2, ![4096, 128]⟩
abbrev S512x4096 : Shape := ⟨2, ![512, 4096]⟩
abbrev S512 : Shape := ⟨1, ![512]⟩

abbrev nBuf : Space → Nat
  | .hbm => 34
  | .vmem => 8
  | .smem => 0
  | _ => 0

abbrev bufTy : (tb : Table) → Fin (tcTables nBuf tb) → BufTy
  | .hbm, ⟨0, _⟩ => ⟨S16x4096x8x64, .f32⟩
  | .hbm, ⟨1, _⟩ => ⟨S16x4096x8x32, .f32⟩
  | .hbm, ⟨2, _⟩ => ⟨S16x4096x8x64, .f32⟩
  | .hbm, ⟨3, _⟩ => ⟨S16x4096x32, .f32⟩
  | .hbm, ⟨4, _⟩ => ⟨S16x4096x8x64, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S16x4096x8x32, .f32⟩
  | .hbm, ⟨14, _⟩ => ⟨S_, .f32⟩
  | .hbm, ⟨15, _⟩ => ⟨S16x4096x8x1, .f32⟩
  | .hbm, ⟨16, _⟩ => ⟨S_, .f32⟩
  | .hbm, ⟨17, _⟩ => ⟨S16x4096x8x63, .f32⟩
  | .hbm, ⟨18, _⟩ => ⟨S16x4096x8x64, .f32⟩
  | .hbm, ⟨19, _⟩ => ⟨S16x4096x8x64, .f32⟩
  | .hbm, ⟨20, _⟩ => ⟨S16x4096x8x32, .f32⟩
  | .hbm, ⟨21, _⟩ => ⟨S16x4096x8x32, .f32⟩
  | .hbm, ⟨22, _⟩ => ⟨S16x4096x8x128, .f32⟩
  | .hbm, ⟨23, _⟩ => ⟨S16x4096x8x128, .bf16⟩
  | .hbm, ⟨24, _⟩ => ⟨S16x4096x1x32, .f32⟩
  | .hbm, ⟨25, _⟩ => ⟨S16x4096x8x32, .f32⟩
  | .hbm, ⟨26, _⟩ => ⟨S16x4096x8x128, .f32⟩
  | .hbm, ⟨27, _⟩ => ⟨S16x4096x8x128, .bf16⟩
  | .hbm, ⟨28, _⟩ => ⟨S16x4096x8x128, .f32⟩
  | .hbm, ⟨29, _⟩ => ⟨S16x4096x8x128, .bf16⟩
  | .hbm, ⟨30, _⟩ => ⟨S16x4096x1024, .bf16⟩
  | .hbm, ⟨31, _⟩ => ⟨S16x4096x1024, .bf16⟩
  | .hbm, ⟨32, _⟩ => ⟨S16x4096x1024, .bf16⟩
  | .hbm, ⟨33, _⟩ => ⟨S16x4096x512, .bf16⟩
  | .local _ .vmem, ⟨0, _⟩ => ⟨S1x512x256, .bf16⟩
  | .local _ .vmem, ⟨1, _⟩ => ⟨S1x512x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4096x256, .bf16⟩
  | .local _ .vmem, ⟨5, _⟩ => ⟨S1x4096x256, .bf16⟩
  | .local _ .vmem, ⟨6, _⟩ => ⟨S1x512x128, .bf16⟩
  | .local _ .vmem, ⟨7, _⟩ => ⟨S1x512x128, .bf16⟩
  | _, _ => ⟨S16x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_cst_2 : Ref sig .tc := ⟨.hbm, 12, rfl⟩
abbrev main_v4 : Ref sig .tc := ⟨.hbm, 13, rfl⟩
abbrev main_cst_3 : Ref sig .tc := ⟨.hbm, 14, rfl⟩
abbrev main_v5 : Ref sig .tc := ⟨.hbm, 15, rfl⟩
abbrev main_cst_4 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 8], ![false, false, false]⟩

def k0_mult1 : BitVec 32 :=
  let c0_i32 : BitVec 32 := 0#32
  let c4096_i32 : BitVec 32 := 4096#32
  let v8 : BitVec 32 := Scalar.muli c0_i32 c4096_i32
  v8
def k0_off1 : Fin 3 → Nat :=
  let c0_7 : Index := 0#32
  let c0_i32 : BitVec 32 := 0#32
  let c4096_i32 : BitVec 32 := 4096#32
  let v8 : BitVec 32 := Scalar.muli c0_i32 c4096_i32
  let v9 : BitVec 32 := v8
  let v10 : Index := Scalar.indexCast v9
  let c0_8 : Index := 0#32
  ![0, v10.toNat, 0]
def k0_off2 : Fin 3 → Nat :=
  let c0_14 : Index := 0#32
  let c0_i32 : BitVec 32 := 0#32
  let c4096_i32 : BitVec 32 := 4096#32
  let v8 : BitVec 32 := Scalar.muli c0_i32 c4096_i32
  let v9 : BitVec 32 := v8
  let v30 : Index := Scalar.indexCast v9
  let c128_15 : Index := 128#32
  ![0, v30.toNat, 128]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference3Ideal.lean ====
abbrev S16x4096x8x64 : Shape := ⟨4, ![16, 4096, 8, 64]⟩
abbrev S16x4096x8x32 : Shape := ⟨4, ![16, 4096, 8, 32]⟩
abbrev S16x4096x32 : Shape := ⟨3, ![16, 4096, 32]⟩
abbrev S_ : Shape := ⟨0, ![]⟩
abbrev S16x8x4096x4096 : Shape := ⟨4, ![16, 8, 4096, 4096]⟩
abbrev S16x4096x4096x8 : Shape := ⟨4, ![16, 4096, 4096, 8]⟩
abbrev S16x8x4096 : Shape := ⟨3, ![16, 8, 4096]⟩
abbrev S16x8x4096x1 : Shape := ⟨4, ![16, 8, 4096, 1]⟩
abbrev S16x8x64x4096 : Shape := ⟨4, ![16, 8, 64, 4096]⟩
abbrev S16x4096x512 : Shape := ⟨3, ![16, 4096, 512]⟩

abbrev nBuf : Space → Nat
  | .hbm => 33
  | .vmem => 0
  | .smem => 0
  | _ => 0

abbrev bufTy : (tb : Table) → Fin (tcTables nBuf tb) → BufTy
  | .hbm, ⟨0, _⟩ => ⟨S16x4096x8x64, .f32⟩
  | .hbm, ⟨1, _⟩ => ⟨S16x4096x8x32, .f32⟩
  | .hbm, ⟨2, _⟩ => ⟨S16x4096x8x64, .f32⟩
  | .hbm, ⟨3, _⟩ => ⟨S16x4096x32, .f32⟩
  | .hbm, ⟨4, _⟩ => ⟨S16x4096x8x64, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S16x8x4096x4096, .f32⟩
  | .hbm, ⟨10, _⟩ => ⟨S16x4096x4096x8, .f32⟩
  | .hbm, ⟨11, _⟩ => ⟨S16x8x4096x4096, .f32⟩
  | .hbm, ⟨12, _⟩ => ⟨S16x8x4096x4096, .f32⟩
  | .hbm, ⟨13, _⟩ => ⟨S16x8x4096x4096, .f32⟩
  | .hbm, ⟨14, _⟩ => ⟨S16x8x4096x4096, .f32⟩
  | .hbm, ⟨15, _⟩ => ⟨S_, .f32⟩
  | .hbm, ⟨16, _⟩ => ⟨S16x8x4096, .f32⟩
  | .hbm, ⟨17, _⟩ => ⟨S_, .f32⟩
  | .hbm, ⟨18, _⟩ => ⟨S16x8x4096, .f32⟩
  | .hbm, ⟨19, _⟩ => ⟨S16x8x4096, .f32⟩
  | .hbm, ⟨20, _⟩ => ⟨S16x8x4096x1, .f32⟩
  | .hbm, ⟨21, _⟩ => ⟨S16x8x4096x4096, .f32⟩
  | .hbm, ⟨22, _⟩ => ⟨S16x8x4096x4096, .f32⟩
  | .hbm, ⟨23, _⟩ => ⟨S16x8x4096x4096, .f32⟩
  | .hbm, ⟨24, _⟩ => ⟨S_, .f32⟩
  | .hbm, ⟨25, _⟩ => ⟨S16x8x4096, .f32⟩
  | .hbm, ⟨26, _⟩ => ⟨S16x8x4096x1, .f32⟩
  | .hbm, ⟨27, _⟩ => ⟨S16x8x4096x4096, .f32⟩
  | .hbm, ⟨28, _⟩ => ⟨S16x8x4096x4096, .f32⟩
  | .hbm, ⟨29, _⟩ => ⟨S16x8x64x4096, .f32⟩
  | .hbm, ⟨30, _⟩ => ⟨S16x4096x8x64, .f32⟩
  | .hbm, ⟨31, _⟩ => ⟨S16x4096x512, .f32⟩
  | .hbm, ⟨32, _⟩ => ⟨S16x4096x512, .bf16⟩
  | _, _ => ⟨S16x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== Kernel4.lean ====
abbrev S65536x1024 : Shape := ⟨2, ![65536, 1024]⟩
abbrev S2x65536x1024 : Shape := ⟨3, ![2, 65536, 1024]⟩
abbrev S1024 : Shape := ⟨1, ![1024]⟩
abbrev S1x1024 : Shape := ⟨2, ![1, 1024]⟩
abbrev S524288x128 : Shape := ⟨2, ![524288, 128]⟩
abbrev S1048576x128 : Shape := ⟨2, ![1048576, 128]⟩
abbrev S4096x128 : Shape := ⟨2, ![4096, 128]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 9
  | .vmem => 10
  | .smem => 0
  | _ => 0

abbrev bufTy : (tb : Table) → Fin (tcTables nBuf tb) → BufTy
  | .hbm, ⟨0, _⟩ => ⟨S65536x1024, .f32⟩
  | .hbm, ⟨1, _⟩ => ⟨S2x65536x1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S524288x128, .f32⟩
  | .hbm, ⟨7, _⟩ => ⟨S1048576x128, .f32⟩
  | .hbm, ⟨8, _⟩ => ⟨S65536x1024, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c128_i32 : BitVec 32 := 128#32
  let v0 : BitVec 32 := Scalar.addi arg0 c128_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Kernel4Ideal.lean ====
abbrev S65536x1024 : Shape := ⟨2, ![65536, 1024]⟩
abbrev S2x65536x1024 : Shape := ⟨3, ![2, 65536, 1024]⟩
abbrev S1024 : Shape := ⟨1, ![1024]⟩
abbrev S1x1024 : Shape := ⟨2, ![1, 1024]⟩
abbrev S524288x128 : Shape := ⟨2, ![524288, 128]⟩
abbrev S1048576x128 : Shape := ⟨2, ![1048576, 128]⟩
abbrev S4096x128 : Shape := ⟨2, ![4096, 128]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 9
  | .vmem => 10
  | .smem => 0
  | _ => 0

abbrev bufTy : (tb : Table) → Fin (tcTables nBuf tb) → BufTy
  | .hbm, ⟨0, _⟩ => ⟨S65536x1024, .f32⟩
  | .hbm, ⟨1, _⟩ => ⟨S2x65536x1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S524288x128, .f32⟩
  | .hbm, ⟨7, _⟩ => ⟨S1048576x128, .f32⟩
  | .hbm, ⟨8, _⟩ => ⟨S65536x1024, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c128_i32 : BitVec 32 := 128#32
  let v0 : BitVec 32 := Scalar.addi arg0 c128_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S65536x1024 : Shape := ⟨2, ![65536, 1024]⟩
abbrev S2x65536x1024 : Shape := ⟨3, ![2, 65536, 1024]⟩
abbrev S1024 : Shape := ⟨1, ![1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩

abbrev nBuf : Space → Nat
  | .hbm => 39
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S2x65536x1024, .f32⟩
  | .hbm, ⟨2, _⟩ => ⟨S1024, .f32⟩
  | .hbm, ⟨3, _⟩ => ⟨S1024, .f32⟩
  | .hbm, ⟨4, _⟩ => ⟨S_, .f32⟩
  | .hbm, ⟨5, _⟩ => ⟨S65536x1024, .f32⟩
  | .hbm, ⟨6, _⟩ => ⟨S_, .f32⟩
  | .hbm, ⟨7, _⟩ => ⟨S65536x1024, .f32⟩
  | .hbm, ⟨8, _⟩ => ⟨S65536x1024, .f32⟩
  | .hbm, ⟨9, _⟩ => ⟨S65536x1024, .f32⟩
  | .hbm, ⟨10, _⟩ => ⟨S_, .f32⟩
  | .hbm, ⟨11, _⟩ => ⟨S65536, .f32⟩
  | .hbm, ⟨12, _⟩ => ⟨S65536x1, .f32⟩
  | .hbm, ⟨13, _⟩ => ⟨S_, .f32⟩
  | .hbm, ⟨14, _⟩ => ⟨S65536x1, .f32⟩
  | .hbm, ⟨15, _⟩ => ⟨S65536x1, .f32⟩
  | .hbm, ⟨16, _⟩ => ⟨S65536x1024, .f32⟩
  | .hbm, ⟨17, _⟩ => ⟨S65536x1024, .f32⟩
  | .hbm, ⟨18, _⟩ => ⟨S65536x1024, .f32⟩
  | .hbm, ⟨19, _⟩ => ⟨S_, .f32⟩
  | .hbm, ⟨20, _⟩ => ⟨S65536, .f32⟩
  | .hbm, ⟨21, _⟩ => ⟨S65536x1, .f32⟩
  | .hbm, ⟨22, _⟩ => ⟨S_, .f32⟩
  | .hbm, ⟨23, _⟩ => ⟨S65536x1, .f32⟩
  | .hbm, ⟨24, _⟩ => ⟨S65536x1, .f32⟩
  | .hbm, ⟨25, _⟩ => ⟨S65536x1024, .f32⟩
  | .hbm, ⟨26, _⟩ => ⟨S65536x1024, .f32⟩
  | .hbm, ⟨27, _⟩ => ⟨S_, .f32⟩
  | .hbm, ⟨28, _⟩ => ⟨S65536x1, .f32⟩
  | .hbm, ⟨29, _⟩ => ⟨S65536x1, .f32⟩
  | .hbm, ⟨30, _⟩ => ⟨S65536x1, .f32⟩
  | .hbm, ⟨31, _⟩ => ⟨S65536x1024, .f32⟩
  | .hbm, ⟨32, _⟩ => ⟨S65536x1024, .f32⟩
  | .hbm, ⟨33, _⟩ => ⟨S1x1024, .f32⟩
  | .hbm, ⟨34, _⟩ => ⟨S65536x1024, .f32⟩
  | .hbm, ⟨35, _⟩ => ⟨S65536x1024, .f32⟩
  | .hbm, ⟨36, _⟩ => ⟨S1x1024, .f32⟩
  | .hbm, ⟨37, _⟩ => ⟨S65536x1024, .f32⟩
  | .hbm, ⟨38, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Kernel5.lean ====
abbrev S32768x1024 : Shape := ⟨2, ![32768, 1024]⟩
abbrev S2x32768x1024 : Shape := ⟨3, ![2, 32768, 1024]⟩
abbrev S1024 : Shape := ⟨1, ![1024]⟩
abbrev S1x1024 : Shape := ⟨2, ![1, 1024]⟩
abbrev S262144x128 : Shape := ⟨2, ![262144, 128]⟩
abbrev S524288x128 : Shape := ⟨2, ![524288, 128]⟩
abbrev S4096x128 : Shape := ⟨2, ![4096, 128]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 9
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S2x32768x1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S262144x128, .f32⟩
  | .hbm, ⟨7, _⟩ => ⟨S524288x128, .f32⟩
  | .hbm, ⟨8, _⟩ => ⟨S32768x1024, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c64_i32 : BitVec 32 := 64#32
  let v0 : BitVec 32 := Scalar.addi arg0 c64_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S32768x1024 : Shape := ⟨2, ![32768, 1024]⟩
abbrev S2x32768x1024 : Shape := ⟨3, ![2, 32768, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 39
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S2x32768x1024, .f32⟩
  | .hbm, ⟨2, _⟩ => ⟨S1024, .f32⟩
  | .hbm, ⟨3, _⟩ => ⟨S1024, .f32⟩
  | .hbm, ⟨4, _⟩ => ⟨S_, .f32⟩
  | .hbm, ⟨5, _⟩ => ⟨S32768x1024, .f32⟩
  | .hbm, ⟨6, _⟩ => ⟨S_, .f32⟩
  | .hbm, ⟨7, _⟩ => ⟨S32768x1024, .f32⟩
  | .hbm, ⟨8, _⟩ => ⟨S32768x1024, .f32⟩
  | .hbm, ⟨9, _⟩ => ⟨S32768x1024, .f32⟩
  | .hbm, ⟨10, _⟩ => ⟨S_, .f32⟩
  | .hbm, ⟨11, _⟩ => ⟨S32768, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S32768x1024, .f32⟩
  | .hbm, ⟨19, _⟩ => ⟨S_, .f32⟩
  | .hbm, ⟨20, _⟩ => ⟨S32768, .f32⟩
  | .hbm, ⟨21, _⟩ => ⟨S32768x1, .f32⟩
  | .hbm, ⟨22, _⟩ => ⟨S_, .f32⟩
  | .hbm, ⟨23, _⟩ => ⟨S32768x1, .f32⟩
  | .hbm, ⟨24, _⟩ => ⟨S32768x1, .f32⟩
  | .hbm, ⟨25, _⟩ => ⟨S32768x1024, .f32⟩
  | .hbm, ⟨26, _⟩ => ⟨S32768x1024, .f32⟩
  | .hbm, ⟨27, _⟩ => ⟨S_, .f32⟩
  | .hbm, ⟨28, _⟩ => ⟨S32768x1, .f32⟩
  | .hbm, ⟨29, _⟩ => ⟨S32768x1, .f32⟩
  | .hbm, ⟨30, _⟩ => ⟨S32768x1, .f32⟩
  | .hbm, ⟨31, _⟩ => ⟨S32768x1024, .f32⟩
  | .hbm, ⟨32, _⟩ => ⟨S32768x1024, .f32⟩
  | .hbm, ⟨33, _⟩ => ⟨S1x1024, .f32⟩
  | .hbm, ⟨34, _⟩ => ⟨S32768x1024, .f32⟩
  | .hbm, ⟨35, _⟩ => ⟨S32768x1024, .f32⟩
  | .hbm, ⟨36, _⟩ => ⟨S1x1024, .f32⟩
  | .hbm, ⟨37, _⟩ => ⟨S32768x1024, .f32⟩
  | .hbm, ⟨38, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Kernel6.lean ====
abbrev S16x4096x1024 : Shape := ⟨3, ![16, 4096, 1024]⟩
abbrev S1024x1184 : Shape := ⟨2, ![1024, 1184]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S1024x32 : Shape := ⟨2, ![1024, 32]⟩
abbrev S_ : Shape := ⟨0, ![]⟩
abbrev S1024x64 : Shape := ⟨2, ![1024, 64]⟩
abbrev S1024x16 : Shape := ⟨2, ![1024, 16]⟩
abbrev S1024x128 : Shape := ⟨2, ![1024, 128]⟩
abbrev S1024x640 : Shape := ⟨2, ![1024, 640]⟩
abbrev S1024x512 : Shape := ⟨2, ![1024, 512]⟩
abbrev S1024x1280 : Shape := ⟨2, ![1024, 1280]⟩
abbrev S1x384 : Shape := ⟨2, ![1, 384]⟩
abbrev S1x256 : Shape := ⟨2, ![1, 256]⟩
abbrev S384x8x96 : Shape := ⟨3, ![384, 8, 96]⟩
abbrev S384x8x32 : Shape := ⟨3, ![384, 8, 32]⟩
abbrev S384x8x16 : Shape := ⟨3, ![384, 8, 16]⟩
abbrev S384x8x128 : Shape := ⟨3, ![384, 8, 128]⟩
abbrev S384x1024 : Shape := ⟨2, ![384, 1024]⟩
abbrev S256x8x128 : Shape := ⟨3, ![256, 8, 128]⟩
abbrev S256x8x64 : Shape := ⟨3, ![256, 8, 64]⟩
abbrev S8x128 : Shape := ⟨2, ![8, 128]⟩
abbrev S1 : Shape := ⟨1, ![1]⟩
abbrev S8 : Shape := ⟨1, ![8]⟩
abbrev S1x1024 : Shape := ⟨2, ![1, 1024]⟩
abbrev S16 : Shape := ⟨1, ![16]⟩
abbrev S4096 : Shape := ⟨1, ![4096]⟩
abbrev S4096x1 : Shape := ⟨2, ![4096, 1]⟩
abbrev S1x16 : Shape := ⟨2, ![1, 16]⟩
abbrev S4096x16 : Shape := ⟨2, ![4096, 16]⟩
abbrev S4096x32 : Shape := ⟨2, ![4096, 32]⟩
abbrev S4096x64 : Shape := ⟨2, ![4096, 64]⟩
abbrev S4096x128 : Shape := ⟨2, ![4096, 128]⟩
abbrev S65536x1024 : Shape := ⟨2, ![65536, 1024]⟩
abbrev S65536x512 : Shape := ⟨2, ![65536, 512]⟩
abbrev S512x1024 : Shape := ⟨2, ![512, 1024]⟩
abbrev S512x128 : Shape := ⟨2, ![512, 128]⟩
abbrev S512x512 : Shape := ⟨2, ![512, 512]⟩
abbrev S512x1280 : Shape := ⟨2, ![512, 1280]⟩
abbrev S512x384 : Shape := ⟨2, ![512, 384]⟩
abbrev S512 : Shape := ⟨1, ![512]⟩
abbrev S512x1 : Shape := ⟨2, ![512, 1]⟩
abbrev S512x256 : Shape := ⟨2, ![512, 256]⟩

abbrev nBuf : Space → Nat
  | .hbm => 89
  | .vmem => 25
  | .smem => 0
  | _ => 0

abbrev bufTy : (tb : Table) → Fin (tcTables nBuf tb) → BufTy
  | .hbm, ⟨0, _⟩ => ⟨S16x4096x1024, .f32⟩
  | .hbm, ⟨1, _⟩ => ⟨S1024x1184, .f32⟩
  | .hbm, ⟨2, _⟩ => ⟨S384, .f32⟩
  | .hbm, ⟨3, _⟩ => ⟨S384x768, .f32⟩
  | .hbm, ⟨4, _⟩ => ⟨S256, .f32⟩
  | .hbm, ⟨5, _⟩ => ⟨S256x1024, .f32⟩
  | .hbm, ⟨6, _⟩ => ⟨S1024x32, .f32⟩
  | .hbm, ⟨7, _⟩ => ⟨S_, .f32⟩
  | .hbm, ⟨8, _⟩ => ⟨S1024x64, .f32⟩
  | .hbm, ⟨9, _⟩ => ⟨S1024x16, .f32⟩
  | .hbm, ⟨10, _⟩ => ⟨S1024x16, .f32⟩
  | .hbm, ⟨11, _⟩ => ⟨S1024x16, .f32⟩
  | .hbm, ⟨12, _⟩ => ⟨S1024x32, .f32⟩
  | .hbm, ⟨13, _⟩ => ⟨S1024x128, .f32⟩
  | .hbm, ⟨14, _⟩ => ⟨S1024x640, .f32⟩
  | .hbm, ⟨15, _⟩ => ⟨S1024x512, .f32⟩
  | .hbm, ⟨16, _⟩ => ⟨S1024x1280, .f32⟩
  | .hbm, ⟨17, _⟩ => ⟨S1024x1280, .bf16⟩
  | .hbm, ⟨18, _⟩ => ⟨S1x384, .f32⟩
  | .hbm, ⟨19, _⟩ => ⟨S1x256, .f32⟩
  | .hbm, ⟨20, _⟩ => ⟨S384x8x96, .f32⟩
  | .hbm, ⟨21, _⟩ => ⟨S384x8x32, .f32⟩
  | .hbm, ⟨22, _⟩ => ⟨S384x8x16, .f32⟩
  | .hbm, ⟨23, _⟩ => ⟨S384x8x16, .f32⟩
  | .hbm, ⟨24, _⟩ => ⟨S384x8x16, .f32⟩
  | .hbm, ⟨25, _⟩ => ⟨S384x8x32, .f32⟩
  | .hbm, ⟨26, _⟩ => ⟨S384x8x128, .f32⟩
  | .hbm, ⟨27, _⟩ => ⟨S384x1024, .f32⟩
  | .hbm, ⟨28, _⟩ => ⟨S384x1024, .bf16⟩
  | .hbm, ⟨29, _⟩ => ⟨S256x8x128, .f32⟩
  | .hbm, ⟨30, _⟩ => ⟨S_, .f32⟩
  | .hbm, ⟨31, _⟩ => ⟨S256x8x64, .f32⟩
  | .hbm, ⟨32, _⟩ => ⟨S256x8x64, .f32⟩
  | .hbm, ⟨33, _⟩ => ⟨S256x8x128, .f32⟩
  | .hbm, ⟨34, _⟩ => ⟨S256x1024, .f32⟩
  | .hbm, ⟨35, _⟩ => ⟨S256x1024, .bf16⟩
  | .hbm, ⟨36, _⟩ => ⟨S256x8x64, .f32⟩
  | .hbm, ⟨37, _⟩ => ⟨S256x8x128, .f32⟩
  | .hbm, ⟨38, _⟩ => ⟨S256x1024, .f32⟩
  | .hbm, ⟨39, _⟩ => ⟨S256x1024, .bf16⟩
  | .hbm, ⟨40, _⟩ => ⟨S_, .f32⟩
  | .hbm, ⟨41, _⟩ => ⟨S8x128, .f32⟩
  | .hbm, ⟨42, _⟩ => ⟨S_, .i32⟩
  | .hbm, ⟨43, _⟩ => ⟨S1, .i32⟩
  | .hbm, ⟨44, _⟩ => ⟨S_, .f32⟩
  | .hbm, ⟨45, _⟩ => ⟨S8, .f32⟩
  | .hbm, ⟨46, _⟩ => ⟨S8x128, .f32⟩
  | .hbm, ⟨47, _⟩ => ⟨S1x1024, .f32⟩
  | .hbm, ⟨48, _⟩ => ⟨S16, .f32⟩
  | .hbm, ⟨49, _⟩ => ⟨S_, .f32⟩
  | .hbm, ⟨50, _⟩ => ⟨S16, .f32⟩
  | .hbm, ⟨51, _⟩ => ⟨S16, .f32⟩
  | .hbm, ⟨52, _⟩ => ⟨S_, .f32⟩
  | .hbm, ⟨53, _⟩ => ⟨S16, .f32⟩
  | .hbm, ⟨54, _⟩ => ⟨S16, .f32⟩
  | .hbm, ⟨55, _⟩ => ⟨S16, .f32⟩
  | .hbm, ⟨56, _⟩ => ⟨S_, .f32⟩
  | .hbm, ⟨57, _⟩ => ⟨S16, .f32⟩
  | .hbm, ⟨58, _⟩ => ⟨S16, .f32⟩
  | .hbm, ⟨59, _⟩ => ⟨S_, .f32⟩
  | .hbm, ⟨60, _⟩ => ⟨S16, .f32⟩
  | .hbm, ⟨61, _⟩ => ⟨S16, .f32⟩
  | .hbm, ⟨62, _⟩ => ⟨S4096, .f32⟩
  | .hbm, ⟨63, _⟩ => ⟨S4096x1, .f32⟩
  | .hbm, ⟨64, _⟩ => ⟨S1x16, .f32⟩
  | .hbm, ⟨65, _⟩ => ⟨S4096x16, .f32⟩
  | .hbm, ⟨66, _⟩ => ⟨S4096x16, .f32⟩
  | .hbm, ⟨67, _⟩ => ⟨S4096x16, .f32⟩
  | .hbm, ⟨68, _⟩ => ⟨S4096x16, .f32⟩
  | .hbm, ⟨69, _⟩ => ⟨S4096x16, .f32⟩
  | .hbm, ⟨70, _⟩ => ⟨S_, .f32⟩
  | .hbm, ⟨71, _⟩ => ⟨S4096x32, .f32⟩
  | .hbm, ⟨72, _⟩ => ⟨S_, .f32⟩
  | .hbm, ⟨73, _⟩ => ⟨S4096x64, .f32⟩
  | .hbm, ⟨74, _⟩ => ⟨S4096x128, .f32⟩
  | .hbm, ⟨75, _⟩ => ⟨S_, .f32⟩
  | .hbm, ⟨76, _⟩ => ⟨S4096x64, .f32⟩
  | .hbm, ⟨77, _⟩ => ⟨S4096x128, .f32⟩
  | .hbm, ⟨78, _⟩ => ⟨S_, .f32⟩
  | .hbm, ⟨79, _⟩ => ⟨S4096x128, .f32⟩
  | .hbm, ⟨80, _⟩ => ⟨S4096x128, .f32⟩
  | .hbm, ⟨81, _⟩ => ⟨S_, .f32⟩
  | .hbm, ⟨82, _⟩ => ⟨S4096x128, .f32⟩
  | .hbm, ⟨83, _⟩ => ⟨S4096x128, .f32⟩
  | .hbm, ⟨84, _⟩ => ⟨S65536x1024, .f32⟩
  | .hbm, ⟨85, _⟩ => ⟨S65536x1024, .bf16⟩
  | .hbm, ⟨86, _⟩ => ⟨S65536x1024, .bf16⟩
  | .hbm, ⟨87, _⟩ => ⟨S65536x1024, .bf16⟩
  | .hbm, ⟨88, _⟩ => ⟨S65536x512, .f32⟩
  | .local _ .vmem, ⟨0, _⟩ => ⟨S512x1024, .f32⟩
  | .local _ .vmem, ⟨1, _⟩ => ⟨S512x1024, .f32⟩
  | .local _ .vmem, ⟨2, _⟩ => ⟨S1024x1280, .bf16⟩
  | .local _ .vmem, ⟨3, _⟩ => ⟨S1x384, .f32⟩
  | .local _ .vmem, ⟨4, _⟩ => ⟨S1x256, .f32⟩
  | .local _ .vmem, ⟨5, _⟩ => ⟨S384x1024, .bf16⟩
  | .local _ .vmem, ⟨6, _⟩ => ⟨S256x1024, .bf16⟩
  | .local _ .vmem, ⟨7, _⟩ => ⟨S256x1024, .bf16⟩
  | .local _ .vmem, ⟨8, _⟩ => ⟨S1x1024, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x512, .f32⟩
  | .local _ .vmem, ⟨24, _⟩ => ⟨S512x512, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_0 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_1 : Ref sig .tc := ⟨.hbm, 40, rfl⟩
abbrev main_v32 : Ref sig .tc := ⟨.hbm, 41, rfl⟩
abbrev main_c : Ref sig .tc := ⟨.hbm, 42, rfl⟩
abbrev main_v33 : Ref sig .tc := ⟨.hbm, 43, rfl⟩
abbrev main_cst_2 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_3 : Ref sig .tc := ⟨.hbm, 49, rfl⟩
abbrev main_v38 : Ref sig .tc := ⟨.hbm, 50, rfl⟩
abbrev main_v39 : Ref sig .tc := ⟨.hbm, 51, rfl⟩
abbrev main_cst_4 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_5 : Ref sig .tc := ⟨.hbm, 56, rfl⟩
abbrev main_v43 : Ref sig .tc := ⟨.hbm, 57, rfl⟩
abbrev main_v44 : Ref sig .tc := ⟨.hbm, 58, rfl⟩
abbrev main_cst_6 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_7 : Ref sig .tc := ⟨.hbm, 70, rfl⟩
abbrev main_v55 : Ref sig .tc := ⟨.hbm, 71, rfl⟩
abbrev main_cst_8 : Ref sig .tc := ⟨.hbm, 72, rfl⟩
abbrev main_v56 : Ref sig .tc := ⟨.hbm, 73, rfl⟩
abbrev main_v57 : Ref sig .tc := ⟨.hbm, 74, rfl⟩
abbrev main_cst_9 : Ref sig .tc := ⟨.hbm, 75, rfl⟩
abbrev main_v58 : Ref sig .tc := ⟨.hbm, 76, rfl⟩
abbrev main_v59 : Ref sig .tc := ⟨.hbm, 77, rfl⟩
abbrev main_cst_10 : Ref sig .tc := ⟨.hbm, 78, rfl⟩
abbrev main_v60 : Ref sig .tc := ⟨.hbm, 79, rfl⟩
abbrev main_v61 : Ref sig .tc := ⟨.hbm, 80, rfl⟩
abbrev main_cst_11 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65_0 : Ref sig .tc := ⟨.hbm, 85, rfl⟩
abbrev main_v65_1 : Ref sig .tc := ⟨.hbm, 86, rfl⟩
abbrev main_v65_2 : Ref sig .tc := ⟨.hbm, 87, rfl⟩
abbrev main_v65_3 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference6Ideal.lean ====
abbrev S16x4096x1024 : Shape := ⟨3, ![16, 4096, 1024]⟩
abbrev S1024x1184 : Shape := ⟨2, ![1024, 1184]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S16 : Shape := ⟨1, ![16]⟩
abbrev S_ : Shape := ⟨0, ![]⟩
abbrev S4096 : Shape := ⟨1, ![4096]⟩
abbrev S4096x1 : Shape := ⟨2, ![4096, 1]⟩
abbrev S1x16 : Shape := ⟨2, ![1, 16]⟩
abbrev S4096x16 : Shape := ⟨2, ![4096, 16]⟩
abbrev S16x4096x1184 : Shape := ⟨3, ![16, 4096, 1184]⟩
abbrev S16x4096x384 : Shape := ⟨3, ![16, 4096, 384]⟩
abbrev S16x4096x256 : Shape := ⟨3, ![16, 4096, 256]⟩
abbrev S16x4096x32 : Shape := ⟨3, ![16, 4096, 32]⟩
abbrev S16x4096x512 : Shape := ⟨3, ![16, 4096, 512]⟩
abbrev S16x4096 : Shape := ⟨2, ![16, 4096]⟩
abbrev S16x4096x1 : Shape := ⟨3, ![16, 4096, 1]⟩
abbrev S1x1x384 : Shape := ⟨3, ![1, 1, 384]⟩
abbrev S16x4096x768 : Shape := ⟨3, ![16, 4096, 768]⟩
abbrev S16x4096x8x96 : Shape := ⟨4, ![16, 4096, 8, 96]⟩
abbrev S16x4096x8x32 : Shape := ⟨4, ![16, 4096, 8, 32]⟩
abbrev S4096x1x16 : Shape := ⟨3, ![4096, 1, 16]⟩
abbrev S16x4096x8x16 : Shape := ⟨4, ![16, 4096, 8, 16]⟩
abbrev S1x4096x1x16 : Shape := ⟨4, ![1, 4096, 1, 16]⟩
abbrev S1x1x256 : Shape := ⟨3, ![1, 1, 256]⟩
abbrev S16x4096x8x128 : Shape := ⟨4, ![16, 4096, 8, 128]⟩
abbrev S16x4096x16 : Shape := ⟨3, ![16, 4096, 16]⟩
abbrev S1x4096x16 : Shape := ⟨3, ![1, 4096, 16]⟩
abbrev S16x4096x8x1 : Shape := ⟨4, ![16, 4096, 8, 1]⟩
abbrev S16x4096x8x63 : Shape := ⟨4, ![16, 4096, 8, 63]⟩
abbrev S16x4096x8x64 : Shape := ⟨4, ![16, 4096, 8, 64]⟩
abbrev S16x4096x1x32 : Shape := ⟨4, ![16, 4096, 1, 32]⟩
abbrev S65536x1024 : Shape := ⟨2, ![65536, 1024]⟩
abbrev S65536x512 : Shape := ⟨2, ![65536, 512]⟩

abbrev nBuf : Space → Nat
  | .hbm => 133
  | .vmem => 0
  | .smem => 0
  | _ => 0

abbrev hbmTy0_0 (i : Nat) : BufTy := match i % 128 with
  | 0 => ⟨S16x4096x1024, .f32⟩
  | 1 => ⟨S1024x1184, .f32⟩
  | 2 => ⟨S384, .f32⟩
  | 3 => ⟨S384x768, .f32⟩
  | 4 => ⟨S256, .f32⟩
  | 5 => ⟨S256x1024, .f32⟩
  | 6 => ⟨S16, .f32⟩
  | 7 => ⟨S_, .f32⟩
  | 8 => ⟨S16, .f32⟩
  | 9 => ⟨S16, .f32⟩
  | 10 => ⟨S_, .f32⟩
  | 11 => ⟨S16, .f32⟩
  | 12 => ⟨S16, .f32⟩
  | 13 => ⟨S16, .f32⟩
  | 14 => ⟨S_, .f32⟩
  | 15 => ⟨S16, .f32⟩
  | 16 => ⟨S16, .f32⟩
  | 17 => ⟨S_, .f32⟩
  | 18 => ⟨S16, .f32⟩
  | 19 => ⟨S16, .f32⟩
  | 20 => ⟨S4096, .f32⟩
  | 21 => ⟨S4096x1, .f32⟩
  | 22 => ⟨S1x16, .f32⟩
  | 23 => ⟨S4096x16, .f32⟩
  | 24 => ⟨S4096x16, .f32⟩
  | 25 => ⟨S4096x16, .f32⟩
  | 26 => ⟨S4096x16, .f32⟩
  | 27 => ⟨S4096x16, .f32⟩
  | 28 => ⟨S16x4096x1184, .f32⟩
  | 29 => ⟨S16x4096x384, .f32⟩
  | 30 => ⟨S16x4096x256, .f32⟩
  | 31 => ⟨S16x4096x32, .f32⟩
  | 32 => ⟨S16x4096x512, .f32⟩
  | 33 => ⟨S16x4096x384, .f32⟩
  | 34 => ⟨S_, .f32⟩
  | 35 => ⟨S16x4096, .f32⟩
  | 36 => ⟨S16x4096x1, .f32⟩
  | 37 => ⟨S_, .f32⟩
  | 38 => ⟨S16x4096x1, .f32⟩
  | 39 => ⟨S16x4096x1, .f32⟩
  | 40 => ⟨S_, .f32⟩
  | 41 => ⟨S16x4096x1, .f32⟩
  | 42 => ⟨S16x4096x1, .f32⟩
  | 43 => ⟨S16x4096x1, .f32⟩
  | 44 => ⟨S16x4096x384, .f32⟩
  | 45 => ⟨S16x4096x384, .f32⟩
  | 46 => ⟨S1x1x384, .f32⟩
  | 47 => ⟨S16x4096x384, .f32⟩
  | 48 => ⟨S16x4096x384, .f32⟩
  | 49 => ⟨S16x4096x768, .f32⟩
  | 50 => ⟨S16x4096x8x96, .f32⟩
  | 51 => ⟨S16x4096x8x32, .f32⟩
  | 52 => ⟨S4096x1x16, .f32⟩
  | 53 => ⟨S4096x1x16, .f32⟩
  | 54 => ⟨S16x4096x8x16, .f32⟩
  | 55 => ⟨S16x4096x8x16, .f32⟩
  | 56 => ⟨S1x4096x1x16, .f32⟩
  | 57 => ⟨S16x4096x8x16, .f32⟩
  | 58 => ⟨S16x4096x8x16, .f32⟩
  | 59 => ⟨S1x4096x1x16, .f32⟩
  | 60 => ⟨S16x4096x8x16, .f32⟩
  | 61 => ⟨S16x4096x8x16, .f32⟩
  | 62 => ⟨S16x4096x8x16, .f32⟩
  | 63 => ⟨S1x4096x1x16, .f32⟩
  | 64 => ⟨S16x4096x8x16, .f32⟩
  | 65 => ⟨S16x4096x8x16, .f32⟩
  | 66 => ⟨S1x4096x1x16, .f32⟩
  | 67 => ⟨S16x4096x8x16, .f32⟩
  | 68 => ⟨S16x4096x8x16, .f32⟩
  | 69 => ⟨S16x4096x8x16, .f32⟩
  | 70 => ⟨S16x4096x8x32, .f32⟩
  | 71 => ⟨S16x4096x256, .f32⟩
  | 72 => ⟨S_, .f32⟩
  | 73 => ⟨S16x4096, .f32⟩
  | 74 => ⟨S16x4096x1, .f32⟩
  | 75 => ⟨S_, .f32⟩
  | 76 => ⟨S16x4096x1, .f32⟩
  | 77 => ⟨S16x4096x1, .f32⟩
  | 78 => ⟨S_, .f32⟩
  | 79 => ⟨S16x4096x1, .f32⟩
  | 80 => ⟨S16x4096x1, .f32⟩
  | 81 => ⟨S16x4096x1, .f32⟩
  | 82 => ⟨S16x4096x256, .f32⟩
  | 83 => ⟨S16x4096x256, .f32⟩
  | 84 => ⟨S1x1x256, .f32⟩
  | 85 => ⟨S16x4096x256, .f32⟩
  | 86 => ⟨S16x4096x256, .f32⟩
  | 87 => ⟨S16x4096x1024, .f32⟩
  | 88 => ⟨S16x4096x8x128, .f32⟩
  | 89 => ⟨S16x4096x16, .f32⟩
  | 90 => ⟨S16x4096x16, .f32⟩
  | 91 => ⟨S1x4096x16, .f32⟩
  | 92 => ⟨S16x4096x16, .f32⟩
  | 93 => ⟨S16x4096x16, .f32⟩
  | 94 => ⟨S1x4096x16, .f32⟩
  | 95 => ⟨S16x4096x16, .f32⟩
  | 96 => ⟨S16x4096x16, .f32⟩
  | 97 => ⟨S16x4096x16, .f32⟩
  | 98 => ⟨S1x4096x16, .f32⟩
  | 99 => ⟨S16x4096x16, .f32⟩
  | 100 => ⟨S16x4096x16, .f32⟩
  | 101 => ⟨S1x4096x16, .f32⟩
  | 102 => ⟨S16x4096x16, .f32⟩
  | 103 => ⟨S16x4096x16, .f32⟩
  | 104 => ⟨S16x4096x16, .f32⟩
  | 105 => ⟨S16x4096x32, .f32⟩
  | 106 => ⟨S_, .f32⟩
  | 107 => ⟨S16x4096x8x32, .f32⟩
  | 108 => ⟨S_, .f32⟩
  | 109 => ⟨S16x4096x8x1, .f32⟩
  | 110 => ⟨S_, .f32⟩
  | 111 => ⟨S16x4096x8x63, .f32⟩
  | 112 => ⟨S16x4096x8x64, .f32⟩
  | 113 => ⟨S_, .f32⟩
  | 114 => ⟨S16x4096x8x64, .f32⟩
  | 115 => ⟨S16x4096x8x64, .f32⟩
  | 116 => ⟨S_, .f32⟩
  | 117 => ⟨S16x4096x8x32, .f32⟩
  | 118 => ⟨S16x4096x8x32, .f32⟩
  | 119 => ⟨S16x4096x8x128, .f32⟩
  | 120 => ⟨S16x4096x1x32, .f32⟩
  | 121 => ⟨S16x4096x8x32, .f32⟩
  | 122 => ⟨S16x4096x8x64, .f32⟩
  | 123 => ⟨S16x4096x8x128, .f32⟩
  | 124 => ⟨S16x4096x8x64, .f32⟩
  | 125 => ⟨S16x4096x8x128, .f32⟩
  | 126 => ⟨S65536x1024, .f32⟩
  | 127 => ⟨S65536x1024, .bf16⟩
  | _ => ⟨S16x4096x1024, .f32⟩

abbrev hbmTy0_1 (i : Nat) : BufTy := match i % 128 with
  | 0 => ⟨S65536x1024, .f32⟩
  | 1 => ⟨S65536x1024, .bf16⟩
  | 2 => ⟨S65536x1024, .f32⟩
  | 3 => ⟨S65536x1024, .bf16⟩
  | 4 => ⟨S65536x512, .f32⟩
  | _ => ⟨S16x4096x1024, .f32⟩

abbrev hbmTy (i : Nat) : BufTy := match i / 128 with
  | 0 => hbmTy0_0 i
  | 1 => hbmTy0_1 i
  | _ => ⟨S16x4096x1024, .f32⟩

abbrev bufTy : (tb : Table) → Fin (tcTables nBuf tb) → BufTy
  | .hbm, ⟨i, _⟩ => hbmTy i
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_cst_6 : Ref sig .tc := ⟨.hbm, 72, rfl⟩
abbrev main_v59 : Ref sig .tc := ⟨.hbm, 73, rfl⟩
abbrev main_v60 : Ref sig .tc := ⟨.hbm, 74, rfl⟩
abbrev main_cst_7 : Ref sig .tc := ⟨.hbm, 75, rfl⟩
abbrev main_v61 : Ref sig .tc := ⟨.hbm, 76, rfl⟩
abbrev main_v62 : Ref sig .tc := ⟨.hbm, 77, rfl⟩
abbrev main_cst_8 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_cst_9 : Ref sig .tc := ⟨.hbm, 106, rfl⟩
abbrev main_v90 : Ref sig .tc := ⟨.hbm, 107, rfl⟩
abbrev main_cst_10 : Ref sig .tc := ⟨.hbm, 108, rfl⟩
abbrev main_v91 : Ref sig .tc := ⟨.hbm, 109, rfl⟩
abbrev main_cst_11 : Ref sig .tc := ⟨.hbm, 110, rfl⟩
abbrev main_v92 : Ref sig .tc := ⟨.hbm, 111, rfl⟩
abbrev main_v93 : Ref sig .tc := ⟨.hbm, 112, rfl⟩
abbrev main_cst_12 : Ref sig .tc := ⟨.hbm, 113, rfl⟩
abbrev main_v94 : Ref sig .tc := ⟨.hbm, 114, rfl⟩
abbrev main_v95 : Ref sig .tc := ⟨.hbm, 115, rfl⟩
abbrev main_cst_13 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩

abbrev nD : Nat := 1
abbrev τ : Topo := Topo.v7x

variable {F : FTy → Type} [FloatOps F]
-- ==== Proof.Words.lean ====
/-
  The words of the gather kernel's loop. A tile (SparseCore `i 0`, vector subcore `i 1`) runs 288 trips; before trip `t`
  the five carried counters are small numbers, and every condition, slot number and window offset the trip computes from
  them is in closed form: the tile's first window is `base i`, the trip's window is `base i + t`, its slot is `t` modulo 2.
  All of it is decided over the 2 × 16 × 288 cases.
-/
module

public import proofs.«01_k».proof.Proof.Gen.KernelIdeal
public import proofs.«01_k».proof.Proof.Gen.KernelIdeal.Skeleton

@[expose] public section

set_option maxRecDepth 100000

namespace Cert.Proof.Words

open Cert.KernelIdeal Cert.KernelIdeal.Gen
open Idealize.ShloMosaic

/-- The number of the tile's first window. -/
def base (i : grid0.Coords) : Nat := 288 * ((i 1).val + 16 * (i 0).val)

/-- A number as the kernel's 32-bit word. -/
abbrev w (n : Nat) : BitVec 32 := BitVec.ofNat 32 n

theorem trips_eq : k0_t1_loop.trips = 288 := by decide +kernel

theorem base_le (i : grid0.Coords) : base i + 288 ≤ 9216 := by
  have h0 : (i 0).val < 2 := (i 0).isLt
  have h1 : (i 1).val < 16 := (i 1).isLt
  unfold base; omega

/-- The next input window is fetched on every trip but the last. -/
theorem cond1_eq : ∀ (i : grid0.Coords) (t : Fin k0_t1_loop.trips),
    k0_cond1 i t (w t.val) = if t.val < 287 then 1#1 else 0#1 := by decide +kernel
/-- The trip's own input window is waited for on every trip. -/
theorem cond2_eq : ∀ (i : grid0.Coords) (t : Fin k0_t1_loop.trips), k0_cond2 i t (w t.val) = 1#1 := by decide +kernel
/-- The trip's output window is sent on every trip. -/
theorem cond5_eq : ∀ (i : grid0.Coords) (t : Fin k0_t1_loop.trips), k0_cond5 i t (w t.val) = 1#1 := by decide +kernel
/-- The previous output window is waited for on every trip but the first. -/
theorem cond7_eq : ∀ (i : grid0.Coords) (t : Fin k0_t1_loop.trips),
    k0_cond7 i t (w t.val) = if 0 < t.val then 1#1 else 0#1 := by decide +kernel

theorem off4_eq : ∀ t : Fin 289, k0_off4 (w t.val) = ![t.val % 2, 0, 0] := by decide +kernel
theorem off6_eq : ∀ t : Fin 289, k0_off6 (w t.val) = ![t.val % 2] := by decide +kernel
theorem off7_eq : ∀ t : Fin 289, k0_off7 (w t.val) = ![t.val % 2, 0, 0] := by decide +kernel
theorem off9_eq : ∀ t : Fin 289, k0_off9 (w t.val) = ![t.val % 2] := by decide +kernel
theorem off10_eq : ∀ t : Fin 289, k0_off10 (w t.val) = ![t.val % 2, 0, 0] := by decide +kernel
theorem off11_eq : ∀ t : Fin 289, k0_off11 (w t.val) = ![t.val % 2, 0, 0] := by decide +kernel
theorem off12_eq : ∀ t : Fin 289, k0_off12 (w t.val) = ![t.val % 2, 0, 0] := by decide +kernel
theorem off14_eq : ∀ t : Fin 289, k0_off14 (w t.val) = ![t.val % 2] := by decide +kernel
theorem off15_eq : ∀ t : Fin 289, k0_off15 (w t.val) = ![t.val % 2, 0, 0] := by decide +kernel
theorem off17_eq : ∀ t : Fin 289, k0_off17 (w t.val) = ![t.val % 2] := by decide +kernel

theorem off2_eq : ∀ i : grid0.Coords, k0_off2 i = ![0, 128 * base i] := by decide +kernel
/-- The next trip's window of the index array. -/
theorem off5_eq : ∀ (i : grid0.Coords) (t : Fin 287), k0_off5 i (w t.val) = ![0, 128 * (base i + (t.val + 1))] := by decide +kernel
/-- The trip's window of the result. -/
theorem off13_eq : ∀ (i : grid0.Coords) (t : Fin 288), k0_off13 i (w t.val) = ![128 * (base i + t.val), 0] := by decide +kernel

/-- Every side condition of trip `t` holds at its carried counters. -/
theorem chk1_ok : ∀ (i : grid0.Coords) (t : Fin k0_t1_loop.trips),
    k0_chk1 i t (w (t.val + 1)) (w t.val) (w t.val) (w (t.val - 1)) (w t.val) := by decide +kernel
theorem chk2_ok : ∀ t : Fin 289, k0_chk2 (w t.val) := by decide +kernel
theorem chk3_ok : ∀ t : Fin 289, k0_chk3 (w t.val) := by decide +kernel
theorem chk4_ok : k0_chk4 (w 287) := by decide +kernel
theorem chk5_ok : ∀ i : grid0.Coords, k0_chk5 i (w 0) := by decide +kernel
theorem off20_eq : k0_off20 (w 287) = ![1] := by decide +kernel
theorem off21_eq : k0_off21 (w 287) = ![1, 0, 0] := by decide +kernel

/-- The counter of fetched windows after the trip. -/
theorem next6 : ∀ (i : grid0.Coords) (t : Fin k0_t1_loop.trips),
    (let v4 : BitVec 32 := w (base i)
     let v66 := Scalar.addi (w t.val) v4
     let v75 := Scalar.select (Scalar.cmpi .eq (Scalar.select 1#1 (Scalar.addi (w t.val) 1#32) (w t.val)) 288#32) 0#32 (Scalar.select 1#1 (Scalar.addi (w t.val) 1#32) (w t.val))
     let v76 := Scalar.addi v75 v4
     let v85 := Scalar.andi (Scalar.cmpi .ne v66 v76) (Scalar.xori (Scalar.cmpi .sge (Scf.iv 0#32 1#32 t.val) 287#32) 1#1)
     Scalar.select (Scalar.andi v85 1#1) (Scalar.addi (w (t.val + 1)) 1#32) (w (t.val + 1)))
      = w (min (t.val + 2) 288) := by decide +kernel

end Cert.Proof.Words
-- ==== Proof.Windows.lean ====
/-
  The windows the gather kernel moves. A tile works through 288 windows of 128 row numbers each. Window `w` of the index
  array is its columns `128·w … 128·w+127`; window `w` of the result is the rows of the same numbers. Each is staged in one
  of two slots of tile memory, window `n` of a tile in slot `n` modulo 2. This module names those windows and slots, says
  which elements each one covers, and how a range of windows splits and joins.
-/
module

public import proofs.«01_k».proof.Proof.Gen.KernelIdeal
public import proofs.«01_k».proof.Proof.Gen.KernelIdeal.Skeleton
public import proofs.«01_k».proof.Proof.Words
public import Idealize.ShloMosaic.Lib.SparseCore.Quiescent
public import Idealize.ShloMosaic.Lib.SparseCore.Ops
public import Idealize.ShloMosaic.Lib.SparseCore.Stream
public import Idealize.ShloMosaic.Lib.ValueIdxCore

@[expose] public section

noncomputable section

namespace Cert.Proof.Windows

open Cert.KernelIdeal Cert.KernelIdeal.Gen
open Idealize.ShloMosaic
open Idealize.ShloMosaic.ValueIdx (ix2)

variable {F : FTy → Type}

/-- The points of a shape whose coordinate on axis `a` is from `lo` on and below `hi`. -/
def rng (s : Shape) (a : Fin s.rank) (lo hi : Nat) : Finset s.Idx :=
  Finset.univ.filter fun j => lo ≤ (j a).val ∧ (j a).val < hi

theorem mem_rng {s : Shape} {a : Fin s.rank} {lo hi : Nat} {j : s.Idx} :
    j ∈ rng s a lo hi ↔ lo ≤ (j a).val ∧ (j a).val < hi := by simp [rng]

theorem rng_union {s : Shape} {a : Fin s.rank} {lo mid hi : Nat} (h : lo ≤ mid) (h' : mid ≤ hi) :
    rng s a lo hi = rng s a lo mid ∪ rng s a mid hi := by
  ext j; simp only [Finset.mem_union, mem_rng]; omega

theorem rng_disjoint {s : Shape} {a : Fin s.rank} {lo mid hi : Nat} :
    Disjoint (rng s a lo mid) (rng s a mid hi) := by
  rw [Finset.disjoint_left]; intro j; simp only [mem_rng]; omega

theorem rng_empty {s : Shape} {a : Fin s.rank} {lo : Nat} : rng s a lo lo = ∅ := by
  ext j; simp only [mem_rng, Finset.notMem_empty, iff_false]; omega

/-! ## The windows and the slots -/

/-- A slot of the index staging buffer at given offsets. -/
abbrev islotAt (o : Fin 3 → Nat) (h : ∀ a, o a + S1x1x128.size a ≤ S2x1x128.size a) : Memref sig .scVector .vmem S1x128 .i32 :=
  ((Memref.whole cc0_scoped0).slice (Rect.unit (s := S2x1x128) o S1x1x128.size h) (fun _ => rfl)).squeeze S1x128 squeezes_S1x1x128_S1x128
/-- A slot of the row staging buffer at given offsets. -/
abbrev oslotAt (o : Fin 3 → Nat) (h : ∀ a, o a + S1x128x128.size a ≤ S2x128x128.size a) : Memref sig .scVector .vmem S128x128 .f32 :=
  ((Memref.whole cc0_scoped2).slice (Rect.unit (s := S2x128x128) o S1x128x128.size h) (fun _ => rfl)).squeeze S128x128 squeezes_S1x128x128_S128x128
/-- A window of the index array at given offsets. -/
abbrev iwinAt (o : Fin 2 → Nat) (h : ∀ a, o a + S1x128.size a ≤ S1x1179648.size a) : Memref sig .scVector .hbm S1x128 .i32 :=
  (Memref.whole main_v10_scv).slice (Rect.unit (s := S1x1179648) o S1x128.size h) (fun _ => rfl)
/-- A window of the result at given offsets. -/
abbrev owinAt (o : Fin 2 → Nat) (h : ∀ a, o a + S128x128.size a ≤ S1179648x128.size a) : Memref sig .scVector .hbm S128x128 .f32 :=
  (Memref.whole main_v11_scv).slice (Rect.unit (s := S1179648x128) o S128x128.size h) (fun _ => rfl)
/-- The semaphore of the index array's (`a`) or the result's slot at a given offset. -/
abbrev semAt (a : DmaSems sig S2) (o : Fin 1 → Nat) (h : ∀ a, o a + S1.size a ≤ S2.size a) : DmaSem sig :=
  SemArray.sem ((a.slice (Rect.unit (s := S2) o S1.size h)).squeeze S_ squeezes_S1_S_)

theorem islot_inb (n : Nat) : ∀ a, (![n % 2, 0, 0] : Fin 3 → Nat) a + S1x1x128.size a ≤ S2x1x128.size a := by
  have := Nat.mod_lt n (show 0 < 2 by decide)
  intro a; match a with
  | 0 => show n % 2 + 1 ≤ 2; omega
  | 1 => show 0 + 1 ≤ 1; omega
  | 2 => show 0 + 128 ≤ 128; omega
theorem oslot_inb (n : Nat) : ∀ a, (![n % 2, 0, 0] : Fin 3 → Nat) a + S1x128x128.size a ≤ S2x128x128.size a := by
  have := Nat.mod_lt n (show 0 < 2 by decide)
  intro a; match a with
  | 0 => show n % 2 + 1 ≤ 2; omega
  | 1 => show 0 + 128 ≤ 128; omega
  | 2 => show 0 + 128 ≤ 128; omega
theorem sem_inb (n : Nat) : ∀ a, (![n % 2] : Fin 1 → Nat) a + S1.size a ≤ S2.size a := by
  have := Nat.mod_lt n (show 0 < 2 by decide)
  intro a; match a with
  | 0 => show n % 2 + 1 ≤ 2; omega
theorem iwin_inb (w : Fin 9216) : ∀ a, (![0, 128 * w.val] : Fin 2 → Nat) a + S1x128.size a ≤ S1x1179648.size a := by
  have := w.isLt
  intro a; match a with
  | 0 => show 0 + 1 ≤ 1; omega
  | 1 => show 128 * w.val + 128 ≤ 1179648; omega
theorem owin_inb (w : Fin 9216) : ∀ a, (![128 * w.val, 0] : Fin 2 → Nat) a + S128x128.size a ≤ S1179648x128.size a := by
  have := w.isLt
  intro a; match a with
  | 0 => show 128 * w.val + 128 ≤ 1179648; omega
  | 1 => show 0 + 128 ≤ 128; omega

/-- The index slot of a tile's window `n`. -/
abbrev islot (n : Nat) := islotAt ![n % 2, 0, 0] (islot_inb n)
/-- The row slot of a tile's window `n`. -/
abbrev oslot (n : Nat) := oslotAt ![n % 2, 0, 0] (oslot_inb n)
/-- Window `w` of the index array. -/
abbrev iwin (w : Fin 9216) := iwinAt ![0, 128 * w.val] (iwin_inb w)
/-- Window `w` of the result. -/
abbrev owin (w : Fin 9216) := owinAt ![128 * w.val, 0] (owin_inb w)
/-- The semaphore of the index slot of a tile's window `n`. -/
abbrev isem (n : Nat) := semAt cc0_scoped1 ![n % 2] (sem_inb n)
/-- The semaphore of the row slot of a tile's window `n`. -/
abbrev osem (n : Nat) := semAt cc0_scoped3 ![n % 2] (sem_inb n)

theorem islotAt_eq {o : Fin 3 → Nat} (h) {n : Nat} (e : o = ![n % 2, 0, 0]) : islotAt o h = islot n := by subst e; rfl
theorem oslotAt_eq {o : Fin 3 → Nat} (h) {n : Nat} (e : o = ![n % 2, 0, 0]) : oslotAt o h = oslot n := by subst e; rfl
theorem iwinAt_eq {o : Fin 2 → Nat} (h) {w : Fin 9216} (e : o = ![0, 128 * w.val]) : iwinAt o h = iwin w := by subst e; rfl
theorem owinAt_eq {o : Fin 2 → Nat} (h) {w : Fin 9216} (e : o = ![128 * w.val, 0]) : owinAt o h = owin w := by subst e; rfl
theorem semAt_eq {a : DmaSems sig S2} {o : Fin 1 → Nat} (h) {n : Nat} (e : o = ![n % 2]) : semAt a o h = semAt a ![n % 2] (sem_inb n) := by subst e; rfl

theorem islot_congr {n m : Nat} (e : n % 2 = m % 2) : islot n = islot m := islotAt_eq _ (by rw [e])
theorem oslot_congr {n m : Nat} (e : n % 2 = m % 2) : oslot n = oslot m := oslotAt_eq _ (by rw [e])
theorem isem_congr {n m : Nat} (e : n % 2 = m % 2) : isem n = isem m := semAt_eq _ (by rw [e])
theorem osem_congr {n m : Nat} (e : n % 2 = m % 2) : osem n = osem m := semAt_eq _ (by rw [e])

/-! ## What they cover -/

theorem set_iwin (w : Fin 9216) : (iwin w).view.set = rng S1x1179648 1 (128 * w.val) (128 * w.val + 128) := by
  show ((View.whole main_v10_scv).slice _).set = _
  rw [View.set_slice_whole]
  ext j
  rw [Rect.mem_set_unit, mem_rng]
  constructor
  · intro h; exact h 1
  · intro h a
    match a with
    | 0 => exact ⟨Nat.zero_le _, (j 0).isLt⟩
    | 1 => exact h

theorem set_owin (w : Fin 9216) : (owin w).view.set = rng S1179648x128 0 (128 * w.val) (128 * w.val + 128) := by
  show ((View.whole main_v11_scv).slice _).set = _
  rw [View.set_slice_whole]
  ext j
  rw [Rect.mem_set_unit, mem_rng]
  constructor
  · intro h; exact h 0
  · intro h a
    match a with
    | 0 => exact h
    | 1 => exact ⟨Nat.zero_le _, (j 1).isLt⟩

theorem set_islot (n : Nat) : (islot n).view.set = rng S2x1x128 0 (n % 2) (n % 2 + 1) := by
  show (((View.whole cc0_scoped0).slice _).reshape S1x128 _).set = _
  rw [View.set_reshape, View.set_slice_whole]
  ext j
  rw [Rect.mem_set_unit, mem_rng]
  constructor
  · intro h; exact h 0
  · intro h a
    match a with
    | 0 => exact h
    | 1 => exact ⟨Nat.zero_le _, (j 1).isLt⟩
    | 2 => exact ⟨Nat.zero_le _, (j 2).isLt⟩

theorem set_oslot (n : Nat) : (oslot n).view.set = rng S2x128x128 0 (n % 2) (n % 2 + 1) := by
  show (((View.whole cc0_scoped2).slice _).reshape S128x128 _).set = _
  rw [View.set_reshape, View.set_slice_whole]
  ext j
  rw [Rect.mem_set_unit, mem_rng]
  constructor
  · intro h; exact h 0
  · intro h a
    match a with
    | 0 => exact h
    | 1 => exact ⟨Nat.zero_le _, (j 1).isLt⟩
    | 2 => exact ⟨Nat.zero_le _, (j 2).isLt⟩

/-! ## The list of offsets, the table, and the value -/

/-- The list the gather reads: the index slot as 128 words. -/
abbrev offs (n : Nat) : Memref sig .scVector .vmem S128 .i32 :=
  ((islot n).slice (Rect.unit (s := S1x128) ![0, 0] S1x128.size inb_S1x128_S1x128_0_0) (fun _ => rfl)).squeeze S128 squeezes_S1x128_S128
theorem offsAt_eq {o : Fin 3 → Nat} (h) {n : Nat} (e : o = ![n % 2, 0, 0]) :
    ((islotAt o h).slice (Rect.unit (s := S1x128) ![0, 0] S1x128.size inb_S1x128_S1x128_0_0) (fun _ => rfl)).squeeze S128 squeezes_S1x128_S128 = offs n := by subst e; rfl

/-- The table the gather reads its rows from, whole. -/
abbrev table : Memref sig .scVector .hbm S524288x128 .f32 :=
  (Memref.whole main_v0_scv).slice (Rect.unit (s := S524288x128) ![0, 0] S524288x128.size inb_S524288x128_S524288x128_0_0) (fun _ => rfl)

theorem set_offs (n : Nat) : (offs n).view.set ⊆ (islot n).view.set := by
  show (((islot n).view.slice _).reshape S128 _).set ⊆ _
  rw [View.set_reshape]; exact View.set_slice_subset _ _

/-- Row `j` of the gathered array: the row of the table the index array names at `j`. -/
def gval (xv : S524288x128.Idx → Elt F .f32) (iv : S1x1179648.Idx → Elt F .i32) (hin : ∀ j, (iv j).toNat < 524288) :
    S1179648x128.Idx → Elt F .f32 :=
  fun j => xv (ix2 ⟨(iv (ix2 0 (j 0))).toNat, hin _⟩ (j 1))

/-- A point of the offset list is the point of the slot with the same last coordinate. -/
theorem reshape_one (x : S128.Idx) : Shape.reshapeEquiv (s := S1x128) squeezes_S1x128_S128.numel_eq x = ix2 0 (x 0) := by
  apply Shape.reshapeEquiv_eq_of_rowMajor
  rw [Shape.rowMajor_val_one]
  erw [Shape.rowMajor_val_two]
  simp

theorem emb_unit_zero {s : Shape} (off : Fin s.rank → Nat) (inb) (h : ∀ a, off a = 0) (x : s.Idx) :
    (Rect.unit (s := s) off s.size inb).emb x = x := by
  funext a; apply Fin.ext
  show off a + 1 * (x a).val = (x a).val
  rw [h a]; omega

theorem zero2 : ∀ a, (![0, 0] : Fin 2 → Nat) a = 0 := by decide

/-- What the offset list holds, from what the slot holds. -/
theorem read_offs (n : Nat) (f : S2x1x128.Idx → Elt F .i32) (x : S128.Idx) :
    (offs n).view.read (Elt F) f x = (islot n).view.read (Elt F) f (ix2 0 (x 0)) := by
  rw [View.read_apply, View.read_apply]
  have e : (offs n).view.emb x = (islot n).view.emb (ix2 0 (x 0)) := by
    show (islot n).view.emb ((Rect.unit (s := S1x128) ![0, 0] S1x128.size inb_S1x128_S1x128_0_0).emb (Shape.reshapeEquiv (s := S1x128) squeezes_S1x128_S128.numel_eq x)) = _
    rw [reshape_one]; erw [emb_unit_zero (s := S1x128) ![0, 0] _ zero2]; rfl
  rw [e]

/-- A window of the index array reads the array's columns from the window's first on. -/
theorem read_iwin (w : Fin 9216) (iv : S1x1179648.Idx → Elt F .i32) (x : Fin 128) :
    (iwin w).view.read (Elt F) iv (ix2 0 x) = iv (ix2 0 ⟨128 * w.val + x.val, by have := w.isLt; have := x.isLt; omega⟩) := by
  rw [View.read_apply]
  refine (cast_eq _ _).trans (congrArg iv ?_)
  funext a; apply Fin.ext
  match a with
  | 0 => rfl
  | 1 => show 128 * w.val + 1 * x.val = 128 * w.val + x.val; omega

theorem read_table (xv : S524288x128.Idx → Elt F .f32) : table.view.read (Elt F) xv = xv := by
  funext x
  rw [View.read_apply]
  refine (cast_eq _ _).trans (congrArg xv ?_)
  exact emb_unit_zero (s := S524288x128) ![0, 0] _ zero2 x

/-- The row an element of a result's window has in the result. -/
theorem emb_owin (w : Fin 9216) (y : S128x128.Idx) :
    (owin w).view.emb y = ix2 ⟨128 * w.val + (y 0).val, by have := w.isLt; have : (y 0).val < 128 := (y 0).isLt; omega⟩ (y 1) := by
  funext a; apply Fin.ext
  match a with
  | 0 => show 128 * w.val + 1 * (y 0).val = 128 * w.val + (y 0).val; omega
  | 1 => show 0 + 1 * (y 1).val = (y 1).val; omega

section Value

variable (xv : S524288x128.Idx → Elt F .f32) (iv : S1x1179648.Idx → Elt F .i32) (hin : ∀ j, (iv j).toNat < 524288)

/-- What the slot of window `w`'s row numbers holds once the window has landed. -/
def Landed (n : Nat) (w : Fin 9216) (f : S2x1x128.Idx → Elt F .i32) : Prop :=
  ∀ x : Fin 128, (islot n).view.read (Elt F) f (ix2 0 x) = (iwin w).view.read (Elt F) iv (ix2 0 x)

/-- What the slot of window `w`'s rows holds once they are gathered. -/
def Gathered (n : Nat) (w : Fin 9216) (g : S2x128x128.Idx → Elt F .f32) : Prop :=
  ∀ y : S128x128.Idx, (oslot n).view.read (Elt F) g y = gval xv iv hin ((owin w).view.emb y)

variable {xv iv hin}

theorem offs_word {n : Nat} {w : Fin 9216} {f : S2x1x128.Idx → Elt F .i32} (h : Landed iv n w f) (x : S128.Idx) :
    (offs n).view.read (Elt F) f x
      = iv (ix2 0 ⟨128 * w.val + (x 0).val, by have := w.isLt; have : (x 0).val < 128 := (x 0).isLt; omega⟩) :=
  (read_offs n f x).trans ((h (x 0)).trans (read_iwin w iv (x 0)))

theorem offs_lt (hin : ∀ j, (iv j).toNat < 524288) {n : Nat} {w : Fin 9216} {f : S2x1x128.Idx → Elt F .i32} (h : Landed iv n w f) :
    ∀ x, ((offs n).view.read (Elt F) f x).toNat < S524288x128.size gathers_S524288x128_S128x128.axis := by
  intro x
  rw [offs_word h]
  exact hin _

theorem gathered {n : Nat} {w : Fin 9216} {f : S2x1x128.Idx → Elt F .i32} {g : S2x128x128.Idx → Elt F .f32} (h : Landed iv n w f)
    (hn : S128.numel = S128x128.size gathers_S524288x128_S128x128.axis') (hlt) :
    Gathered xv iv hin n w ((oslot n).view.write (Elt F) g (SparseCore.gatherPayload gathers_S524288x128_S128x128
      (table.view.read (Elt F) xv) (SparseCore.rows ((offs n).view.read (Elt F) f) hn hlt)) Finset.univ) := by
  intro y
  rw [View.read_write_univ, read_table]
  unfold SparseCore.gatherPayload gval
  congr 1
  funext a; apply Fin.ext
  match a with
  | 0 =>
    have e := congrArg Fin.val (Shape.Gathers.idx_axis gathers_S524288x128_S128x128 (SparseCore.rows ((offs n).view.read (Elt F) f) hn hlt) y)
    refine e.trans ?_
    show ((offs n).view.read (Elt F) f (S128.rowMajor.symm (Fin.cast hn.symm (y 0)))).toNat = (iv _).toNat
    rw [offs_word h]
    congr 2
    rw [emb_owin]
    funext b; apply Fin.ext
    match b with
    | 0 => rfl
    | 1 =>
      show 128 * w.val + (S128.rowMajor.symm (Fin.cast hn.symm (y 0)) 0).val = 128 * w.val + (y 0).val
      congr 1
      rw [← Shape.rowMajor_val_one (S128.rowMajor.symm (Fin.cast hn.symm (y 0)))]
      erw [Equiv.apply_symm_apply]; rfl
  | 1 =>
    refine (Shape.Gathers.idx_of_ne gathers_S524288x128_S128x128 _ y 1 (by decide)).trans ?_
    rw [emb_owin]; rfl

/-- The write-out of a gathered window is the value on the window. -/
theorem written {n : Nat} {w : Fin 9216} {g : S2x128x128.Idx → Elt F .f32} (h : Gathered xv iv hin n w g)
    (o : S1179648x128.Idx → Elt F .f32) :
    ∀ j ∈ (owin w).view.set, (owin w).view.write (Elt F) o ((oslot n).view.read (Elt F) g) Finset.univ j = gval xv iv hin j := by
  intro j hj
  obtain ⟨y, -, rfl⟩ := Finset.mem_map.mp hj
  rw [View.write_emb_of_mem _ _ (Finset.mem_univ y), h y]
  exact cast_eq _ _

end Value

end Cert.Proof.Windows
-- ==== Proof.Moves.lean ====
/-
  The gather kernel's moves, one rule each: fetch a window of row numbers into its slot, wait for it, gather the rows the
  slot names, send a window of rows to the result, wait for it. Each rule says what the tile holds before and after. A
  window in flight is held as its transfer, which says what will be delivered at the wait.
-/
module

public import proofs.«01_k».proof.Proof.Windows
public import Idealize.ShloMosaic.Lib.StableHlo.Run
public import Idealize.ShloMosaic.Lib.Pipeline.Kit
public import Idealize.ShloMosaic.Lib.Tactic

@[expose] public section

noncomputable section

namespace Cert.Proof.Moves

open Cert.KernelIdeal Cert.KernelIdeal.Gen
open Cert.Proof.Windows
open Idealize.ShloMosaic
open Idealize.ShloMosaic.ValueIdx (ix2)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as its launch sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

abbrev iLoc (d : Dev nD) : Loc nD τ sig := (SparseCore.T d).loc main_v10
abbrev xLoc (d : Dev nD) : Loc nD τ sig := (SparseCore.T d).loc main_v0
abbrev oLoc (d : Dev nD) : Loc nD τ sig := (SparseCore.T d).loc main_v11

abbrev cV (L : grid0.Coords) : Fin τ.nSC := (L 0).castLE hcore0
abbrev jV (L : grid0.Coords) : Fin τ.nSub := (L 1).castLE hsub0

section Tile

variable (d : Dev nD) (L : grid0.Coords)
variable (O : CellTallies nD τ sig (HIx 1)) (W : Waits sig (HIx 1))
variable (xv : S524288x128.Idx → Elt F .f32) (iv : S1x1179648.Idx → Elt F .i32) (hin : ∀ j, (iv j).toNat < 524288)

/-- The tile as a thread. -/
abbrev thr (d : Dev nD) (L : grid0.Coords) : Thread nD τ := V d (cV L) (jV L)

/-- Windows `lo … hi-1` of the index array. -/
def iPts (lo hi : Nat) : sProp 𝕄 := iLoc d ↦[rng S1x1179648 1 (128 * lo) (128 * hi)]{fullShare} iv
/-- Windows `lo … hi-1` of the result, holding `f`. -/
def oPts (lo hi : Nat) (f : S1179648x128.Idx → Elt F .f32) : sProp 𝕄 := oLoc d ↦[rng S1179648x128 0 (128 * lo) (128 * hi)]{fullShare} f
/-- The index slot of window `n`, whatever it holds. -/
def freeI (n : Nat) : sProp 𝕄 :=
  iprop((∃ f : S2x1x128.Idx → Elt F .i32, (thr d L).loc cc0_scoped0 ↦[(islot n).view.set]{fullShare} f) ∗ semVal (thr d L, .dma (isem n)) 0)
/-- The row slot of window `n`, whatever it holds. -/
def freeO (n : Nat) : sProp 𝕄 :=
  iprop((∃ f : S2x128x128.Idx → Elt F .f32, (thr d L).loc cc0_scoped2 ↦[(oslot n).view.set]{fullShare} f) ∗ semVal (thr d L, .dma (osem n)) 0)
/-- The index slot of window `n` holding the row numbers of window `w`. -/
def fullI (n : Nat) (w : Fin 9216) : sProp 𝕄 :=
  iprop(∃ f : S2x1x128.Idx → Elt F .i32, ⌜Landed iv n w f⌝ ∗ (thr d L).loc cc0_scoped0 ↦[(islot n).view.set]{fullShare} f)
/-- The row slot of window `n` holding the rows of window `w`. -/
def fullO (n : Nat) (w : Fin 9216) : sProp 𝕄 :=
  iprop(∃ g : S2x128x128.Idx → Elt F .f32, ⌜Gathered xv iv hin n w g⌝ ∗ (thr d L).loc cc0_scoped2 ↦[(oslot n).view.set]{fullShare} g)

/-- Window `w` of row numbers on its way into its slot. -/
def flyI (n : Nat) (w : Fin 9216) : sProp 𝕄 :=
  Transfers.Flight countersEmb (thr d L) (.dma (isem n)) (default : HIx 1) (islot n).view.dmaCredit
    iprop(fullI d L iv n w ∗ iPts d iv w.val (w.val + 1))
/-- Window `w` of rows on its way to the result. -/
def flyO (n : Nat) (w : Fin 9216) : sProp 𝕄 :=
  Transfers.Flight countersEmb (thr d L) (.dma (osem n)) (default : HIx 1) (owin w).view.dmaCredit
    iprop(oPts d w.val (w.val + 1) (gval xv iv hin) ∗ ∃ f : S2x128x128.Idx → Elt F .f32, (thr d L).loc cc0_scoped2 ↦[(oslot n).view.set]{fullShare} f)

/-- What the tile owes: what it owed at its start, its waits recorded. -/
def owed : sProp 𝕄 := iprop(∃ W', ⌜∀ p ∈ W', p ∈ W ∨ p.2 = none⌝ ∗ owes (thr d L) O W')

theorem freeI_congr {n m : Nat} (e : n % 2 = m % 2) : (freeI d L n : sProp 𝕄) = freeI d L m := by
  have h : (islot n).view.set = (islot m).view.set := by rw [set_islot, set_islot, e]
  unfold freeI; rw [isem_congr e]
  exact congrArg (fun S => iprop((∃ f : S2x1x128.Idx → Elt F .i32, (thr d L).loc cc0_scoped0 ↦[S]{fullShare} f) ∗ semVal (thr d L, .dma (isem m)) 0)) h
theorem freeO_congr {n m : Nat} (e : n % 2 = m % 2) : (freeO d L n : sProp 𝕄) = freeO d L m := by
  have h : (oslot n).view.set = (oslot m).view.set := by rw [set_oslot, set_oslot, e]
  unfold freeO; rw [osem_congr e]
  exact congrArg (fun S => iprop((∃ f : S2x128x128.Idx → Elt F .f32, (thr d L).loc cc0_scoped2 ↦[S]{fullShare} f) ∗ semVal (thr d L, .dma (osem m)) 0)) h

theorem iPts_split {lo mid hi : Nat} (h : lo ≤ mid) (h' : mid ≤ hi) :
    (iPts d iv lo hi : sProp 𝕄) ⊣⊢ iprop(iPts d iv lo mid ∗ iPts d iv mid hi) := by
  unfold iPts
  rw [rng_union (s := S1x1179648) (a := 1) (show 128 * lo ≤ 128 * mid by omega) (show 128 * mid ≤ 128 * hi by omega)]
  exact pointsTo_union rng_disjoint
theorem oPts_split {lo mid hi : Nat} (f : S1179648x128.Idx → Elt F .f32) (h : lo ≤ mid) (h' : mid ≤ hi) :
    (oPts d lo hi f : sProp 𝕄) ⊣⊢ iprop(oPts d lo mid f ∗ oPts d mid hi f) := by
  unfold oPts
  rw [rng_union (s := S1179648x128) (a := 0) (show 128 * lo ≤ 128 * mid by omega) (show 128 * mid ≤ 128 * hi by omega)]
  exact pointsTo_union rng_disjoint
theorem iPts_nil (lo : Nat) : (emp : sProp 𝕄) ⊢ iPts d iv lo lo := by
  unfold iPts; rw [rng_empty, pointsTo_empty]
theorem oPts_nil (lo : Nat) (f : S1179648x128.Idx → Elt F .f32) : (emp : sProp 𝕄) ⊢ oPts d lo lo f := by
  unfold oPts; rw [rng_empty, pointsTo_empty]

theorem pts_iwin (w : Fin 9216) :
    (iPts d iv w.val (w.val + 1) : sProp 𝕄) = ((iwin w).view.loc (thr d L) ↦[(iwin w).view.set]{fullShare} iv) := by
  unfold iPts; rw [set_iwin]; rfl
theorem pts_owin (w : Fin 9216) (f : S1179648x128.Idx → Elt F .f32) :
    (oPts d w.val (w.val + 1) f : sProp 𝕄) = ((owin w).view.loc (thr d L) ↦[(owin w).view.set]{fullShare} f) := by
  unfold oPts; rw [set_owin]; rfl

variable [FloatOps F]

/-- The weakest precondition of a piece of the tile's program. -/
abbrev Wp (d : Dev nD) (L : grid0.Coords) {α : Type} (p : Prog (TpuEff nD τ sig (Elt F) Λ₀ (.scVector (cV L) (jV L))) α)
    (Q : α → sProp (MT nD τ sig (HIx 1) (Elt F) ℕ UU ℕ)) : sProp (MT nD τ sig (HIx 1) (Elt F) ℕ UU ℕ) :=
  wp frame (wpE (defs₀ (F := F)) 𝒱₀ (thr d L) none) Set.univ p Q

theorem wp_done {α : Type} (a : α) (Q : α → sProp 𝕄) : Q a ⊢ Wp d L (.ret a) Q := by
  show Q a ⊢ iprop(|={Set.univ}[frame]=> Q a); exact fupd_intro

/-- Fetch window `w` into the slot of window `n`. -/
theorem fetch {n : Nat} {w : Fin 9216} {src : Memref sig .scVector .hbm S1x128 .i32} {dst : Memref sig .scVector .vmem S1x128 .i32} {sm : DmaSem sig}
    {h1 : src.view.WordExact} {h2 : dst.view.WordExact} {h3}
    (es : src = iwin w) (ed : dst = islot n) (em : sm = isem n) :
    iprop(freeI d L n ∗ iPts d iv w.val (w.val + 1))
      ⊢ Wp d L (Prog.lift (.enqueueDma src (.here dst) (.dma sm) h1 h2 h3)) fun _ => flyI d L iv n w := by
  subst es ed em
  rw [pts_iwin d L iv w]
  unfold freeI
  iintro ⟨⟨⟨%f, Hd⟩, Hv⟩, Hs⟩
  iapply (Transfers.wp_dmaLocal countersEmb 𝒱₀ (thr d L) none (Sd := (islot n).view.set) (default : HIx 1) (islot n).view.dmaCredit rfl
    (View.dmaCredit_pos _ (by decide)) (Finset.Subset.refl _)) $$ [Hd Hv Hs]
  · isplitl [Hs]; · iexact Hs
    isplitl [Hd]; · iexact Hd
    iexact Hv
  iintro Hfl
  iapply (wp_done d L)
  unfold flyI
  iapply (Transfers.Flight_mono countersEmb (thr d L) (D' := iprop(fullI d L iv n w ∗ iPts d iv w.val (w.val + 1))) ?_) $$ Hfl
  rw [pts_iwin d L iv w]
  unfold fullI
  iintro ⟨Hd, Hs⟩
  isplitl [Hd]
  · iexists _
    isplitr; swap; · iexact Hd
    ipureintro
    intro x
    exact congrFun (View.read_write_univ _ _) _
  · iexact Hs

/-- Wait for window `w` to land. -/
theorem landed (hO : ∀ g, O g none = 0) {n : Nat} {w : Fin 9216} {src : Memref sig .scVector .hbm S1x128 .i32} {dst : Memref sig .scVector .vmem S1x128 .i32} {sm : DmaSem sig}
    {h1 : src.view.WordExact} {h2 : dst.view.WordExact} (ed : dst = islot n) (em : sm = isem n) :
    iprop(levAts (K (F := F)).L (K (F := F)).lev ∗ flyI d L iv n w ∗ owed d L O W)
      ⊢ Wp d L (Prog.lift (.waitDma2 sm src dst h1 h2)) fun _ =>
          iprop(fullI d L iv n w ∗ semVal (thr d L, .dma (isem n)) 0 ∗ iPts d iv w.val (w.val + 1) ∗ owed d L O W) := by
  subst ed em
  unfold flyI owed
  iintro ⟨#Hlv, Hfl, %W', %hW, HO⟩
  ihave Hmw := (show levAts (K (F := F)).L (K (F := F)).lev ⊢ Transfers.MayWaits (thr d L) (default : HIx 1) O from
    (K (F := F)).mayWaits_none (thr := thr d L) hO) $$ Hlv
  iapply (Transfers.wp_waitLocalO countersEmb 𝒱₀ (thr d L) none (default : HIx 1) (rfl : (islot n).view.dmaCredit = _)) $$ [Hfl HO Hmw]
  · isplitl [Hfl]; · iexact Hfl
    isplitl [HO]; · iexact HO
    iapply (Transfers.MayWaits.elim (SemLoc.dma (isem n))) $$ Hmw
  iintro ⟨⟨Hf, Hi⟩, Hv, HO⟩
  iapply (wp_done d L)
  isplitl [Hf]; · iexact Hf
  isplitl [Hv]; · iexact Hv
  isplitl [Hi]; · iexact Hi
  iexists _; isplitr; swap; · iexact HO
  ipureintro; intro p hp
  rcases Finset.mem_insert.mp hp with hp | hp
  · exact .inr (hp ▸ rfl)
  · exact hW p hp

/-- Send the gathered rows of window `w` to the result. -/
theorem send {n : Nat} {w : Fin 9216} {src : Memref sig .scVector .vmem S128x128 .f32} {dst : Memref sig .scVector .hbm S128x128 .f32} {sm : DmaSem sig}
    {h1 : src.view.WordExact} {h2 : dst.view.WordExact} {h3} (o : S1179648x128.Idx → Elt F .f32)
    (es : src = oslot n) (ed : dst = owin w) (em : sm = osem n) :
    iprop(fullO d L xv iv hin n w ∗ semVal (thr d L, .dma (osem n)) 0 ∗ oPts d w.val (w.val + 1) o)
      ⊢ Wp d L (Prog.lift (.enqueueDma src (.here dst) (.dma sm) h1 h2 h3)) fun _ => flyO d L xv iv hin n w := by
  subst es ed em
  rw [pts_owin d L w]
  unfold fullO
  iintro ⟨⟨%g, %hg, Hs⟩, Hv, Hd⟩
  iapply (Transfers.wp_dmaLocal countersEmb 𝒱₀ (thr d L) none (Sd := (owin w).view.set) (default : HIx 1) (owin w).view.dmaCredit rfl
    (View.dmaCredit_pos _ (by decide)) (Finset.Subset.refl _)) $$ [Hd Hv Hs]
  · isplitl [Hs]; · iexact Hs
    isplitl [Hd]; · iexact Hd
    iexact Hv
  iintro Hfl
  iapply (wp_done d L)
  unfold flyO
  iapply (Transfers.Flight_mono countersEmb (thr d L) (D' := iprop(oPts d w.val (w.val + 1) (gval xv iv hin)
    ∗ ∃ f : S2x128x128.Idx → Elt F .f32, (thr d L).loc cc0_scoped2 ↦[(oslot n).view.set]{fullShare} f)) ?_) $$ Hfl
  rw [pts_owin d L w]
  iintro ⟨Hd, Hs⟩
  isplitl [Hd]
  · iapply (Entails.of_eq (pointsTo_congr (written hg o)))
    iexact Hd
  · iexists _; iexact Hs

/-- Wait for window `w` to reach the result. -/
theorem sent (hO : ∀ g, O g none = 0) {n : Nat} {w : Fin 9216} {src : Memref sig .scVector .vmem S128x128 .f32} {dst : Memref sig .scVector .hbm S128x128 .f32} {sm : DmaSem sig}
    {h1 : src.view.WordExact} {h2 : dst.view.WordExact} (em : sm = osem n) (hN : dst.view.dmaCredit = (owin w).view.dmaCredit) :
    iprop(levAts (K (F := F)).L (K (F := F)).lev ∗ flyO d L xv iv hin n w ∗ owed d L O W)
      ⊢ Wp d L (Prog.lift (.waitDma2 sm src dst h1 h2)) fun _ =>
          iprop(freeO d L n ∗ oPts d w.val (w.val + 1) (gval xv iv hin) ∗ owed d L O W) := by
  subst em
  unfold flyO owed freeO
  iintro ⟨#Hlv, Hfl, %W', %hW, HO⟩
  ihave Hmw := (show levAts (K (F := F)).L (K (F := F)).lev ⊢ Transfers.MayWaits (thr d L) (default : HIx 1) O from
    (K (F := F)).mayWaits_none (thr := thr d L) hO) $$ Hlv
  iapply (Transfers.wp_waitLocalO countersEmb 𝒱₀ (thr d L) none (default : HIx 1) hN) $$ [Hfl HO Hmw]
  · isplitl [Hfl]; · iexact Hfl
    isplitl [HO]; · iexact HO
    iapply (Transfers.MayWaits.elim (SemLoc.dma (osem n))) $$ Hmw
  iintro ⟨⟨Ho, Hf⟩, Hv, HO⟩
  iapply (wp_done d L)
  isplitl [Hf Hv]
  · isplitl [Hf]; · iexact Hf
    iexact Hv
  isplitl [Ho]; · iexact Ho
  iexists _; isplitr; swap; · iexact HO
  ipureintro; intro p hp
  rcases Finset.mem_insert.mp hp with hp | hp
  · exact .inr (hp ▸ rfl)
  · exact hW p hp

/-- The semaphore of the gather. -/
abbrev gsem : DmaSem sig := SemArray.sem cc0_scoped4

/-- The share of the table a tile holds. -/
def xPts (q : PosShare TreeShare) : sProp 𝕄 := xLoc d ↦{q} xv

/-- Gather the rows a landed window names, and wait for them. -/
theorem gather (hO : ∀ g, O g none = 0) {q : PosShare TreeShare} {n : Nat} {w : Fin 9216}
    {dst dst' : Memref sig .scVector .vmem S128x128 .f32} {of : Memref sig .scVector .vmem S128 .i32}
    {α : Type} {k : PUnit → Prog (TpuEff nD τ sig (Elt F) Λ₀ (.scVector (cV L) (jV L))) α} {Q : α → sProp 𝕄}
    {hp hn h1 h2 h3 h4 h5 h6}
    (ed : dst = oslot n) (ed' : dst' = oslot n) (eo : of = offs n) :
    iprop(levAts (K (F := F)).L (K (F := F)).lev ∗ fullI d L iv n w ∗ (∃ f : S2x128x128.Idx → Elt F .f32, (thr d L).loc cc0_scoped2 ↦[(oslot n).view.set]{fullShare} f)
        ∗ xPts d xv q ∗ semVal (thr d L, .dma gsem) 0 ∗ owed d L O W)
      ⊢ iprop((iprop(fullI d L iv n w ∗ fullO d L xv iv hin n w ∗ xPts d xv q ∗ semVal (thr d L, .dma gsem) 0 ∗ owed d L O W) -∗ Wp d L (k ⟨⟩) Q)
          -∗ Wp d L (SparseCore.enqueueIndirectGather hp table dst gathers_S524288x128_S128x128 of hn gsem h1 h2 h3 h4 >>= fun _ =>
            SparseCore.waitIndirectGather gsem table dst' h5 h6 >>= k) Q) := by
  subst ed ed' eo
  unfold fullI owed xPts
  iintro ⟨#Hlv, ⟨%f, %hf, Hi⟩, ⟨%g, Hg⟩, Hx, Hv, %W', %hW, HO⟩ Hk
  ihave Hmw := (show levAts (K (F := F)).L (K (F := F)).lev ⊢ Transfers.MayWaits (thr d L) (default : HIx 1) O from
    (K (F := F)).mayWaits_none (thr := thr d L) hO) $$ Hlv
  ihave Hxs := (pointsTo_split_subset (q := q) (f := xv) (ℓ := xLoc d) (S := Finset.univ) (Finset.subset_univ table.view.set)).1 $$ Hx
  icases Hxs with ⟨Hxs, Hxr⟩
  ihave His := (pointsTo_split_subset (q := fullShare) (f := f) (ℓ := (thr d L).loc cc0_scoped0) (set_offs n)).1 $$ Hi
  icases His with ⟨His, Hir⟩
  iapply (SparseCore.wp_indirectGatherLocal countersEmb 𝒱₀ (thr d L) none (src := table) (dst := oslot n) (offs := offs n) (hg := gathers_S524288x128_S128x128) (fs := xv) (fo := f) (fd := g) (q := q) (qo := fullShare) (default : HIx 1)
      (oslot n).view.dmaCredit (SparseCore.sum_rowCredit_eq_dmaCredit _ _ (fun _ => rfl)) (by decide) (offs_lt hin hf)) $$ [Hxs Hg His Hv]
  · isplitl [Hxs]; · iexact Hxs
    isplitl [Hg]; · iexact Hg
    isplitl [His]; · iexact His
    iexact Hv
  iintro Hfl
  iapply (Transfers.wp_waitLocalO countersEmb 𝒱₀ (thr d L) none (default : HIx 1) (rfl : (oslot n).view.dmaCredit = _)) $$ [Hfl HO Hmw]
  · isplitl [Hfl]; · iexact Hfl
    isplitl [HO]; · iexact HO
    iapply (Transfers.MayWaits.elim (SemLoc.dma gsem)) $$ Hmw
  iintro ⟨⟨Hg, Hxs, His⟩, Hv, HO⟩
  iapply Hk
  isplitl [His Hir]
  · iexists f
    isplitr; · ipureintro; exact hf
    iapply (pointsTo_split_subset (q := fullShare) (f := f) (ℓ := (thr d L).loc cc0_scoped0) (set_offs n)).2
    isplitl [His]; · iexact His
    iexact Hir
  isplitl [Hg]
  · unfold fullO
    iexists _
    isplitr; swap; · iexact Hg
    ipureintro; exact gathered hf _ _
  isplitl [Hxs Hxr]
  · iapply (pointsTo_split_subset (q := q) (f := xv) (ℓ := xLoc d) (S := Finset.univ) (Finset.subset_univ table.view.set)).2
    isplitl [Hxs]; · iexact Hxs
    iexact Hxr
  isplitl [Hv]; · iexact Hv
  iexists _; isplitr; swap; · iexact HO
  ipureintro; intro p hp
  rcases Finset.mem_insert.mp hp with hp | hp
  · exact .inr (hp ▸ rfl)
  · exact hW p hp

end Tile

end Cert.Proof.Moves
-- ==== Proof.Yields.lean ====
/-
  The counters the pipeline carries, after a trip: each is one further, and the window number is one further modulo the
  number of windows. Decided over the tiles and trips, like the windows' places.
-/
module

public import proofs.«01_k».proof.Proof.Words

@[expose] public section

set_option maxRecDepth 100000

namespace Cert.Proof.Words

open Cert.KernelIdeal Cert.KernelIdeal.Gen
open Idealize.ShloMosaic

/-- The tile's first window, as the kernel computes it. -/
theorem base_word : ∀ i : grid0.Coords,
    Scalar.muli (Scalar.addi (Scalar.addi 0#32 (Scalar.muli (BitVec.ofNat 32 (i 1).val) 1#32)) (Scalar.muli (BitVec.ofNat 32 (i 0).val) 16#32)) 288#32
      = w (base i) := by decide +kernel

/-- The counter of waited inputs after the trip. -/
theorem next7 : ∀ (i : grid0.Coords) (t : Fin k0_t1_loop.trips),
    (let v4 : BitVec 32 := w (base i)
     let v66 := Scalar.addi (w t.val) v4
     let v75 := Scalar.select (Scalar.cmpi .eq (Scalar.select 1#1 (Scalar.addi (w t.val) 1#32) (w t.val)) 288#32) 0#32 (Scalar.select 1#1 (Scalar.addi (w t.val) 1#32) (w t.val))
     let v76 := Scalar.addi v75 v4
     Scalar.select (Scalar.ori (Scalar.cmpi .ne v66 v76) (Scalar.cmpi .eq (Scf.iv 0#32 1#32 t.val) 287#32)) (Scalar.addi (w t.val) 1#32) (w t.val))
      = w (t.val + 1) := by decide +kernel

/-- The counter of sent outputs after the trip. -/
theorem next8 : ∀ (i : grid0.Coords) (t : Fin k0_t1_loop.trips),
    (let v4 : BitVec 32 := w (base i)
     let v66 := Scalar.addi (w t.val) v4
     let v75 := Scalar.select (Scalar.cmpi .eq (Scalar.select 1#1 (Scalar.addi (w t.val) 1#32) (w t.val)) 288#32) 0#32 (Scalar.select 1#1 (Scalar.addi (w t.val) 1#32) (w t.val))
     let v76 := Scalar.addi v75 v4
     Scalar.select (Scalar.andi (Scalar.ori (Scalar.cmpi .ne v66 v76) (Scalar.cmpi .eq (Scf.iv 0#32 1#32 t.val) 287#32)) 1#1) (Scalar.addi (w t.val) 1#32) (w t.val))
      = w (t.val + 1) := by decide +kernel

/-- The counter of waited outputs after the trip. -/
theorem next9 : ∀ (i : grid0.Coords) (t : Fin k0_t1_loop.trips),
    (let v4 : BitVec 32 := w (base i)
     let v66 := Scalar.addi (w t.val) v4
     let v68 := Scalar.select 1#1 (Scalar.subi (w t.val) 1#32) (w t.val)
     let v70 := Scalar.select (Scalar.cmpi .eq v68 4294967295#32) 287#32 v68
     let v71 := Scalar.addi v70 v4
     let v64 := Scalar.cmpi .eq (Scf.iv 0#32 1#32 t.val) 0#32
     Scalar.select (Scalar.andi (Scalar.andi (Scalar.cmpi .ne v66 v71) (Scalar.xori v64 1#1)) 1#1) (Scalar.addi (w (t.val - 1)) 1#32) (w (t.val - 1)))
      = w t.val := by decide +kernel

/-- The window number after the trip. -/
theorem next10 : ∀ t : Fin k0_t1_loop.trips,
    Scalar.select (Scalar.cmpi .eq (Scalar.select 1#1 (Scalar.addi (w t.val) 1#32) (w t.val)) 288#32) 0#32 (Scalar.select 1#1 (Scalar.addi (w t.val) 1#32) (w t.val))
      = w ((t.val + 1) % 288) := by decide +kernel

end Cert.Proof.Words
-- ==== Proof.Trip.lean ====
/-
  One trip of the pipeline. Before trip `k` the tile holds: window `k` of row numbers on its way in, the windows before it
  done, window `k - 1` of rows on its way out. The trip starts window `k + 1`, waits for window `k`, gathers its rows, sends
  them, and waits for window `k - 1`.
-/
module

public import proofs.«01_k».proof.Proof.Moves
public import proofs.«01_k».proof.Proof.Yields

@[expose] public section

noncomputable section

namespace Cert.Proof.Trip

open Cert.KernelIdeal Cert.KernelIdeal.Gen
open Cert.Proof.Windows Cert.Proof.Words Cert.Proof.Moves
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section

variable [FloatOps F] (d : Dev nD) (L : grid0.Coords)

/-- The weakest precondition of a sequence. -/
theorem Wp_bind {α β : Type} (p : Prog (TpuEff nD τ sig (Elt F) Λ₀ (.scVector (cV L) (jV L))) α)
    (k : α → Prog (TpuEff nD τ sig (Elt F) Λ₀ (.scVector (cV L) (jV L))) β) (Q : β → sProp 𝕄) :
    Wp d L (p >>= k) Q = Wp d L p fun a => Wp d L (k a) Q := wp_bind ..

/-- A side condition that holds is passed. -/
theorem assume_eq {P : Prop} {dec : Decidable P} {β : Type} {k : PLift P → Prog (TpuEff nD τ sig (Elt F) Λ₀ (.scVector (cV L) (jV L))) β}
    {Q : β → sProp 𝕄} (h : P) : Wp d L (Prog.lift (.assume P dec) >>= k) Q = Wp d L (k ⟨h⟩) Q :=
  wp_assume_of (k := k) 𝒱₀ (thr d L) none Set.univ h

/-- A step, then the rest. -/
theorem step {P R : sProp 𝕄} {β : Type} {p : Prog (TpuEff nD τ sig (Elt F) Λ₀ (.scVector (cV L) (jV L))) PUnit}
    {k : PUnit → Prog (TpuEff nD τ sig (Elt F) Λ₀ (.scVector (cV L) (jV L))) β} {Q : β → sProp 𝕄}
    (h : P ⊢ Wp d L p fun _ => R) : P ⊢ iprop((R -∗ Wp d L (k ⟨⟩) Q) -∗ Wp d L (p >>= k) Q) := by
  rw [Wp_bind]
  iintro HP HK
  iapply (wp_wand _ _ _) $$ [HP]
  · iapply h $$ HP
  iintro %a HR
  iapply HK $$ HR

/-- A step taken under a condition, then the rest. -/
theorem cond (P R : sProp 𝕄) {β : Type} {c : Prop} [Decidable c] {p : c → Prog (TpuEff nD τ sig (Elt F) Λ₀ (.scVector (cV L) (jV L))) PUnit}
    {k : Prog (TpuEff nD τ sig (Elt F) Λ₀ (.scVector (cV L) (jV L))) β} {Q : β → sProp 𝕄}
    (h : ∀ hc, P ⊢ Wp d L (p hc) fun _ => R) (h' : ¬c → P ⊢ R) :
    P ⊢ iprop((R -∗ Wp d L k Q) -∗ Wp d L (if hc : c then (p hc >>= fun _ => k) else k) Q) := by
  by_cases hc : c
  · rw [dif_pos hc]
    exact step (k := fun _ => k) d L (h hc)
  · rw [dif_neg hc]
    iintro HP HK
    iapply HK
    iapply (h' hc) $$ HP

end

section Tile

variable (d : Dev nD) (L : grid0.Coords)
variable (O : CellTallies nD τ sig (HIx 1)) (W : Waits sig (HIx 1))
variable (xv : S524288x128.Idx → Elt F .f32) (iv : S1x1179648.Idx → Elt F .i32) (hin : ∀ j, (iv j).toNat < 524288)

/-- The tile's window `t` among all windows. -/
def win (L : grid0.Coords) (t : Nat) : Fin 9216 := ⟨min (base L + t) 9215, by omega⟩
theorem win_val {t : Nat} (h : t < 288) : (win L t).val = base L + t := by
  have := base_le L
  show min (base L + t) 9215 = base L + t; omega

/-- Window `k`'s index slot before trip `k`: on its way in, or free after the last. -/
def inI (k : Nat) : sProp 𝕄 := if k < 288 then flyI d L iv k (win L k) else freeI d L k
/-- The row slot of window `k - 1` before trip `k`: on its way out, or free before the first. -/
def outO (k : Nat) : sProp 𝕄 := if 0 < k then flyO d L xv iv hin (k - 1) (win L (k - 1)) else freeO d L (k + 1)

variable [FloatOps F]

/-- The results of a trip's first part. -/
def vals1 (L : grid0.Coords) (t : Fin k0_t1_loop.trips) :
    Σ' (_ : k0_chk3 (w t.val)) (_ : k0_chk2 (w t.val)) (_ : k0_chk1 L t (w (t.val + 1)) (w t.val) (w t.val) (w (t.val - 1)) (w t.val))
      (_ : BitVec 32) (_ : BitVec 1) (_ : BitVec 1) (_ : BitVec 32) (_ : BitVec 32) (_ : BitVec 32) (_ : BitVec 32), BitVec 1 :=
  let v4 : BitVec 32 := w (base L)
  let v66 := Scalar.addi (w t.val) v4
  let v68 := Scalar.select 1#1 (Scalar.subi (w t.val) 1#32) (w t.val)
  let v70 := Scalar.select (Scalar.cmpi .eq v68 4294967295#32) 287#32 v68
  let v71 := Scalar.addi v70 v4
  let v75 := Scalar.select (Scalar.cmpi .eq (Scalar.select 1#1 (Scalar.addi (w t.val) 1#32) (w t.val)) 288#32) 0#32 (Scalar.select 1#1 (Scalar.addi (w t.val) 1#32) (w t.val))
  let v76 := Scalar.addi v75 v4
  let v85 := Scalar.andi (Scalar.cmpi .ne v66 v76) (Scalar.xori (Scalar.cmpi .sge (Scf.iv 0#32 1#32 t.val) 287#32) 1#1)
  let v91 := Scalar.select (Scalar.andi v85 1#1) (Scalar.addi (w (t.val + 1)) 1#32) (w (t.val + 1))
  ⟨chk3_ok ⟨t.val, by have := t.isLt; have := trips_eq; omega⟩, chk2_ok ⟨t.val, by have := t.isLt; have := trips_eq; omega⟩, chk1_ok L t,
    Scf.iv 0#32 1#32 t.val, Scalar.cmpi .eq (Scf.iv 0#32 1#32 t.val) 0#32, Scalar.cmpi .eq (Scf.iv 0#32 1#32 t.val) 287#32,
    v66, v71, v76, v91, Scalar.cmpi .ne v66 v71⟩

theorem t_lt (t : Fin k0_t1_loop.trips) : t.val < 288 := by have := t.isLt; have := trips_eq; omega

/-- Starting the next window, on every trip but the last. -/
theorem part1 (t : Fin k0_t1_loop.trips) :
    iprop(freeI d L (t.val + 1) ∗ iPts d iv (base L + min (t.val + 1) 288) (base L + 288))
      ⊢ Wp d L (k0_part1 (F := F) L (Memref.whole main_v0_scv) (Memref.isWhole_whole _) (Memref.whole main_v10_scv) (Memref.isWhole_whole _)
            (Memref.whole main_v11_scv) (Memref.isWhole_whole _) (Memref.whole cc0_scoped0) (Memref.isWhole_whole _) cc0_scoped1
            (Memref.whole cc0_scoped2) (Memref.isWhole_whole _) cc0_scoped3 cc0_scoped4 (w (base L)) 0#32 1#32 t (w (t.val + 1)) (w t.val) (w t.val) (w (t.val - 1)) (w t.val))
          fun r => iprop(⌜r = vals1 L t⌝ ∗ inI d L iv (t.val + 1) ∗ iPts d iv (base L + min (t.val + 2) 288) (base L + 288)) := by
  have ht := t_lt t
  rw [k0_part1_eq_skeleton]
  unfold k0_part1_skel
  rw [assume_eq d L (chk3_ok ⟨t.val, by omega⟩), assume_eq d L (chk2_ok ⟨t.val, by omega⟩), assume_eq d L (chk1_ok L t)]
  dsimp only
  iintro HP
  iapply (cond d L (iprop(freeI d L (t.val + 1) ∗ iPts d iv (base L + min (t.val + 1) 288) (base L + 288)))
    (iprop(inI d L iv (t.val + 1) ∗ iPts d iv (base L + min (t.val + 2) 288) (base L + 288))) (fun hc => ?_) (fun hc => ?_)) $$ HP
  · have ht' : t.val + 1 < 288 := by
      rw [cond1_eq] at hc
      by_contra hh
      rw [if_neg (by omega)] at hc
      exact absurd hc (by decide)
    have e := win_val L ht'
    have es := (iPts_split (F := F) d iv (show base L + min (t.val + 1) 288 ≤ base L + (t.val + 1) + 1 by omega) (show base L + (t.val + 1) + 1 ≤ base L + 288 by omega)).1
    iintro ⟨Hf, Hi⟩
    ihave Hi' := es $$ Hi
    icases Hi' with ⟨Hi, Hr⟩
    iapply (wp_wand _ _ _) $$ [Hf Hi]
    · iapply (fetch d L iv (n := t.val + 1) (w := win L (t.val + 1)) (iwinAt_eq _ ((off5_eq L ⟨t.val, by omega⟩).trans (by rw [e])))
        (islotAt_eq _ (off4_eq ⟨t.val + 1, by omega⟩)) (semAt_eq _ (off6_eq ⟨t.val + 1, by omega⟩)))
      isplitl [Hf]; · iexact Hf
      rw [e, show base L + (t.val + 1) = base L + min (t.val + 1) 288 by omega]
      iexact Hi
    iintro %_ Hfl
    unfold inI
    rw [if_pos ht', show min (t.val + 2) 288 = t.val + 1 + 1 by omega]
    isplitl [Hfl]; · iexact Hfl
    iexact Hr
  · have ht' : ¬ t.val + 1 < 288 := by
      intro hh
      exact hc (by rw [cond1_eq, if_pos (by omega)])
    unfold inI
    rw [if_neg ht', show min (t.val + 2) 288 = min (t.val + 1) 288 by omega]
  · iintro HR
    iapply (wp_done d L)
    isplitr
    · ipureintro; rfl
    · iexact HR

/-- Waiting for the trip's window, and gathering its rows. -/
theorem part2 (hO : ∀ g, O g none = 0) {q : PosShare TreeShare} (t : Fin k0_t1_loop.trips) (h3 : k0_chk3 (w t.val)) (h2 : k0_chk2 (w t.val))
    (h1 : k0_chk1 L t (w (t.val + 1)) (w t.val) (w t.val) (w (t.val - 1)) (w t.val)) (a5 : BitVec 32) (v64 v65 : BitVec 1) (v66 v71 v76 : BitVec 32) (v96 : BitVec 1) :
    iprop(levAts (K (F := F)).L (K (F := F)).lev ∗ inI d L iv t.val ∗ freeO d L t.val ∗ xPts d xv q ∗ semVal (thr d L, .dma gsem) 0 ∗ owed d L O W)
      ⊢ Wp d L (k0_part2 (F := F) L (Memref.whole main_v0_scv) (Memref.isWhole_whole _) (Memref.whole main_v10_scv) (Memref.isWhole_whole _)
            (Memref.whole main_v11_scv) (Memref.isWhole_whole _) (Memref.whole cc0_scoped0) (Memref.isWhole_whole _) cc0_scoped1
            (Memref.whole cc0_scoped2) (Memref.isWhole_whole _) cc0_scoped3 cc0_scoped4 t (w (t.val + 1)) (w t.val) (w t.val) (w (t.val - 1)) (w t.val)
            h3 h2 h1 a5 v64 v65 v66 v71 v76 v96)
          fun _ => iprop(freeI d L t.val ∗ iPts d iv (base L + t.val) (base L + t.val + 1) ∗ fullO d L xv iv hin t.val (win L t.val)
            ∗ semVal (thr d L, .dma (osem t.val)) 0 ∗ xPts d xv q ∗ semVal (thr d L, .dma gsem) 0 ∗ owed d L O W) := by
  have ht := t_lt t
  have e := win_val L ht
  rw [k0_part2_eq_skeleton]
  unfold k0_part2_skel inI
  rw [if_pos ht]
  simp only [ite_self]
  iintro ⟨#Hlv, Hin, Ho, Hx, Hv, HO⟩
  iapply (cond d L (iprop(levAts (K (F := F)).L (K (F := F)).lev ∗ flyI d L iv t.val (win L t.val) ∗ owed d L O W))
    (iprop(fullI d L iv t.val (win L t.val) ∗ semVal (thr d L, .dma (isem t.val)) 0 ∗ iPts d iv (win L t.val).val ((win L t.val).val + 1) ∗ owed d L O W))
    (fun hc => landed d L O W iv hO (islotAt_eq _ (off7_eq ⟨t.val, by omega⟩)) (semAt_eq _ (off9_eq ⟨t.val, by omega⟩)))
    (fun hc => absurd (cond2_eq L t) hc)) $$ [Hin HO]
  · isplitr; · iexact Hlv
    isplitl [Hin]; · iexact Hin
    iexact HO
  iintro ⟨Hf, Hs, Hi, HO⟩
  unfold freeO
  icases Ho with ⟨Ho, Hos⟩
  iapply (gather d L O W xv iv hin hO (q := q) (n := t.val) (w := win L t.val) (oslotAt_eq _ (off10_eq ⟨t.val, by omega⟩)) (oslotAt_eq _ (off10_eq ⟨t.val, by omega⟩))
    (offsAt_eq _ (off11_eq ⟨t.val, by omega⟩))) $$ [Hf Ho Hx Hv HO]
  · isplitr; · iexact Hlv
    isplitl [Hf]; · iexact Hf
    isplitl [Ho]; · iexact Ho
    isplitl [Hx]; · iexact Hx
    isplitl [Hv]; · iexact Hv
    iexact HO
  iintro ⟨Hf, Ho, Hx, Hv, HO⟩
  iapply (wp_done d L)
  rw [e]
  unfold fullI freeI
  isplitl [Hf Hs]
  · isplitl [Hf]
    · icases Hf with ⟨%f, %hf, Hf⟩
      iexists f; iexact Hf
    · iexact Hs
  isplitl [Hi]; · iexact Hi
  isplitl [Ho]; · iexact Ho
  isplitl [Hos]; · iexact Hos
  isplitl [Hx]; · iexact Hx
  isplitl [Hv]; · iexact Hv
  iexact HO

end Tile

end Cert.Proof.Trip
-- ==== Proof.Tile.lean ====
/-
  The gather kernel on one tile: the loop of trips by its invariant, and around it the first fetch and the last wait. At the
  end the tile's windows of the result hold the gathered rows, and everything else is as at the start.
-/
module

public import proofs.«01_k».proof.Proof.Trip

@[expose] public section

noncomputable section

namespace Cert.Proof.Tile

open Cert.KernelIdeal Cert.KernelIdeal.Gen
open Cert.Proof.Windows Cert.Proof.Words Cert.Proof.Moves Cert.Proof.Trip
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Tile

variable (d : Dev nD) (L : grid0.Coords)
variable (O : CellTallies nD τ sig (HIx 1)) (W : Waits sig (HIx 1))
variable (xv : S524288x128.Idx → Elt F .f32) (iv : S1x1179648.Idx → Elt F .i32) (hin : ∀ j, (iv j).toNat < 524288)
variable (o : S1179648x128.Idx → Elt F .f32) (q : PosShare TreeShare)

/-- What the pipeline carries into trip `k`. -/
def carry (k : Nat) : BitVec 32 × BitVec 32 × BitVec 32 × BitVec 32 × BitVec 32 :=
  (w (min (k + 1) 288), w k, w k, w (k - 1), w (k % 288))

/-- What the tile holds before trip `k`. -/
def Inv (k : Nat) (acc : BitVec 32 × BitVec 32 × BitVec 32 × BitVec 32 × BitVec 32) : sProp 𝕄 :=
  iprop(⌜acc = carry k⌝ ∗ levAts (K (F := F)).L (K (F := F)).lev ∗ inI d L iv k ∗ freeI d L (k + 1)
    ∗ iPts d iv (base L) (base L + k) ∗ iPts d iv (base L + min (k + 1) 288) (base L + 288)
    ∗ outO d L xv iv hin k ∗ freeO d L k
    ∗ oPts d (base L) (base L + (k - 1)) (gval xv iv hin) ∗ oPts d (base L + k) (base L + 288) o
    ∗ xPts d xv q ∗ semVal (thr d L, .dma gsem) 0 ∗ owed d L O W)

variable [FloatOps F]

/-- The window sent on the trip before is waited for, on every trip but the first. -/
theorem waitOut (hO : ∀ g, O g none = 0) {t : Nat} (ht : t ≤ 288) (h0 : 0 < t)
    {src : Memref sig .scVector .vmem S128x128 .f32} {dst : Memref sig .scVector .hbm S128x128 .f32} {sm : DmaSem sig}
    {h1 : src.view.WordExact} {h2 : dst.view.WordExact} (em : sm = osem (t - 1)) (hN : dst.view.dmaCredit = (owin (win L (t - 1))).view.dmaCredit) :
    iprop(levAts (K (F := F)).L (K (F := F)).lev ∗ outO d L xv iv hin t ∗ oPts d (base L) (base L + (t - 1)) (gval xv iv hin) ∗ owed d L O W)
      ⊢ Wp d L (Prog.lift (.waitDma2 sm src dst h1 h2)) fun _ =>
          iprop(freeO d L (t + 1) ∗ oPts d (base L) (base L + t) (gval xv iv hin) ∗ owed d L O W) := by
  have e := win_val L (show t - 1 < 288 by omega)
  have es := (oPts_split (F := F) d (gval xv iv hin) (show base L ≤ base L + (t - 1) by omega) (show base L + (t - 1) ≤ base L + t by omega)).2
  unfold outO
  rw [if_pos h0]
  iintro ⟨#Hlv, Hfl, Ho, HO⟩
  iapply (wp_wand _ _ _) $$ [Hfl HO]
  · iapply (sent d L O W xv iv hin hO (n := t - 1) (w := win L (t - 1)) em hN)
    isplitr; · iexact Hlv
    isplitl [Hfl]; · iexact Hfl
    iexact HO
  rw [e, show base L + (t - 1) + 1 = base L + t by omega, freeO_congr d L (show (t - 1) % 2 = (t + 1) % 2 by omega)]
  iintro %_ ⟨Hf, Hw, HO⟩
  isplitl [Hf]; · iexact Hf
  isplitl [Ho Hw]
  · iapply es
    isplitl [Ho]; · iexact Ho
    iexact Hw
  iexact HO

/-- One trip keeps the invariant. -/
theorem trip (hO : ∀ g, O g none = 0) (t : Fin k0_t1_loop.trips) (acc : BitVec 32 × BitVec 32 × BitVec 32 × BitVec 32 × BitVec 32) :
    Inv d L O W xv iv hin o q t.val acc
      ⊢ Wp d L (k0_t1_body (F := F) L (Memref.whole main_v0_scv) (Memref.isWhole_whole _) (Memref.whole main_v10_scv) (Memref.isWhole_whole _)
            (Memref.whole main_v11_scv) (Memref.isWhole_whole _) (Memref.whole cc0_scoped0) (Memref.isWhole_whole _) cc0_scoped1
            (Memref.whole cc0_scoped2) (Memref.isWhole_whole _) cc0_scoped3 cc0_scoped4 (w (base L)) t acc)
          (Inv d L O W xv iv hin o q (t.val + 1)) := by
  have ht := t_lt t
  have e := win_val L ht
  unfold Inv
  iintro ⟨%ea, #Hlv, Hin, Hfi, Hid, Hir, Hou, Hfo, Hod, Hor, Hx, Hv, HO⟩
  rw [ea]
  unfold carry
  rw [show min (t.val + 1) 288 = t.val + 1 by omega, show t.val % 288 = t.val by omega]
  unfold k0_t1_body
  dsimp only
  rw [Wp_bind]
  iapply (wp_wand _ _ _) $$ [Hfi Hir]
  · iapply (part1 d L iv t)
    isplitl [Hfi]; · iexact Hfi
    rw [show min (t.val + 1) 288 = t.val + 1 by omega]
    iexact Hir
  iintro %r ⟨%er, Hin', Hir⟩
  subst er
  unfold vals1
  dsimp only
  rw [Wp_bind]
  iapply (wp_wand _ _ _) $$ [Hin Hfo Hx Hv HO]
  · iapply (part2 d L O W xv iv hin hO (q := q) t)
    isplitr; · iexact Hlv
    isplitl [Hin]; · iexact Hin
    isplitl [Hfo]; · iexact Hfo
    isplitl [Hx]; · iexact Hx
    isplitl [Hv]; · iexact Hv
    iexact HO
  iintro %_ ⟨Hfi, Hiw, Hfull, Hos, Hx, Hv, HO⟩
  simp only [ite_self]
  ihave Hos' := (oPts_split (F := F) d o (show base L + t.val ≤ base L + (t.val + 1) by omega) (show base L + (t.val + 1) ≤ base L + 288 by omega)).1 $$ Hor
  icases Hos' with ⟨How, Hor⟩
  iapply (cond d L (iprop(fullO d L xv iv hin t.val (win L t.val) ∗ semVal (thr d L, .dma (osem t.val)) 0 ∗ oPts d (win L t.val).val ((win L t.val).val + 1) o))
    (iprop(flyO d L xv iv hin t.val (win L t.val)))
    (fun hc => send d L xv iv hin o (oslotAt_eq _ (off12_eq ⟨t.val, by omega⟩)) (owinAt_eq _ ((off13_eq L ⟨t.val, by omega⟩).trans (by rw [e])))
      (semAt_eq _ (off14_eq ⟨t.val, by omega⟩)))
    (fun hc => absurd (cond5_eq L t) hc)) $$ [Hfull Hos How]
  · isplitl [Hfull]; · iexact Hfull
    isplitl [Hos]; · iexact Hos
    rw [e]
    iexact How
  iintro Hfl
  iapply (cond d L (iprop(levAts (K (F := F)).L (K (F := F)).lev ∗ outO d L xv iv hin t.val ∗ oPts d (base L) (base L + (t.val - 1)) (gval xv iv hin) ∗ owed d L O W))
    (iprop(freeO d L (t.val + 1) ∗ oPts d (base L) (base L + t.val) (gval xv iv hin) ∗ owed d L O W))
    (fun hc => waitOut d L O W xv iv hin hO (t := t.val) (by omega) (by
        rw [cond7_eq] at hc
        by_contra hh
        rw [if_neg hh] at hc
        exact absurd hc (by decide)) (semAt_eq _ (off17_eq ⟨t.val - 1, by omega⟩)) (by exact rfl))
    (fun hc => by
      have h0 : t.val = 0 := by
        by_contra hh
        exact hc (by rw [cond7_eq, if_pos (by omega)])
      unfold outO
      rw [if_neg (by omega), show base L + (t.val - 1) = base L + t.val by omega]
      iintro ⟨#Hlv, H⟩
      iexact H)) $$ [Hou Hod HO]
  · isplitr; · iexact Hlv
    isplitl [Hou]; · iexact Hou
    isplitl [Hod]; · iexact Hod
    iexact HO
  iintro ⟨Hfo, Hod, HO⟩
  iapply (wp_done d L)
  isplitr
  · ipureintro
    exact Prod.ext (next6 L t) (Prod.ext (next7 L t) (Prod.ext (next8 L t) (Prod.ext (next9 L t) (next10 t))))
  isplitr; · iexact Hlv
  isplitl [Hin']; · iexact Hin'
  isplitl [Hfi]
  · rw [freeI_congr d L (show (t.val + 1 + 1) % 2 = t.val % 2 by omega)]
    iexact Hfi
  isplitl [Hid Hiw]
  · iapply (iPts_split (F := F) d iv (show base L ≤ base L + t.val by omega) (show base L + t.val ≤ base L + (t.val + 1) by omega)).2
    isplitl [Hid]; · iexact Hid
    iexact Hiw
  isplitl [Hir]; · iexact Hir
  isplitl [Hfl]
  · unfold outO
    rw [if_pos (Nat.succ_pos _)]
    iexact Hfl
  isplitl [Hfo]; · iexact Hfo
  isplitl [Hod]; · iexact Hod
  isplitl [Hor]; · iexact Hor
  isplitl [Hx]; · iexact Hx
  isplitl [Hv]; · iexact Hv
  iexact HO

/-- The kernel on one tile. -/
theorem tile (hO : ∀ g, O g none = 0) :
    iprop(levAts (K (F := F)).L (K (F := F)).lev ∗ (freeI d L 0 ∗ freeI d L 1 ∗ freeO d L 0 ∗ freeO d L 1 ∗ semVal (thr d L, .dma gsem) 0)
        ∗ (iPts d iv (base L) (base L + 288) ∗ oPts d (base L) (base L + 288) o ∗ xPts d xv q) ∗ owed d L O W)
      ⊢ Wp d L (cc0_gather (F := F) L (Memref.whole main_v0_scv) (Memref.isWhole_whole _) (Memref.whole main_v10_scv) (Memref.isWhole_whole _)
            (Memref.whole main_v11_scv) (Memref.isWhole_whole _) (Memref.whole cc0_scoped0) (Memref.isWhole_whole _) cc0_scoped1
            (Memref.whole cc0_scoped2) (Memref.isWhole_whole _) cc0_scoped3 cc0_scoped4)
          fun _ => iprop((freeI d L 0 ∗ freeI d L 1 ∗ freeO d L 0 ∗ freeO d L 1 ∗ semVal (thr d L, .dma gsem) 0)
            ∗ (iPts d iv (base L) (base L + 288) ∗ oPts d (base L) (base L + 288) (gval xv iv hin) ∗ xPts d xv q) ∗ owed d L O W) := by
  have e0 := win_val L (show 0 < 288 by decide)
  have e7 := win_val L (show 287 < 288 by decide)
  rw [cc0_gather_eq_skeleton]
  unfold cc0_gather_skel
  rw [k0_part3_eq_skeleton, k0_part4_eq_skeleton]
  unfold k0_part3_skel k0_part4_skel
  iintro ⟨#Hlv, ⟨Hi0, Hi1, Ho0, Ho1, Hv⟩, ⟨Hi, Ho, Hx⟩, HO⟩
  ihave Hi' := (iPts_split (F := F) d iv (show base L ≤ base L + 1 by omega) (show base L + 1 ≤ base L + 288 by omega)).1 $$ Hi
  icases Hi' with ⟨Hi, Hir⟩
  rw [Wp_bind, Wp_bind]
  iapply (wp_wand _ _ _) $$ [Hi0 Hi]
  · iapply (fetch d L iv (n := 0) (w := win L 0) (iwinAt_eq _ ((off2_eq L).trans (by rw [e0]; rfl))) (islotAt_eq _ k0_off1_eq) (semAt_eq _ k0_off3_eq))
    isplitl [Hi0]; · iexact Hi0
    rw [e0]
    iexact Hi
  iintro %_ Hfl
  iapply (wp_done d L)
  dsimp only
  rw [base_word L, Wp_bind]
  iapply (Scf.wp_for_bind _ _ _ _ _ _ _ _ _ (Inv d L O W xv iv hin o q) (trip d L O W xv iv hin o q hO)) $$ [Hfl Hi1 Hir Ho0 Ho1 Ho Hx Hv HO]
  · unfold Inv
    isplitr; · ipureintro; decide
    isplitr; · iexact Hlv
    isplitl [Hfl]
    · unfold inI
      rw [if_pos (by decide)]
      iexact Hfl
    isplitl [Hi1]; · iexact Hi1
    isplitr; · iapply (iPts_nil (F := F) d iv (base L)); iempintro
    isplitl [Hir]; · iexact Hir
    isplitl [Ho1]
    · unfold outO
      rw [if_neg (by decide)]
      iexact Ho1
    isplitl [Ho0]; · iexact Ho0
    isplitr; · iapply (oPts_nil (F := F) d (base L) (gval xv iv hin)); iempintro
    isplitl [Ho]; · iexact Ho
    isplitl [Hx]; · iexact Hx
    isplitl [Hv]; · iexact Hv
    iexact HO
  iintro %acc HI
  rw [show Scf.trips _ _ _ = 288 from trips_eq]
  unfold Inv
  icases HI with ⟨%ea, -, Hin, Hfi, Hid, Hir, Hou, Hfo, Hod, Hor, Hx, Hv, HO⟩
  rw [ea, show carry 288 = (w 288, w 288, w 288, w 287, w 0) by decide]
  dsimp only
  iapply (Entails.of_eq (assume_eq d L (chk5_ok L)).symm)
  iapply (Entails.of_eq (assume_eq d L chk4_ok).symm)
  iapply (wp_done d L)
  dsimp only
  iapply (step d L (waitOut d L O W xv iv hin hO (t := 288) (by decide) (by decide) (semAt_eq _ off20_eq) (by exact rfl))) $$ [Hou Hod HO]
  · isplitr; · iexact Hlv
    isplitl [Hou]; · iexact Hou
    isplitl [Hod]; · iexact Hod
    iexact HO
  iintro ⟨Hfo', Hod, HO⟩
  iapply (wp_done d L)
  isplitl [Hin Hfi Hfo Hfo' Hv]
  · isplitl [Hin]
    · iapply (Entails.of_eq (show inI d L iv 288 = freeI d L 0 by
        unfold inI; rw [if_neg (by decide), freeI_congr d L (show 288 % 2 = 0 % 2 from rfl)]))
      iexact Hin
    isplitl [Hfi]; · iapply (Entails.of_eq (freeI_congr d L (show 289 % 2 = 1 % 2 from rfl))); iexact Hfi
    isplitl [Hfo]; · iapply (Entails.of_eq (freeO_congr d L (show 288 % 2 = 0 % 2 from rfl))); iexact Hfo
    isplitl [Hfo']; · iapply (Entails.of_eq (freeO_congr d L (show 289 % 2 = 1 % 2 from rfl))); iexact Hfo'
    iexact Hv
  isplitl [Hid Hod Hx]
  · isplitl [Hid]; · iexact Hid
    isplitl [Hod]; · iexact Hod
    iexact Hx
  iexact HO

end Tile

end Cert.Proof.Tile
-- ==== Proof.Deal.lean ====
/-
  How the gather's arrays are dealt out. A SparseCore takes half of the windows, one range of them; each of its sixteen
  tiles takes a sixteenth of that range. The table of rows is read by all of them at once: each tile has a share of it.
-/
module

public import proofs.«01_k».proof.Proof.Moves
public import Idealize.ShloMosaic.Lib.ShareLeaves

@[expose] public section

noncomputable section

namespace Cert.Proof.Deal

open Cert.KernelIdeal Cert.KernelIdeal.Gen
open Cert.Proof.Windows Cert.Proof.Words Cert.Proof.Moves
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.ShareLeaves (leaf pointsTo_leaves)

/-! ## A range cut into equal parts -/

theorem rng_parts {s : Shape} {a : Fin s.rank} (n w A : Nat) (hw : 0 < w) :
    rng s a A (A + w * n) = Finset.univ.biUnion fun i : Fin n => rng s a (A + w * i.val) (A + w * i.val + w) := by
  ext j
  simp only [Finset.mem_biUnion, Finset.mem_univ, true_and, mem_rng]
  generalize (j a).val = x
  constructor
  · rintro ⟨h, h'⟩
    have hq := Nat.mul_div_le (x - A) w
    have hq' := Nat.lt_mul_div_succ (x - A) hw
    rw [Nat.mul_succ] at hq'
    exact ⟨⟨(x - A) / w, Nat.div_lt_of_lt_mul (by omega)⟩, by dsimp only; omega, by dsimp only; omega⟩
  · rintro ⟨i, h, h'⟩
    have hi := Nat.mul_le_mul_left w (Nat.succ_le_of_lt i.isLt)
    rw [Nat.mul_succ] at hi
    exact ⟨by omega, by omega⟩

theorem parts_disjoint {s : Shape} {a : Fin s.rank} (n w A : Nat) :
    ∀ i ∈ (Finset.univ : Finset (Fin n)), ∀ j ∈ (Finset.univ : Finset (Fin n)), i ≠ j →
      Disjoint (rng s a (A + w * i.val) (A + w * i.val + w)) (rng s a (A + w * j.val) (A + w * j.val + w)) := by
  intro i _ j _ h
  rw [Finset.disjoint_left]
  intro x hx hx'
  rw [mem_rng] at hx hx'
  rcases Nat.lt_or_gt_of_ne (fun e => h (Fin.ext e) : i.val ≠ j.val) with h | h
  · have := Nat.mul_le_mul_left w (Nat.succ_le_of_lt h); rw [Nat.mul_succ] at this; omega
  · have := Nat.mul_le_mul_left w (Nat.succ_le_of_lt h); rw [Nat.mul_succ] at this; omega

theorem rng_windows {s : Shape} {a : Fin s.rank} (n w lo hi : Nat) (hw : 0 < w) (h : hi = lo + w * n) :
    rng s a (128 * lo) (128 * hi)
      = Finset.univ.biUnion fun i : Fin n => rng s a (128 * (lo + w * i.val)) (128 * (lo + w * i.val + w)) := by
  rw [h, Nat.mul_add 128 lo, ← Nat.mul_assoc, rng_parts n (128 * w) (128 * lo) (by omega)]
  exact Finset.biUnion_congr rfl fun i _ => by rw [Nat.mul_assoc, ← Nat.mul_add, ← Nat.mul_add]

theorem windows_disjoint {s : Shape} {a : Fin s.rank} (n w lo : Nat) :
    ∀ i ∈ (Finset.univ : Finset (Fin n)), ∀ j ∈ (Finset.univ : Finset (Fin n)), i ≠ j →
      Disjoint (rng s a (128 * (lo + w * i.val)) (128 * (lo + w * i.val + w))) (rng s a (128 * (lo + w * j.val)) (128 * (lo + w * j.val + w))) := by
  intro i hi j hj h
  have := parts_disjoint (s := s) (a := a) n (128 * w) (128 * lo) i hi j hj h
  rwa [Nat.mul_assoc, Nat.mul_assoc, ← Nat.mul_add, ← Nat.mul_add, ← Nat.mul_add, ← Nat.mul_add] at this

theorem iPts_parts (d : Dev nD) (iv : S1x1179648.Idx → Elt F .i32) (n w lo hi : Nat) (hw : 0 < w) (h : hi = lo + w * n) :
    (iPts d iv lo hi : sProp 𝕄) = bigSep Finset.univ fun i : Fin n => iPts d iv (lo + w * i.val) (lo + w * i.val + w) := by
  unfold iPts
  rw [rng_windows n w lo hi hw h]
  exact pointsTo_biUnion Finset.univ (ℓ := iLoc d) _ (windows_disjoint n w lo)

theorem oPts_parts (d : Dev nD) (f : S1179648x128.Idx → Elt F .f32) (n w lo hi : Nat) (hw : 0 < w) (h : hi = lo + w * n) :
    (oPts d lo hi f : sProp 𝕄) = bigSep Finset.univ fun i : Fin n => oPts d (lo + w * i.val) (lo + w * i.val + w) f := by
  unfold oPts
  rw [rng_windows n w lo hi hw h]
  exact pointsTo_biUnion Finset.univ (ℓ := oLoc d) _ (windows_disjoint n w lo)

theorem iPts_all (d : Dev nD) (iv : S1x1179648.Idx → Elt F .i32) : (iPts d iv 0 9216 : sProp 𝕄) = iLoc d ↦{fullShare} iv := by
  unfold iPts
  rw [show rng S1x1179648 1 (128 * 0) (128 * 9216) = Finset.univ from
    Finset.eq_univ_iff_forall.mpr fun j => mem_rng.mpr ⟨Nat.zero_le _, (j 1).isLt⟩]

theorem oPts_all (d : Dev nD) (f : S1179648x128.Idx → Elt F .f32) : (oPts d 0 9216 f : sProp 𝕄) = oLoc d ↦{fullShare} f := by
  unfold oPts
  rw [show rng S1179648x128 0 (128 * 0) (128 * 9216) = Finset.univ from
    Finset.eq_univ_iff_forall.mpr fun j => mem_rng.mpr ⟨Nat.zero_le _, (j 0).isLt⟩]

/-! ## What a SparseCore and a tile take -/

/-- SparseCore `c`'s part, its windows of the result holding `f`. -/
def corePay (d : Dev nD) (xv : S524288x128.Idx → Elt F .f32) (iv : S1x1179648.Idx → Elt F .i32) (f : S1179648x128.Idx → Elt F .f32) (c : Fin 2) : sProp 𝕄 :=
  iprop(iPts d iv (0 + 4608 * c.val) (0 + 4608 * c.val + 4608) ∗ oPts d (0 + 4608 * c.val) (0 + 4608 * c.val + 4608) f
    ∗ xPts d xv (leaf 1 fullShare c))
/-- The part of tile `i` of SparseCore `c`. -/
def tilePay (d : Dev nD) (xv : S524288x128.Idx → Elt F .f32) (iv : S1x1179648.Idx → Elt F .i32) (f : S1179648x128.Idx → Elt F .f32) (c : Fin 2) (i : Fin 16) : sProp 𝕄 :=
  iprop(iPts d iv (0 + 4608 * c.val + 288 * i.val) (0 + 4608 * c.val + 288 * i.val + 288)
    ∗ oPts d (0 + 4608 * c.val + 288 * i.val) (0 + 4608 * c.val + 288 * i.val + 288) f ∗ xPts d xv (leaf 4 (leaf 1 fullShare c) i))

variable (d : Dev nD) (xv : S524288x128.Idx → Elt F .f32) (iv : S1x1179648.Idx → Elt F .i32) (f : S1179648x128.Idx → Elt F .f32)

/-- A share of the table is its leaves'. -/
theorem xPts_leaves (n : Nat) (q : PosShare TreeShare) :
    (xPts d xv q : sProp 𝕄) = bigSep Finset.univ fun i : Fin (2 ^ n) => xPts d xv (leaf n q i) :=
  pointsTo_leaves (ℓ := xLoc d) Finset.univ xv n q

theorem deal_tiles (c : Fin 2) : (corePay d xv iv f c : sProp 𝕄) = bigSep Finset.univ (tilePay d xv iv f c) := by
  unfold corePay tilePay
  rw [bigSep_sep', bigSep_sep', iPts_parts d iv 16 288 _ _ (by decide) rfl, oPts_parts d f 16 288 _ _ (by decide) rfl]
  rw [xPts_leaves d xv 4 (leaf 1 fullShare c)]; rfl

theorem deal_cores : (iprop((iLoc d ↦{fullShare} iv) ∗ (oLoc d ↦{fullShare} f) ∗ xLoc d ↦{fullShare} xv) : sProp 𝕄)
    = bigSep Finset.univ (corePay d xv iv f) := by
  unfold corePay
  rw [bigSep_sep', bigSep_sep', ← iPts_all, ← oPts_all, iPts_parts d iv 2 4608 _ _ (by decide) (by decide), oPts_parts d f 2 4608 _ _ (by decide) (by decide)]
  rw [show (xLoc d ↦{fullShare} xv : sProp 𝕄) = xPts d xv fullShare from rfl, xPts_leaves d xv 1 fullShare]; rfl

instance storable_core (c : Fin 2) : BI.Storable (upEmb : UEmb _ 𝕄) (corePay d xv iv f c) := by
  unfold corePay iPts oPts xPts; infer_instance
instance storable_tile (c : Fin 2) (i : Fin 16) : BI.Storable (upEmb : UEmb _ 𝕄) (tilePay d xv iv f c i) := by
  unfold tilePay iPts oPts xPts; infer_instance

end Cert.Proof.Deal

end
-- ==== Proof.Task.lean ====
/-
  One tile's task as the launch asks for it: from its part and its own scratch memory and semaphores, the tile runs to its
  part with the gathered rows, and its scratch and semaphores are as they were.
-/
module

public import proofs.«01_k».proof.Proof.Tile
public import proofs.«01_k».proof.Proof.Deal

@[expose] public section

noncomputable section

namespace Cert.Proof.Task

open Cert.KernelIdeal Cert.KernelIdeal.Gen
open Cert.Proof.Windows Cert.Proof.Words Cert.Proof.Moves
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Cert.Proof.Tile Cert.Proof.Deal
open Idealize.ShloMosaic.ShareLeaves (leaf)

section Own

variable (d : Dev nD) (L : grid0.Coords)

/-! ## The tile's own memory and semaphores -/

/-- A semaphore of the tile. -/
abbrev cell (d : Dev nD) (L : grid0.Coords) (s : DmaSem sig) : GSem nD τ sig := (thr d L, .dma s)

theorem cell_ne {s t : DmaSem sig} (h : s ≠ t) : cell d L s ≠ cell d L t := by
  intro e; exact h (by simpa using e)

theorem cell_mem (s : DmaSem sig) (h : (SemLoc.dma s : SemLoc sig).isScoped .scVector = true) : cell d L s ∈ ownCells (thr d L) :=
  mem_ownCells.mpr ⟨rfl, h⟩

/-- The tile's semaphores: the five the gather uses, and the rest. -/
theorem ownSems_split :
    ∃ R : sProp 𝕄, (ownSems0 (thr d L) : sProp 𝕄)
      = iprop(semVal (cell d L (isem 0)) 0 ∗ semVal (cell d L (isem 1)) 0 ∗ semVal (cell d L (osem 0)) 0 ∗ semVal (cell d L (osem 1)) 0
          ∗ semVal (cell d L gsem) 0 ∗ R) := by
  have m0 := cell_mem d L (isem 0) (by decide)
  have m1 := cell_mem d L (isem 1) (by decide)
  have m2 := cell_mem d L (osem 0) (by decide)
  have m3 := cell_mem d L (osem 1) (by decide)
  have m4 := cell_mem d L gsem (by decide)
  have n10 := cell_ne d L (show isem 1 ≠ isem 0 by decide)
  have n20 := cell_ne d L (show osem 0 ≠ isem 0 by decide)
  have n21 := cell_ne d L (show osem 0 ≠ isem 1 by decide)
  have n30 := cell_ne d L (show osem 1 ≠ isem 0 by decide)
  have n31 := cell_ne d L (show osem 1 ≠ isem 1 by decide)
  have n32 := cell_ne d L (show osem 1 ≠ osem 0 by decide)
  have n40 := cell_ne d L (show gsem ≠ isem 0 by decide)
  have n41 := cell_ne d L (show gsem ≠ isem 1 by decide)
  have n42 := cell_ne d L (show gsem ≠ osem 0 by decide)
  have n43 := cell_ne d L (show gsem ≠ osem 1 by decide)
  apply Exists.intro
  unfold SparseCore.Cfg.ownSems0
  rw [SparseCore.bigSep_erase' m0,
    SparseCore.bigSep_erase' (Finset.mem_erase.mpr ⟨n10, m1⟩),
    SparseCore.bigSep_erase' (Finset.mem_erase.mpr ⟨n21, Finset.mem_erase.mpr ⟨n20, m2⟩⟩),
    SparseCore.bigSep_erase' (Finset.mem_erase.mpr ⟨n32, Finset.mem_erase.mpr ⟨n31, Finset.mem_erase.mpr ⟨n30, m3⟩⟩⟩),
    SparseCore.bigSep_erase' (Finset.mem_erase.mpr ⟨n43, Finset.mem_erase.mpr ⟨n42, Finset.mem_erase.mpr ⟨n41, Finset.mem_erase.mpr ⟨n40, m4⟩⟩⟩⟩)]

/-- The tile's memory: the two staging buffers, and the rest. -/
theorem ownBufs_split :
    ∃ R : sProp 𝕄, (ownBufs (thr d L) : sProp 𝕄)
      = iprop((∃ f, (thr d L).loc cc0_scoped0 ↦{fullShare} f) ∗ (∃ f, (thr d L).loc cc0_scoped2 ↦{fullShare} f) ∗ R) := by
  apply Exists.intro
  unfold SparseCore.Cfg.ownBufs
  refine (SparseCore.bigSep_erase' (SparseCore.Cfg.mem_ownRefs_of_owner (p := Proc.scVector (cV L) (jV L))
    (b := (Proc.scVector (cV L) (jV L)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV L) (jV L)) (b := (Proc.scVector (cV L) (jV L)).devRef cc0_scoped2) rfl⟩)]

theorem islots_cover : (islot 0).view.set ∪ (islot 1).view.set = Finset.univ := by
  rw [set_islot, set_islot, ← rng_union (s := S2x1x128) (a := 0) (lo := 0) (mid := 1) (hi := 2) (by decide) (by decide)]
  exact Finset.eq_univ_iff_forall.mpr fun j => mem_rng.mpr ⟨Nat.zero_le _, (j 0).isLt⟩
theorem islots_disjoint : Disjoint (islot 0).view.set (islot 1).view.set := by
  rw [set_islot, set_islot]; exact rng_disjoint (s := S2x1x128) (a := 0) (lo := 0) (mid := 1) (hi := 2)
theorem oslots_cover : (oslot 0).view.set ∪ (oslot 1).view.set = Finset.univ := by
  rw [set_oslot, set_oslot, ← rng_union (s := S2x128x128) (a := 0) (lo := 0) (mid := 1) (hi := 2) (by decide) (by decide)]
  exact Finset.eq_univ_iff_forall.mpr fun j => mem_rng.mpr ⟨Nat.zero_le _, (j 0).isLt⟩
theorem oslots_disjoint : Disjoint (oslot 0).view.set (oslot 1).view.set := by
  rw [set_oslot, set_oslot]; exact rng_disjoint (s := S2x128x128) (a := 0) (lo := 0) (mid := 1) (hi := 2)

/-- The index staging buffer is its two slots. -/
theorem islots : iprop(∃ f, (thr d L).loc cc0_scoped0 ↦{fullShare} f)
    ⊣⊢ (iprop((∃ f, (thr d L).loc cc0_scoped0 ↦[(islot 0).view.set]{fullShare} f) ∗ ∃ f, (thr d L).loc cc0_scoped0 ↦[(islot 1).view.set]{fullShare} f) : sProp 𝕄) := by
  constructor
  · iintro ⟨%f, H⟩
    ihave H' := (Entails.of_eq (show ((thr d L).loc cc0_scoped0 ↦{fullShare} f : sProp 𝕄)
      = (thr d L).loc cc0_scoped0 ↦[(islot 0).view.set ∪ (islot 1).view.set]{fullShare} f from congrArg (fun S => ((thr d L).loc cc0_scoped0 ↦[S]{fullShare} f : sProp 𝕄)) islots_cover.symm)) $$ H
    ihave H := (pointsTo_union islots_disjoint).1 $$ H'
    icases H with ⟨H0, H1⟩
    isplitl [H0] <;> iexists f <;> iassumption
  · iintro ⟨⟨%f, H0⟩, %g, H1⟩
    ihave H := (pointsTo_join (ℓ := (thr d L).loc cc0_scoped0) (q := fullShare) (f := f) (g := g) islots_disjoint) $$ [H0 H1]
    · isplitl [H0] <;> iassumption
    iexists _
    iapply (Entails.of_eq (congrArg (fun S => ((thr d L).loc cc0_scoped0 ↦[S]{fullShare} _ : sProp 𝕄)) islots_cover))
    iexact H
/-- The row staging buffer is its two slots. -/
theorem oslots : iprop(∃ f, (thr d L).loc cc0_scoped2 ↦{fullShare} f)
    ⊣⊢ (iprop((∃ f, (thr d L).loc cc0_scoped2 ↦[(oslot 0).view.set]{fullShare} f) ∗ ∃ f, (thr d L).loc cc0_scoped2 ↦[(oslot 1).view.set]{fullShare} f) : sProp 𝕄) := by
  constructor
  · iintro ⟨%f, H⟩
    ihave H' := (Entails.of_eq (show ((thr d L).loc cc0_scoped2 ↦{fullShare} f : sProp 𝕄)
      = (thr d L).loc cc0_scoped2 ↦[(oslot 0).view.set ∪ (oslot 1).view.set]{fullShare} f from congrArg (fun S => ((thr d L).loc cc0_scoped2 ↦[S]{fullShare} f : sProp 𝕄)) oslots_cover.symm)) $$ H
    ihave H := (pointsTo_union oslots_disjoint).1 $$ H'
    icases H with ⟨H0, H1⟩
    isplitl [H0] <;> iexists f <;> iassumption
  · iintro ⟨⟨%f, H0⟩, %g, H1⟩
    ihave H := (pointsTo_join (ℓ := (thr d L).loc cc0_scoped2) (q := fullShare) (f := f) (g := g) oslots_disjoint) $$ [H0 H1]
    · isplitl [H0] <;> iassumption
    iexists _
    iapply (Entails.of_eq (congrArg (fun S => ((thr d L).loc cc0_scoped2 ↦[S]{fullShare} _ : sProp 𝕄)) oslots_cover))
    iexact H

end Own

/-! ## The task -/

variable [FloatOps F]

/-- The part of the tile at grid point `L`. -/
abbrev part (d : Dev nD) (L : grid0.Coords) (xv : S524288x128.Idx → Elt F .f32) (iv : S1x1179648.Idx → Elt F .i32) (f : S1179648x128.Idx → Elt F .f32) : sProp 𝕄 :=
  tilePay d xv iv f (L 0) (L 1)

theorem part_eq (d : Dev nD) (L : grid0.Coords) (xv : S524288x128.Idx → Elt F .f32) (iv : S1x1179648.Idx → Elt F .i32) (f : S1179648x128.Idx → Elt F .f32) :
    (part d L xv iv f : sProp 𝕄)
      = iprop(iPts d iv (base L) (base L + 288) ∗ oPts d (base L) (base L + 288) f ∗ xPts d xv (leaf 4 (leaf 1 fullShare (L 0)) (L 1))) := by
  have e : 0 + 4608 * (L 0).val + 288 * (L 1).val = base L := by unfold base; omega
  unfold part tilePay
  rw [e]

theorem body (hF : (K (F := F)).Facts) (d : Dev nD) (L : grid0.Coords) (xv : S524288x128.Idx → Elt F .f32) (iv : S1x1179648.Idx → Elt F .i32)
    (hin : ∀ j, (iv j).toNat < 524288) (o : S1179648x128.Idx → Elt F .f32)
    (O : CellTallies nD τ sig (HIx 1)) (W : Waits sig (HIx 1)) (hO : ∀ g, O g none = 0) :
    iprop(levAts (K (F := F)).L (K (F := F)).lev ∗ emp ∗ part d L xv iv o
        ∗ scopedBufs (thr d L) ∗ scopedSems0 (thr d L) ∗ owes (thr d L) O W)
      ⊢ Wp d L (cc0_gather (F := F) L (Memref.whole main_v0_scv) (Memref.isWhole_whole _) (Memref.whole main_v10_scv) (Memref.isWhole_whole _)
            (Memref.whole main_v11_scv) (Memref.isWhole_whole _) (Memref.whole cc0_scoped0) (Memref.isWhole_whole _) cc0_scoped1
            (Memref.whole cc0_scoped2) (Memref.isWhole_whole _) cc0_scoped3 cc0_scoped4)
          fun _ => iprop(part d L xv iv (gval xv iv hin) ∗ scopedBufs (thr d L) ∗ scopedSems0 (thr d L)
            ∗ ∃ W', ⌜∀ p ∈ W', p ∈ W ∨ p.2 = none⌝ ∗ owes (thr d L) O W') := by
  obtain ⟨RS, hRS⟩ := ownSems_split (F := F) d L
  obtain ⟨RB, hRB⟩ := ownBufs_split (F := F) d L
  rw [part_eq, part_eq, (K (F := F)).scopedBufs_V hF d (cV L) (jV L), SparseCore.Cfg.scopedSems0_V (Val := Elt F) d (cV L) (jV L), hRS, hRB]
  iintro ⟨#Hlv, -, Hp, ⟨Hb0, Hb2, Hbr⟩, ⟨Hs0, Hs1, Hs2, Hs3, Hs4, Hsr⟩, HO⟩
  ihave Hb0 := (islots (F := F) d L).1 $$ Hb0
  icases Hb0 with ⟨Hi0, Hi1⟩
  ihave Hb2 := (oslots (F := F) d L).1 $$ Hb2
  icases Hb2 with ⟨Ho0, Ho1⟩
  iapply (wp_wand _ _ _) $$ [Hp Hi0 Hi1 Ho0 Ho1 Hs0 Hs1 Hs2 Hs3 Hs4 HO]
  · iapply (tile (F := F) d L O W xv iv hin o _ hO)
    isplitr; · iexact Hlv
    isplitl [Hi0 Hi1 Ho0 Ho1 Hs0 Hs1 Hs2 Hs3 Hs4]
    · unfold freeI freeO
      isplitl [Hi0 Hs0]; · isplitl [Hi0] <;> iassumption
      isplitl [Hi1 Hs1]; · isplitl [Hi1] <;> iassumption
      isplitl [Ho0 Hs2]; · isplitl [Ho0] <;> iassumption
      isplitl [Ho1 Hs3]; · isplitl [Ho1] <;> iassumption
      iexact Hs4
    isplitl [Hp]; · iexact Hp
    unfold Moves.owed
    iexists W; isplitr; · ipureintro; exact fun p hp => .inl hp
    iexact HO
  unfold freeI freeO Moves.owed
  iintro %_ ⟨⟨⟨Hi0, Hs0⟩, ⟨Hi1, Hs1⟩, ⟨Ho0, Hs2⟩, ⟨Ho1, Hs3⟩, Hs4⟩, Hp, HO⟩
  isplitl [Hp]; · iexact Hp
  isplitl [Hi0 Hi1 Ho0 Ho1 Hbr]
  · isplitl [Hi0 Hi1]
    · iapply (islots (F := F) d L).2
      isplitl [Hi0] <;> iassumption
    isplitl [Ho0 Ho1]
    · iapply (oslots (F := F) d L).2
      isplitl [Ho0] <;> iassumption
    iexact Hbr
  isplitl [Hs0 Hs1 Hs2 Hs3 Hs4 Hsr]
  · isplitl [Hs0]; · iexact Hs0
    isplitl [Hs1]; · iexact Hs1
    isplitl [Hs2]; · iexact Hs2
    isplitl [Hs3]; · iexact Hs3
    isplitl [Hs4]; · iexact Hs4
    iexact Hsr
  iexact HO

end Cert.Proof.Task

end
-- ==== Proof.Launch.lean ====
/-
  The whole program: the host prepares the row numbers and lays the table out in rows of 128, the two SparseCores gather,
  and the result is read where they left it. The run ends with the result at the gathered rows, the arguments unchanged and
  every semaphore at zero. It is proved for floats of any kind, so it serves the program as printed and its ideal reading.
-/
module

public import proofs.«01_k».proof.Proof.Task
public import Idealize.ShloMosaic.Lib.Pipeline.Frame

@[expose] public section

noncomputable section

namespace Cert.Proof.Launch

open Cert.KernelIdeal Cert.KernelIdeal.Gen
open Cert.Proof.Windows Cert.Proof.Words Cert.Proof.Moves
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Cert.Proof.Tile Cert.Proof.Deal Cert.Proof.Task
open Idealize.ShloMosaic.StableHlo (held held_sub_split after)
open Idealize.ShloMosaic.Pipeline (ucRefs unscopedBufs_held sub_ucRefs)

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

theorem nCore_zero : (K (F := F)).nCore 0 = 2 := rfl
theorem nSub_zero : (K (F := F)).nSub 0 = 16 := rfl

variable [FloatOps F]

/-! ## The host's part -/

/-- The host's operations before the call. -/
abbrev ops : List (HloOp τ sig (Elt F)) :=
  [StableHlo.reshape main_arg0 main_v0 (rfl : (.f32 : EltTy) = .f32) shapeCasts_S65536x1024_S524288x128,
   StableHlo.nullary main_v1 (iotaInDim S8 32 0),
   StableHlo.unary main_v1 main_v2 (broadcastInDim S1x8 ![1] bcast_S8_S1x8_1 : (⟨S8, .i32⟩ : BufTy).Contents (Elt F) → (⟨S1x8, .i32⟩ : BufTy).Contents (Elt F)),
   StableHlo.reshape main_arg1 main_v3 (rfl : (.i32 : EltTy) = .i32) shapeCasts_S147456_S147456x1,
   StableHlo.nullary main_c (constantI S_ 32 8#32),
   StableHlo.unary main_c main_v4 (broadcastInDim S147456x1 ![] bcast_S_S147456x1 : (⟨S_, .i32⟩ : BufTy).Contents (Elt F) → (⟨S147456x1, .i32⟩ : BufTy).Contents (Elt F)),
   StableHlo.binary main_v3 main_v4 main_v5 (muli : (⟨S147456x1, .i32⟩ : BufTy).Contents (Elt F) → (⟨S147456x1, .i32⟩ : BufTy).Contents (Elt F) → (⟨S147456x1, .i32⟩ : BufTy).Contents (Elt F)),
   StableHlo.unary main_v5 main_v6 (broadcastInDim S147456x8 ![0, 1] bcast_S147456x1_S147456x8_0_1 : (⟨S147456x1, .i32⟩ : BufTy).Contents (Elt F) → (⟨S147456x8, .i32⟩ : BufTy).Contents (Elt F)),
   StableHlo.unary main_v2 main_v7 (broadcastInDim S147456x8 ![0, 1] bcast_S1x8_S147456x8_0_1 : (⟨S1x8, .i32⟩ : BufTy).Contents (Elt F) → (⟨S147456x8, .i32⟩ : BufTy).Contents (Elt F)),
   StableHlo.binary main_v6 main_v7 main_v8 (addi : (⟨S147456x8, .i32⟩ : BufTy).Contents (Elt F) → (⟨S147456x8, .i32⟩ : BufTy).Contents (Elt F) → (⟨S147456x8, .i32⟩ : BufTy).Contents (Elt F)),
   StableHlo.reshape main_v8 main_v9 (rfl : (.i32 : EltTy) = .i32) shapeCasts_S147456x8_S1179648,
   StableHlo.reshape main_v9 main_v10 (rfl : (.i32 : EltTy) = .i32) shapeCasts_S1179648_S1x1179648]

variable (m : (ℓ : Loc nD τ sig) → Buf (Elt F) ℓ) (ρ : Dev nD → PrngReg)

/-- What the arrays hold at the start, and when the call begins. -/
abbrev V0 (d : Dev nD) : Valuation τ sig (Elt F) := fun b => m (d, b)
abbrev V1 (d : Dev nD) : Valuation τ sig (Elt F) := after (ops (F := F)) (V0 m d)

abbrev a0' : DevRef τ sig := Proc.devRef .tc (main_arg0 : Ref sig .tc)
abbrev a1' : DevRef τ sig := Proc.devRef .tc (main_arg1 : Ref sig .tc)
abbrev x' : DevRef τ sig := Proc.devRef .tc (main_v0 : Ref sig .tc)
abbrev i' : DevRef τ sig := Proc.devRef .tc (main_v10 : Ref sig .tc)
abbrev o' : DevRef τ sig := Proc.devRef .tc (main_v11 : Ref sig .tc)

/-- The table in rows of 128, the row numbers, and what the result held. -/
def xv (d : Dev nD) : S524288x128.Idx → Elt F .f32 := V1 m d x'
def iv (d : Dev nD) : S1x1179648.Idx → Elt F .i32 := V1 m d i'
def ov (d : Dev nD) : S1179648x128.Idx → Elt F .f32 := V1 m d o'

/-- Every row number names a row of the table. -/
def PreOK : Prop := ∀ d j, (iv m d j).toNat < 524288

theorem V1_arg (d : Dev nD) (r : Ref sig .tc) (hr : r ∉ [main_v0, main_v1, main_v2, main_v3, main_c, main_v4, main_v5, main_v6, main_v7, main_v8, main_v9, main_v10]) :
    V1 m d (Proc.devRef .tc r) = V0 m d (Proc.devRef .tc r) :=
  StableHlo.after_of_writes_sub _ _ (StableHlo.forall_writes_sub_of_map rfl) hr

/-- The arrays the call and the claim speak of. -/
abbrev S5 : Finset (DevRef τ sig) := {a0', a1', x', i', o'}

omit [FloatOps F] in
theorem held_S5 (d : Dev nD) (W : Valuation τ sig (Elt F)) :
    (held (T d) S5 W : sProp 𝕄)
      = iprop(((SparseCore.T d).loc main_arg0 ↦{fullShare} W a0') ∗ ((SparseCore.T d).loc main_arg1 ↦{fullShare} W a1')
          ∗ (xLoc d ↦{fullShare} W x') ∗ (iLoc d ↦{fullShare} W i') ∗ oLoc d ↦{fullShare} W o') := by
  unfold held S5
  rw [SparseCore.bigSep_insert' (by decide), SparseCore.bigSep_insert' (by decide), SparseCore.bigSep_insert' (by decide),
    SparseCore.bigSep_insert' (by decide), bigSep_singleton]

theorem S5_sub : S5 ⊆ ucRefs τ sig := by decide

/-! ## What the handshakes carry -/

variable (hin : PreOK m)

def P : (K (F := F)).Pay (nD := nD) (Val := Elt F) (Name := ℕ) (U := UU) where
  st := fun q d c => match q with | 0 => corePay d (xv m d) (iv m d) (ov m d) (Fin.cast nCore_zero c)
  dn := fun q d c => match q with | 0 => corePay d (xv m d) (iv m d) (gval (xv m d) (iv m d) (hin d)) (Fin.cast nCore_zero c)
  go := fun q d c i => match q with | 0 => tilePay d (xv m d) (iv m d) (ov m d) (Fin.cast nCore_zero c) (Fin.cast nSub_zero i)
  td := fun q d c i => match q with
    | 0 => tilePay d (xv m d) (iv m d) (gval (xv m d) (iv m d) (hin d)) (Fin.cast nCore_zero c) (Fin.cast nSub_zero i)
  x := fun _ _ => iprop(emp)

instance P_storable : (P (F := F) m hin).IsStorable where
  st q d c := match q with | 0 => storable_core d (xv m d) (iv m d) (ov m d) (Fin.cast nCore_zero c)
  dn q d c := match q with | 0 => storable_core d (xv m d) (iv m d) (gval (xv m d) (iv m d) (hin d)) (Fin.cast nCore_zero c)
  go q d c i := match q with | 0 => storable_tile d (xv m d) (iv m d) (ov m d) (Fin.cast nCore_zero c) (Fin.cast nSub_zero i)
  td q d c i := match q with | 0 => storable_tile d (xv m d) (iv m d) (gval (xv m d) (iv m d) (hin d)) (Fin.cast nCore_zero c) (Fin.cast nSub_zero i)

/-! ## The obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather (coordsV c s)
          (Memref.whole main_v0_scv) (Memref.isWhole_whole _) (Memref.whole main_v10_scv) (Memref.isWhole_whole _)
          (Memref.whole main_v11_scv) (Memref.isWhole_whole _) (Memref.whole cc0_scoped0) (Memref.isWhole_whole _) cc0_scoped1
          (Memref.whole cc0_scoped2) (Memref.isWhole_whole _) cc0_scoped3 cc0_scoped4) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl : (K (F := F)).TileObl (D (F := F)) 𝒱 (P m hin) v₀ 0 := by
  intro d c i O W hO _ _
  simp only [show (P m hin).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (body facts d (coordsV ⟨_, hci.1⟩ ⟨_, hci.2⟩) (xv m d) (iv m d) (hin d) (ov m d) O W hO).trans (wp_mono frame _ _ fun _ => obl_post)

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

theorem vecSplit : (K (F := F)).VecSplit' (P m hin) 0 := by
  intro d c
  show corePay d (xv m d) (iv m d) (ov m d) (Fin.cast nCore_zero c) ⊢ |={Set.univ}=> iprop(
      (bigSep Finset.univ fun i : Fin ((K (F := F)).nSub 0) => tilePay d (xv m d) (iv m d) (ov m d) (Fin.cast nCore_zero c) (Fin.cast nSub_zero i))
      ∗ ((bigSep Finset.univ fun i : Fin ((K (F := F)).nSub 0) =>
            tilePay d (xv m d) (iv m d) (gval (xv m d) (iv m d) (hin d)) (Fin.cast nCore_zero c) (Fin.cast nSub_zero i))
          -∗ corePay d (xv m d) (iv m d) (gval (xv m d) (iv m d) (hin d)) (Fin.cast nCore_zero c)))
  rw [bigSep_tasks (F := F) (tilePay d (xv m d) (iv m d) (ov m d) (Fin.cast nCore_zero c)),
    bigSep_tasks (F := F) (tilePay d (xv m d) (iv m d) (gval (xv m d) (iv m d) (hin d)) (Fin.cast nCore_zero c)), deal_tiles, deal_tiles]
  iintro H; imodintro
  isplitl [H]; · iexact H
  iintro H; iexact H

/-! ## The launch -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m hin).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m hin).x q thr) = bigSep Finset.univ fun _ => iprop(emp) from
    bigSep_congr fun _ _ => bigSep_univ_of_subsingleton (0 : Fin 1), bigSep_emp']
  iempintro

theorem st0_eq (d : Dev nD) : (bigSep Finset.univ fun c : Fin ((K (F := F)).nCore 0) => (P m hin).st 0 d c)
    = iprop((iLoc d ↦{fullShare} iv m d) ∗ (oLoc d ↦{fullShare} ov m d) ∗ xLoc d ↦{fullShare} xv m d) :=
  (bigSep_cores (F := F) (corePay d (xv m d) (iv m d) (ov m d))).trans (deal_cores d (xv m d) (iv m d) (ov m d)).symm
theorem dn0_eq (d : Dev nD) : (bigSep Finset.univ fun c : Fin ((K (F := F)).nCore 0) => (P m hin).dn 0 d c)
    = iprop((iLoc d ↦{fullShare} iv m d) ∗ (oLoc d ↦{fullShare} gval (xv m d) (iv m d) (hin d)) ∗ xLoc d ↦{fullShare} xv m d) :=
  (bigSep_cores (F := F) (corePay d (xv m d) (iv m d) (gval (xv m d) (iv m d) (hin d)))).trans (deal_cores d (xv m d) (iv m d) _).symm

/-- What the program ends with. -/
abbrev FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ oLoc d ↦{fullShare} gval (xv m d) (iv m d) (hin d))

theorem main_eq (d : Dev nD) : main (F := F) d = StableHlo.seq (ops (F := F)) >>= fun _ => (sc.run d 0 >>= fun _ => pure ⟨⟩) := rfl

theorem ops_sub : ∀ op ∈ ops (F := F), op.bufs ⊆ ucRefs τ sig := by
  have h : (ops (F := F)).Forall fun op => op.bufs ⊆ ucRefs τ sig := by
    refine ⟨?_, ?_, ?_, ?_, ?_, ?_, ?_, ?_, ?_, ?_, ?_, ?_⟩ <;> refine sub_ucRefs _ ?_
    all_goals first | exact StableHlo.reshape_bufs_sub .. | exact StableHlo.nullary_bufs_sub .. | exact StableHlo.unary_bufs_sub .. | exact StableHlo.binary_bufs_sub ..
  exact List.forall_iff_forall_mem.mp h
theorem ops_fresh : ∀ op ∈ ops (F := F), op.fresh = ∅ :=
  List.forall_iff_forall_mem.mp (show (ops (F := F)).Forall fun op => op.fresh = ∅ from ⟨rfl, rfl, rfl, rfl, rfl, rfl, rfl, rfl, rfl, rfl, rfl, rfl⟩)

theorem hmain (κ : GSem nD τ sig → ℕ) (d : Dev nD) :
    iprop((K (F := F)).ctx EH (P m hin) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m hin d ∗ (K (F := F)).tcEnd d) := by
  unfold SparseCore.Cfg.tcRes SparseCore.Cfg.tcEnd
  rw [show (unscopedBufs d (fun b => m ((SparseCore.T d).loc b)) : sProp 𝕄) = held (T d) (ucRefs τ sig) (V0 m d) from unscopedBufs_held d (V0 m d), main_eq]
  iintro ⟨#Hctx, Hst, ⟨Hb, Hheld, Hts, -⟩, -⟩
  iapply (StableHlo.wp_seq 𝒱 none Set.univ d (ucRefs τ sig) _ (ops (F := F)) (ops_sub (F := F)) (ops_fresh (F := F)) (V0 m d)) $$ [Hb Hheld]
  · isplitl [Hb] <;> iassumption
  iintro ⟨Hb, Hheld⟩
  ihave Hh := (Entails.of_eq (held_sub_split (T d) S5_sub (V1 m d))) $$ Hheld
  icases Hh with ⟨Hheld, -⟩
  ihave Hh := (Entails.of_eq (held_S5 (F := F) d (V1 m d))) $$ Hheld
  icases Hh with ⟨Ha0, Ha1, Hx, Hi, Ho⟩
  simp only [wp_bind, wp_pure]
  iapply ((K (F := F)).wp_run (D (F := F)) 𝒱 (EH := EH) (P := P m hin) κ d 0) $$ [Hst Ha0 Ha1 Hx Hi Ho Hb Hts]
  isplitr; · iexact Hctx
  isplitl [Hst]; · iexact Hst
  isplitl [Hx Hi Ho]
  · rw [st0_eq]
    isplitl [Hi]; · iexact Hi
    isplitl [Ho]; · iexact Ho
    iexact Hx
  iintro ⟨Hst, Hdn⟩
  ihave Hdn' := (Entails.of_eq (dn0_eq m hin d)) $$ Hdn
  icases Hdn' with ⟨-, Ho, -⟩
  imodintro
  isplitl [Hst]; · iexact Hst
  isplitr [Hb Hts]
  · isplitl [Ha0]
    · rw [V1_arg m d main_arg0 (by decide)]; iexact Ha0
    isplitl [Ha1]
    · rw [V1_arg m d main_arg1 (by decide)]; iexact Ha1
    iexact Ho
  isplitl [Hb] <;> iassumption

def fq (d : Dev nD) (s' : Phys nD τ sig (Elt F)) : Prop :=
  s'.mem.mem ((SparseCore.T d).loc main_arg0) = m ((SparseCore.T d).loc main_arg0) ∧ s'.mem.mem ((SparseCore.T d).loc main_arg1) = m ((SparseCore.T d).loc main_arg1)
    ∧ s'.mem.mem (oLoc d) = gval (xv m d) (iv m d) (hin d)

set_option maxRecDepth 16384 in
theorem hfin (d : Dev nD) (s' : Phys nD τ sig (Elt F)) : iprop(FIN m hin d ∗ SI s') ⊢ (⌜fq m hin d s'⌝ : sProp 𝕄) := by
  iintro ⟨⟨Ha0, Ha1, Ho⟩, HSI⟩
  ihave H := (persistent_entails_right (SI_pointsTo_agree (st := s') (ℓ := (SparseCore.T d).loc main_arg0) (I := Finset.univ) (q := fullShare) (f := m ((SparseCore.T d).loc main_arg0)))) $$ [HSI Ha0]
  · isplitl [HSI] <;> iassumption
  icases H with ⟨%h1, HSI, -⟩
  ihave H := (persistent_entails_right (SI_pointsTo_agree (st := s') (ℓ := (SparseCore.T d).loc main_arg1) (I := Finset.univ) (q := fullShare) (f := m ((SparseCore.T d).loc main_arg1)))) $$ [HSI Ha1]
  · isplitl [HSI] <;> iassumption
  icases H with ⟨%h2, HSI, -⟩
  ihave H := (SI_pointsTo_agree (st := s') (ℓ := oLoc d) (I := Finset.univ) (q := fullShare) (f := gval (xv m d) (iv m d) (hin d))) $$ [HSI Ho]
  · isplitl [HSI] <;> iassumption
  icases H with %h3
  ipureintro; exact ⟨funext fun i => h1 i (Finset.mem_univ i), funext fun i => h2 i (Finset.mem_univ i), funext fun i => h3 i (Finset.mem_univ i)⟩

/-- How the program ends. -/
def QC : PUnit × MemSt nD τ sig (Elt F) → Prop := fun r =>
  (∀ c : Dev nD, r.2.mem ((SparseCore.T c).loc main_arg0) = m ((SparseCore.T c).loc main_arg0) ∧ r.2.mem ((SparseCore.T c).loc main_arg1) = m ((SparseCore.T c).loc main_arg1)
    ∧ r.2.mem (oLoc c) = gval (xv m c) (iv m c) (hin c)) ∧ r.2.sem = fun _ => 0

theorem run_main [∀ e, Nonempty (Elt F e)] :
    θ_run (Cert.KernelIdeal.defs (F := F)) (Cert.KernelIdeal.threads (F := F)) ⟨m, fun _ => 0, ρ⟩ (QC m hin) :=
  SparseCore.Cfg.θ_run_sc_quiescent (K := K (F := F)) (D := D (F := F)) (𝒱 := 𝒱) (EH := EH) (P := P m hin) (A := ∅) facts v₀
    (fun q hq => match q with | 0 => nomatch hq)
    (fun q _ => match q with | 0 => tileObl m hin)
    (fun q _ => match q with | 0 => SparseCore.Cfg.VecSplit.of_plain (vecSplit m hin))
    m ρ main (fun _ => iprop(emp)) (FIN m hin) (u₀ (F := F)) (sep_elim_left.trans (hu₀ m hin)) (hmain m ρ hin) (fq m hin) (hfin m hin) (QC m hin) (fun _ h hz => ⟨h, hz⟩)

end Cert.Proof.Launch

end
-- ==== Proof.Values.lean ====
/-
  The values. The host's row numbers are, eight for each requested row `r`, the rows `8·r … 8·r+7` of the table laid out in
  rows of 128; so what the SparseCores gather is, element by element, the requested rows. The reference says the same.
-/
module

public import proofs.«01_k».proof.Proof.Launch
public import proofs.«01_k».proof.Proof.Gen.ReferenceIdeal.Run
public import proofs.«01_k».proof.Proof.Gen.Pre_in_rows
public import proofs.«01_k».proof.Defs
public import Idealize.ShloMosaic.Lib.Routing.Ops

@[expose] public section

noncomputable section

namespace Cert.Proof.Values

open Cert.KernelIdeal Cert.KernelIdeal.Gen
open Cert.Proof.Windows Cert.Proof.Launch
open Idealize.ShloMosaic Idealize.ShloMosaic.StableHlo
open Idealize.ShloMosaic.ValueIdx (ix1 ix2)
open Idealize.SL.Sem

variable {F : FTy → Type} [FloatOps F]

/-- A point of the result is a pair of coordinates. -/
theorem pair {s0 s1 : Nat} (j : (⟨2, ![s0, s1]⟩ : Shape).Idx) : j = ix2 (j 0) (j 1) := by
  funext a; match a with
  | 0 => rfl
  | 1 => rfl

/-- Points with the same coordinates have the same value. -/
theorem at_eq {s0 s1 : Nat} {α : Type} (f : (⟨2, ![s0, s1]⟩ : Shape).Idx → α) {p p' q q' : Nat} {hp : p < s0} {hp' : p' < s0} {hq : q < s1}
    {hq' : q' < s1} (e : p = p') (e' : q = q') : f (ix2 ⟨p, hp⟩ ⟨q, hq⟩) = f (ix2 ⟨p', hp'⟩ ⟨q', hq'⟩) := by
  subst e e'; rfl

/-! ## The host's arrays -/

section Host

variable (m : (ℓ : Loc nD τ sig) → Buf (Elt F) ℓ) (d : Dev nD)

/-- The program's arguments. -/
abbrev X : S65536x1024.Idx → Elt F .f32 := m ((SparseCore.T d).loc main_arg0)
abbrev R : S147456.Idx → BitVec 32 := m ((SparseCore.T d).loc main_arg1)

theorem xv_eq : xv m d = shapeCast S524288x128 (X m d) shapeCasts_S65536x1024_S524288x128 := by
  show after (ops (F := F)) (V0 m d) x' = _
  after_results <;> rfl

theorem iv_eq : iv m d = shapeCast S1x1179648 (shapeCast S1179648
      (addi (broadcastInDim S147456x8 ![0, 1] bcast_S147456x1_S147456x8_0_1 (muli (shapeCast S147456x1 (R m d) shapeCasts_S147456_S147456x1)
          (broadcastInDim S147456x1 ![] bcast_S_S147456x1 (constantI S_ 32 8#32))))
        (broadcastInDim S147456x8 ![0, 1] bcast_S1x8_S147456x8_0_1 (broadcastInDim S1x8 ![1] bcast_S8_S1x8_1 (iotaInDim S8 32 0))))
      shapeCasts_S147456x8_S1179648) shapeCasts_S1179648_S1x1179648 := by
  show after (ops (F := F)) (V0 m d) i' = _
  after_results <;> rfl

theorem xv_at (p : Fin 524288) (l : Fin 128) :
    xv m d (ix2 p l) = X m d (ix2 ⟨p.val / 8, by omega⟩ ⟨p.val % 8 * 128 + l.val, by omega⟩) := by
  rw [xv_eq]
  refine shapeCast_apply _ _ _ _ ?_
  rw [Shape.rowMajor_val_two, Shape.rowMajor_val_two]
  show p.val / 8 * 1024 + (p.val % 8 * 128 + l.val) = p.val * 128 + l.val
  omega

theorem iv_at (n : Fin 1179648) : iv m d (ix2 0 n) = R m d (ix1 ⟨n.val / 8, by omega⟩) * 8#32 + BitVec.ofNat 32 (n.val % 8) := by
  rw [iv_eq]
  refine (shapeCast_apply _ _ (ix2 0 n) (ix1 n) ?_).trans ?_
  · rw [Shape.rowMajor_val_two, Shape.rowMajor_val_one]
    show n.val = 0 * 1179648 + n.val
    omega
  refine (shapeCast_apply _ _ (ix1 n) (ix2 ⟨n.val / 8, by omega⟩ ⟨n.val % 8, by omega⟩) ?_).trans ?_
  · rw [Shape.rowMajor_val_two, Shape.rowMajor_val_one]
    show n.val / 8 * 8 + n.val % 8 = n.val
    omega
  show IntOp.addi _ _ = _
  unfold IntOp.addi
  congr 1
  · refine (broadcastInDim_apply _ _ _ _ (ix2 ⟨n.val / 8, by omega⟩ 0) ?_).trans ?_
    · intro a; match a with
      | 0 => rfl
      | 1 => rfl
    show IntOp.muli _ _ = _
    unfold IntOp.muli
    congr 1
    refine shapeCast_apply _ _ _ (ix1 ⟨n.val / 8, by omega⟩) ?_
    rw [Shape.rowMajor_val_two, Shape.rowMajor_val_one]
    show n.val / 8 = n.val / 8 * 1 + 0
    omega

/-- Every requested row is a row of the argument. -/
def InRows : Prop := ∀ d j, (R m d j).toNat < 65536

theorem iv_toNat (h : InRows m) (n : Fin 1179648) : (iv m d (ix2 0 n)).toNat = (R m d (ix1 ⟨n.val / 8, by omega⟩)).toNat * 8 + n.val % 8 := by
  have := h d (ix1 ⟨n.val / 8, by omega⟩)
  rw [iv_at, BitVec.toNat_add, BitVec.toNat_mul, BitVec.toNat_ofNat, BitVec.toNat_ofNat]
  omega

end Host

variable (m : (ℓ : Loc nD τ sig) → Buf (Elt F) ℓ)

theorem preOK (h : InRows m) : PreOK m := by
  intro d j
  have e : j = ix2 0 (j 1) := by
    funext a; match a with
    | 0 => exact Subsingleton.elim (α := Fin 1) _ _
    | 1 => rfl
  have hn : (j 1).val < 1179648 := (j 1).isLt
  have := h d (ix1 ⟨(j 1).val / 8, by omega⟩)
  rw [e]
  refine lt_of_eq_of_lt (iv_toNat m d h (j 1)) ?_
  omega

/-- What the SparseCores leave, element by element. -/
theorem gathered (h : InRows m) (d : Dev nD) (n : Fin 1179648) (l : Fin 128) :
    gval (xv m d) (iv m d) (preOK m h d) (ix2 n l)
      = X m d (ix2 ⟨(R m d (ix1 ⟨n.val / 8, by omega⟩)).toNat, h d _⟩ ⟨n.val % 8 * 128 + l.val, by omega⟩) := by
  refine (xv_at m d ⟨(iv m d (ix2 0 n)).toNat, preOK m h d (ix2 0 n)⟩ l).trans ?_
  have e := iv_toNat m d h n
  exact at_eq (X m d) (by dsimp only; omega) (by dsimp only; omega)

/-! ## The reference -/

/-- The requested rows as the reference takes them. -/
abbrev taken (X : S65536x1024.Idx → Elt F .f32) (R : S147456.Idx → BitVec 32) : S1179648x128.Idx → Elt F .f32 :=
  shapeCast Cert.ReferenceIdeal.S1179648x128 (Host.gather Cert.ReferenceIdeal.gather_S65536x1024_S147456x1_S147456x1024_1_0_n_n_0_1_11024 X
    (broadcastInDim Cert.ReferenceIdeal.S147456x1 ![0] Cert.ReferenceIdeal.Gen.bcast_S147456_S147456x1_0
      (select (cmpi .slt R (broadcastInDim Cert.ReferenceIdeal.S147456 ![] Cert.ReferenceIdeal.Gen.bcast_S_S147456 (constantI Cert.ReferenceIdeal.S_ 32 0#32)))
        (addi R (broadcastInDim Cert.ReferenceIdeal.S147456 ![] Cert.ReferenceIdeal.Gen.bcast_S_S147456 (constantI Cert.ReferenceIdeal.S_ 32 65536#32))) R)))
    Cert.ReferenceIdeal.Gen.shapeCasts_S147456x1024_S1179648x128

theorem taken_at (X : S65536x1024.Idx → Elt F .f32) (R : S147456.Idx → BitVec 32) (h : ∀ j, (R j).toNat < 65536) (n : Fin 1179648) (l : Fin 128) :
    taken X R (ix2 n l) = X (ix2 ⟨(R (ix1 ⟨n.val / 8, by omega⟩)).toNat, h _⟩ ⟨n.val % 8 * 128 + l.val, by omega⟩) := by
  refine (shapeCast_apply _ _ (ix2 n l) (ix2 ⟨n.val / 8, by omega⟩ ⟨n.val % 8 * 128 + l.val, by omega⟩) ?_).trans ?_
  · rw [Shape.rowMajor_val_two, Shape.rowMajor_val_two]
    show n.val / 8 * 1024 + (n.val % 8 * 128 + l.val) = n.val * 128 + l.val
    omega
  refine Routing.gather_row _ rfl rfl rfl rfl rfl X _ ⟨n.val / 8, by omega⟩ _ _ ?_ (by decide)
  refine (broadcastInDim_apply _ _ _ _ (ix1 ⟨n.val / 8, by omega⟩) ?_).trans ?_
  · intro a; match a with
    | 0 => rfl
  have hj := h (ix1 ⟨n.val / 8, by omega⟩)
  show (if IntOp.cmpi .slt (R (ix1 ⟨n.val / 8, by omega⟩)) 0#32 = 1#1 then _ else R (ix1 ⟨n.val / 8, by omega⟩)) = _
  rw [if_neg]
  · exact ((BitVec.ofNat_toNat 32 _).trans (BitVec.setWidth_eq _)).symm
  · generalize R (ix1 ⟨n.val / 8, by omega⟩) = v at hj
    simp only [IntOp.cmpi, BitVec.slt_eq_decide, BitVec.toInt_eq_toNat_cond, BitVec.toNat_ofNat]
    intro e
    rw [decide_eq_false (by omega)] at e
    exact absurd e (by decide)

/-- The gathered array is the reference's. -/
theorem value (h : InRows m) (d : Dev nD) : gval (xv m d) (iv m d) (preOK m h d) = taken (X m d) (R m d) := by
  funext j
  rw [pair j]
  exact (gathered m h d (j 0) (j 1)).trans (taken_at (X m d) (R m d) (h d) (j 0) (j 1)).symm

/-! ## The precondition -/

theorem inRows_of_pre (A : S65536x1024.Idx → Elt F .f32) (B : S147456.Idx → BitVec 32)
    (h : Cert.Pre_in_rows.fn (F := F) A B = fun _ => 1#1) (j : S147456.Idx) : (B j).toNat < 65536 := by
  have andi_ofBool (p q : Bool) : IntOp.andi (BitVec.ofBool p) (BitVec.ofBool q) = BitVec.ofBool (p && q) := by
    cases p <;> cases q <;> decide
  have ofBool_one (p : Bool) : (BitVec.ofBool p = 1#1) ↔ p = true := by cases p <;> decide
  have key : ∀ v : BitVec 32, IntOp.andi (IntOp.cmpi .sge v 0#32) (IntOp.cmpi .slt v 65536#32) = 1#1 → v.toNat < 65536 := by
    intro v e
    simp only [IntOp.cmpi, andi_ofBool, ofBool_one, Bool.and_eq_true, BitVec.sle_eq_decide, BitVec.slt_eq_decide,
      decide_eq_true_eq, BitVec.toInt_eq_toNat_cond, BitVec.toNat_ofNat, Nat.reducePow, Nat.reduceMod] at e
    omega
  have e := congrFun h j
  simp only [Cert.Pre_in_rows.fn, andi, cmpi, broadcastInDim, constantI] at e
  exact key _ e

end Cert.Proof.Values

end
-- ==== Proof.Gathered.lean ====
/-
  The dispatch's claims, over any floats: the kernel's run from a memory whose row numbers are in range, the reference's run,
  and their common value.
-/
module

public import proofs.«01_k».proof.Proof.Values

@[expose] public section

noncomputable section

namespace Cert.Proof.Gathered

open Cert.Proof.Windows Cert.Proof.Launch Cert.Proof.Values
open Idealize.ShloMosaic Idealize.ShloMosaic.StableHlo
open Idealize.SL.Sem

variable {F : FTy → Type} [FloatOps F]

/-- The kernel's run: the result is what the reference takes, the arguments and the counters are as they were. -/
theorem kernel (m : (ℓ : Loc Cert.KernelIdeal.nD Cert.KernelIdeal.τ Cert.KernelIdeal.sig) → Buf (Elt F) ℓ)
    (ρ : Dev Cert.KernelIdeal.nD → PrngReg) [∀ e, Nonempty (Elt F e)]
    (h : ∀ c : Dev Cert.KernelIdeal.nD, Cert.Pre_in_rows.fn (F := F)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) = fun _ => 1#1) :
    θ_run (Cert.KernelIdeal.defs (F := F)) (Cert.KernelIdeal.threads (F := F)) ⟨m, fun _ => 0, ρ⟩ fun r =>
      (∀ c : Dev Cert.KernelIdeal.nD,
        r.2.mem ((c.tc : Thread Cert.KernelIdeal.nD Cert.KernelIdeal.τ).loc Cert.KernelIdeal.main_v11)
          = taken (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
        ∧ r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
          = m ((c.tc : Thread Cert.KernelIdeal.nD Cert.KernelIdeal.τ).loc Cert.KernelIdeal.main_arg1)) ∧ r.2.sem = fun _ => 0 := by
  have hr : InRows m := fun d j => inRows_of_pre _ _ (h d) j
  refine (θ_run Cert.KernelIdeal.defs _ _).mono (fun r hq => ⟨fun c => ?_, hq.2⟩) (run_main m ρ (preOK m hr))
  obtain ⟨h0, h1, h2⟩ := hq.1 c
  exact ⟨h2.trans (value m hr c), h0, h1⟩

/-- The reference's run, the counters with it: it has none. -/
theorem reference (m : (ℓ : Loc Cert.ReferenceIdeal.nD Cert.ReferenceIdeal.τ Cert.ReferenceIdeal.sig) → Buf (Elt F) ℓ)
    (ρ : Dev Cert.ReferenceIdeal.nD → PrngReg) :
    θ_run (Cert.ReferenceIdeal.defs (F := F)) (onTc (τ := Cert.ReferenceIdeal.τ) (Cert.ReferenceIdeal.main (F := F))) ⟨m, fun _ => 0, ρ⟩ fun r =>
      (∀ c : Dev Cert.ReferenceIdeal.nD,
        r.2.mem ((c.tc : Thread Cert.ReferenceIdeal.nD Cert.ReferenceIdeal.τ).loc Cert.ReferenceIdeal.main_v7)
          = taken (m ((c.tc : Thread Cert.ReferenceIdeal.nD Cert.ReferenceIdeal.τ).loc Cert.ReferenceIdeal.main_arg0))
            (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1)) ∧ r.2.sem = fun _ => 0 :=
  (θ_run Cert.ReferenceIdeal.defs _ _).mono
    (fun r h => ⟨h, Idealize.ShloMosaic.sem_eq_zero_of_no_sems (by decide) r.2⟩) (Cert.ReferenceIdeal.Value.run m ρ)

end Cert.Proof.Gathered

end
-- ==== Proof.ExpertsBody.lean ====
/-
  The experts kernel's body at one grid point, on any whole staging buffers: with the point below the number of tiles in use it
  stores the tile's eight row slices, and otherwise it stores zeros. Both runs are stated over any floats.
-/
module

public import proofs.«01_k».proof.Proof.Gen.Kernel2Ideal
public import proofs.«01_k».proof.Proof.Gen.Kernel2Ideal.Skeleton
public import proofs.«01_k».proof.Proof.Gen.Kernel2Ideal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.VecWindow
public import Idealize.ShloMosaic.Lib.ValueIdx
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384

noncomputable section

namespace Cert.Proof.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)

variable {F : FTy → Type} [FloatOps F]

/-- The resources the proof speaks of. -/
abbrev Res (F : FTy → Type) : Type := MT nD τ sig Unit (Elt F) ℕ (UR sig nD τ) ℕ

/-- The two tables, whole: the tiles' experts and the number of tiles in use. -/
abbrev tabE : Memref sig .tc .smem S288 .i32 := Memref.whole main_arg2
abbrev tabN : Memref sig .tc .smem S1 .i32 := Memref.whole main_arg3

/-- The number of tiles in use, as the body reads it. -/
abbrev used (T1 : S1.Idx → Elt F .i32) : Elt F .i32 :=
  View.readAt (Elt F) tabN.view (Rect.unit (s := S1) ![0] S1.size inb_S1_S1_0).toLoadRect T1 (Shape.Idx.first (numel1_S1.symm ▸ Nat.one_pos))

/-! ## What the body leaves -/

/-- Lane group `j` of a tile of rows: row `r` of it is row `8 r + j` of the tile's array of 128-wide rows. -/
def lane (j : Fin 8) (x : S4096x128.Idx → Elt F .f32) : S512x128.Idx → Elt F .f32 := fun z =>
  x (ix2 ⟨8 * (z 0).val + j.val, by have h : (z 0).val < 512 := (z 0).isLt; have := j.isLt; omega⟩ ⟨(z 1).val, (z 1).isLt⟩)

/-- A tile's hidden values, from its rows and the expert's two input matrices. -/
abbrev hidden (x0 : S4096x128.Idx → Elt F .f32) (x2 x3 : S1x1024x256.Idx → Elt F .bf16) : FVec F S512x256 .bf16 :=
  k0_pay12 (lane (F := F) 0 x0) (lane (F := F) 1 x0) (lane (F := F) 2 x0) (lane (F := F) 3 x0) (lane (F := F) 4 x0) (lane (F := F) 5 x0) (lane (F := F) 6 x0) (lane (F := F) 7 x0) x2 x3

/-- A tile's rows after its expert, each times its gate. -/
abbrev gatedRows (x0 : S4096x128.Idx → Elt F .f32) (x1 : S512x1.Idx → Elt F .f32) (x2 x3 : S1x1024x256.Idx → Elt F .bf16)
    (x4 : S1x256x1024.Idx → Elt F .bf16) : FVec F S512x1024 .f32 :=
  k0_pay1 (k0_pay11 x1) (hidden x0 x2 x3) x4

/-- The same, as 128-wide rows: eight to a row of the tile. -/
def spread (v : FVec F S512x1024 .f32) : S4096x128.Idx → Elt F .f32 := fun y =>
  v (ix2 ⟨(y 0).val / 8, by have h : (y 0).val < 4096 := (y 0).isLt; omega⟩
    ⟨128 * ((y 0).val % 8) + (y 1).val, by have h : (y 1).val < 128 := (y 1).isLt; omega⟩)

/-- What the body leaves in the output's buffer at a tile in use. -/
abbrev tileOut (x0 : S4096x128.Idx → Elt F .f32) (x1 : S512x1.Idx → Elt F .f32) (x2 x3 : S1x1024x256.Idx → Elt F .bf16)
    (x4 : S1x256x1024.Idx → Elt F .bf16) : S4096x128.Idx → Elt F .f32 :=
  spread (F := F) (gatedRows x0 x1 x2 x3 x4)

/-- A strided read of a tile is its lane group. -/
theorem readAt_lane (j : Fin 8) (a : Memref sig .tc .vmem S4096x128 .f32) (x : S4096x128.Idx → Elt F .f32)
    (inb : ∀ a, S512x128.size a = 0 ∨ (![j.val, 0] : Fin 2 → Nat) a + (![8, 1] : Fin 2 → Nat) a * (S512x128.size a - 1) < S4096x128.size a) :
    View.readAt (Elt F) a.view (⟨![j.val, 0], S512x128.size, ![8, 1], inb⟩ : LoadRect S4096x128) (a.view.rep x) = lane (F := F) j x := by
  rw [View.readAt_rep]
  funext z
  unfold lane
  refine congrArg x (funext fun b => Fin.ext ?_)
  match b with
  | ⟨0, _⟩ => show j.val + 8 * (z 0).val = 8 * (z 0).val + j.val; omega
  | ⟨1, _⟩ => show 0 + 1 * (z 1).val = (z 1).val; omega

/-- The stores of a tile in use, the last first. -/
abbrev pieces (g : FVec F S512x1 .f32) (h : FVec F S512x256 .bf16) (w : Vec F S1x256x1024 .bf16) : List (View.Piece (Elt F) S4096x128 .f32) :=
    [⟨⟨(⟨![7, 0], S512x128.size, ![8, 1], inb_S4096x128_S512x128_7_0_s_8_1⟩ : LoadRect S4096x128), spos_8_1⟩, k0_pay9 g h w⟩,
     ⟨⟨(⟨![6, 0], S512x128.size, ![8, 1], inb_S4096x128_S512x128_6_0_s_8_1⟩ : LoadRect S4096x128), spos_8_1⟩, k0_pay8 g h w⟩,
     ⟨⟨(⟨![5, 0], S512x128.size, ![8, 1], inb_S4096x128_S512x128_5_0_s_8_1⟩ : LoadRect S4096x128), spos_8_1⟩, k0_pay7 g h w⟩,
     ⟨⟨(⟨![4, 0], S512x128.size, ![8, 1], inb_S4096x128_S512x128_4_0_s_8_1⟩ : LoadRect S4096x128), spos_8_1⟩, k0_pay6 g h w⟩,
     ⟨⟨(⟨![3, 0], S512x128.size, ![8, 1], inb_S4096x128_S512x128_3_0_s_8_1⟩ : LoadRect S4096x128), spos_8_1⟩, k0_pay5 g h w⟩,
     ⟨⟨(⟨![2, 0], S512x128.size, ![8, 1], inb_S4096x128_S512x128_2_0_s_8_1⟩ : LoadRect S4096x128), spos_8_1⟩, k0_pay4 g h w⟩,
     ⟨⟨(⟨![1, 0], S512x128.size, ![8, 1], inb_S4096x128_S512x128_1_0_s_8_1⟩ : LoadRect S4096x128), spos_8_1⟩, k0_pay3 g h w⟩,
     ⟨⟨(⟨![0, 0], S512x128.size, ![8, 1], inb_S4096x128_S512x128_0_0_s_8_1⟩ : LoadRect S4096x128), spos_8_1⟩, k0_pay2 g h w⟩]

/-- Lane group `j` of the spread of `v` is columns `128 j` to `128 j + 127` of `v`. -/
theorem slice_spread (j : Fin 8) (v : FVec F S512x1024 .f32) (hs : S512x1024.Slices ![0, 128 * j.val] S512x128)
    (inb : ∀ a, S512x128.size a = 0 ∨ (![j.val, 0] : Fin 2 → Nat) a + (![8, 1] : Fin 2 → Nat) a * (S512x128.size a - 1) < S4096x128.size a)
    (sp : ∀ a, 0 < (![8, 1] : Fin 2 → Nat) a) (x : S512x128.Idx) :
    extractStridedSlice S512x128 ![0, 128 * j.val] v hs x
      = spread (F := F) v ((⟨(⟨![j.val, 0], S512x128.size, ![8, 1], inb⟩ : LoadRect S4096x128), sp⟩ : Rect S4096x128).emb x) := by
  unfold spread extractStridedSlice
  have hx : (x 0).val < 512 := (x 0).isLt
  have hy : (x 1).val < 128 := (x 1).isLt
  refine congrArg v (funext fun b => Fin.ext ?_)
  match b with
  | ⟨0, _⟩ => show 0 + (x 0).val = (j.val + 8 * (x 0).val) / 8; have := j.isLt; omega
  | ⟨1, _⟩ => show 128 * j.val + (x 1).val = 128 * ((j.val + 8 * (x 0).val) % 8) + (0 + 1 * (x 1).val); have := j.isLt; omega

/-- The stores cover the buffer. -/
theorem pieces_cover (g : FVec F S512x1 .f32) (h : FVec F S512x256 .bf16) (w : Vec F S1x256x1024 .bf16) (y : S4096x128.Idx) :
    ∃ p ∈ pieces (F := F) g h w, y ∈ p.1.set := by
  have h0 : (y 0).val < 4096 := (y 0).isLt
  have h1 : (y 1).val < 128 := (y 1).isLt
  have key : ∀ (j : Fin 8) (inb) (sp), (y 0).val % 8 = j.val →
      y ∈ (⟨(⟨![j.val, 0], S512x128.size, ![8, 1], inb⟩ : LoadRect S4096x128), sp⟩ : Rect S4096x128).set := by
    intro j inb sp hj
    refine (LoadRect.mem_set _).mpr fun b => ?_
    match b with
    | ⟨0, _⟩ => exact ⟨(y 0).val / 8, show _ < 512 by omega, show (y 0).val = j.val + 8 * ((y 0).val / 8) by omega⟩
    | ⟨1, _⟩ => exact ⟨(y 1).val, h1, show (y 1).val = 0 + 1 * (y 1).val by omega⟩
  have hm : (y 0).val % 8 < 8 := Nat.mod_lt _ (by decide)
  rcases (by omega : (y 0).val % 8 = 7 ∨ (y 0).val % 8 = 6 ∨ (y 0).val % 8 = 5 ∨ (y 0).val % 8 = 4 ∨ (y 0).val % 8 = 3 ∨ (y 0).val % 8 = 2
      ∨ (y 0).val % 8 = 1 ∨ (y 0).val % 8 = 0) with e | e | e | e | e | e | e | e
  · exact ⟨_, List.mem_cons_self, key 7 _ _ e⟩
  · exact ⟨_, List.mem_cons_of_mem _ (List.mem_cons_self), key 6 _ _ e⟩
  · exact ⟨_, List.mem_cons_of_mem _ (List.mem_cons_of_mem _ (List.mem_cons_self)), key 5 _ _ e⟩
  · exact ⟨_, List.mem_cons_of_mem _ (List.mem_cons_of_mem _ (List.mem_cons_of_mem _ (List.mem_cons_self))), key 4 _ _ e⟩
  · exact ⟨_, List.mem_cons_of_mem _ (List.mem_cons_of_mem _ (List.mem_cons_of_mem _ (List.mem_cons_of_mem _ (List.mem_cons_self)))), key 3 _ _ e⟩
  · exact ⟨_, List.mem_cons_of_mem _ (List.mem_cons_of_mem _ (List.mem_cons_of_mem _ (List.mem_cons_of_mem _ (List.mem_cons_of_mem _ (List.mem_cons_self))))), key 2 _ _ e⟩
  · exact ⟨_, List.mem_cons_of_mem _ (List.mem_cons_of_mem _ (List.mem_cons_of_mem _ (List.mem_cons_of_mem _ (List.mem_cons_of_mem _ (List.mem_cons_of_mem _ (List.mem_cons_self)))))), key 1 _ _ e⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), key 0 _ _ e⟩

/-- Reading back what the stores leave. -/
theorem read_pieces (v : View sig .tc .vmem S4096x128 .f32) (f : v.ty.Contents (Elt F)) (g : FVec F S512x1 .f32) (h : FVec F S512x256 .bf16)
    (w : Vec F S1x256x1024 .bf16) : v.read (Elt F) (v.writes (Elt F) f (pieces g h w)) = spread (F := F) (k0_pay1 g h w) := by
  funext y
  refine View.read_writes_apply_of_pieces v f _ (pieces g h w) ?_ y (pieces_cover g h w y)
  intro p hp x
  simp only [pieces, List.mem_cons, List.not_mem_nil, or_false] at hp
  rcases hp with rfl | rfl | rfl | rfl | rfl | rfl | rfl | rfl
  · exact slice_spread (F := F) (⟨7, by decide⟩ : Fin 8) (k0_pay1 g h w) slices_S512x1024_o0_896_S512x128 _ _ x
  · exact slice_spread (F := F) (⟨6, by decide⟩ : Fin 8) (k0_pay1 g h w) slices_S512x1024_o0_768_S512x128 _ _ x
  · exact slice_spread (F := F) (⟨5, by decide⟩ : Fin 8) (k0_pay1 g h w) slices_S512x1024_o0_640_S512x128 _ _ x
  · exact slice_spread (F := F) (⟨4, by decide⟩ : Fin 8) (k0_pay1 g h w) slices_S512x1024_o0_512_S512x128 _ _ x
  · exact slice_spread (F := F) (⟨3, by decide⟩ : Fin 8) (k0_pay1 g h w) slices_S512x1024_o0_384_S512x128 _ _ x
  · exact slice_spread (F := F) (⟨2, by decide⟩ : Fin 8) (k0_pay1 g h w) slices_S512x1024_o0_256_S512x128 _ _ x
  · exact slice_spread (F := F) (⟨1, by decide⟩ : Fin 8) (k0_pay1 g h w) slices_S512x1024_o0_128_S512x128 _ _ x
  · exact slice_spread (F := F) (⟨0, by decide⟩ : Fin 8) (k0_pay1 g h w) slices_S512x1024_o0_0_S512x128 _ _ x

/-- The loads put in place. -/
theorem loads_eq {x0 : S4096x128.Idx → Elt F .f32} {x1 y1 : S512x1.Idx → Elt F .f32} {x2 x3 y2 y3 : S1x1024x256.Idx → Elt F .bf16}
    {x4 y4 : S1x256x1024.Idx → Elt F .bf16} {l0 l1 l2 l3 l4 l5 l6 l7 : S512x128.Idx → Elt F .f32}
    (h0 : l0 = lane (F := F) 0 x0) (h1 : l1 = lane (F := F) 1 x0) (h2 : l2 = lane (F := F) 2 x0) (h3 : l3 = lane (F := F) 3 x0)
    (h4 : l4 = lane (F := F) 4 x0) (h5 : l5 = lane (F := F) 5 x0) (h6 : l6 = lane (F := F) 6 x0) (h7 : l7 = lane (F := F) 7 x0)
    (e1 : y1 = x1) (e2 : y2 = x2) (e3 : y3 = x3) (e4 : y4 = x4) :
    spread (F := F) (k0_pay1 (k0_pay11 y1) (k0_pay12 l0 l1 l2 l3 l4 l5 l6 l7 y2 y3) y4) = tileOut x0 x1 x2 x3 x4 := by
  subst h0 h1 h2 h3 h4 h5 h6 h7 e1 e2 e3 e4; rfl

/-! ## The two runs -/

set_option maxHeartbeats 8000000 in
/-- The body at a tile in use. -/
theorem run_tile (c : Dev nD) (i : grid0.Coords)
    (a3 : Memref sig .tc .vmem S4096x128 .f32) (h3 : a3.IsWhole) (a4 : Memref sig .tc .vmem S512x1 .f32) (h4 : a4.IsWhole)
    (a5 : Memref sig .tc .vmem S1x1024x256 .bf16) (h5 : a5.IsWhole) (a6 : Memref sig .tc .vmem S1x1024x256 .bf16) (h6 : a6.IsWhole)
    (a7 : Memref sig .tc .vmem S1x256x1024 .bf16) (h7 : a7.IsWhole) (a8 : Memref sig .tc .vmem S4096x128 .f32) (h8 : a8.IsWhole)
    (T0 : S288.Idx → Elt F .i32) (T1 : S1.Idx → Elt F .i32)
    (x0 : S4096x128.Idx → Elt F .f32) (x1 : S512x1.Idx → Elt F .f32) (x2 x3 : S1x1024x256.Idx → Elt F .bf16) (x4 : S1x256x1024.Idx → Elt F .bf16)
    (hc1 : k0_cond1 i (used (F := F) T1) = 1#1) (hc2 : ¬ k0_cond2 i (used (F := F) T1) = 1#1) (K : PUnit → sProp (Res F)) :
    iprop(owns (c : Thread nD τ) a3 fullShare x0 ∗ owns (c : Thread nD τ) a4 fullShare x1 ∗ owns (c : Thread nD τ) a5 fullShare x2
        ∗ owns (c : Thread nD τ) a6 fullShare x3 ∗ owns (c : Thread nD τ) a7 fullShare x4
        ∗ (tabE.view.loc (c : Thread nD τ) ↦{fullShare.right} T0) ∗ (tabN.view.loc (c : Thread nD τ) ↦{fullShare.right} T1)
        ∗ (∃ d, owns (c : Thread nD τ) a8 fullShare d)
        ∗ (iprop(owns (c : Thread nD τ) a3 fullShare x0 ∗ owns (c : Thread nD τ) a4 fullShare x1 ∗ owns (c : Thread nD τ) a5 fullShare x2
            ∗ owns (c : Thread nD τ) a6 fullShare x3 ∗ owns (c : Thread nD τ) a7 fullShare x4
            ∗ (tabE.view.loc (c : Thread nD τ) ↦{fullShare.right} T0) ∗ (tabN.view.loc (c : Thread nD τ) ↦{fullShare.right} T1)
            ∗ owns (c : Thread nD τ) a8 fullShare (tileOut x0 x1 x2 x3 x4)) -∗ K ⟨⟩))
      ⊢ wp frame (wpE (defs₀ (F := F)) Variants.none c none) Set.univ
          (cc0_experts i tabE (Memref.isWhole_whole _) tabN (Memref.isWhole_whole _) a3 h3 a4 h4 a5 h5 a6 h6 a7 h7 a8 h8) K := by
  rw [cc0_experts_eq_skeleton]; unfold cc0_experts_skel
  iintro ⟨H0, H1, H2, H3, H4, HT0, HT1, HO, Hk⟩
  ihave H0 := (rep_of_owns (c : Thread nD τ) a3 fullShare x0) $$ H0
  ihave H1 := (rep_of_owns (c : Thread nD τ) a4 fullShare x1) $$ H1
  ihave H2 := (rep_of_owns (c : Thread nD τ) a5 fullShare x2) $$ H2
  ihave H3 := (rep_of_owns (c : Thread nD τ) a6 fullShare x3) $$ H3
  ihave H4 := (rep_of_owns (c : Thread nD τ) a7 fullShare x4) $$ H4
  icases HO with ⟨%d5, HO⟩
  ihave HO := (rep_of_owns (c : Thread nD τ) a8 fullShare d5) $$ HO
  have hT0 : tabE.IsWhole := Memref.isWhole_whole _
  have hT1 : tabN.IsWhole := Memref.isWhole_whole _
  rw [k0_part1_eq_skeleton]; unfold k0_part1_skel
  sl_exec! (disch := first | (guard_target = k0_cond1 _ _ = _; exact hc1) | (guard_target = ¬(k0_cond2 _ _ = _); exact hc2))
  sl_step
  iapply Hk
  isplitl [H0]; · iapply (owns_of_rep (c : Thread nD τ) a3 fullShare x0); iexact H0
  isplitl [H1]; · iapply (owns_of_rep (c : Thread nD τ) a4 fullShare x1); iexact H1
  isplitl [H2]; · iapply (owns_of_rep (c : Thread nD τ) a5 fullShare x2); iexact H2
  isplitl [H3]; · iapply (owns_of_rep (c : Thread nD τ) a6 fullShare x3); iexact H3
  isplitl [H4]; · iapply (owns_of_rep (c : Thread nD τ) a7 fullShare x4); iexact H4
  isplitl [HT0]; · iexact HT0
  isplitl [HT1]; · iexact HT1
  unfold owns
  iexists _
  isplitr; swap
  · iexact HO
  ipureintro
  refine (read_pieces a8.view (a8.view.rep d5) _ _ _).trans ?_
  exact loads_eq (readAt_lane (F := F) 0 a3 x0 inb_S4096x128_S512x128_0_0_s_8_1) (readAt_lane (F := F) 1 a3 x0 inb_S4096x128_S512x128_1_0_s_8_1) (readAt_lane (F := F) 2 a3 x0 inb_S4096x128_S512x128_2_0_s_8_1) (readAt_lane (F := F) 3 a3 x0 inb_S4096x128_S512x128_3_0_s_8_1) (readAt_lane (F := F) 4 a3 x0 inb_S4096x128_S512x128_4_0_s_8_1) (readAt_lane (F := F) 5 a3 x0 inb_S4096x128_S512x128_5_0_s_8_1) (readAt_lane (F := F) 6 a3 x0 inb_S4096x128_S512x128_6_0_s_8_1) (readAt_lane (F := F) 7 a3 x0 inb_S4096x128_S512x128_7_0_s_8_1)
    (View.readAt_rep_full a4.view x1 _) (View.readAt_rep_full a5.view x2 _) (View.readAt_rep_full a6.view x3 _)
    (View.readAt_rep_full a7.view x4 _)

set_option maxHeartbeats 8000000 in
/-- The body at a tile not in use. -/
theorem run_idle (c : Dev nD) (i : grid0.Coords)
    (a3 : Memref sig .tc .vmem S4096x128 .f32) (h3 : a3.IsWhole) (a4 : Memref sig .tc .vmem S512x1 .f32) (h4 : a4.IsWhole)
    (a5 : Memref sig .tc .vmem S1x1024x256 .bf16) (h5 : a5.IsWhole) (a6 : Memref sig .tc .vmem S1x1024x256 .bf16) (h6 : a6.IsWhole)
    (a7 : Memref sig .tc .vmem S1x256x1024 .bf16) (h7 : a7.IsWhole) (a8 : Memref sig .tc .vmem S4096x128 .f32) (h8 : a8.IsWhole)
    (T0 : S288.Idx → Elt F .i32) (T1 : S1.Idx → Elt F .i32)
    (x0 : S4096x128.Idx → Elt F .f32) (x1 : S512x1.Idx → Elt F .f32) (x2 x3 : S1x1024x256.Idx → Elt F .bf16) (x4 : S1x256x1024.Idx → Elt F .bf16)
    (hc1 : ¬ k0_cond1 i (used (F := F) T1) = 1#1) (hc2 : k0_cond2 i (used (F := F) T1) = 1#1) (K : PUnit → sProp (Res F)) :
    iprop(owns (c : Thread nD τ) a3 fullShare x0 ∗ owns (c : Thread nD τ) a4 fullShare x1 ∗ owns (c : Thread nD τ) a5 fullShare x2
        ∗ owns (c : Thread nD τ) a6 fullShare x3 ∗ owns (c : Thread nD τ) a7 fullShare x4
        ∗ (tabE.view.loc (c : Thread nD τ) ↦{fullShare.right} T0) ∗ (tabN.view.loc (c : Thread nD τ) ↦{fullShare.right} T1)
        ∗ (∃ d, owns (c : Thread nD τ) a8 fullShare d)
        ∗ (iprop(owns (c : Thread nD τ) a3 fullShare x0 ∗ owns (c : Thread nD τ) a4 fullShare x1 ∗ owns (c : Thread nD τ) a5 fullShare x2
            ∗ owns (c : Thread nD τ) a6 fullShare x3 ∗ owns (c : Thread nD τ) a7 fullShare x4
            ∗ (tabE.view.loc (c : Thread nD τ) ↦{fullShare.right} T0) ∗ (tabN.view.loc (c : Thread nD τ) ↦{fullShare.right} T1)
            ∗ owns (c : Thread nD τ) a8 fullShare (k0_pay10 (F := F))) -∗ K ⟨⟩))
      ⊢ wp frame (wpE (defs₀ (F := F)) Variants.none c none) Set.univ
          (cc0_experts i tabE (Memref.isWhole_whole _) tabN (Memref.isWhole_whole _) a3 h3 a4 h4 a5 h5 a6 h6 a7 h7 a8 h8) K := by
  rw [cc0_experts_eq_skeleton]; unfold cc0_experts_skel
  iintro ⟨H0, H1, H2, H3, H4, HT0, HT1, HO, Hk⟩
  ihave H0 := (rep_of_owns (c : Thread nD τ) a3 fullShare x0) $$ H0
  ihave H1 := (rep_of_owns (c : Thread nD τ) a4 fullShare x1) $$ H1
  ihave H2 := (rep_of_owns (c : Thread nD τ) a5 fullShare x2) $$ H2
  ihave H3 := (rep_of_owns (c : Thread nD τ) a6 fullShare x3) $$ H3
  ihave H4 := (rep_of_owns (c : Thread nD τ) a7 fullShare x4) $$ H4
  icases HO with ⟨%d5, HO⟩
  ihave HO := (rep_of_owns (c : Thread nD τ) a8 fullShare d5) $$ HO
  have hT0 : tabE.IsWhole := Memref.isWhole_whole _
  have hT1 : tabN.IsWhole := Memref.isWhole_whole _
  sl_exec! (disch := first | (guard_target = ¬(k0_cond1 _ _ = _); exact hc1) | (guard_target = k0_cond2 _ _ = _; exact hc2))
  sl_step
  iapply Hk
  isplitl [H0]; · iapply (owns_of_rep (c : Thread nD τ) a3 fullShare x0); iexact H0
  isplitl [H1]; · iapply (owns_of_rep (c : Thread nD τ) a4 fullShare x1); iexact H1
  isplitl [H2]; · iapply (owns_of_rep (c : Thread nD τ) a5 fullShare x2); iexact H2
  isplitl [H3]; · iapply (owns_of_rep (c : Thread nD τ) a6 fullShare x3); iexact H3
  isplitl [H4]; · iapply (owns_of_rep (c : Thread nD τ) a7 fullShare x4); iexact H4
  isplitl [HT0]; · iexact HT0
  isplitl [HT1]; · iexact HT1
  unfold owns
  iexists _
  isplitr; swap
  · iexact HO
  ipureintro
  exact View.read_writes_full a8.view _ _ _ _

end Cert.Proof.Experts
-- ==== Proof.ExpertsPipe.lean ====
/- The `_experts` call's pipeline at the tables the launch memory holds: the host operations before it, the side condition of the
   tables, the proof data, the body's obligation, the run. -/
module

public import proofs.«01_k».proof.Proof.ExpertsBody
public import Idealize.ShloMosaic.Lib.Pipeline.Frame
public import Idealize.ShloMosaic.Lib.Pipeline.Quiescent
public import Idealize.ShloMosaic.Lib.Claim

@[expose] public section

set_option maxRecDepth 16384

noncomputable section

namespace Cert.Proof.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]
variable (m : (ℓ : Loc nD τ sig) → Buf (Elt F) ℓ)

/-! ## Up to the region -/

/-- What a buffer holds when the region is entered. -/
abbrev entry (c : Dev nD) (b : Ref sig .tc) : Buf (Elt F) ((c : Thread nD τ).loc b) := StableHlo.after hostOps0 (fun b => m (c, b)) b

theorem prefix_fresh : (hostOps0 : List (HloOp τ sig (Elt F))).Forall fun op => op.fresh = ∅ := by
  simp only [List.Forall]; repeat' constructor

set_option maxHeartbeats 4000000 in
/-- @main is its host operations, then the region. -/
theorem upToRegion (𝒱 : Variants) :
    Pipeline.HMainP (Ix := Unit) (Name := ℕ) (U := UR sig nD τ) (Lvl := ℕ) pcfgs 0 defs₀ 𝒱 m (main (F := F)) (entry m) :=
  Pipeline.hmainP_prefix pcfgs 0 defs₀ 𝒱 m main hostOps0 hostOps0_sub prefix_fresh main_chain

/-- A buffer no host operation writes is at the region as launched. -/
theorem entry_of (c : Dev nD) (b : Ref sig .tc) (h0 : b ≠ main_v0) (h1 : b ≠ main_v1) (h2 : b ≠ main_v2) (h3 : b ≠ main_v3) (h4 : b ≠ main_v4) :
    entry m c b = m ((c : Thread nD τ).loc b) :=
  StableHlo.after_of_forall_not_mem (b := Proc.devRef .tc b) _ _ (List.forall_iff_forall_mem.mp (by
    simp only [hostOps0, List.Forall, StableHlo.unary_writes, StableHlo.reshape_writes, Finset.mem_singleton]
    exact ⟨StableHlo.devRef_ne_of_ne h0, StableHlo.devRef_ne_of_ne h1, StableHlo.devRef_ne_of_ne h2, StableHlo.devRef_ne_of_ne h3,
      StableHlo.devRef_ne_of_ne h4⟩))

/-! ## The tables -/

/-- The prefetched tables as launched. -/
def tables : pre0.Contents (Elt F) := fun j => m (((0 : Dev nD) : Thread nD τ).loc (pre0.ref j))

theorem entry_tables (c : Dev nD) (j : Fin 2) : entry m c (pre0.ref j) = tables m j := by
  obtain rfl : c = 0 := Subsingleton.elim _ _
  match j with
  | ⟨0, _⟩ => exact entry_of m 0 main_arg2 (by decide) (by decide) (by decide) (by decide) (by decide)
  | ⟨1, _⟩ => exact entry_of m 0 main_arg3 (by decide) (by decide) (by decide) (by decide) (by decide)

/-- Every tile's expert is one of the 32. -/
def InExperts : Prop := ∀ x : S288.Idx, ((m (((0 : Dev nD) : Thread nD τ).loc main_arg2) : S288.Idx → BitVec 32) x).toNat < 32

/-- The tables' side condition: a tile's weights lie inside the stacked ones. -/
theorem tables_ok (h : InExperts m) : ok0 (F := F) (tables m) := by
  have inb : ∀ i : grid0.Coords, ∀ a, (cc0_transform_2 k0_off1_inb numel1_S1 (tables m) i a + 1) * S1x1024x256.size a ≤ S32x1024x256.size a := by
    intro i a
    match a with
    | ⟨0, _⟩ =>
      have key : ∀ x : S288.Idx, (((m (((0 : Dev nD) : Thread nD τ).loc main_arg2) : S288.Idx → BitVec 32) x).toNat + 1) * 1 ≤ 32 := fun x => by
        have := h x; omega
      exact key _
    | ⟨1, _⟩ => show (0 + 1) * 1024 ≤ 1024; omega
    | ⟨2, _⟩ => show (0 + 1) * 256 ≤ 256; omega
  have inb' : ∀ i : grid0.Coords, ∀ a, (cc0_transform_4 k0_off1_inb numel1_S1 (tables m) i a + 1) * S1x256x1024.size a ≤ S32x256x1024.size a := by
    intro i a
    match a with
    | ⟨0, _⟩ => exact inb i ⟨0, by decide⟩
    | ⟨1, _⟩ => show (0 + 1) * 256 ≤ 256; omega
    | ⟨2, _⟩ => show (0 + 1) * 1024 ≤ 1024; omega
  exact ⟨fun i => ⟨inb i, .inr (Affine.block_words_dvd (s := S32x1024x256) (p := EltTy.packing .bf16) (by decide) (by decide))⟩,
    fun i => ⟨inb i, .inr (Affine.block_words_dvd (s := S32x1024x256) (p := EltTy.packing .bf16) (by decide) (by decide))⟩,
    fun i => ⟨inb' i, .inr (Affine.block_words_dvd (s := S32x256x1024) (p := EltTy.packing .bf16) (by decide) (by decide))⟩⟩

variable (h : InExperts m)

/-- The tables, admitted; the pipeline at them. -/
abbrev admitted : (pcfg0 (F := F)).Adm := ⟨tables m, tables_ok m h⟩
abbrev pipe : Pipeline.Cfg sig Λ₀ := cfg0 (admitted m h)

/-- A point's coordinates. -/
abbrev crd (t : Fin (pipe m h).N) : grid0.Coords := (pipe m h).grid.coords t

/-- The windows' buffers at a point. -/
abbrev buf0 (t : Fin (pipe m h).N) : Memref sig .tc .vmem S4096x128 .f32 := spec0_0.stage ((pipe m h).slots t (0 : Fin 6))
abbrev buf1 (t : Fin (pipe m h).N) : Memref sig .tc .vmem S512x1 .f32 := spec0_1.stage ((pipe m h).slots t (1 : Fin 6))
abbrev buf2 (t : Fin (pipe m h).N) : Memref sig .tc .vmem S1x1024x256 .bf16 := spec0_2.stage ((pipe m h).slots t (2 : Fin 6))
abbrev buf3 (t : Fin (pipe m h).N) : Memref sig .tc .vmem S1x1024x256 .bf16 := spec0_3.stage ((pipe m h).slots t (3 : Fin 6))
abbrev buf4 (t : Fin (pipe m h).N) : Memref sig .tc .vmem S1x256x1024 .bf16 := spec0_4.stage ((pipe m h).slots t (4 : Fin 6))
abbrev buf5 (t : Fin (pipe m h).N) : Memref sig .tc .vmem S4096x128 .f32 := spec0_5.stage ((pipe m h).slots t (5 : Fin 6))

/-- A window's block at a point. -/
def block (c : Dev nD) (w : Fin 6) (t : Fin (pipe m h).N) : (((pipe m h).win w).xblock (crd m h t)).Idx → Elt F ((pipe m h).win w).elt :=
  (((pipe m h).win w).blk t).view.read (Elt F) (entry m c (Pipeline.arrRef spec0 w))

/-! ## The two paths -/

/-- The word of a condition, tested. -/
theorem tested (b : Bool) : Scalar.cmpi .ne (Scalar.extui (BitVec.ofBool b) : BitVec 32) 0#32 = BitVec.ofBool b := by
  cases b <;> decide

/-- The body's first condition: the point below the tiles in use. -/
theorem cond1_eq (i : grid0.Coords) (v : BitVec 32) : k0_cond1 i v = BitVec.ofBool ((BitVec.ofNat 32 (i 0).val).slt v) := tested _

/-- Its second: the point not below them. -/
theorem cond2_eq (i : grid0.Coords) (v : BitVec 32) : k0_cond2 i v = BitVec.ofBool (v.sle (BitVec.ofNat 32 (i 0).val)) := tested _

/-- One of the two holds. -/
theorem paths (i : grid0.Coords) (v : BitVec 32) :
    (k0_cond1 i v = 1#1 ∧ ¬ k0_cond2 i v = 1#1) ∨ (¬ k0_cond1 i v = 1#1 ∧ k0_cond2 i v = 1#1) := by
  rw [cond1_eq, cond2_eq, BitVec.sle_eq_not_slt]
  cases (BitVec.ofNat 32 (i 0).val).slt v <;> decide

/-- What the body leaves in the output's buffer. -/
def left (c : Dev nD) (t : Fin (pipe m h).N) : S4096x128.Idx → Elt F .f32 :=
  if k0_cond1 (crd m h t) (used (F := F) (tables m 1)) = 1#1 then
    tileOut (block m h c 0 t) (block m h c 1 t) (block m h c 2 t) (block m h c 3 t) (block m h c 4 t)
  else k0_pay10 (F := F)

/-! ## The proof data -/

/-- The pipeline's proof data. -/
def dats (_ : Fin 1) (c : Dev nD) : Dat τ (Elt F) Unit ℕ (UR sig nD τ) ℕ (pipe m h) c where
  A w := entry m c (Pipeline.arrRef spec0 w)
  after w t := match w with
    | ⟨0, _⟩ => block m h c 0 t
    | ⟨1, _⟩ => block m h c 1 t
    | ⟨2, _⟩ => block m h c 2 t
    | ⟨3, _⟩ => block m h c 3 t
    | ⟨4, _⟩ => block m h c 4 t
    | ⟨5, _⟩ => left m h c t
  Φ t := iprop(Pipeline.ΦA spec0 c ∗ Pipeline.ΦT pre0 (tables m) c)
  q _ := fullShare
  owed _ := 0

/-! ## What the buffers hold -/

theorem after0 (c : Dev nD) (t : Fin (pipe m h).N) : (dats m h 0 c).after (0 : Fin 6) t = block m h c 0 t := rfl

/-- An input's buffer holds its block when the body runs. -/
theorem before0 (c : Dev nD) (t : Fin (pipe m h).N) (d) : (dats m h 0 c).before (0 : Fin 6) t d = block m h c 0 t :=
  ((dats m h 0 c).before_in_eq_fetched (0 : Fin 6) rfl (fun _ => rfl) (fun _ _ _ => rfl)
    (fun t => by rw [after0]; unfold Dat.blockOf block; rfl) t d).trans (by unfold Dat.fetched Dat.blockOf block; rfl)

theorem after1 (c : Dev nD) (t : Fin (pipe m h).N) : (dats m h 0 c).after (1 : Fin 6) t = block m h c 1 t := rfl

/-- An input's buffer holds its block when the body runs. -/
theorem before1 (c : Dev nD) (t : Fin (pipe m h).N) (d) : (dats m h 0 c).before (1 : Fin 6) t d = block m h c 1 t :=
  ((dats m h 0 c).before_in_eq_fetched (1 : Fin 6) rfl (fun _ => rfl) (fun _ _ _ => rfl)
    (fun t => by rw [after1]; unfold Dat.blockOf block; rfl) t d).trans (by unfold Dat.fetched Dat.blockOf block; rfl)

theorem after2 (c : Dev nD) (t : Fin (pipe m h).N) : (dats m h 0 c).after (2 : Fin 6) t = block m h c 2 t := rfl

/-- An input's buffer holds its block when the body runs. -/
theorem before2 (c : Dev nD) (t : Fin (pipe m h).N) (d) : (dats m h 0 c).before (2 : Fin 6) t d = block m h c 2 t :=
  ((dats m h 0 c).before_in_eq_fetched (2 : Fin 6) rfl (fun _ => rfl) (fun _ _ _ => rfl)
    (fun t => by rw [after2]; unfold Dat.blockOf block; rfl) t d).trans (by unfold Dat.fetched Dat.blockOf block; rfl)

theorem after3 (c : Dev nD) (t : Fin (pipe m h).N) : (dats m h 0 c).after (3 : Fin 6) t = block m h c 3 t := rfl

/-- An input's buffer holds its block when the body runs. -/
theorem before3 (c : Dev nD) (t : Fin (pipe m h).N) (d) : (dats m h 0 c).before (3 : Fin 6) t d = block m h c 3 t :=
  ((dats m h 0 c).before_in_eq_fetched (3 : Fin 6) rfl (fun _ => rfl) (fun _ _ _ => rfl)
    (fun t => by rw [after3]; unfold Dat.blockOf block; rfl) t d).trans (by unfold Dat.fetched Dat.blockOf block; rfl)

theorem after4 (c : Dev nD) (t : Fin (pipe m h).N) : (dats m h 0 c).after (4 : Fin 6) t = block m h c 4 t := rfl

/-- An input's buffer holds its block when the body runs. -/
theorem before4 (c : Dev nD) (t : Fin (pipe m h).N) (d) : (dats m h 0 c).before (4 : Fin 6) t d = block m h c 4 t :=
  ((dats m h 0 c).before_in_eq_fetched (4 : Fin 6) rfl (fun _ => rfl) (fun _ _ _ => rfl)
    (fun t => by rw [after4]; unfold Dat.blockOf block; rfl) t d).trans (by unfold Dat.fetched Dat.blockOf block; rfl)

theorem after5 (c : Dev nD) (t : Fin (pipe m h).N) : (dats m h 0 c).after (5 : Fin 6) t = left m h c t := rfl

/-- The tables' halves, one by one. -/
theorem halves (c : Dev nD) : (Pipeline.ΦT pre0 (tables m) c : sProp (Res F))
    = iprop((tabE.view.loc (c : Thread nD τ) ↦{fullShare.right} tables m 0) ∗ (tabN.view.loc (c : Thread nD τ) ↦{fullShare.right} tables m 1)) := by
  unfold Pipeline.ΦT Pipeline.prefHeld
  rw [show (Finset.univ : Finset (Fin 2)) = insert (0 : Fin 2) {(1 : Fin 2)} from by decide, bigSep_insert (by decide), bigSep_singleton]
  rfl

/-- The output's buffer is stored at every point. -/
theorem never_idle (t : Fin (pipe m h).N) : (pipe m h).idle (5 : Fin 6) ((pipe m h).grid.coords t) = false := by
  show (!(k0_cond1 (crd m h t) _ == 1#1) && !(k0_cond2 (crd m h t) _ == 1#1)) = false
  rcases paths (crd m h t) (Pipeline.Prefetch.Contents.atD (tables m) 1 ![0]) with ⟨e, -⟩ | ⟨-, e⟩
  · rw [show (k0_cond1 (crd m h t) (Pipeline.Prefetch.Contents.atD (tables m) 1 ![0]) == 1#1) = true from beq_iff_eq.mpr e]; rfl
  · rw [show (k0_cond2 (crd m h t) (Pipeline.Prefetch.Contents.atD (tables m) 1 ![0]) == 1#1) = true from beq_iff_eq.mpr e, Bool.not_true, Bool.and_false]

/-! ## The body's obligation -/

/-- The body at a point, as the pipeline calls it. -/
abbrev bodyAt (t : Fin (pipe m h).N) : Prog (TpuEff nD τ sig (Elt F) Λ₀ .tc) PUnit :=
  cc0_experts (crd m h t) tabE (Memref.isWhole_whole _) tabN (Memref.isWhole_whole _)
    (buf0 m h t) (hstage0_0 (((pipe m h).slots t (0 : Fin 6)).cast nbuf0_0)) (buf1 m h t) (hstage0_1 (((pipe m h).slots t (1 : Fin 6)).cast nbuf0_1))
    (buf2 m h t) (hstage0_2 (((pipe m h).slots t (2 : Fin 6)).cast nbuf0_2)) (buf3 m h t) (hstage0_3 (((pipe m h).slots t (3 : Fin 6)).cast nbuf0_3))
    (buf4 m h t) (hstage0_4 (((pipe m h).slots t (4 : Fin 6)).cast nbuf0_4)) (buf5 m h t) (hstage0_5 (((pipe m h).slots t (5 : Fin 6)).cast nbuf0_5))

/-- The body at a point, from its windows' blocks. -/
theorem body_at (c : Dev nD) (t : Fin (pipe m h).N) (K : PUnit → sProp (Res F)) :
    iprop(owns (c : Thread nD τ) (buf0 m h t) fullShare (block m h c 0 t) ∗ owns (c : Thread nD τ) (buf1 m h t) fullShare (block m h c 1 t)
        ∗ owns (c : Thread nD τ) (buf2 m h t) fullShare (block m h c 2 t) ∗ owns (c : Thread nD τ) (buf3 m h t) fullShare (block m h c 3 t)
        ∗ owns (c : Thread nD τ) (buf4 m h t) fullShare (block m h c 4 t)
        ∗ (tabE.view.loc (c : Thread nD τ) ↦{fullShare.right} tables m 0) ∗ (tabN.view.loc (c : Thread nD τ) ↦{fullShare.right} tables m 1)
        ∗ (∃ d, owns (c : Thread nD τ) (buf5 m h t) fullShare d)
        ∗ (iprop(owns (c : Thread nD τ) (buf0 m h t) fullShare (block m h c 0 t) ∗ owns (c : Thread nD τ) (buf1 m h t) fullShare (block m h c 1 t)
            ∗ owns (c : Thread nD τ) (buf2 m h t) fullShare (block m h c 2 t) ∗ owns (c : Thread nD τ) (buf3 m h t) fullShare (block m h c 3 t)
            ∗ owns (c : Thread nD τ) (buf4 m h t) fullShare (block m h c 4 t)
            ∗ (tabE.view.loc (c : Thread nD τ) ↦{fullShare.right} tables m 0) ∗ (tabN.view.loc (c : Thread nD τ) ↦{fullShare.right} tables m 1)
            ∗ owns (c : Thread nD τ) (buf5 m h t) fullShare (left m h c t)) -∗ K ⟨⟩))
      ⊢ wp frame (wpE (defs₀ (F := F)) Variants.none c none) Set.univ (bodyAt m h t) K := by
  rcases paths (crd m h t) (used (F := F) (tables m 1)) with ⟨e1, e2⟩ | ⟨e1, e2⟩
  · rw [show left m h c t = tileOut (block m h c 0 t) (block m h c 1 t) (block m h c 2 t) (block m h c 3 t) (block m h c 4 t) from if_pos e1]
    exact run_tile c (crd m h t) _ _ _ _ _ _ _ _ _ _ _ _ (tables m 0) (tables m 1) (block m h c 0 t) (block m h c 1 t) (block m h c 2 t)
      (block m h c 3 t) (block m h c 4 t) e1 e2 K
  · rw [show left m h c t = k0_pay10 (F := F) from if_neg e1]
    exact run_idle c (crd m h t) _ _ _ _ _ _ _ _ _ _ _ _ (tables m 0) (tables m 1) (block m h c 0 t) (block m h c 1 t) (block m h c 2 t)
      (block m h c 3 t) (block m h c 4 t) e1 e2 K

set_option maxHeartbeats 4000000 in
/-- The body's obligation at every point. -/
theorem obligation (c : Dev nD) : BodyObligation (dats m h 0 c) (defs₀ (F := F)) Variants.none () Set.univ := fun t => by
  rw [bigSep_W0, bigSep_W0]
  have i5 := never_idle m h t
  rewrite [i5]
  simp only [before0, before1, before2, before3, before4, after0, after1, after2, after3, after4, after5]
  rewrite [show (dats m h 0 c).Φ t.succ = iprop(Pipeline.ΦA spec0 c ∗ Pipeline.ΦT pre0 (tables m) c) from rfl,
    show (dats m h 0 c).Φ t.castSucc = iprop(Pipeline.ΦA spec0 c ∗ Pipeline.ΦT pre0 (tables m) c) from rfl,
    show (dats m h 0 c).owesAt () t.succ = (dats m h 0 c).owesAt () t.castSucc from rfl, halves]
  iintro ⟨⟨HA, HT0, HT1⟩, Ho, ⟨%d0, H0⟩, ⟨%d1, H1⟩, ⟨%d2, H2⟩, ⟨%d3, H3⟩, ⟨%d4, H4⟩, ⟨%d5, H5⟩⟩
  iapply (body_at m h c t)
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  isplitl [H5]; · iexists _; iexact H5
  iintro ⟨H0, H1, H2, H3, H4, HT0, HT1, H5⟩
  isplitl [HA HT0 HT1]
  · isplitl [HA]; · iexact HA
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  iexact H5

/-! ## The run -/

theorem share_eq (c : Dev nD) (w : Fin 6) : (dats m h 0 c).share w = fullShare := by unfold Dat.share; split <;> rfl

set_option backward.isDefEq.respectTransparency.types false in
set_option maxHeartbeats 4000000 in
/-- Every weakly fair run of @main terminates with every window's array at what the points left, every other array as the region found
    it, and no semaphore counting. -/
theorem run (ρ : Dev nD → PrngReg) :
    θ_run (defs (F := F)) (onTc (τ := τ) (main (F := F))) (s₀ m ρ) (fun r =>
      Pipeline.FramePost (Pipeline.pin pcfgs fun _ => admitted m h) (dats m h) 0 (entry m) r ∧ r.2.sem = fun _ => 0) :=
  Pipeline.θ_run_frameP pcfgs (fun _ => admitted m h) (dats m h) 0 launch0 defs₀ Variants.none m ρ main
    (fun c => (obligation m h c).loose) (share_eq m h) (fun _ _ => rfl) (entry m) (upToRegion m Variants.none) (fun _ _ => rfl)
    (entry_tables m) (fun _ _ => rfl) (Q' := _) (fun _ h => h)

end Cert.Proof.Experts

end
-- ==== Proof.ExpertsFinal.lean ====
/-
  What the `_experts` call leaves, over any floats: its result array, tile by tile, and every argument as it was.
-/
module

public import proofs.«01_k».proof.Proof.ExpertsPipe
public import Idealize.ShloMosaic.Lib.Pipeline.ValueKit.Geometry

@[expose] public section

set_option maxRecDepth 16384

noncomputable section

namespace Cert.Proof.Experts

open Cert.Kernel2Ideal Cert.Kernel2Ideal.Gen
open Idealize.ShloMosaic
open Idealize.ShloMosaic.TcCoe
open Idealize.SL.Sem
open Idealize.ShloMosaic.ValueIdx (ix2)
open Idealize.ShloMosaic.Pipeline (Dat Cfg Window)

variable {F : FTy → Type} [FloatOps F]
variable (m : (ℓ : Loc nD τ sig) → Buf (Elt F) ℓ) (h : InExperts m)

/-! ## Points and blocks -/

/-- A point's coordinate is its number. -/
theorem crd_val (t : Fin (pipe m h).N) : (crd m h t 0).val = t.val := by
  have e := Pipeline.Grid.coords_val (G := grid0) t 0 (S := 1) (B := 288) (by decide) rfl
  have ht : t.val < 288 := lt_of_lt_of_eq t.isLt N_0
  rw [Nat.div_one, Nat.mod_eq_of_lt ht] at e
  exact e

/-- The point of a tile. -/
abbrev point (n : Nat) (hn : n < 288) : Fin (pipe m h).N := ⟨n, lt_of_lt_of_eq hn N_0.symm⟩

theorem index0 (t : Fin (pipe m h).N) : ((pipe m h).win (0 : Fin 6)).index t = ![t.val, 0] := by
  have ht : t.val < 288 := lt_of_lt_of_eq t.isLt N_0
  show cc0_transform_0 (crd m h t) = _
  unfold cc0_transform_0
  dsimp only
  rw [crd_val, BitVec.toNat_ofNat, Nat.mod_eq_of_lt (by omega)]
  rfl

theorem index1 (t : Fin (pipe m h).N) : ((pipe m h).win (1 : Fin 6)).index t = ![t.val, 0] := index0 m h t

theorem index5 (t : Fin (pipe m h).N) : ((pipe m h).win (5 : Fin 6)).index t = ![t.val, 0] := index0 m h t

/-- A block of the output, placed. -/
theorem place5 (t : Fin (pipe m h).N) (y : S4096x128.Idx) :
    (((pipe m h).win (5 : Fin 6)).blk t).view.emb y
      = ix2 (n0 := 1179648) (n1 := 128) ⟨4096 * t.val + (y 0).val, by
          have ht : t.val < 288 := lt_of_lt_of_eq t.isLt N_0
          have hy : (y 0).val < 4096 := (y 0).isLt
          omega⟩ ⟨(y 1).val, (y 1).isLt⟩ := by
  funext a; apply Fin.ext
  refine (Window.rect_emb_val ((pipe m h).win (5 : Fin 6)) t y a).trans ?_
  rw [index5]
  match a with
  | ⟨0, _⟩ => show t.val * 4096 + (y 0).val = 4096 * t.val + (y 0).val; omega
  | ⟨1, _⟩ => show 0 * 128 + (y 1).val = (y 1).val; omega

/-- Every point writes its block back. -/
theorem flush5 (t : Fin (pipe m h).N) : ((pipe m h).win (5 : Fin 6)).flush t = true := by
  unfold Window.flush
  by_cases e : t.val + 1 = grid0.N
  · rw [decide_eq_true e]; rfl
  · have ht : t.val < grid0.N := t.isLt
    have hlt : t.val + 1 < grid0.N := by omega
    rw [Bool.and_eq_true, Bool.or_eq_true]
    refine ⟨rfl, Or.inr (decide_eq_true ⟨hlt, fun q => ?_⟩)⟩
    have q0 := congrFun q (0 : Fin 2)
    rw [index5, index5] at q0
    have : t.val + 1 = t.val := q0
    omega

/-! ## The result -/

/-- The result array, tile by tile. -/
def finished (c : Dev nD) : S1179648x128.Idx → Elt F .f32 := fun i =>
  left m h c (point m h ((i 0).val / 4096) (by have hi : (i 0).val < 1179648 := (i 0).isLt; omega))
    (ix2 ⟨(i 0).val % 4096, by omega⟩ ⟨(i 1).val, (i 1).isLt⟩)

theorem left_at (c : Dev nD) {t t' : Fin (pipe m h).N} {y y' : S4096x128.Idx} (e : t = t') (e' : y = y') : left m h c t y = left m h c t' y' := by
  subst e e'; rfl

/-- Every element of the output is placed by some block. -/
theorem covered (i : S1179648x128.Idx) : ∃ (t : Fin (pipe m h).N) (y : S4096x128.Idx), (((pipe m h).win (5 : Fin 6)).blk t).view.emb y = i := by
  have hi : (i 0).val < 1179648 := (i 0).isLt
  refine ⟨point m h ((i 0).val / 4096) (by omega), ix2 ⟨(i 0).val % 4096, by omega⟩ ⟨(i 1).val, (i 1).isLt⟩, ?_⟩
  refine (place5 m h _ _).trans (funext fun b => Fin.ext ?_)
  match b with
  | ⟨0, _⟩ => show 4096 * ((i 0).val / 4096) + (i 0).val % 4096 = (i 0).val; omega
  | ⟨1, _⟩ => rfl

/-- What the write-backs make of the output array. -/
theorem final5 (c : Dev nD) : (dats m h 0 c).arrAt (5 : Fin 6) (pipe m h).N = finished m h c := by
  refine (dats m h 0 c).arrAt_eq_of_emb (5 : Fin 6) (finished m h c) (fun t _ y => ?_) (fun i => ?_)
  · refine Eq.trans ?_ (congrArg (finished m h c) (place5 m h t y)).symm
    have ht : t.val < 288 := lt_of_lt_of_eq t.isLt N_0
    have hy0 : (y 0).val < 4096 := (y 0).isLt
    show left m h c t y = _
    refine left_at m h c (Fin.ext ?_) (funext fun b => Fin.ext ?_)
    · show t.val = (4096 * t.val + (y 0).val) / 4096; omega
    · match b with
      | ⟨0, _⟩ => show (y 0).val = (4096 * t.val + (y 0).val) % 4096; omega
      | ⟨1, _⟩ => rfl
  · obtain ⟨t, y, e⟩ := covered m h i
    refine ⟨t, flush5 m h t, ?_⟩
    have e' := View.emb_mem_set (((pipe m h).win (5 : Fin 6)).blk t).view y
    rw [e] at e'
    exact e'

/-! ## The run, read -/

/-- The call's run: the result tile by tile, the arguments and the counters as they were. -/
theorem leaves (ρ : Dev nD → PrngReg) :
    θ_run (defs (F := F)) (onTc (τ := τ) (main (F := F))) ⟨m, fun _ => 0, ρ⟩ fun r =>
      (∀ c : Dev nD, r.2.mem ((c.tc : Thread nD τ).loc main_v5) = finished m h c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)) ∧ r.2.sem = fun _ => 0 := by
  refine (θ_run defs _ _).mono (fun r q => ⟨fun c => ?_, q.2⟩) (run m h ρ)
  have kept : ∀ b : Ref sig .tc, b ∈ Pipeline.restRefs sig spec0 → b ≠ main_v0 → b ≠ main_v1 → b ≠ main_v2 → b ≠ main_v3 → b ≠ main_v4 →
      r.2.mem ((c.tc : Thread nD τ).loc b) = m ((c.tc : Thread nD τ).loc b) := fun b hb h0 h1 h2 h3 h4 =>
    ((q.1 c).2 b hb).trans (entry_of m c b h0 h1 h2 h3 h4)
  exact ⟨((q.1 c).1 (5 : Fin 6)).trans (final5 m h c),
    kept main_arg0 (by decide) (by decide) (by decide) (by decide) (by decide) (by decide),
    kept main_arg1 (by decide) (by decide) (by decide) (by decide) (by decide) (by decide),
    kept main_arg2 (by decide) (by decide) (by decide) (by decide) (by decide) (by decide),
    kept main_arg3 (by decide) (by decide) (by decide) (by decide) (by decide) (by decide),
    kept main_arg4 (by decide) (by decide) (by decide) (by decide) (by decide) (by decide),
    kept main_arg5 (by decide) (by decide) (by decide) (by decide) (by decide) (by decide),
    kept main_arg6 (by decide) (by decide) (by decide) (by decide) (by decide) (by decide)⟩

end Cert.Proof.Experts

end
-- ==== Proof.ExpertsRef.lean ====
/-
  The `_experts` call's reference over the extended reals, element by element: each row's gate, zero unless its tile is in use,
  times the row through its tile's expert.
-/
module

public import proofs.«01_k».proof.Proof.Gen.Reference2Ideal.Run
public import Idealize.ShloMosaic.Lib.Routing.Words
public import Idealize.ShloMosaic.Lib.Routing.OpsSet
public import Idealize.ShloMosaic.Lib.IdealHost
public import Idealize.ShloMosaic.Lib.ValueIdx
public import Idealize.ShloMosaic.Lib.StackMember
public import Idealize.ShloMosaic.Lib.Pointwise.Reduce
public import Idealize.ShloMosaic.Lib.Pipeline.Value

@[expose] public section

set_option maxRecDepth 16384

noncomputable section

namespace Cert.Proof.Experts.Ref

open Cert.Reference2Ideal Cert.Reference2Ideal.Gen
open Idealize.ShloMosaic hiding ix1 ix2 ix3
open Idealize.ShloMosaic.ValueIdx
open scoped BigOperators

/-! ## What a row should become -/

/-- Row `r` times column `f` of expert `e`'s matrix. -/
def into (X : S147456x1024.Idx → EReal) (W : S32x1024x256.Idx → EReal) (e : Fin 32) (r : Fin 147456) (f : Fin 256) : EReal :=
  ∑ k : Fin 1024, X (ix2 r k) * W (ix3 e k f)

/-- The gated unit's value. -/
def unit (X : S147456x1024.Idx → EReal) (W1 W3 : S32x1024x256.Idx → EReal) (e : Fin 32) (r : Fin 147456) (f : Fin 256) : EReal :=
  into X W1 e r f * Ideal.logistic (into X W1 e r f) * into X W3 e r f

/-- Row `r` through expert `e`, column `d`. -/
def through (X : S147456x1024.Idx → EReal) (W1 W3 : S32x1024x256.Idx → EReal) (W2 : S32x256x1024.Idx → EReal) (e : Fin 32) (r : Fin 147456)
    (d : Fin 1024) : EReal :=
  ∑ f : Fin 256, unit X W1 W3 e r f * W2 (ix3 e f d)

/-- The tile of a row. -/
abbrev tileOf (r : Fin 147456) : Fin 288 := ⟨r.val / 512, by omega⟩

/-! ## The reference's arrays, named -/

section Arrays

variable (X : FVec Ideal S147456x1024 .f32) (G : FVec Ideal S147456 .f32) (E : IVec S288 32) (N : IVec S1 32)
  (W1 W3 : FVec Ideal S32x1024x256 .f32) (W2 : FVec Ideal S32x256x1024 .f32)

/-- The rows' tiles. -/
def tiles : IVec S147456 32 := Routing.pyDiv bcast_S_S147456 (iotaInDim S147456 32 0) (id (constantI S_ 32 512#32))

/-- The rows' gates, zero past the tiles in use. -/
def gates : FVec Ideal S147456 .f32 :=
  select (cmpi .slt tiles (broadcastInDim S147456 ![] bcast_S_S147456 (shapeCast S_ N shapeCasts_S1_S_))) G
    (broadcastInDim S147456 ![] bcast_S_S147456 (id (constant (F := Ideal) S_ .f32 0x00000000#32)))

/-- The rows' experts. -/
def chosen : IVec S147456 32 :=
  Host.gather gather_S288_S147456x1_S147456_n_0_n_n_0_1_1 E (broadcastInDim S147456x1 ![0] bcast_S147456_S147456x1_0
    (select (cmpi .slt tiles (broadcastInDim S147456 ![] bcast_S_S147456 (constantI S_ 32 0#32)))
      (addi tiles (broadcastInDim S147456 ![] bcast_S_S147456 (constantI S_ 32 288#32))) tiles))

/-- Each expert's gate for each row. -/
def dispatch : FVec Ideal S32x147456 .f32 :=
  select (cmpi .eq (broadcastInDim S32x147456 ![0, 1] bcast_S32x1_S32x147456_0_1 (broadcastInDim S32x1 ![0] bcast_S32_S32x1_0 (iotaInDim S32 32 0)))
      (broadcastInDim S32x147456 ![0, 1] bcast_S1x147456_S32x147456_0_1 (broadcastInDim S1x147456 ![1] bcast_S147456_S1x147456_1 (chosen E))))
    (broadcastInDim S32x147456 ![0, 1] bcast_S1x147456_S32x147456_0_1 (broadcastInDim S1x147456 ![1] bcast_S147456_S1x147456_1 (gates G N)))
    (broadcastInDim S32x147456 ![] bcast_S_S32x147456 (id (constant (F := Ideal) S_ .f32 0x00000000#32)))

/-- Every row through an input matrix of every expert. -/
def inner (W : FVec Ideal S32x1024x256 .f32) : FVec Ideal S32x147456x256 .f32 :=
  transpose S32x147456x256 [0, 2, 1] (Host.dotGeneral dot_S32x1024x256_S147456x1024_S32x256x147456_1_1_02_0_n_n none W X)
    transposes_S32x256x147456_S32x147456x256_0_2_1

/-- The gated units. -/
def units : FVec Ideal S32x147456x256 .f32 :=
  mulf (mulf (inner X W1) (Host.divf (broadcastInDim S32x147456x256 ![] bcast_S_S32x147456x256 (constant S_ .f32 0x3F800000#32))
      (addf (broadcastInDim S32x147456x256 ![] bcast_S_S32x147456x256 (constant S_ .f32 0x3F800000#32)) (Host.exp (Host.negf (inner X W1))))))
    (inner X W3)

/-- The result, as rows of 1024. -/
def rows : FVec Ideal S147456x1024 .f32 :=
  Host.reduceAdd (mulf (broadcastInDim S32x147456x1024 ![0, 1, 2] bcast_S32x147456x1_S32x147456x1024_0_1_2
      (broadcastInDim S32x147456x1 ![0, 1] bcast_S32x147456_S32x147456x1_0_1 (dispatch G E N)))
    (Host.dotGeneral dot_S32x147456x256_S32x256x1024_S32x147456x1024_2_1_1_2_0_0 none (units X W1 W3) W2))
    (constant S_ .f32 0x00000000#32) reducesTo_S32x147456x1024_S147456x1024_d0 h_S_

end Arrays

open Idealize.ShloMosaic.TcCoe in
/-- The reference's result. -/
theorem result_eq (m : (ℓ : Loc nD τ sig) → Buf (Elt Ideal) ℓ) (c : Dev nD) :
    Value.res_main_v32 m c = shapeCast S1179648x128 (rows (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6))) shapeCasts_S147456x1024_S1179648x128 := rfl

/-! ## Words -/

theorem tiles_at (r : Fin 147456) : tiles (ix1 r) = BitVec.ofNat 32 (r.val / 512) :=
  Routing.pyDiv_ap bcast_S_S147456 _ _ (ix1 r) (a := r.val) (b := 512) rfl rfl (by omega) (by decide) (by decide)

theorem chosen_at (E : IVec S288 32) (r : Fin 147456) : chosen E (ix1 r) = E (ix1 (tileOf r)) := by
  refine Routing.gather_take1 _ rfl rfl rfl rfl E _ r (tileOf r) ?_ (by decide)
  refine (broadcastInDim_apply _ _ _ _ (ix1 r) ?_).trans ?_
  · intro a; match a with
    | 0 => rfl
  show (if IntOp.cmpi .slt (tiles (ix1 r)) 0#32 = 1#1 then _ else tiles (ix1 r)) = _
  rw [tiles_at, if_neg]
  rw [show (0#32 : BitVec 32) = BitVec.ofNat 32 0 from rfl]
  unfold IntOp.cmpi
  simp only [Routing.slt_ofNat32 (show r.val / 512 < 2 ^ 31 by omega) (show 0 < 2 ^ 31 by decide), Nat.not_lt_zero, decide_false]
  decide

/-- Whether a tile is in use. -/
abbrev inUse (N : IVec S1 32) (t : Nat) : Prop := (BitVec.ofNat 32 t).slt (N (ix1 0)) = true

theorem gates_at (G : FVec Ideal S147456 .f32) (N : IVec S1 32) (r : Fin 147456) :
    gates G N (ix1 r) = if inUse N (r.val / 512) then G (ix1 r) else 0 := by
  have e : broadcastInDim S147456 ![] bcast_S_S147456 (shapeCast S_ N shapeCasts_S1_S_) (ix1 r) = N (ix1 0) :=
    (broadcastInDim_scalar_apply _ _ _).trans (shapeCast_apply _ _ _ (ix1 0) rfl)
  have z : (broadcastInDim S147456 ![] bcast_S_S147456 (id (constant (F := Ideal) S_ .f32 0x00000000#32))) (ix1 r) = (0 : EReal) :=
    (broadcastInDim_scalar_apply _ _ _).trans Ideal.ofBits_zero_f32
  show (if IntOp.cmpi .slt (tiles (ix1 r)) _ = 1#1 then G (ix1 r) else _) = _
  rw [e, z, tiles_at]
  unfold IntOp.cmpi inUse
  cases (BitVec.ofNat 32 (r.val / 512)).slt (N (ix1 0)) <;> simp

theorem dispatch_at (G : FVec Ideal S147456 .f32) (E : IVec S288 32) (N : IVec S1 32) (e : Fin 32) (r : Fin 147456) :
    dispatch G E N (ix2 e r) = if BitVec.ofNat 32 e.val = E (ix1 (tileOf r)) then (if inUse N (r.val / 512) then G (ix1 r) else 0) else 0 := by
  have spread : ∀ {α : Type} (x : S147456.Idx → α), broadcastInDim S32x147456 ![0, 1] bcast_S1x147456_S32x147456_0_1
      (broadcastInDim S1x147456 ![1] bcast_S147456_S1x147456_1 x) (ix2 e r) = x (ix1 r) := fun x => by
    refine (broadcastInDim_apply _ _ _ _ (ix2 0 r) ?_).trans (broadcastInDim_apply _ _ _ _ (ix1 r) ?_)
    · intro a; match a with
      | 0 => rfl
      | 1 => rfl
    · intro a; match a with
      | 0 => rfl
  have num : broadcastInDim S32x147456 ![0, 1] bcast_S32x1_S32x147456_0_1 (broadcastInDim S32x1 ![0] bcast_S32_S32x1_0 (iotaInDim S32 32 0)) (ix2 e r)
      = BitVec.ofNat 32 e.val := by
    refine (broadcastInDim_apply _ _ _ _ (ix2 e 0) ?_).trans ((broadcastInDim_apply _ _ _ _ (ix1 e) ?_).trans rfl)
    · intro a; match a with
      | 0 => rfl
      | 1 => rfl
    · intro a; match a with
      | 0 => rfl
  have z : (broadcastInDim S32x147456 ![] bcast_S_S32x147456 (id (constant (F := Ideal) S_ .f32 0x00000000#32))) (ix2 e r) = (0 : EReal) :=
    (broadcastInDim_scalar_apply _ _ _).trans Ideal.ofBits_zero_f32
  show (if IntOp.cmpi .eq _ _ = 1#1 then _ else _) = _
  rw [num, z, spread (chosen E), spread (gates G N), chosen_at, gates_at]
  have key : ∀ a b : BitVec 32, (IntOp.cmpi .eq a b = 1#1) ↔ a = b := fun a b => by
    unfold IntOp.cmpi
    by_cases h : a = b
    · simp [h]
    · simp only [beq_eq_false_iff_ne.mpr h]
      exact iff_of_false (show ¬ (BitVec.ofBool false = 1#1) by decide) h
  simp only [key]

/-! ## Products -/

theorem inner_at (X : FVec Ideal S147456x1024 .f32) (W : FVec Ideal S32x1024x256 .f32) (e : Fin 32) (r : Fin 147456) (f : Fin 256) :
    inner X W (ix3 e r f) = into X W e r f := by
  refine (transpose_apply _ _ _ _ (ix3 e f r) ?_).trans ?_
  · intro b; match b with
    | ⟨0, _⟩ => rfl
    | ⟨1, _⟩ => rfl
    | ⟨2, _⟩ => rfl
  let D := dot_S32x1024x256_S147456x1024_S32x256x147456_1_1_02_0_n_n
  show FloatOps.dotGeneral D none _ W X (ix3 e f r) = _
  rw [Ideal.dotGeneral_apply, ← Equiv.sum_comp (contrEquiv1 D 1024 rfl rfl).symm]
  refine Finset.sum_congr rfl fun k _ => ?_
  have hk := contrEquiv1_symm_val D 1024 rfl rfl k
  have el : D.lhsIdx (ix3 e f r) ((contrEquiv1 D 1024 rfl rfl).symm k) = ix3 e k f := by
    funext a; apply Fin.ext
    match a with
    | ⟨0, _⟩ => rfl
    | ⟨1, _⟩ => exact hk
    | ⟨2, _⟩ => rfl
  have er : D.rhsIdx (ix3 e f r) ((contrEquiv1 D 1024 rfl rfl).symm k) = ix2 r k := by
    funext a; apply Fin.ext
    match a with
    | ⟨0, _⟩ => rfl
    | ⟨1, _⟩ => exact hk
  rw [el, er]
  exact mul_comm _ _

theorem units_at (X : FVec Ideal S147456x1024 .f32) (W1 W3 : FVec Ideal S32x1024x256 .f32) (e : Fin 32) (r : Fin 147456) (f : Fin 256) :
    units X W1 W3 (ix3 e r f) = unit X W1 W3 e r f := by
  have o : (broadcastInDim S32x147456x256 ![] bcast_S_S32x147456x256 (constant (F := Ideal) S_ .f32 0x3F800000#32)) (ix3 e r f) = (1 : EReal) :=
    (broadcastInDim_scalar_apply _ _ _).trans Ideal.ofBits_one_f32
  show inner X W1 (ix3 e r f) * Ideal.div _ (_ + Ideal.exp (-(inner X W1 (ix3 e r f)))) * inner X W3 (ix3 e r f) = _
  rw [o, inner_at, inner_at]
  rfl

theorem outer_at (X : FVec Ideal S147456x1024 .f32) (W1 W3 : FVec Ideal S32x1024x256 .f32) (W2 : FVec Ideal S32x256x1024 .f32) (e : Fin 32)
    (r : Fin 147456) (d : Fin 1024) :
    Host.dotGeneral dot_S32x147456x256_S32x256x1024_S32x147456x1024_2_1_1_2_0_0 none (units X W1 W3) W2 (ix3 e r d) = through X W1 W3 W2 e r d := by
  let D := dot_S32x147456x256_S32x256x1024_S32x147456x1024_2_1_1_2_0_0
  show FloatOps.dotGeneral D none _ (units X W1 W3) W2 (ix3 e r d) = _
  rw [Ideal.dotGeneral_apply, ← Equiv.sum_comp (contrEquiv1 D 256 rfl rfl).symm]
  refine Finset.sum_congr rfl fun k _ => ?_
  have hk := contrEquiv1_symm_val D 256 rfl rfl k
  have el : D.lhsIdx (ix3 e r d) ((contrEquiv1 D 256 rfl rfl).symm k) = ix3 e r k := by
    funext a; apply Fin.ext
    match a with
    | ⟨0, _⟩ => rfl
    | ⟨1, _⟩ => rfl
    | ⟨2, _⟩ => exact hk
  have er : D.rhsIdx (ix3 e r d) ((contrEquiv1 D 256 rfl rfl).symm k) = ix3 e k d := by
    funext a; apply Fin.ext
    match a with
    | ⟨0, _⟩ => rfl
    | ⟨1, _⟩ => exact hk
    | ⟨2, _⟩ => rfl
  rw [el, er, units_at]

/-! ## The result -/

/-- A row of the result: its tile's expert's, times its gate. -/
theorem rows_at (X : FVec Ideal S147456x1024 .f32) (G : FVec Ideal S147456 .f32) (E : IVec S288 32) (N : IVec S1 32)
    (W1 W3 : FVec Ideal S32x1024x256 .f32) (W2 : FVec Ideal S32x256x1024 .f32) (r : Fin 147456) (d : Fin 1024)
    (h : (E (ix1 (tileOf r))).toNat < 32) :
    rows X G E N W1 W3 W2 (ix2 r d)
      = (if inUse N (r.val / 512) then G (ix1 r) else 0) * through X W1 W3 W2 ⟨(E (ix1 (tileOf r))).toNat, h⟩ r d := by
  unfold rows
  rw [hostReduceAdd_apply, Ideal.hostReduceAdd_r3_a0]
  have z : (constant (F := Ideal) S_ .f32 0x00000000#32) (Shape.Idx.first h_S_) = (0 : EReal) := Ideal.ofBits_zero_f32
  have term : ∀ e : Fin 32, mulf (broadcastInDim S32x147456x1024 ![0, 1, 2] bcast_S32x147456x1_S32x147456x1024_0_1_2
        (broadcastInDim S32x147456x1 ![0, 1] bcast_S32x147456_S32x147456x1_0_1 (dispatch G E N)))
      (Host.dotGeneral dot_S32x147456x256_S32x256x1024_S32x147456x1024_2_1_1_2_0_0 none (units X W1 W3) W2) (ix3 e r d)
      = (if BitVec.ofNat 32 e.val = E (ix1 (tileOf r)) then (if inUse N (r.val / 512) then G (ix1 r) else 0) else 0) * through X W1 W3 W2 e r d := by
    intro e
    have b : broadcastInDim S32x147456x1024 ![0, 1, 2] bcast_S32x147456x1_S32x147456x1024_0_1_2
        (broadcastInDim S32x147456x1 ![0, 1] bcast_S32x147456_S32x147456x1_0_1 (dispatch G E N)) (ix3 e r d) = dispatch G E N (ix2 e r) := by
      refine (broadcastInDim_apply _ _ _ _ (ix3 e r 0) ?_).trans (broadcastInDim_apply _ _ _ _ (ix2 e r) ?_)
      · intro a; match a with
        | 0 => rfl
        | 1 => rfl
        | 2 => rfl
      · intro a; match a with
        | 0 => rfl
        | 1 => rfl
    show _ * _ = _
    rw [b, outer_at, dispatch_at]
  refine (congrArg₂ (· + ·) z (Finset.sum_congr rfl fun e _ => term e)).trans ?_
  rw [zero_add, Finset.sum_eq_single (⟨(E (ix1 (tileOf r))).toNat, h⟩ : Fin 32)]
  · rw [if_pos ((BitVec.ofNat_toNat 32 _).trans (BitVec.setWidth_eq _))]
  · intro e _ hne
    rw [if_neg, zero_mul]
    intro q
    refine hne (Fin.ext ?_)
    have := congrArg BitVec.toNat q
    rw [BitVec.toNat_ofNat] at this
    have := e.isLt
    dsimp only
    omega
  · intro hn; exact absurd (Finset.mem_univ _) hn

end Cert.Proof.Experts.Ref

end
-- ==== Proof.ExpertsTile.lean ====
/-
  One tile of the `_experts` call over the extended reals, element by element: what the body stores of its rows.
-/
module

public import proofs.«01_k».proof.Proof.ExpertsBody
public import proofs.«01_k».proof.Proof.ExpertsRef

@[expose] public section

set_option maxRecDepth 16384

noncomputable section

namespace Cert.Proof.Experts.Tile

open Cert.Kernel2Ideal Cert.Kernel2Ideal.Gen
open Idealize.ShloMosaic hiding ix1 ix2 ix3
open Idealize.ShloMosaic.ValueIdx
open scoped BigOperators

/-- Row `p` of a tile, column `k`. -/
abbrev row (x : S4096x128.Idx → EReal) (p : Fin 512) (k : Fin 1024) : EReal :=
  x (ix2 ⟨8 * p.val + k.val / 128, by omega⟩ ⟨k.val % 128, by omega⟩)

/-- The lane groups side by side are the tile's rows. -/
theorem joined_at (x : FVec Ideal S4096x128 .f32) (hc : S512x128.ShapeCasts S512x128)
    (h : Shape.Concatenates ((List.ofFn fun n : Fin 8 => (⟨S512x128, shapeCast S512x128 (lane (F := Ideal) n x) hc⟩ : (s : Shape) × (s.Idx → EReal))).map (·.1)) S512x1024 1)
    (p : Fin 512) (k : Fin 1024) :
    concatenate S512x1024 1 (List.ofFn fun n : Fin 8 => (⟨S512x128, shapeCast S512x128 (lane (F := Ideal) n x) hc⟩ : (s : Shape) × (s.Idx → EReal))) h (ix2 p k)
      = row x p k := by
  refine (concatenate_ofFn_apply (s₁ := S512x128) 1 (fun n : Fin 8 => shapeCast S512x128 (lane (F := Ideal) n x) hc) h rfl 128 rfl (ix2 p k)
    ⟨k.val / 128, by omega⟩ rfl (ix2 p ⟨k.val % 128, by omega⟩) rfl ?_).trans ?_
  · intro b hb
    match b with
    | ⟨0, _⟩ => rfl
    | ⟨1, _⟩ => exact absurd rfl hb
  exact shapeCast_apply _ _ _ (ix2 p ⟨k.val % 128, by omega⟩) rfl

/-- A product into an expert's inner width. -/
theorem into_at (J : FVec Ideal S512x1024 .f32) (w : FVec Ideal S1x1024x256 .bf16) (p : Fin 512) (f : Fin 256) :
    matmul dot_S512x1024_S1024x256_S512x256_1_0_0_1_n_n none (truncf .bf16 J bitsLt_bf16_f32)
        (shapeCast S1024x256 w shapeCasts_S1x1024x256_S1024x256) (constant S512x256 .f32 0x00000000#32) (ix2 p f)
      = ∑ k : Fin 1024, J (ix2 p k) * w (ix3 0 k f) := by
  let D := dot_S512x1024_S1024x256_S512x256_1_0_0_1_n_n
  refine (Ideal.matmul_constant_zero_apply D none (truncf .bf16 J bitsLt_bf16_f32)
    (shapeCast S1024x256 w shapeCasts_S1x1024x256_S1024x256) (ix2 p f)).trans ?_
  rw [← Equiv.sum_comp (contrEquiv1 D 1024 rfl rfl).symm]
  refine Finset.sum_congr rfl fun k _ => ?_
  have hk := contrEquiv1_symm_val D 1024 rfl rfl k
  have el : D.lhsIdx (ix2 p f) ((contrEquiv1 D 1024 rfl rfl).symm k) = ix2 p k := by
    funext a; apply Fin.ext
    match a with
    | ⟨0, _⟩ => rfl
    | ⟨1, _⟩ => exact hk
  have er : D.rhsIdx (ix2 p f) ((contrEquiv1 D 1024 rfl rfl).symm k) = ix2 k f := by
    funext a; apply Fin.ext
    match a with
    | ⟨0, _⟩ => exact hk
    | ⟨1, _⟩ => rfl
  rw [el, er]
  refine congrArg (J (ix2 p k) * ·) (shapeCast_apply w _ (ix2 k f) (ix3 0 k f) ?_)
  rw [Shape.rowMajor_val_three, Shape.rowMajor_val_two]
  show (0 * 1024 + k.val) * 256 + f.val = k.val * 256 + f.val
  omega

/-- The product out of it. -/
theorem out_at (H : FVec Ideal S512x256 .bf16) (w : FVec Ideal S1x256x1024 .bf16) (p : Fin 512) (d : Fin 1024) :
    matmul dot_S512x256_S256x1024_S512x1024_1_0_0_1_n_n none H
        (shapeCast S256x1024 w shapeCasts_S1x256x1024_S256x1024) (constant S512x1024 .f32 0x00000000#32) (ix2 p d)
      = ∑ f : Fin 256, H (ix2 p f) * w (ix3 0 f d) := by
  let D := dot_S512x256_S256x1024_S512x1024_1_0_0_1_n_n
  refine (Ideal.matmul_constant_zero_apply D none H (shapeCast S256x1024 w shapeCasts_S1x256x1024_S256x1024) (ix2 p d)).trans ?_
  rw [← Equiv.sum_comp (contrEquiv1 D 256 rfl rfl).symm]
  refine Finset.sum_congr rfl fun k _ => ?_
  have hk := contrEquiv1_symm_val D 256 rfl rfl k
  have el : D.lhsIdx (ix2 p d) ((contrEquiv1 D 256 rfl rfl).symm k) = ix2 p k := by
    funext a; apply Fin.ext
    match a with
    | ⟨0, _⟩ => rfl
    | ⟨1, _⟩ => exact hk
  have er : D.rhsIdx (ix2 p d) ((contrEquiv1 D 256 rfl rfl).symm k) = ix2 k d := by
    funext a; apply Fin.ext
    match a with
    | ⟨0, _⟩ => exact hk
    | ⟨1, _⟩ => rfl
  rw [el, er]
  refine congrArg (H (ix2 p k) * ·) (shapeCast_apply w _ (ix2 k d) (ix3 0 k d) ?_)
  rw [Shape.rowMajor_val_three, Shape.rowMajor_val_two]
  show (0 * 256 + k.val) * 1024 + d.val = k.val * 1024 + d.val
  omega

/-- A tile's row times a column of an expert's matrix. -/
abbrev times (x : S4096x128.Idx → EReal) (w : S1x1024x256.Idx → EReal) (p : Fin 512) (f : Fin 256) : EReal :=
  ∑ k : Fin 1024, row x p k * w (ix3 0 k f)

/-- The hidden values, element by element. -/
theorem hidden_at (x : FVec Ideal S4096x128 .f32) (w1 w3 : FVec Ideal S1x1024x256 .bf16) (p : Fin 512) (f : Fin 256) :
    hidden (F := Ideal) x w1 w3 (ix2 p f) = times x w1 p f * Ideal.logistic (times x w1 p f) * times x w3 p f := by
  have key : ∀ J : FVec Ideal S512x1024 .f32, (∀ k, J (ix2 p k) = row x p k) → ∀ w : FVec Ideal S1x1024x256 .bf16,
      matmul dot_S512x1024_S1024x256_S512x256_1_0_0_1_n_n none (truncf .bf16 J bitsLt_bf16_f32)
        (shapeCast S1024x256 w shapeCasts_S1x1024x256_S1024x256) (constant S512x256 .f32 0x00000000#32) (ix2 p f) = times x w p f :=
    fun J e w => (into_at J w p f).trans (Finset.sum_congr rfl fun k _ => by rw [e k])
  have J := fun k => joined_at x shapeCasts_S512x128_S512x128
    concatenates_S512x128_S512x128_S512x128_S512x128_S512x128_S512x128_S512x128_S512x128_S512x1024_d1 p k
  have e1 := key _ J w1
  have e3 := key _ J w3
  refine Eq.trans ?_ (congrArg₂ (fun a b : EReal => a * Ideal.logistic a * b) e1 e3)
  rfl

/-- The gated rows, element by element. -/
theorem gatedRows_at (x : FVec Ideal S4096x128 .f32) (g : FVec Ideal S512x1 .f32) (w1 w3 : FVec Ideal S1x1024x256 .bf16)
    (w2 : FVec Ideal S1x256x1024 .bf16) (p : Fin 512) (d : Fin 1024) :
    gatedRows (F := Ideal) x g w1 w3 w2 (ix2 p d)
      = g (ix2 p 0) * ∑ f : Fin 256, times x w1 p f * Ideal.logistic (times x w1 p f) * times x w3 p f * w2 (ix3 0 f d) := by
  have eg : broadcastTo S512x1024 (shapeCast S512x1 g shapeCasts_S512x1_S512x1) broadcasts_S512x1_S512x1024 (ix2 p d) = g (ix2 p 0) := by
    refine (broadcastTo_apply _ _ (ix2 p d) (ix2 p 0) ?_).trans (shapeCast_apply _ _ _ (ix2 p 0) rfl)
    intro a; match a with
    | ⟨0, _⟩ => rfl
    | ⟨1, _⟩ => rfl
  refine (congrArg₂ (fun a b : EReal => a * b) eg (out_at (hidden (F := Ideal) x w1 w3) w2 p d)).trans ?_
  refine congrArg (g (ix2 p 0) * ·) (Finset.sum_congr rfl fun f _ => ?_)
  rw [hidden_at]

end Cert.Proof.Experts.Tile

end
-- ==== Proof.ExpertsValue.lean ====
/-
  The `_experts` call over the extended reals: what its run leaves is, element by element, what the reference computes.
-/
module

public import proofs.«01_k».proof.Proof.ExpertsFinal
public import proofs.«01_k».proof.Proof.ExpertsTile
public import proofs.«01_k».proof.Proof.Gen.Pre_in_experts
public import proofs.«01_k».proof.Defs

@[expose] public section

set_option maxRecDepth 16384

noncomputable section

namespace Cert.Proof.Experts

open Cert.Kernel2Ideal Cert.Kernel2Ideal.Gen
open Idealize.ShloMosaic hiding ix1 ix2 ix3
open Idealize.ShloMosaic.TcCoe Idealize.ShloMosaic.StableHlo
open Idealize.ShloMosaic.ValueIdx
open Idealize.SL.Sem
open Idealize.ShloMosaic.Pipeline (Dat Cfg Window)
open scoped BigOperators

/-! ## Over any floats: the arrays and the blocks -/

section Blocks

variable {F : FTy → Type} [FloatOps F]
variable (m : (ℓ : Loc nD τ sig) → Buf (Elt F) ℓ) (c : Dev nD)

/-- The program's arguments. -/
abbrev rowsIn : S147456x1024.Idx → Elt F .f32 := m ((c.tc : Thread nD τ).loc main_arg0)
abbrev gatesIn : S147456.Idx → Elt F .f32 := m ((c.tc : Thread nD τ).loc main_arg1)
abbrev expertsIn : S288.Idx → BitVec 32 := m ((c.tc : Thread nD τ).loc main_arg2)
abbrev usedIn : S1.Idx → BitVec 32 := m ((c.tc : Thread nD τ).loc main_arg3)
abbrev w1In : S32x1024x256.Idx → Elt F .f32 := m ((c.tc : Thread nD τ).loc main_arg4)
abbrev w3In : S32x1024x256.Idx → Elt F .f32 := m ((c.tc : Thread nD τ).loc main_arg5)
abbrev w2In : S32x256x1024.Idx → Elt F .f32 := m ((c.tc : Thread nD τ).loc main_arg6)

theorem entry_rows : entry m c main_v3 = shapeCast S1179648x128 (rowsIn m c) shapeCasts_S147456x1024_S1179648x128 := by
  show after hostOps0 _ _ = _
  after_results <;> rfl

theorem entry_gates : entry m c main_v4 = shapeCast S147456x1 (gatesIn m c) shapeCasts_S147456_S147456x1 := by
  show after hostOps0 _ _ = _
  after_results <;> rfl

theorem entry_w1 : entry m c main_v0 = truncf .bf16 (w1In m c) bitsLt_bf16_f32 := by
  show after hostOps0 _ _ = _
  after_results <;> rfl

theorem entry_w3 : entry m c main_v1 = truncf .bf16 (w3In m c) bitsLt_bf16_f32 := by
  show after hostOps0 _ _ = _
  after_results <;> rfl

theorem entry_w2 : entry m c main_v2 = truncf .bf16 (w2In m c) bitsLt_bf16_f32 := by
  show after hostOps0 _ _ = _
  after_results <;> rfl

variable (h : InExperts m)

/-- The number of tiles in use is the table's word. -/
theorem used_eq : used (F := F) (tables m 1) = usedIn m 0 (ix1 0) := by
  refine congrArg (usedIn m 0) (funext fun a => Fin.ext ?_)
  match a with
  | ⟨0, _⟩ => rfl

/-- A tile's expert, as the weights' windows read it. -/
theorem index2 (t : Fin (pipe m h).N) :
    ((pipe m h).win (2 : Fin 6)).index t = ![(expertsIn m 0 (ix1 ⟨t.val, lt_of_lt_of_eq t.isLt N_0⟩)).toNat, 0, 0] := by
  have ht : t.val < 288 := lt_of_lt_of_eq t.isLt N_0
  have key : ∀ x : S288.Idx, (x 0).val = t.val → expertsIn m 0 x = expertsIn m 0 (ix1 ⟨t.val, ht⟩) := fun x e =>
    congrArg (expertsIn m 0) (funext fun a => Fin.ext (by
      match a with
      | ⟨0, _⟩ => exact e))
  show cc0_transform_2 k0_off1_inb numel1_S1 (tables m) (crd m h t) = _
  unfold cc0_transform_2
  refine congrArg (fun w : BitVec 32 => (![w.toNat, 0, 0] : Fin 3 → Nat)) (key _ ?_)
  show (BitVec.ofNat 32 (crd m h t 0).val).toNat + 1 * 0 = t.val
  rw [crd_val, BitVec.toNat_ofNat, Nat.mod_eq_of_lt (by omega)]
  rfl

theorem index3 (t : Fin (pipe m h).N) :
    ((pipe m h).win (3 : Fin 6)).index t = ![(expertsIn m 0 (ix1 ⟨t.val, lt_of_lt_of_eq t.isLt N_0⟩)).toNat, 0, 0] := index2 m h t

theorem index4 (t : Fin (pipe m h).N) :
    ((pipe m h).win (4 : Fin 6)).index t = ![(expertsIn m 0 (ix1 ⟨t.val, lt_of_lt_of_eq t.isLt N_0⟩)).toNat, 0, 0] := index2 m h t

theorem block0_at (t : Fin (pipe m h).N) (y : S4096x128.Idx) (r : Fin 147456) (k : Fin 1024)
    (e : r.val * 8 + k.val / 128 = 4096 * t.val + (y 0).val) (e' : k.val % 128 = (y 1).val) :
    block m h c 0 t y = rowsIn m c (ix2 r k) := by
  refine (congrFun (entry_rows m c) _).trans (shapeCast_apply _ _ _ (ix2 r k) ?_)
  have p0 := Window.rect_emb_val ((pipe m h).win (0 : Fin 6)) t y (0 : Fin 2)
  have p1 := Window.rect_emb_val ((pipe m h).win (0 : Fin 6)) t y (1 : Fin 2)
  rw [index0] at p0 p1
  have p0' : ((((pipe m h).win (0 : Fin 6)).rect t).emb y (0 : Fin 2) : ℕ) = t.val * 4096 + (y 0).val := p0
  have p1' : ((((pipe m h).win (0 : Fin 6)).rect t).emb y (1 : Fin 2) : ℕ) = 0 * 128 + (y 1).val := p1
  rw [Shape.rowMajor_val_two, Shape.rowMajor_val_two]
  refine Eq.trans ?_ (congrArg₂ (fun a b : ℕ => a * 128 + b) p0' p1').symm
  show r.val * 1024 + k.val = _
  omega

theorem block1_at (t : Fin (pipe m h).N) (y : S512x1.Idx) (r : Fin 147456) (e : r.val = 512 * t.val + (y 0).val) :
    block m h c 1 t y = gatesIn m c (ix1 r) := by
  refine (congrFun (entry_gates m c) _).trans (shapeCast_apply _ _ _ (ix1 r) ?_)
  have p0 := Window.rect_emb_val ((pipe m h).win (1 : Fin 6)) t y (0 : Fin 2)
  have p1 := Window.rect_emb_val ((pipe m h).win (1 : Fin 6)) t y (1 : Fin 2)
  rw [index1] at p0 p1
  have hy : (y 1).val = 0 := by have q : (y 1).val < 1 := (y 1).isLt; omega
  have p0' : ((((pipe m h).win (1 : Fin 6)).rect t).emb y (0 : Fin 2) : ℕ) = t.val * 512 + (y 0).val := p0
  have p1' : ((((pipe m h).win (1 : Fin 6)).rect t).emb y (1 : Fin 2) : ℕ) = 0 * 1 + (y 1).val := p1
  rw [Shape.rowMajor_val_two, Shape.rowMajor_val_one]
  refine Eq.trans ?_ (congrArg₂ (fun a b : ℕ => a * 1 + b) p0' p1').symm
  show r.val = _
  omega

theorem block2_at (t : Fin (pipe m h).N) (e : Fin 32) (he : (expertsIn m 0 (ix1 ⟨t.val, lt_of_lt_of_eq t.isLt N_0⟩)).toNat = e.val)
    (k : Fin 1024) (f : Fin 256) : block m h c 2 t (ix3 0 k f : S1x1024x256.Idx) = truncf .bf16 (w1In m c) bitsLt_bf16_f32 (ix3 e k f) := by
  refine (congrFun (entry_w1 m c) _).trans (congrArg (truncf .bf16 (w1In m c) bitsLt_bf16_f32) (funext fun a => Fin.ext ?_))
  refine (Window.rect_emb_val ((pipe m h).win (2 : Fin 6)) t (ix3 0 k f : S1x1024x256.Idx) a).trans ?_
  rw [index2, he]
  match a with
  | ⟨0, _⟩ => show e.val * 1 + 0 = e.val; omega
  | ⟨1, _⟩ => show 0 * 1024 + k.val = k.val; omega
  | ⟨2, _⟩ => show 0 * 256 + f.val = f.val; omega

theorem block3_at (t : Fin (pipe m h).N) (e : Fin 32) (he : (expertsIn m 0 (ix1 ⟨t.val, lt_of_lt_of_eq t.isLt N_0⟩)).toNat = e.val)
    (k : Fin 1024) (f : Fin 256) : block m h c 3 t (ix3 0 k f : S1x1024x256.Idx) = truncf .bf16 (w3In m c) bitsLt_bf16_f32 (ix3 e k f) := by
  refine (congrFun (entry_w3 m c) _).trans (congrArg (truncf .bf16 (w3In m c) bitsLt_bf16_f32) (funext fun a => Fin.ext ?_))
  refine (Window.rect_emb_val ((pipe m h).win (3 : Fin 6)) t (ix3 0 k f : S1x1024x256.Idx) a).trans ?_
  rw [index3, he]
  match a with
  | ⟨0, _⟩ => show e.val * 1 + 0 = e.val; omega
  | ⟨1, _⟩ => show 0 * 1024 + k.val = k.val; omega
  | ⟨2, _⟩ => show 0 * 256 + f.val = f.val; omega

theorem block4_at (t : Fin (pipe m h).N) (e : Fin 32) (he : (expertsIn m 0 (ix1 ⟨t.val, lt_of_lt_of_eq t.isLt N_0⟩)).toNat = e.val)
    (k : Fin 256) (f : Fin 1024) : block m h c 4 t (ix3 0 k f : S1x256x1024.Idx) = truncf .bf16 (w2In m c) bitsLt_bf16_f32 (ix3 e k f) := by
  refine (congrFun (entry_w2 m c) _).trans (congrArg (truncf .bf16 (w2In m c) bitsLt_bf16_f32) (funext fun a => Fin.ext ?_))
  refine (Window.rect_emb_val ((pipe m h).win (4 : Fin 6)) t (ix3 0 k f : S1x256x1024.Idx) a).trans ?_
  rw [index4, he]
  match a with
  | ⟨0, _⟩ => show e.val * 1 + 0 = e.val; omega
  | ⟨1, _⟩ => show 0 * 256 + k.val = k.val; omega
  | ⟨2, _⟩ => show 0 * 1024 + f.val = f.val; omega

end Blocks

/-! ## Over the extended reals: the result -/

section Result

variable (m : (ℓ : Loc nD τ sig) → Buf (Elt Ideal) ℓ) (h : InExperts m) (c : Dev nD)

/-- A row of a tile in use: its gate times the row through the tile's expert. -/
theorem tile_at (t : Fin (pipe m h).N) (r : Fin 147456) (d : Fin 1024) (p : Fin 512) (hr : r.val = 512 * t.val + p.val) (e : Fin 32)
    (he : (expertsIn m 0 (ix1 ⟨t.val, lt_of_lt_of_eq t.isLt N_0⟩)).toNat = e.val) :
    gatedRows (F := Ideal) (block m h c 0 t) (block m h c 1 t) (block m h c 2 t) (block m h c 3 t) (block m h c 4 t) (ix2 p d)
      = gatesIn m c (ix1 r) * Ref.through (rowsIn m c) (w1In m c) (w3In m c) (w2In m c) e r d := by
  refine (Tile.gatedRows_at _ _ _ _ _ p d).trans ?_
  have ex : ∀ k : Fin 1024, Tile.row (block m h c 0 t) p k = rowsIn m c (ix2 r k) := fun k =>
    block0_at m c h t _ r k (by show r.val * 8 + k.val / 128 = 4096 * t.val + (8 * p.val + k.val / 128); omega) rfl
  have e1 : ∀ f : Fin 256, Tile.times (block m h c 0 t) (block m h c 2 t) p f = Ref.into (rowsIn m c) (w1In m c) e r f := fun f =>
    Finset.sum_congr rfl fun k _ => congrArg₂ (fun a b : EReal => a * b) (ex k) (block2_at m c h t e he k f)
  have e3 : ∀ f : Fin 256, Tile.times (block m h c 0 t) (block m h c 3 t) p f = Ref.into (rowsIn m c) (w3In m c) e r f := fun f =>
    Finset.sum_congr rfl fun k _ => congrArg₂ (fun a b : EReal => a * b) (ex k) (block3_at m c h t e he k f)
  refine congrArg₂ (fun a b : EReal => a * b) (block1_at m c h t _ r hr) (Finset.sum_congr rfl fun f _ => ?_)
  rw [e1, e3]
  exact congrArg (Ref.unit (rowsIn m c) (w1In m c) (w3In m c) e r f * ·) (block4_at m c h t e he f d)

/-- What the run leaves is the reference's result. -/
theorem value : finished m h c = shapeCast S1179648x128 (Ref.rows (rowsIn m c) (gatesIn m c) (expertsIn m c) (usedIn m c) (w1In m c) (w3In m c) (w2In m c))
    Cert.Reference2Ideal.Gen.shapeCasts_S147456x1024_S1179648x128 := by
  obtain rfl : c = 0 := Subsingleton.elim _ _
  funext i
  have h0 : (i 0).val < 1179648 := (i 0).isLt
  have h1 : (i 1).val < 128 := (i 1).isLt
  let r : Fin 147456 := ⟨(i 0).val / 8, by omega⟩
  let d : Fin 1024 := ⟨128 * ((i 0).val % 8) + (i 1).val, by omega⟩
  let e : Fin 32 := ⟨(expertsIn m 0 (ix1 (Ref.tileOf r))).toNat, h _⟩
  refine Eq.trans ?_ ((shapeCast_apply _ _ i (ix2 r d) ?_).trans
    (Ref.rows_at (rowsIn m 0) (gatesIn m 0) (expertsIn m 0) (usedIn m 0) (w1In m 0) (w3In m 0) (w2In m 0) r d (h _))).symm
  swap
  · rw [Shape.rowMajor_val_two, Shape.rowMajor_val_two]
    show (i 0).val / 8 * 1024 + (128 * ((i 0).val % 8) + (i 1).val) = (i 0).val * 128 + (i 1).val
    omega
  have hn : (i 0).val / 4096 = r.val / 512 := by show _ = (i 0).val / 8 / 512; omega
  let t : Fin (pipe m h).N := point m h ((i 0).val / 4096) (by omega)
  have ec : k0_cond1 (crd m h t) (used (F := Ideal) (tables m 1)) = BitVec.ofBool ((BitVec.ofNat 32 (r.val / 512)).slt (usedIn m 0 (ix1 0))) := by
    rw [cond1_eq, crd_val, used_eq, ← hn]
  show left m h 0 t _ = _
  unfold left
  rw [ec]
  by_cases hu : Ref.inUse (usedIn m 0) (r.val / 512)
  · have hu' : (BitVec.ofNat 32 (r.val / 512)).slt (usedIn m 0 (ix1 0)) = true := hu
    rw [if_pos hu, hu', if_pos (show BitVec.ofBool true = 1#1 from rfl)]
    have et : (⟨t.val, lt_of_lt_of_eq t.isLt N_0⟩ : Fin 288) = Ref.tileOf r := Fin.ext hn
    refine Eq.trans ?_ (tile_at m h 0 t r d ⟨(i 0).val / 8 % 512, by omega⟩
      (by show (i 0).val / 8 = 512 * ((i 0).val / 4096) + (i 0).val / 8 % 512; omega) e (by rw [et]))
    show gatedRows (F := Ideal) _ _ _ _ _ _ = _
    refine congrArg (gatedRows (F := Ideal) _ _ _ _ _) (funext fun a => Fin.ext ?_)
    match a with
    | ⟨0, _⟩ => show (i 0).val % 4096 / 8 = (i 0).val / 8 % 512; omega
    | ⟨1, _⟩ => show 128 * ((i 0).val % 4096 % 8) + (i 1).val = 128 * ((i 0).val % 8) + (i 1).val; omega
  · have hu' : (BitVec.ofNat 32 (r.val / 512)).slt (usedIn m 0 (ix1 0)) = false := Bool.eq_false_iff.mpr hu
    rw [if_neg hu, hu', if_neg (show ¬ BitVec.ofBool false = 1#1 by decide), zero_mul]
    exact Ideal.ofBits_zero_f32

end Result

/-! ## The precondition -/

theorem inExperts_of_pre {F : FTy → Type} [FloatOps F] (X : S147456x1024.Idx → Elt F .f32) (G : S147456.Idx → Elt F .f32) (E : S288.Idx → BitVec 32)
    (N : S1.Idx → BitVec 32) (W1 W3 : S32x1024x256.Idx → Elt F .f32) (W2 : S32x256x1024.Idx → Elt F .f32)
    (h : Cert.Pre_in_experts.fn (F := F) X G E N W1 W3 W2 = fun _ => 1#1) (j : S288.Idx) : (E j).toNat < 32 := by
  have andi_ofBool (p q : Bool) : IntOp.andi (BitVec.ofBool p) (BitVec.ofBool q) = BitVec.ofBool (p && q) := by
    cases p <;> cases q <;> decide
  have ofBool_one (p : Bool) : (BitVec.ofBool p = 1#1) ↔ p = true := by cases p <;> decide
  have key : ∀ v : BitVec 32, IntOp.andi (IntOp.cmpi .sge v 0#32) (IntOp.cmpi .slt v 32#32) = 1#1 → v.toNat < 32 := by
    intro v e
    simp only [IntOp.cmpi, andi_ofBool, ofBool_one, Bool.and_eq_true, BitVec.sle_eq_decide, BitVec.slt_eq_decide,
      decide_eq_true_eq, BitVec.toInt_eq_toNat_cond, BitVec.toNat_ofNat, Nat.reducePow, Nat.reduceMod] at e
    omega
  have e := congrFun h j
  simp only [Cert.Pre_in_experts.fn, andi, cmpi, broadcastInDim, constantI] at e
  exact key _ e

end Cert.Proof.Experts

end
-- ==== Proof.ExpertsFrame.lean ====
/-
  The `_experts` call's frame at `Bits`: the two readings are one text, so it is the run over any floats, read there.
-/
module

public import proofs.«01_k».proof.Proof.ExpertsValue
public import proofs.«01_k».proof.Proof.Gen.Kernel2
public import proofs.«01_k».proof.Defs
public import Idealize.ShloMosaic.Lib.Pipeline.Regions

@[expose] public section

set_option maxRecDepth 16384

noncomputable section

namespace Cert.Proof.Experts

open Cert.Kernel2Ideal Cert.Kernel2Ideal.Gen
open Idealize.ShloMosaic
open Idealize.SL.Sem

/-- From a memory whose experts are in range the call runs, its arguments unchanged and no semaphore counting. -/
abbrev Framed (F : FTy → Type) [FloatOps F] : Prop :=
  ∀ (m : (ℓ : Loc nD τ sig) → Buf (Elt F) ℓ) (g : Dev nD → PrngReg),
    (∀ c : Dev nD, Cert.Pre_in_experts.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) = fun _ => 1#1) →
    θ_run (defs (F := F)) (onTc (τ := τ) (main (F := F))) ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6))
      ∧ r.2.sem = fun _ => 0)

theorem in_range {F : FTy → Type} [FloatOps F] (m : (ℓ : Loc nD τ sig) → Buf (Elt F) ℓ)
    (h : ∀ c : Dev nD, Cert.Pre_in_experts.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) = fun _ => 1#1) : InExperts m :=
  fun x => inExperts_of_pre _ _ _ _ _ _ _ (h 0) x

theorem framed (F : FTy → Type) [FloatOps F] : Framed F := fun m g hpre =>
  (θ_run defs _ _).mono (fun _ h => ⟨fun c => (h.1 c).2, h.2⟩) (leaves (F := F) m (in_range m hpre) g)

theorem same_text : Framed Bits = Cert.quiescent_Kernel2 := by chain_rfl

end Cert.Proof.Experts

end
-- ==== Proof.Attend.lean ====
/-
  One query's attention over finite scores, on the extended reals: the powers of two of scaled scores, divided once at the end,
  give what the softmax gives.
-/
module

public import Idealize.ShloMosaic.PureOps.Ideal
public import Mathlib.Analysis.SpecialFunctions.Pow.Real

@[expose] public section

noncomputable section

namespace Cert.Proof.Attend

open Idealize.ShloMosaic
open scoped BigOperators

variable {n : Nat}

/-- The greatest of the scores. -/
def most (x : Fin n → EReal) : EReal := (Finset.univ : Finset (Fin n)).fold max ⊥ x

/-- The greatest of finite scores is one of them. -/
theorem most_coe [NeZero n] (r : Fin n → ℝ) : ∃ M : ℝ, (∀ k, r k ≤ M) ∧ (∃ k, r k = M) ∧ most (fun k => (r k : EReal)) = (M : EReal) := by
  obtain ⟨k, -, hk⟩ := Finset.exists_max_image (Finset.univ : Finset (Fin n)) r ⟨0, Finset.mem_univ _⟩
  refine ⟨r k, fun j => hk j (Finset.mem_univ _), ⟨k, rfl⟩, le_antisymm ?_ ?_⟩
  · exact (Finset.fold_max_le _).mpr ⟨bot_le, fun j _ => EReal.coe_le_coe_iff.mpr (hk j (Finset.mem_univ _))⟩
  · exact (Finset.le_fold_max _).mpr (Or.inr ⟨k, Finset.mem_univ _, le_rfl⟩)

/-- A sum of finite values is finite. -/
theorem sum_coe {ι : Type} (s : Finset ι) (r : ι → ℝ) : ∑ k ∈ s, (r k : EReal) = ((∑ k ∈ s, r k : ℝ) : EReal) := by
  classical
  induction s using Finset.induction_on with
  | empty => simp
  | insert a s ha ih => rw [Finset.sum_insert ha, Finset.sum_insert ha, ih, EReal.coe_add]

/-- A finite factor that is not negative goes into a sum. -/
theorem mul_sum {ι : Type} (s : Finset ι) (c : ℝ) (hc : 0 ≤ c) (a : ι → EReal) : (c : EReal) * ∑ k ∈ s, a k = ∑ k ∈ s, (c : EReal) * a k := by
  classical
  induction s using Finset.induction_on with
  | empty => simp
  | insert b s hb ih => rw [Finset.sum_insert hb, Finset.sum_insert hb, EReal.left_distrib_of_nonneg_of_ne_top (EReal.coe_nonneg.mpr hc) (EReal.coe_ne_top c), ih]

/-- The scores' weights before they are divided, as powers of two. -/
def grown (s : Fin n → EReal) (w : Fin n → EReal) : EReal :=
  Ideal.exp2 (⊥ - max ⊥ (most s)) * 0 + ∑ k, Ideal.exp2 (s k - max ⊥ (most s)) * w k

/-- The softmax's weights applied. -/
def weighed (y : Fin n → EReal) (w : Fin n → EReal) : EReal :=
  ∑ k, w k * Ideal.div (Ideal.exp (y k - max ⊥ (most y))) (0 + ∑ j, Ideal.exp (y j - max ⊥ (most y)))

/-- Powers of two of the scores over `log 2`, divided once by their sum, weigh as the softmax of the scores does. -/
theorem grown_div [NeZero n] (r : Fin n → ℝ) (v : Fin n → EReal) :
    Ideal.div (grown (fun k => ((r k * (Real.log 2)⁻¹ : ℝ) : EReal)) v) (grown (fun k => ((r k * (Real.log 2)⁻¹ : ℝ) : EReal)) fun _ => 1)
      = weighed (fun k => (r k : EReal)) v := by
  have hl : 0 < Real.log 2 := Real.log_pos (by norm_num)
  obtain ⟨M, hM, ⟨a, ha⟩, eM⟩ := most_coe r
  have eS : most (fun k => ((r k * (Real.log 2)⁻¹ : ℝ) : EReal)) = ((M * (Real.log 2)⁻¹ : ℝ) : EReal) := by
    obtain ⟨N, hN, ⟨b, hb⟩, eN⟩ := most_coe fun k => r k * (Real.log 2)⁻¹
    refine eN.trans (congrArg _ (le_antisymm ?_ ?_))
    · rw [← hb]; exact mul_le_mul_of_nonneg_right (hM b) (inv_nonneg.mpr hl.le)
    · rw [← ha]; exact hN a
  have e2 : ∀ k, Ideal.exp2 (((r k * (Real.log 2)⁻¹ : ℝ) : EReal) - max ⊥ ((M * (Real.log 2)⁻¹ : ℝ) : EReal)) = ((Real.exp (r k - M) : ℝ) : EReal) := by
    intro k
    rw [max_eq_right bot_le, ← EReal.coe_sub, Ideal.exp2_coe]
    refine congrArg _ ?_
    rw [Real.rpow_eq_pow, Real.rpow_def_of_pos (by norm_num)]
    congr 1
    field_simp
  have e1 : ∀ k, Ideal.exp ((r k : EReal) - max ⊥ (M : EReal)) = ((Real.exp (r k - M) : ℝ) : EReal) := by
    intro k
    rw [max_eq_right bot_le, ← EReal.coe_sub, Ideal.exp_coe]
  have hZ : 0 < ∑ k, Real.exp (r k - M) := Finset.sum_pos (fun k _ => Real.exp_pos _) ⟨0, Finset.mem_univ _⟩
  unfold grown weighed
  simp only [eM, eS, e1, e2, mul_zero, zero_add, mul_one, sum_coe]
  rw [Ideal.div_coe hZ.ne', mul_comm, mul_sum _ _ (by positivity)]
  refine Finset.sum_congr rfl fun k _ => ?_
  rw [Ideal.div_coe hZ.ne', ← mul_assoc, mul_comm _ (v k), mul_comm (((1 / _ : ℝ)) : EReal)]

end Cert.Proof.Attend

end
-- ==== Proof.AttendRef.lean ====
/-
  The attention call's reference over the extended reals, element by element: each query's softmax over its scores, weighing the
  values of its head.
-/
module

public import proofs.«01_k».proof.Proof.Gen.Reference3Ideal.Run
public import proofs.«01_k».proof.Proof.Attend
public import Idealize.ShloMosaic.Lib.IdealHost
public import Idealize.ShloMosaic.Lib.ValueIdx
public import Idealize.ShloMosaic.Lib.StackMember
public import Idealize.ShloMosaic.Lib.Pointwise.Reduce
public import Idealize.ShloMosaic.Lib.Pipeline.Value

@[expose] public section

set_option maxRecDepth 16384

noncomputable section

namespace Cert.Proof.Attend.Ref

open Cert.Reference3Ideal Cert.Reference3Ideal.Gen
open Idealize.ShloMosaic hiding ix1 ix2 ix3 ix4
open Idealize.ShloMosaic.ValueIdx
open scoped BigOperators

/-! ## Elements of whole-array operations -/

theorem exp_at {s : Shape} (x : FVec Ideal s .f32) (i : s.Idx) : Host.exp x i = Ideal.exp (x i) := rfl
theorem sub_at {s : Shape} (x z : FVec Ideal s .f32) (i : s.Idx) : subf x z i = (x i : EReal) - z i := rfl
theorem max_at {s : Shape} (x z : FVec Ideal s .f32) (i : s.Idx) : maximumf x z i = max (x i : EReal) (z i) := rfl
theorem div_at {s : Shape} (x z : FVec Ideal s .f32) (i : s.Idx) : Host.divf x z i = Ideal.div (x i) (z i) := rfl

/-! ## Literals -/

theorem lowest : Ideal.ofBits .f32 0xFF800000#32 = (⊥ : EReal) := by simp [Ideal.ofBits, Ideal.ieee]

theorem ninetySix : Ideal.ofBits .f32 0x42C00000#32 = ((96 : ℝ) : EReal) := by
  simp only [Ideal.ofBits, Ideal.ieee]
  simp
  rw [← EReal.coe_mul]
  norm_num

/-! ## What a query should become -/

section Meaning

variable (Q : S16x4096x8x64.Idx → EReal) (Qr : S16x4096x8x32.Idx → EReal) (K : S16x4096x8x64.Idx → EReal) (Kr : S16x4096x32.Idx → EReal)
  (W : S16x4096x8x64.Idx → EReal)

/-- The product of a query and a key of one head, before scaling. -/
def raw (b : Fin 16) (h : Fin 8) (q k : Fin 4096) : EReal :=
  (∑ d : Fin 64, Q (ix4 b q h d) * K (ix4 b k h d)) + ∑ r : Fin 32, Qr (ix4 b q h r) * Kr (ix3 b k r)

/-- The score. -/
def score (b : Fin 16) (h : Fin 8) (q k : Fin 4096) : EReal := raw Q Qr K Kr b h q k * Ideal.div 1 (Ideal.sqrt ((96 : ℝ) : EReal))

/-- The result of a query, a head and a value dimension. -/
def mixed (b : Fin 16) (q : Fin 4096) (h : Fin 8) (d : Fin 64) : EReal :=
  weighed (fun k => score Q Qr K Kr b h q k) fun k => W (ix4 b k h d)

end Meaning

/-! ## The reference's arrays, named -/

section Arrays

variable (Q : FVec Ideal S16x4096x8x64 .f32) (Qr : FVec Ideal S16x4096x8x32 .f32) (K : FVec Ideal S16x4096x8x64 .f32)
  (Kr : FVec Ideal S16x4096x32 .f32) (W : FVec Ideal S16x4096x8x64 .f32)

/-- The scores. -/
def scores : FVec Ideal S16x8x4096x4096 .f32 :=
  mulf (addf (Host.dotGeneral dot_S16x4096x8x64_S16x4096x8x64_S16x8x4096x4096_3_3_1_1_02_02 none Q K)
      (transpose S16x8x4096x4096 [0, 3, 2, 1] (Host.dotGeneral dot_S16x4096x32_S16x4096x8x32_S16x4096x4096x8_2_3_1_12_0_0 none Kr Qr)
        transposes_S16x4096x4096x8_S16x8x4096x4096_0_3_2_1))
    (broadcastInDim S16x8x4096x4096 ![] bcast_S_S16x8x4096x4096
      (Host.divf (constant S_ .f32 0x3F800000#32) (Host.sqrt (constant S_ .f32 0x42C00000#32))))

/-- A value of every query and head, for every key. -/
def alongKeys (x : FVec Ideal S16x8x4096 .f32) : FVec Ideal S16x8x4096x4096 .f32 :=
  broadcastInDim S16x8x4096x4096 ![0, 1, 2, 3] bcast_S16x8x4096x1_S16x8x4096x4096_0_1_2_3
    (broadcastInDim S16x8x4096x1 ![0, 1, 2] bcast_S16x8x4096_S16x8x4096x1_0_1_2 x)

/-- The scores' exponentials over the greatest. -/
def grownTo (y : FVec Ideal S16x8x4096x4096 .f32) : FVec Ideal S16x8x4096x4096 .f32 :=
  Host.exp (subf y (alongKeys (maximumf (broadcastInDim S16x8x4096 ![] bcast_S_S16x8x4096 (constant S_ .f32 0xFF800000#32))
    (Host.reduce FloatOps.maximumf y (constant S_ .f32 0xFF800000#32) reducesTo_S16x8x4096x4096_S16x8x4096_d3 h_S_))))

/-- The softmax. -/
def shares (y : FVec Ideal S16x8x4096x4096 .f32) : FVec Ideal S16x8x4096x4096 .f32 :=
  Host.divf (grownTo y) (alongKeys (Host.reduceAdd (grownTo y) (constant S_ .f32 0x00000000#32) reducesTo_S16x8x4096x4096_S16x8x4096_d3 h_S_))

/-- The result, head by head. -/
def heads : FVec Ideal S16x4096x8x64 .f32 :=
  transpose S16x4096x8x64 [0, 3, 1, 2]
    (Host.dotGeneral dot_S16x4096x8x64_S16x8x4096x4096_S16x8x64x4096_1_3_3_2_02_01 none W (shares (scores Q Qr K Kr)))
    transposes_S16x8x64x4096_S16x4096x8x64_0_3_1_2

end Arrays

/-! ## Element by element -/

section At

variable (Q : FVec Ideal S16x4096x8x64 .f32) (Qr : FVec Ideal S16x4096x8x32 .f32) (K : FVec Ideal S16x4096x8x64 .f32)
  (Kr : FVec Ideal S16x4096x32 .f32) (W : FVec Ideal S16x4096x8x64 .f32)

theorem nope_at (b : Fin 16) (h : Fin 8) (q k : Fin 4096) :
    Host.dotGeneral dot_S16x4096x8x64_S16x4096x8x64_S16x8x4096x4096_3_3_1_1_02_02 none Q K (ix4 b h q k)
      = ∑ d : Fin 64, Q (ix4 b q h d) * K (ix4 b k h d) := by
  let D := dot_S16x4096x8x64_S16x4096x8x64_S16x8x4096x4096_3_3_1_1_02_02
  show FloatOps.dotGeneral D none _ Q K (ix4 b h q k) = _
  rw [Ideal.dotGeneral_apply, ← Equiv.sum_comp (contrEquiv1 D 64 rfl rfl).symm]
  refine Finset.sum_congr rfl fun d _ => ?_
  have hk := contrEquiv1_symm_val D 64 rfl rfl d
  have el : D.lhsIdx (ix4 b h q k) ((contrEquiv1 D 64 rfl rfl).symm d) = ix4 b q h d := by
    funext a; apply Fin.ext
    match a with
    | ⟨0, _⟩ => rfl
    | ⟨1, _⟩ => rfl
    | ⟨2, _⟩ => rfl
    | ⟨3, _⟩ => exact hk
  have er : D.rhsIdx (ix4 b h q k) ((contrEquiv1 D 64 rfl rfl).symm d) = ix4 b k h d := by
    funext a; apply Fin.ext
    match a with
    | ⟨0, _⟩ => rfl
    | ⟨1, _⟩ => rfl
    | ⟨2, _⟩ => rfl
    | ⟨3, _⟩ => exact hk
  rw [el, er]

theorem rope_at (b : Fin 16) (h : Fin 8) (q k : Fin 4096) :
    transpose S16x8x4096x4096 [0, 3, 2, 1] (Host.dotGeneral dot_S16x4096x32_S16x4096x8x32_S16x4096x4096x8_2_3_1_12_0_0 none Kr Qr)
        transposes_S16x4096x4096x8_S16x8x4096x4096_0_3_2_1 (ix4 b h q k)
      = ∑ r : Fin 32, Qr (ix4 b q h r) * Kr (ix3 b k r) := by
  refine (transpose_apply _ _ _ _ (ix4 b k q h) ?_).trans ?_
  · intro a; match a with
    | ⟨0, _⟩ => rfl
    | ⟨1, _⟩ => rfl
    | ⟨2, _⟩ => rfl
    | ⟨3, _⟩ => rfl
  let D := dot_S16x4096x32_S16x4096x8x32_S16x4096x4096x8_2_3_1_12_0_0
  show FloatOps.dotGeneral D none _ Kr Qr (ix4 b k q h) = _
  rw [Ideal.dotGeneral_apply, ← Equiv.sum_comp (contrEquiv1 D 32 rfl rfl).symm]
  refine Finset.sum_congr rfl fun d _ => ?_
  have hk := contrEquiv1_symm_val D 32 rfl rfl d
  have el : D.lhsIdx (ix4 b k q h) ((contrEquiv1 D 32 rfl rfl).symm d) = ix3 b k d := by
    funext a; apply Fin.ext
    match a with
    | ⟨0, _⟩ => rfl
    | ⟨1, _⟩ => rfl
    | ⟨2, _⟩ => exact hk
  have er : D.rhsIdx (ix4 b k q h) ((contrEquiv1 D 32 rfl rfl).symm d) = ix4 b q h d := by
    funext a; apply Fin.ext
    match a with
    | ⟨0, _⟩ => rfl
    | ⟨1, _⟩ => rfl
    | ⟨2, _⟩ => rfl
    | ⟨3, _⟩ => exact hk
  rw [el, er]
  exact mul_comm _ _

theorem scores_at (b : Fin 16) (h : Fin 8) (q k : Fin 4096) : scores Q Qr K Kr (ix4 b h q k) = score Q Qr K Kr b h q k := by
  have e : (broadcastInDim S16x8x4096x4096 ![] bcast_S_S16x8x4096x4096
      (Host.divf (constant (F := Ideal) S_ .f32 0x3F800000#32) (Host.sqrt (constant S_ .f32 0x42C00000#32)))) (ix4 b h q k)
      = Ideal.div 1 (Ideal.sqrt ((96 : ℝ) : EReal)) := by
    refine (broadcastInDim_scalar_apply _ _ _).trans ?_
    show Ideal.div (Ideal.ofBits .f32 0x3F800000#32) (Ideal.sqrt (Ideal.ofBits .f32 0x42C00000#32)) = _
    rw [Ideal.ofBits_one_f32, ninetySix]
  exact congrArg₂ (fun x y : EReal => x * y) (congrArg₂ (fun x y : EReal => x + y) (nope_at Q K b h q k) (rope_at Qr Kr b h q k)) e

theorem alongKeys_at (x : FVec Ideal S16x8x4096 .f32) (b : Fin 16) (h : Fin 8) (q k : Fin 4096) :
    alongKeys x (ix4 b h q k) = x (ix3 b h q) := by
  refine (broadcastInDim_apply _ _ _ _ (ix4 b h q 0) ?_).trans (broadcastInDim_apply _ _ _ _ (ix3 b h q) ?_)
  · intro a; match a with
    | 0 => rfl
    | 1 => rfl
    | 2 => rfl
    | 3 => rfl
  · intro a; match a with
    | 0 => rfl
    | 1 => rfl
    | 2 => rfl

/-- The greatest score of a query. -/
theorem top_at (y : FVec Ideal S16x8x4096x4096 .f32) (b : Fin 16) (h : Fin 8) (q : Fin 4096) :
    Host.reduce FloatOps.maximumf y (constant S_ .f32 0xFF800000#32) reducesTo_S16x8x4096x4096_S16x8x4096_d3 h_S_ (ix3 b h q)
      = most fun k => y (ix4 b h q k) := by
  refine (Host.reduce_eq_fold _ _ _ _ _ _).trans ((Shape.ReducesTo.fold_fiber_r4_a3 _ _ _ _ _).trans ?_)
  unfold most
  exact congrArg (fun β : EReal => (Finset.univ : Finset (Fin 4096)).fold max β fun k => y (ix4 b h q k)) lowest

theorem grownTo_at (y : FVec Ideal S16x8x4096x4096 .f32) (b : Fin 16) (h : Fin 8) (q k : Fin 4096) :
    grownTo y (ix4 b h q k) = Ideal.exp (y (ix4 b h q k) - max ⊥ (most fun j => y (ix4 b h q j))) := by
  unfold grownTo
  rw [exp_at, sub_at, alongKeys_at, max_at, top_at, broadcastInDim_scalar_apply]
  exact congrArg (fun x : EReal => Ideal.exp (y (ix4 b h q k) - max x (most fun j => y (ix4 b h q j)))) lowest

theorem total_at (y : FVec Ideal S16x8x4096x4096 .f32) (b : Fin 16) (h : Fin 8) (q : Fin 4096) :
    Host.reduceAdd y (constant S_ .f32 0x00000000#32) reducesTo_S16x8x4096x4096_S16x8x4096_d3 h_S_ (ix3 b h q)
      = (0 + ∑ i : Fin 4096, y (ix4 b h q i) : EReal) := by
  rw [hostReduceAdd_apply, Ideal.hostReduceAdd_r4_a3]
  exact congrArg (fun x : EReal => x + ∑ i : Fin 4096, (y (ix4 b h q i) : EReal)) Ideal.ofBits_zero_f32

theorem shares_at (y : FVec Ideal S16x8x4096x4096 .f32) (b : Fin 16) (h : Fin 8) (q k : Fin 4096) :
    shares y (ix4 b h q k) = Ideal.div (Ideal.exp (y (ix4 b h q k) - max ⊥ (most fun j => y (ix4 b h q j))))
      (0 + ∑ i : Fin 4096, Ideal.exp (y (ix4 b h q i) - max ⊥ (most fun j => y (ix4 b h q j)))) := by
  unfold shares
  rw [div_at, alongKeys_at, total_at]
  simp only [grownTo_at]

/-- The result, element by element. -/
theorem heads_at (b : Fin 16) (q : Fin 4096) (h : Fin 8) (d : Fin 64) :
    heads Q Qr K Kr W (ix4 b q h d) = mixed Q Qr K Kr W b q h d := by
  refine (transpose_apply _ _ _ _ (ix4 b h d q) ?_).trans ?_
  · intro a; match a with
    | ⟨0, _⟩ => rfl
    | ⟨1, _⟩ => rfl
    | ⟨2, _⟩ => rfl
    | ⟨3, _⟩ => rfl
  let D := dot_S16x4096x8x64_S16x8x4096x4096_S16x8x64x4096_1_3_3_2_02_01
  show FloatOps.dotGeneral D none _ W (shares (scores Q Qr K Kr)) (ix4 b h d q) = _
  rw [Ideal.dotGeneral_apply, ← Equiv.sum_comp (contrEquiv1 D 4096 rfl rfl).symm]
  unfold mixed weighed
  refine Finset.sum_congr rfl fun k _ => ?_
  have hk := contrEquiv1_symm_val D 4096 rfl rfl k
  have el : D.lhsIdx (ix4 b h d q) ((contrEquiv1 D 4096 rfl rfl).symm k) = ix4 b k h d := by
    funext a; apply Fin.ext
    match a with
    | ⟨0, _⟩ => rfl
    | ⟨1, _⟩ => exact hk
    | ⟨2, _⟩ => rfl
    | ⟨3, _⟩ => rfl
  have er : D.rhsIdx (ix4 b h d q) ((contrEquiv1 D 4096 rfl rfl).symm k) = ix4 b h q k := by
    funext a; apply Fin.ext
    match a with
    | ⟨0, _⟩ => rfl
    | ⟨1, _⟩ => rfl
    | ⟨2, _⟩ => rfl
    | ⟨3, _⟩ => exact hk
  rw [el, er, shares_at]
  simp only [scores_at]

end At

end Cert.Proof.Attend.Ref

end
-- ==== Proof.AttendTile.lean ====
/-
  One grid point of the attention call over the extended reals, element by element: what the body stores for its queries and its
  two heads.
-/
module

public import proofs.«01_k».proof.Proof.Gen.Kernel3Ideal.Frame
public import proofs.«01_k».proof.Proof.AttendRef
public import Idealize.ShloMosaic.Lib.Routing.Words
public import Idealize.ShloMosaic.Lib.KernelVsHost
public import Idealize.ShloMosaic.Lib.Pipeline.ValueKit.Tiles

@[expose] public section

set_option maxRecDepth 16384

noncomputable section

namespace Cert.Proof.Attend.Tile

open Cert.Kernel3Ideal Cert.Kernel3Ideal.Gen
open Idealize.ShloMosaic hiding ix1 ix2 ix3 ix4
open Idealize.ShloMosaic.ValueIdx
open Cert.Proof.Attend.Ref (lowest)
open scoped BigOperators

/-! ## The products -/

/-- A query's packed lanes times a key's. -/
abbrev dots (q : S1x512x128.Idx → EReal) (k : S1x4096x128.Idx → EReal) (p : Fin 512) (j : Fin 4096) : EReal :=
  ∑ d : Fin 128, q (ix3 0 p d) * k (ix3 0 j d)

theorem keys_at (k : FVec Ideal S1x4096x128 .bf16) (j : Fin 4096) (d : Fin 128) :
    shapeCast S4096x128 k shapeCasts_S1x4096x128_S4096x128 (ix2 j d) = k (ix3 0 j d) := by
  refine shapeCast_apply k _ (ix2 j d) (ix3 0 j d) ?_
  rw [Shape.rowMajor_val_three, Shape.rowMajor_val_two]
  show (0 * 4096 + j.val) * 128 + d.val = j.val * 128 + d.val
  omega

theorem dots_at (q : FVec Ideal S1x512x128 .bf16) (k : FVec Ideal S1x4096x128 .bf16) (p : Fin 512) (j : Fin 4096) :
    k0_pay5 (F := Ideal) q k (ix2 p j) = dots q k p j := by
  let D := dot_S512x128_S4096x128_S512x4096_1_1_0_0_n_n
  refine (Ideal.matmul_constant_zero_apply D none (shapeCast S512x128 q shapeCasts_S1x512x128_S512x128)
    (shapeCast S4096x128 k shapeCasts_S1x4096x128_S4096x128) (ix2 p j)).trans ?_
  rw [← Equiv.sum_comp (contrEquiv1 D 128 rfl rfl).symm]
  refine Finset.sum_congr rfl fun d _ => ?_
  have hk := contrEquiv1_symm_val D 128 rfl rfl d
  have el : D.lhsIdx (ix2 p j) ((contrEquiv1 D 128 rfl rfl).symm d) = ix2 p d := by
    funext a; apply Fin.ext
    match a with
    | ⟨0, _⟩ => rfl
    | ⟨1, _⟩ => exact hk
  have er : D.rhsIdx (ix2 p j) ((contrEquiv1 D 128 rfl rfl).symm d) = ix2 j d := by
    funext a; apply Fin.ext
    match a with
    | ⟨0, _⟩ => rfl
    | ⟨1, _⟩ => exact hk
  rw [el, er, keys_at]
  refine congrArg (· * k (ix3 0 j d)) (shapeCast_apply q _ (ix2 p d) (ix3 0 p d) ?_)
  rw [Shape.rowMajor_val_three, Shape.rowMajor_val_two]
  show (0 * 512 + p.val) * 128 + d.val = p.val * 128 + d.val
  omega

theorem weigh_at (x : FVec Ideal S512x4096 .f32) (w : FVec Ideal S1x4096x128 .bf16) (p : Fin 512) (l : Fin 128) :
    matmul dot_S512x4096_S4096x128_S512x128_1_0_0_1_n_n none (truncf .bf16 x bitsLt_bf16_f32)
        (shapeCast S4096x128 w shapeCasts_S1x4096x128_S4096x128) (constant S512x128 .f32 0x00000000#32) (ix2 p l)
      = ∑ j : Fin 4096, x (ix2 p j) * w (ix3 0 j l) := by
  let D := dot_S512x4096_S4096x128_S512x128_1_0_0_1_n_n
  refine (Ideal.matmul_constant_zero_apply D none (truncf .bf16 x bitsLt_bf16_f32)
    (shapeCast S4096x128 w shapeCasts_S1x4096x128_S4096x128) (ix2 p l)).trans ?_
  rw [← Equiv.sum_comp (contrEquiv1 D 4096 rfl rfl).symm]
  refine Finset.sum_congr rfl fun j _ => ?_
  have hk := contrEquiv1_symm_val D 4096 rfl rfl j
  have el : D.lhsIdx (ix2 p l) ((contrEquiv1 D 4096 rfl rfl).symm j) = ix2 p j := by
    funext a; apply Fin.ext
    match a with
    | ⟨0, _⟩ => rfl
    | ⟨1, _⟩ => exact hk
  have er : D.rhsIdx (ix2 p l) ((contrEquiv1 D 4096 rfl rfl).symm j) = ix2 j l := by
    funext a; apply Fin.ext
    match a with
    | ⟨0, _⟩ => exact hk
    | ⟨1, _⟩ => rfl
  rw [el, er, keys_at]
  rfl

/-! ## One head -/

section Head

variable (s : FVec Ideal S512x4096 .f32)

/-- Each query's greatest score. -/
def tops : FVec Ideal S512x1 .f32 :=
  maximumf (broadcast S512x1 (Scalar.ofBits (F := Ideal) .f32 0xFF800000#32))
    (shapeCast S512x1 (multiReduction .maximumf [1] S512 s 0xFF800000#32 reduces_S512x4096_S512 (.inl rfl) rfl) shapeCasts_S512_S512x1)

/-- The powers of two over the greatest. -/
def powers : FVec Ideal S512x4096 .f32 := exp2 (subf s (broadcastTo S512x4096 (tops s) broadcasts_S512x1_S512x4096))

/-- The accumulator before this block of keys, rescaled. -/
def before : FVec Ideal S512x128 .f32 :=
  mulf (broadcastTo S512x128 (exp2 (subf (broadcast S512x1 (Scalar.ofBits (F := Ideal) .f32 0xFF800000#32)) (tops s))) broadcasts_S512x1_S512x128)
    (broadcast S512x128 (Scalar.ofBits (F := Ideal) .f32 0x00000000#32))

/-- The accumulator. -/
def sums (w : FVec Ideal S1x4096x128 .bf16) : FVec Ideal S512x128 .f32 :=
  addf (before s) (matmul dot_S512x4096_S4096x128_S512x128_1_0_0_1_n_n none (truncf .bf16 (powers s) bitsLt_bf16_f32)
    (shapeCast S4096x128 w shapeCasts_S1x4096x128_S4096x128) (constant S512x128 .f32 0x00000000#32))

/-- The accumulator over its column 64. -/
def quotients (x : FVec Ideal S512x128 .f32) : FVec Ideal S512x128 .f32 :=
  divf x (broadcastTo S512x128 (extractStridedSlice S512x1 ![0, 64] x slices_S512x128_o0_64_S512x1) broadcasts_S512x1_S512x128)

end Head

theorem pay4_eq (q : FVec Ideal S1x512x128 .bf16) (k w : FVec Ideal S1x4096x128 .bf16) :
    k0_pay4 (F := Ideal) q k w = sums (k0_pay5 (F := Ideal) q k) w := rfl

/-- The two heads side by side. -/
def pair (x z : FVec Ideal S512x128 .f32) : FVec Ideal S512x128 .f32 :=
  select (cmpi .slt (iota .tc S512x128 32 [1] iota_S512x128_d1_w32) (broadcast S512x128 64#32)) (quotients x)
    (dynamicRotate 1 64#32 none (quotients z) rotates_S512x128_d1)

theorem pay1_eq (x : FVec Ideal S512x128 .f32) (s : FVec Ideal S512x4096 .f32) (w : FVec Ideal S1x4096x128 .bf16) :
    k0_pay1 (F := Ideal) k0_pay2 k0_pay3 x s w
      = shapeCast S1x512x128 (truncf .bf16 (pair x (sums s w)) bitsLt_bf16_f32) shapeCasts_S512x128_S1x512x128 := rfl

theorem exp2_at {s : Shape} (x : FVec Ideal s .f32) (i : s.Idx) : exp2 x i = Ideal.exp2 (x i) := rfl
theorem mul_at {s : Shape} (x z : FVec Ideal s .f32) (i : s.Idx) : mulf x z i = (x i : EReal) * z i := rfl
theorem add_at {s : Shape} (x z : FVec Ideal s .f32) (i : s.Idx) : addf x z i = (x i : EReal) + z i := rfl
theorem quot_at {s : Shape} (x z : FVec Ideal s .f32) (i : s.Idx) : divf x z i = Ideal.div (x i) (z i) := rfl
theorem low_at {s : Shape} (i : s.Idx) : broadcast s (Scalar.ofBits (F := Ideal) .f32 0xFF800000#32) i = (⊥ : EReal) := lowest
theorem zero_at {s : Shape} (i : s.Idx) : broadcast s (Scalar.ofBits (F := Ideal) .f32 0x00000000#32) i = (0 : EReal) := Ideal.ofBits_zero_f32

theorem tops_at (s : FVec Ideal S512x4096 .f32) (p : Fin 512) : tops s (ix2 p 0) = max ⊥ (most fun j => s (ix2 p j)) := by
  unfold tops
  rw [Ref.max_at, low_at]
  refine congrArg (max (⊥ : EReal)) ((shapeCast_apply _ _ _ (ix1 p) ?_).trans ?_)
  · rw [Shape.rowMajor_val_one, Shape.rowMajor_val_two]
    show p.val = p.val * 1 + 0
    omega
  refine (multiReduction_maximumf_eq_fold _ _ _ _ _ _).trans ((Shape.Reduces.fold_fiber_r2_a1 _ _ _ _ _).trans ?_)
  unfold most
  exact congrArg (fun β : EReal => (Finset.univ : Finset (Fin 4096)).fold max β fun j => s (ix2 p j)) lowest

theorem column_at {n : Nat} (x : FVec Ideal S512x1 .f32) (h : S512x1.Broadcasts ⟨2, ![512, n]⟩) (p : Fin 512) (l : Fin n) :
    broadcastTo ⟨2, ![512, n]⟩ x h (ix2 p l) = x (ix2 p 0) := by
  refine broadcastTo_apply _ _ (ix2 p l) (ix2 p 0) ?_
  intro a; match a with
  | ⟨0, _⟩ => rfl
  | ⟨1, _⟩ => rfl

/-- A head's accumulator, element by element. -/
theorem sums_at (s : FVec Ideal S512x4096 .f32) (w : FVec Ideal S1x4096x128 .bf16) (p : Fin 512) (l : Fin 128) :
    sums s w (ix2 p l) = grown (fun j => s (ix2 p j)) fun j => w (ix3 0 j l) := by
  unfold sums before grown
  rw [add_at, mul_at, zero_at, column_at, exp2_at, Ref.sub_at, low_at, tops_at, weigh_at]
  refine congrArg (fun x : EReal => Ideal.exp2 (⊥ - max ⊥ (most fun j => s (ix2 p j))) * 0 + x) (Finset.sum_congr rfl fun j _ => ?_)
  unfold powers
  rw [exp2_at, Ref.sub_at, column_at, tops_at]

theorem quotients_at (x : FVec Ideal S512x128 .f32) (p : Fin 512) (l : Fin 128) :
    quotients x (ix2 p l) = Ideal.div (x (ix2 p l)) (x (ix2 p 64)) := by
  unfold quotients
  rw [quot_at, column_at]
  refine congrArg (Ideal.div (x (ix2 p l))) (extractStridedSlice_apply _ _ _ _ (ix2 p 64) ?_)
  intro a; match a with
  | ⟨0, _⟩ => show p.val = 0 + p.val; omega
  | ⟨1, _⟩ => rfl

/-- The lanes of the two heads. -/
theorem pair_at (x z : FVec Ideal S512x128 .f32) (p : Fin 512) (l : Fin 128) :
    pair x z (ix2 p l) = if l.val < 64 then Ideal.div (x (ix2 p l)) (x (ix2 p 64))
      else Ideal.div (z (ix2 p ⟨(l.val + 64) % 128, by omega⟩)) (z (ix2 p 64)) := by
  unfold pair
  have e : cmpi .slt (iota .tc S512x128 32 [1] iota_S512x128_d1_w32) (broadcast S512x128 64#32) (ix2 p l)
      = BitVec.ofBool (decide (l.val < 64)) := by
    have e' : (BitVec.ofNat 32 l.val).slt (BitVec.ofNat 32 64) = decide (l.val < 64) := Routing.slt_ofNat32 (by omega) (by decide)
    have i : iota .tc S512x128 32 [1] iota_S512x128_d1_w32 (ix2 p l) = BitVec.ofNat 32 l.val :=
      congrArg (BitVec.ofNat 32) (show 0 * 128 + l.val = l.val by omega)
    exact congrArg BitVec.ofBool ((congrArg (fun v : BitVec 32 => v.slt (BitVec.ofNat 32 64)) i).trans e')
  show (if cmpi .slt (iota .tc S512x128 32 [1] iota_S512x128_d1_w32) (broadcast S512x128 64#32) (ix2 p l) = 1#1 then quotients x (ix2 p l)
    else dynamicRotate 1 64#32 none (quotients z) rotates_S512x128_d1 (ix2 p l)) = _
  rw [e]
  by_cases h : l.val < 64
  · rw [if_pos h, decide_eq_true h, if_pos (show BitVec.ofBool true = 1#1 from rfl), quotients_at]
  · rw [if_neg h, decide_eq_false h, if_neg (show ¬ BitVec.ofBool false = 1#1 by decide)]
    refine (dynamicRotate_apply 1 64#32 _ _ _ (ix2 p ⟨(l.val + 64) % 128, by omega⟩) ?_).trans (quotients_at z p _)
    intro b; match b with
    | ⟨0, _⟩ => rfl
    | ⟨1, _⟩ => rfl

/-! ## What the body stores -/

theorem load0 (x : S1x512x256.Idx → EReal) (p : Fin 512) (d : Fin 128) :
    View.ld (Val := Elt Ideal) (e' := .bf16) x r0_0 (ix3 0 p d : S1x512x128.Idx) = x (ix3 0 p ⟨d.val, by omega⟩) := by
  refine View.ld_unit_apply_of _ _ _ _ _ _ ?_
  intro a; match a with
  | ⟨0, _⟩ => rfl
  | ⟨1, _⟩ => show p.val = 0 + p.val; omega
  | ⟨2, _⟩ => show d.val = 0 + d.val; omega

theorem load1 (x : S1x512x256.Idx → EReal) (p : Fin 512) (d : Fin 128) :
    View.ld (Val := Elt Ideal) (e' := .bf16) x r0_1 (ix3 0 p d : S1x512x128.Idx) = x (ix3 0 p ⟨128 + d.val, by omega⟩) := by
  refine View.ld_unit_apply_of _ _ _ _ _ _ ?_
  intro a; match a with
  | ⟨0, _⟩ => rfl
  | ⟨1, _⟩ => show p.val = 0 + p.val; omega
  | ⟨2, _⟩ => rfl

theorem load2 (x : S1x4096x256.Idx → EReal) (j : Fin 4096) (d : Fin 128) :
    View.ld (Val := Elt Ideal) (e' := .bf16) x r0_2 (ix3 0 j d : S1x4096x128.Idx) = x (ix3 0 j ⟨d.val, by omega⟩) := by
  refine View.ld_unit_apply_of _ _ _ _ _ _ ?_
  intro a; match a with
  | ⟨0, _⟩ => rfl
  | ⟨1, _⟩ => show j.val = 0 + j.val; omega
  | ⟨2, _⟩ => show d.val = 0 + d.val; omega

theorem load3 (x : S1x4096x256.Idx → EReal) (j : Fin 4096) (d : Fin 128) :
    View.ld (Val := Elt Ideal) (e' := .bf16) x r0_3 (ix3 0 j d : S1x4096x128.Idx) = x (ix3 0 j ⟨128 + d.val, by omega⟩) := by
  refine View.ld_unit_apply_of _ _ _ _ _ _ ?_
  intro a; match a with
  | ⟨0, _⟩ => rfl
  | ⟨1, _⟩ => show j.val = 0 + j.val; omega
  | ⟨2, _⟩ => rfl

/-- A head's scores in a block of two heads, `o` its first lane. -/
abbrev blockScore (x0 : S1x512x256.Idx → EReal) (x1 : S1x4096x256.Idx → EReal) (o : Nat) (ho : o ≤ 128) (p : Fin 512) (j : Fin 4096) : EReal :=
  ∑ d : Fin 128, x0 (ix3 0 p ⟨o + d.val, by omega⟩) * x1 (ix3 0 j ⟨o + d.val, by omega⟩)

/-- A head's quotient in a block of two heads. -/
abbrev blockQuotient (x0 : S1x512x256.Idx → EReal) (x1 x2 : S1x4096x256.Idx → EReal) (o : Nat) (ho : o ≤ 128) (p : Fin 512) (l : Fin 128) : EReal :=
  Ideal.div (grown (blockScore x0 x1 o ho p) fun j => x2 (ix3 0 j ⟨o + l.val, by omega⟩))
    (grown (blockScore x0 x1 o ho p) fun j => x2 (ix3 0 j ⟨o + 64, by omega⟩))

theorem head0_at (x0 : S1x512x256.Idx → EReal) (x1 x2 : S1x4096x256.Idx → EReal) (p : Fin 512) (l : Fin 128) :
    k0_pay4 (F := Ideal) (View.ld x0 r0_0) (View.ld x1 r0_2) (View.ld x2 r0_2) (ix2 p l)
      = grown (blockScore x0 x1 0 (by omega) p) fun j => x2 (ix3 0 j ⟨0 + l.val, by omega⟩) := by
  rw [pay4_eq, sums_at]
  refine congrArg₂ grown (funext fun j => ?_) (funext fun j => ?_)
  · rw [dots_at]
    refine Finset.sum_congr rfl fun d _ => ?_
    refine congrArg₂ (fun a b : EReal => a * b) ((load0 x0 p d).trans (congrArg x0 (congrArg (ix3 0 p) (Fin.ext (Nat.zero_add _).symm))))
      ((load2 x1 j d).trans (congrArg x1 (congrArg (ix3 0 j) (Fin.ext (Nat.zero_add _).symm))))
  · exact (load2 x2 j l).trans (congrArg x2 (congrArg (ix3 0 j) (Fin.ext (Nat.zero_add _).symm)))

theorem head1_at (x0 : S1x512x256.Idx → EReal) (x1 x2 : S1x4096x256.Idx → EReal) (p : Fin 512) (l : Fin 128) :
    sums (k0_pay5 (F := Ideal) (View.ld x0 r0_1) (View.ld x1 r0_3)) (View.ld (Val := Elt Ideal) (e' := .bf16) x2 r0_3) (ix2 p l)
      = grown (blockScore x0 x1 128 le_rfl p) fun j => x2 (ix3 0 j ⟨128 + l.val, by omega⟩) := by
  rw [sums_at]
  refine congrArg₂ grown (funext fun j => ?_) (funext fun j => load3 x2 j l)
  rw [dots_at]
  exact Finset.sum_congr rfl fun d _ => congrArg₂ (fun a b : EReal => a * b) (load1 x0 p d) (load3 x1 j d)

/-- What a point leaves in the output's buffer. -/
theorem out_at (x0 : S1x512x256.Idx → EReal) (x1 x2 : S1x4096x256.Idx → EReal) (p : Fin 512) (l : Fin 128) :
    out0_3 (F := Ideal) x0 x1 x2 (ix3 0 p l)
      = if l.val < 64 then blockQuotient x0 x1 x2 0 (by omega) p l else blockQuotient x0 x1 x2 128 le_rfl p ⟨(l.val + 64) % 128, by omega⟩ := by
  have e : out0_3 (F := Ideal) x0 x1 x2 = k0_pay1 (F := Ideal) k0_pay2 k0_pay3 (k0_pay4 (View.ld x0 r0_0) (View.ld x1 r0_2) (View.ld x2 r0_2))
      (k0_pay5 (View.ld x0 r0_1) (View.ld x1 r0_3)) (View.ld x2 r0_3) :=
    View.canon_cons_unit_lit _ _ _ (by decide)
  rw [e, pay1_eq]
  refine (shapeCast_apply _ _ _ (ix2 p l) ?_).trans ((show truncf .bf16 (pair _ _) bitsLt_bf16_f32 (ix2 p l) = pair _ _ (ix2 p l) from rfl).trans ?_)
  · rw [Shape.rowMajor_val_three, Shape.rowMajor_val_two]
    show p.val * 128 + l.val = (0 * 512 + p.val) * 128 + l.val
    omega
  rw [pair_at, head0_at, head0_at, head1_at, head1_at]
  rfl

end Cert.Proof.Attend.Tile

end
-- ==== Proof.AttendFinal.lean ====
/-
  What the `mla` call leaves, over any floats: its result array block by block, and the packed arrays its blocks are cut from.
-/
module

public import proofs.«01_k».proof.Proof.Gen.Kernel3Ideal.Value
public import proofs.«01_k».proof.Proof.AttendTile
public import Idealize.ShloMosaic.Lib.Pipeline.ValueKit.Geometry

@[expose] public section

set_option maxRecDepth 16384

noncomputable section

namespace Cert.Proof.Attend

open Cert.Kernel3Ideal Cert.Kernel3Ideal.Gen
open Idealize.ShloMosaic hiding ix1 ix2 ix3 ix4
open Idealize.ShloMosaic.TcCoe Idealize.ShloMosaic.StableHlo
open Idealize.ShloMosaic.ValueIdx
open Idealize.SL.Sem
open Idealize.ShloMosaic.Pipeline (Dat Cfg Window)

variable {F : FTy → Type} [FloatOps F]
variable (m : (ℓ : Loc nD τ sig) → Buf (Elt F) ℓ) (c : Dev nD)

/-! ## Points and blocks -/

theorem points : grid0.N = 512 := by decide

theorem lt_points (t : Fin cfg0.N) : t.val < 512 := lt_of_lt_of_eq t.isLt points

/-- The point of a sequence, a pair of heads and a stretch of queries. -/
abbrev point (b hh q : Nat) (hb : b < 16) (hh4 : hh < 4) (hq : q < 8) : Fin cfg0.N :=
  ⟨32 * b + 8 * hh + q, lt_of_lt_of_eq (by omega) points.symm⟩

theorem coord0 (t : Fin cfg0.N) : (grid0.coords t 0).val = t.val / 32 := by
  have e := Pipeline.Grid.coords_val (G := grid0) t 0 (S := 32) (B := 16) (by decide) rfl
  have ht := lt_points t
  exact e.trans (Nat.mod_eq_of_lt (by omega))

theorem coord1 (t : Fin cfg0.N) : (grid0.coords t 1).val = t.val / 8 % 4 :=
  Pipeline.Grid.coords_val (G := grid0) t 1 (S := 8) (B := 4) (by decide) rfl

theorem coord2 (t : Fin cfg0.N) : (grid0.coords t 2).val = t.val % 8 := by
  have e := Pipeline.Grid.coords_val (G := grid0) t 2 (S := 1) (B := 8) (by decide) rfl
  rw [Nat.div_one] at e
  exact e

theorem word_val (n : Nat) (h : n < 512) : (BitVec.ofNat 32 n).toNat = n := by
  rw [BitVec.toNat_ofNat, Nat.mod_eq_of_lt (by omega)]

theorem index3 (t : Fin cfg0.N) : (cfg0.win (3 : Fin 4)).index t = ![t.val / 32, t.val % 8, t.val / 8 % 4] := by
  have ht := lt_points t
  show cc0_transform_3 (grid0.coords t) = _
  unfold cc0_transform_3
  dsimp only
  rw [coord0, coord1, coord2, word_val _ (show t.val / 32 < 512 by omega), word_val _ (show t.val / 8 % 4 < 512 by omega),
    word_val _ (show t.val % 8 < 512 by omega)]

theorem index0 (t : Fin cfg0.N) : (cfg0.win (0 : Fin 4)).index t = ![t.val / 32, t.val % 8, t.val / 8 % 4] := index3 t

theorem index1 (t : Fin cfg0.N) : (cfg0.win (1 : Fin 4)).index t = ![t.val / 32, 0, t.val / 8 % 4] := by
  have ht := lt_points t
  show cc0_transform_1 (grid0.coords t) = _
  unfold cc0_transform_1
  dsimp only
  rw [coord0, coord1, word_val _ (show t.val / 32 < 512 by omega), word_val _ (show t.val / 8 % 4 < 512 by omega)]
  rfl

theorem index2 (t : Fin cfg0.N) : (cfg0.win (2 : Fin 4)).index t = ![t.val / 32, 0, t.val / 8 % 4] := index1 t

/-- A block of the output, placed. -/
theorem place3 (t : Fin cfg0.N) (y : S1x512x128.Idx) :
    ((cfg0.win (3 : Fin 4)).blk t).view.emb y
      = ix3 (n0 := 16) (n1 := 4096) (n2 := 512) ⟨t.val / 32, by have ht := lt_points t; omega⟩
          ⟨512 * (t.val % 8) + (y 1).val, by have hy : (y 1).val < 512 := (y 1).isLt; omega⟩
          ⟨128 * (t.val / 8 % 4) + (y 2).val, by have hy : (y 2).val < 128 := (y 2).isLt; omega⟩ := by
  funext a; apply Fin.ext
  refine (Window.rect_emb_val (cfg0.win (3 : Fin 4)) t y a).trans ?_
  rw [index3]
  match a with
  | ⟨0, _⟩ => have hy : (y 0).val < 1 := (y 0).isLt; show t.val / 32 * 1 + (y 0).val = t.val / 32; omega
  | ⟨1, _⟩ => show t.val % 8 * 512 + (y 1).val = 512 * (t.val % 8) + (y 1).val; omega
  | ⟨2, _⟩ => show t.val / 8 % 4 * 128 + (y 2).val = 128 * (t.val / 8 % 4) + (y 2).val; omega

/-! ## The result -/

/-- What a point leaves of its output block. -/
def left (t : Fin cfg0.N) : S1x512x128.Idx → Elt F .bf16 := out0_3 (iblk m c 0 t) (iblk m c 1 t) (iblk m c 2 t)

/-- The result array, block by block. -/
def finished : S16x4096x512.Idx → Elt F .bf16 := fun i =>
  left m c (point (i 0).val ((i 2).val / 128) ((i 1).val / 512) (i 0).isLt
      (by have hi : (i 2).val < 512 := (i 2).isLt; omega) (by have hi : (i 1).val < 4096 := (i 1).isLt; omega))
    (ix3 0 ⟨(i 1).val % 512, by omega⟩ ⟨(i 2).val % 128, by omega⟩)

theorem left_at {t t' : Fin cfg0.N} {y y' : S1x512x128.Idx} (e : t = t') (e' : y = y') : left m c t y = left m c t' y' := by
  subst e e'; rfl

/-- Every element of the output is placed by some block. -/
theorem covered (i : S16x4096x512.Idx) : ∃ (t : Fin cfg0.N) (y : S1x512x128.Idx), ((cfg0.win (3 : Fin 4)).blk t).view.emb y = i := by
  have h0 : (i 0).val < 16 := (i 0).isLt
  have h1 : (i 1).val < 4096 := (i 1).isLt
  have h2 : (i 2).val < 512 := (i 2).isLt
  refine ⟨point (i 0).val ((i 2).val / 128) ((i 1).val / 512) h0 (by omega) (by omega),
    ix3 0 ⟨(i 1).val % 512, by omega⟩ ⟨(i 2).val % 128, by omega⟩, ?_⟩
  refine (place3 _ _).trans (funext fun b => Fin.ext ?_)
  match b with
  | ⟨0, _⟩ => show (32 * (i 0).val + 8 * ((i 2).val / 128) + (i 1).val / 512) / 32 = (i 0).val; omega
  | ⟨1, _⟩ => show 512 * ((32 * (i 0).val + 8 * ((i 2).val / 128) + (i 1).val / 512) % 8) + (i 1).val % 512 = (i 1).val; omega
  | ⟨2, _⟩ => show 128 * ((32 * (i 0).val + 8 * ((i 2).val / 128) + (i 1).val / 512) / 8 % 4) + (i 2).val % 128 = (i 2).val; omega

/-- What the write-backs make of the output array. -/
theorem final3 : (dats m 0 c).arrAt (3 : Fin 4) cfg0.N = finished m c := by
  refine (dats m 0 c).arrAt_eq_of_emb (3 : Fin 4) (finished m c) (fun t _ y => ?_) (fun i => ?_)
  · refine Eq.trans ?_ (congrArg (finished m c) (place3 t y)).symm
    have ht := lt_points t
    have hy0 : (y 0).val < 1 := (y 0).isLt
    have hy1 : (y 1).val < 512 := (y 1).isLt
    have hy2 : (y 2).val < 128 := (y 2).isLt
    refine Eq.trans (b := left m c t y) (congrFun (after0_3 m c t) y) ?_
    show _ = left m c _ _
    refine left_at m c (Fin.ext ?_) (funext fun b => Fin.ext ?_)
    · show t.val = 32 * (t.val / 32) + 8 * ((128 * (t.val / 8 % 4) + (y 2).val) / 128) + (512 * (t.val % 8) + (y 1).val) / 512; omega
    · match b with
      | ⟨0, _⟩ => show (y 0).val = 0; omega
      | ⟨1, _⟩ => show (y 1).val = (512 * (t.val % 8) + (y 1).val) % 512; omega
      | ⟨2, _⟩ => show (y 2).val = (128 * (t.val / 8 % 4) + (y 2).val) % 128; omega
  · obtain ⟨t, y, e⟩ := covered i
    refine ⟨t, flush0_3 t, ?_⟩
    have e' := View.emb_mem_set ((cfg0.win (3 : Fin 4)).blk t).view y
    rw [e] at e'
    exact e'

/-! ## The packed arrays -/

/-- The program's arguments. -/
abbrev qIn : S16x4096x8x64.Idx → Elt F .f32 := m ((c.tc : Thread nD τ).loc main_arg0)
abbrev qrIn : S16x4096x8x32.Idx → Elt F .f32 := m ((c.tc : Thread nD τ).loc main_arg1)
abbrev kIn : S16x4096x8x64.Idx → Elt F .f32 := m ((c.tc : Thread nD τ).loc main_arg2)
abbrev krIn : S16x4096x32.Idx → Elt F .f32 := m ((c.tc : Thread nD τ).loc main_arg3)
abbrev vIn : S16x4096x8x64.Idx → Elt F .f32 := m ((c.tc : Thread nD τ).loc main_arg4)

/-- The scale: one over the square root of the width times the logarithm of two. -/
abbrev scale : FVec F S_ .f32 :=
  Host.divf (constant S_ .f32 0x3F800000#32) (mulf (Host.sqrt (constant S_ .f32 0x42C00000#32)) (Host.log (constant S_ .f32 0x40000000#32)))

/-- The packed queries, scaled. -/
abbrev packQ (Q : FVec F S16x4096x8x64 .f32) (Qr : FVec F S16x4096x8x32 .f32) : FVec F S16x4096x8x128 .f32 :=
  concatenate S16x4096x8x128 3 [⟨S16x4096x8x64, mulf Q (broadcastInDim S16x4096x8x64 ![] bcast_S_S16x4096x8x64 scale)⟩,
    ⟨S16x4096x8x32, mulf Qr (broadcastInDim S16x4096x8x32 ![] bcast_S_S16x4096x8x32 scale)⟩,
    ⟨S16x4096x8x32, broadcastInDim S16x4096x8x32 ![] bcast_S_S16x4096x8x32 (constant S_ .f32 0x00000000#32)⟩]
    concatenates_S16x4096x8x64_S16x4096x8x32_S16x4096x8x32_S16x4096x8x128_d3

/-- The packed keys. -/
abbrev packK (K : FVec F S16x4096x8x64 .f32) (Kr : FVec F S16x4096x32 .f32) : FVec F S16x4096x8x128 .f32 :=
  concatenate S16x4096x8x128 3 [⟨S16x4096x8x64, K⟩,
    ⟨S16x4096x8x32, broadcastInDim S16x4096x8x32 ![0, 1, 2, 3] bcast_S16x4096x1x32_S16x4096x8x32_0_1_2_3 (broadcastInDim S16x4096x1x32 ![0, 1, 3] bcast_S16x4096x32_S16x4096x1x32_0_1_3 Kr)⟩,
    ⟨S16x4096x8x32, broadcastInDim S16x4096x8x32 ![] bcast_S_S16x4096x8x32 (constant S_ .f32 0x00000000#32)⟩]
    concatenates_S16x4096x8x64_S16x4096x8x32_S16x4096x8x32_S16x4096x8x128_d3

/-- The packed values, with their column of ones. -/
abbrev packV (W : FVec F S16x4096x8x64 .f32) : FVec F S16x4096x8x128 .f32 :=
  concatenate S16x4096x8x128 3 [⟨S16x4096x8x64, W⟩,
    ⟨S16x4096x8x1, broadcastInDim S16x4096x8x1 ![] bcast_S_S16x4096x8x1 (constant S_ .f32 0x3F800000#32)⟩,
    ⟨S16x4096x8x63, broadcastInDim S16x4096x8x63 ![] bcast_S_S16x4096x8x63 (constant S_ .f32 0x00000000#32)⟩]
    concatenates_S16x4096x8x64_S16x4096x8x1_S16x4096x8x63_S16x4096x8x128_d3

theorem entry_q : V m c main_v19
    = shapeCast S16x4096x1024 (truncf .bf16 (packQ (qIn m c) (qrIn m c)) bitsLt_bf16_f32) shapeCasts_S16x4096x8x128_S16x4096x1024 := by
  show after hostOps0 _ _ = _
  after_results <;> rfl

theorem entry_k : V m c main_v20
    = shapeCast S16x4096x1024 (truncf .bf16 (packK (kIn m c) (krIn m c)) bitsLt_bf16_f32) shapeCasts_S16x4096x8x128_S16x4096x1024 := by
  show after hostOps0 _ _ = _
  after_results <;> rfl

theorem entry_v : V m c main_v21
    = shapeCast S16x4096x1024 (truncf .bf16 (packV (vIn m c)) bitsLt_bf16_f32) shapeCasts_S16x4096x8x128_S16x4096x1024 := by
  show after hostOps0 _ _ = _
  after_results <;> rfl

/-! ## The blocks -/

theorem block0_at (t : Fin cfg0.N) (p : Fin 512) (x : Fin 256) (b : Fin 16) (q : Fin 4096) (hd : Fin 8) (d : Fin 128)
    (eb : b.val = t.val / 32) (eq : q.val = 512 * (t.val % 8) + p.val) (ed : 128 * hd.val + d.val = 256 * (t.val / 8 % 4) + x.val) :
    iblk m c 0 t (ix3 0 p x : S1x512x256.Idx) = truncf .bf16 (packQ (qIn m c) (qrIn m c)) bitsLt_bf16_f32 (ix4 b q hd d) := by
  refine (congrFun (entry_q m c) _).trans (shapeCast_apply _ _ _ (ix4 b q hd d) ?_)
  have p0 := Window.rect_emb_val (cfg0.win (0 : Fin 4)) t (ix3 0 p x : S1x512x256.Idx) (0 : Fin 3)
  have p1 := Window.rect_emb_val (cfg0.win (0 : Fin 4)) t (ix3 0 p x : S1x512x256.Idx) (1 : Fin 3)
  have p2 := Window.rect_emb_val (cfg0.win (0 : Fin 4)) t (ix3 0 p x : S1x512x256.Idx) (2 : Fin 3)
  rw [index0] at p0 p1 p2
  have p0' : (((cfg0.win (0 : Fin 4)).rect t).emb (ix3 0 p x : S1x512x256.Idx) (0 : Fin 3) : ℕ) = b.val :=
    p0.trans (by show t.val / 32 * 1 + 0 = b.val; omega)
  have p1' : (((cfg0.win (0 : Fin 4)).rect t).emb (ix3 0 p x : S1x512x256.Idx) (1 : Fin 3) : ℕ) = q.val :=
    p1.trans (by show t.val % 8 * 512 + p.val = q.val; omega)
  have p2' : (((cfg0.win (0 : Fin 4)).rect t).emb (ix3 0 p x : S1x512x256.Idx) (2 : Fin 3) : ℕ) = 128 * hd.val + d.val :=
    p2.trans (by show t.val / 8 % 4 * 256 + x.val = 128 * hd.val + d.val; omega)
  rw [Shape.rowMajor_val_four, Shape.rowMajor_val_three]
  refine Eq.trans ?_ (congrArg₂ (fun a b : ℕ => a * 1024 + b) (congrArg₂ (fun a b : ℕ => a * 4096 + b) p0' p1') p2').symm
  show ((b.val * 4096 + q.val) * 8 + hd.val) * 128 + d.val = (b.val * 4096 + q.val) * 1024 + (128 * hd.val + d.val)
  omega

theorem block1_at (t : Fin cfg0.N) (k : Fin 4096) (x : Fin 256) (b : Fin 16) (hd : Fin 8) (d : Fin 128)
    (eb : b.val = t.val / 32) (ed : 128 * hd.val + d.val = 256 * (t.val / 8 % 4) + x.val) :
    iblk m c 1 t (ix3 0 k x : S1x4096x256.Idx) = truncf .bf16 (packK (kIn m c) (krIn m c)) bitsLt_bf16_f32 (ix4 b k hd d) := by
  refine (congrFun (entry_k m c) _).trans (shapeCast_apply _ _ _ (ix4 b k hd d) ?_)
  have p0 := Window.rect_emb_val (cfg0.win (1 : Fin 4)) t (ix3 0 k x : S1x4096x256.Idx) (0 : Fin 3)
  have p1 := Window.rect_emb_val (cfg0.win (1 : Fin 4)) t (ix3 0 k x : S1x4096x256.Idx) (1 : Fin 3)
  have p2 := Window.rect_emb_val (cfg0.win (1 : Fin 4)) t (ix3 0 k x : S1x4096x256.Idx) (2 : Fin 3)
  rw [index1] at p0 p1 p2
  have p0' : (((cfg0.win (1 : Fin 4)).rect t).emb (ix3 0 k x : S1x4096x256.Idx) (0 : Fin 3) : ℕ) = b.val :=
    p0.trans (by show t.val / 32 * 1 + 0 = b.val; omega)
  have p1' : (((cfg0.win (1 : Fin 4)).rect t).emb (ix3 0 k x : S1x4096x256.Idx) (1 : Fin 3) : ℕ) = k.val :=
    p1.trans (by show 0 * 4096 + k.val = k.val; omega)
  have p2' : (((cfg0.win (1 : Fin 4)).rect t).emb (ix3 0 k x : S1x4096x256.Idx) (2 : Fin 3) : ℕ) = 128 * hd.val + d.val :=
    p2.trans (by show t.val / 8 % 4 * 256 + x.val = 128 * hd.val + d.val; omega)
  rw [Shape.rowMajor_val_four, Shape.rowMajor_val_three]
  refine Eq.trans ?_ (congrArg₂ (fun a b : ℕ => a * 1024 + b) (congrArg₂ (fun a b : ℕ => a * 4096 + b) p0' p1') p2').symm
  show ((b.val * 4096 + k.val) * 8 + hd.val) * 128 + d.val = (b.val * 4096 + k.val) * 1024 + (128 * hd.val + d.val)
  omega

theorem block2_at (t : Fin cfg0.N) (k : Fin 4096) (x : Fin 256) (b : Fin 16) (hd : Fin 8) (d : Fin 128)
    (eb : b.val = t.val / 32) (ed : 128 * hd.val + d.val = 256 * (t.val / 8 % 4) + x.val) :
    iblk m c 2 t (ix3 0 k x : S1x4096x256.Idx) = truncf .bf16 (packV (vIn m c)) bitsLt_bf16_f32 (ix4 b k hd d) := by
  refine (congrFun (entry_v m c) _).trans (shapeCast_apply _ _ _ (ix4 b k hd d) ?_)
  have p0 := Window.rect_emb_val (cfg0.win (2 : Fin 4)) t (ix3 0 k x : S1x4096x256.Idx) (0 : Fin 3)
  have p1 := Window.rect_emb_val (cfg0.win (2 : Fin 4)) t (ix3 0 k x : S1x4096x256.Idx) (1 : Fin 3)
  have p2 := Window.rect_emb_val (cfg0.win (2 : Fin 4)) t (ix3 0 k x : S1x4096x256.Idx) (2 : Fin 3)
  rw [index2] at p0 p1 p2
  have p0' : (((cfg0.win (2 : Fin 4)).rect t).emb (ix3 0 k x : S1x4096x256.Idx) (0 : Fin 3) : ℕ) = b.val :=
    p0.trans (by show t.val / 32 * 1 + 0 = b.val; omega)
  have p1' : (((cfg0.win (2 : Fin 4)).rect t).emb (ix3 0 k x : S1x4096x256.Idx) (1 : Fin 3) : ℕ) = k.val :=
    p1.trans (by show 0 * 4096 + k.val = k.val; omega)
  have p2' : (((cfg0.win (2 : Fin 4)).rect t).emb (ix3 0 k x : S1x4096x256.Idx) (2 : Fin 3) : ℕ) = 128 * hd.val + d.val :=
    p2.trans (by show t.val / 8 % 4 * 256 + x.val = 128 * hd.val + d.val; omega)
  rw [Shape.rowMajor_val_four, Shape.rowMajor_val_three]
  refine Eq.trans ?_ (congrArg₂ (fun a b : ℕ => a * 1024 + b) (congrArg₂ (fun a b : ℕ => a * 4096 + b) p0' p1') p2').symm
  show ((b.val * 4096 + k.val) * 8 + hd.val) * 128 + d.val = (b.val * 4096 + k.val) * 1024 + (128 * hd.val + d.val)
  omega

end Cert.Proof.Attend

end
-- ==== Proof.AttendValue.lean ====
/-
  The `mla` call over the extended reals: what its run leaves is, element by element, what the reference computes, for queries and
  keys that are finite.
-/
module

public import proofs.«01_k».proof.Proof.AttendFinal
public import proofs.«01_k».proof.Proof.Gen.Pre_finite_scores
public import proofs.«01_k».proof.Defs
public import Idealize.ShloMosaic.Lib.ReduceAll
public import Idealize.ShloMosaic.Lib.Affine

@[expose] public section

set_option maxRecDepth 16384

noncomputable section

namespace Cert.Proof.Attend

open Cert.Kernel3Ideal Cert.Kernel3Ideal.Gen
open Idealize.ShloMosaic hiding ix1 ix2 ix3 ix4
open Idealize.ShloMosaic.TcCoe Idealize.ShloMosaic.StableHlo
open Idealize.ShloMosaic.ValueIdx
open Idealize.SL.Sem
open Idealize.ShloMosaic.Pipeline (Dat Cfg Window)
open Cert.Proof.Attend.Ref (ninetySix score raw mixed)
open scoped BigOperators

/-! ## The scale -/

theorem two : Ideal.ofBits .f32 0x40000000#32 = ((2 : ℝ) : EReal) := by
  simp only [Ideal.ofBits, Ideal.ieee]
  simp
  rw [← EReal.coe_mul]
  norm_num

theorem root_pos : 0 < Real.sqrt 96 := Real.sqrt_pos.mpr (by norm_num)

theorem log_pos : 0 < Real.log 2 := Real.log_pos (by norm_num)

theorem scale_at (i : S_.Idx) : scale (F := Ideal) i = ((1 / (Real.sqrt 96 * Real.log 2) : ℝ) : EReal) := by
  show Ideal.div (Ideal.ofBits .f32 0x3F800000#32) (Ideal.sqrt (Ideal.ofBits .f32 0x42C00000#32) * Ideal.log (Ideal.ofBits .f32 0x40000000#32)) = _
  rw [Ideal.ofBits_one_f32, ninetySix, two, Ideal.sqrt_coe, if_neg (by norm_num), Ideal.log_coe, if_neg (by norm_num), ← EReal.coe_mul,
    Ideal.div_coe (mul_pos root_pos log_pos).ne', one_mul]

theorem unscaled : Ideal.div 1 (Ideal.sqrt ((96 : ℝ) : EReal)) = ((1 / Real.sqrt 96 : ℝ) : EReal) := by
  rw [Ideal.sqrt_coe, if_neg (by norm_num), Ideal.div_coe root_pos.ne', one_mul]

/-! ## The packed arrays, element by element -/

section Packed

variable {s₁ s₂ : Shape} (x : S16x4096x8x64.Idx → EReal) (b : Fin 16) (q : Fin 4096) (h : Fin 8)

/-- The first 64 lanes are the first piece's. -/
theorem first_at (y : s₁.Idx → EReal) (z : s₂.Idx → EReal) (hc : Shape.Concatenates [S16x4096x8x64, s₁, s₂] S16x4096x8x128 3) (d : Fin 64) :
    concatenate S16x4096x8x128 3 [⟨S16x4096x8x64, x⟩, ⟨s₁, y⟩, ⟨s₂, z⟩] hc (ix4 b q h ⟨d.val, by omega⟩) = x (ix4 b q h d) := by
  refine concatenate_apply_piece (3 : Fin S16x4096x8x128.rank) [⟨S16x4096x8x64, x⟩, ⟨s₁, y⟩, ⟨s₂, z⟩] hc _ 0 (by simp) S16x4096x8x64 x rfl rfl 0 rfl
    (ix4 b q h d) ?_ ?_
  · intro a ha; match a with
    | 0 => rfl
    | 1 => rfl
    | 2 => rfl
    | 3 => exact absurd rfl ha
  · show 0 + d.val = d.val; omega

/-- Past them, the second's. -/
theorem second_at {n : Nat} (y : (⟨4, ![16, 4096, 8, n]⟩ : Shape).Idx → EReal) (z : s₂.Idx → EReal)
    (hc : Shape.Concatenates [S16x4096x8x64, ⟨4, ![16, 4096, 8, n]⟩, s₂] S16x4096x8x128 3) (r : Fin n) (hr : 64 + r.val < 128) :
    concatenate S16x4096x8x128 3 [⟨S16x4096x8x64, x⟩, ⟨⟨4, ![16, 4096, 8, n]⟩, y⟩, ⟨s₂, z⟩] hc (ix4 b q h ⟨64 + r.val, hr⟩) = y (ix4 b q h r) := by
  refine concatenate_apply_piece (3 : Fin S16x4096x8x128.rank) [⟨S16x4096x8x64, x⟩, ⟨⟨4, ![16, 4096, 8, n]⟩, y⟩, ⟨s₂, z⟩] hc _ 1 (by simp)
    ⟨4, ![16, 4096, 8, n]⟩ y rfl rfl 64 rfl (ix4 b q h r) ?_ ?_
  · intro a ha; match a with
    | 0 => rfl
    | 1 => rfl
    | 2 => rfl
    | 3 => exact absurd rfl ha
  · rfl

/-- Past 96 lanes, the third's. -/
theorem third_at (y z : S16x4096x8x32.Idx → EReal) (hc : Shape.Concatenates [S16x4096x8x64, S16x4096x8x32, S16x4096x8x32] S16x4096x8x128 3) (r : Fin 32) :
    concatenate S16x4096x8x128 3 [⟨S16x4096x8x64, x⟩, ⟨S16x4096x8x32, y⟩, ⟨S16x4096x8x32, z⟩] hc (ix4 b q h ⟨96 + r.val, by omega⟩)
      = z (ix4 b q h r) := by
  refine concatenate_apply_piece (3 : Fin S16x4096x8x128.rank) [⟨S16x4096x8x64, x⟩, ⟨S16x4096x8x32, y⟩, ⟨S16x4096x8x32, z⟩] hc _ 2 (by simp)
    S16x4096x8x32 z rfl rfl 96 rfl (ix4 b q h r) ?_ ?_
  · intro a ha; match a with
    | 0 => rfl
    | 1 => rfl
    | 2 => rfl
    | 3 => exact absurd rfl ha
  · rfl

variable (Q : FVec Ideal S16x4096x8x64 .f32) (Qr : FVec Ideal S16x4096x8x32 .f32) (K : FVec Ideal S16x4096x8x64 .f32)
  (Kr : FVec Ideal S16x4096x32 .f32) (W : FVec Ideal S16x4096x8x64 .f32)

theorem packQ_nope (d : Fin 64) :
    packQ Q Qr (ix4 b q h ⟨d.val, by omega⟩) = (Q (ix4 b q h d) * ((1 / (Real.sqrt 96 * Real.log 2) : ℝ) : EReal) : EReal) := by
  refine (first_at _ b q h _ _ _ d).trans ?_
  show (Q (ix4 b q h d) * broadcastInDim S16x4096x8x64 ![] bcast_S_S16x4096x8x64 (scale (F := Ideal)) (ix4 b q h d) : EReal) = _
  rw [broadcastInDim_scalar_apply, scale_at]

theorem packQ_rope (r : Fin 32) :
    packQ Q Qr (ix4 b q h ⟨64 + r.val, by omega⟩) = (Qr (ix4 b q h r) * ((1 / (Real.sqrt 96 * Real.log 2) : ℝ) : EReal) : EReal) := by
  refine (second_at _ b q h _ _ _ r (by omega)).trans ?_
  show (Qr (ix4 b q h r) * broadcastInDim S16x4096x8x32 ![] bcast_S_S16x4096x8x32 (scale (F := Ideal)) (ix4 b q h r) : EReal) = _
  rw [broadcastInDim_scalar_apply, scale_at]

theorem packQ_pad (r : Fin 32) : packQ Q Qr (ix4 b q h ⟨96 + r.val, by omega⟩) = (0 : EReal) :=
  (third_at _ b q h _ _ _ r).trans ((broadcastInDim_scalar_apply _ _ _).trans Ideal.ofBits_zero_f32)

theorem packK_nope (d : Fin 64) : packK K Kr (ix4 b q h ⟨d.val, by omega⟩) = K (ix4 b q h d) := first_at _ b q h _ _ _ d

theorem packK_rope (r : Fin 32) : packK K Kr (ix4 b q h ⟨64 + r.val, by omega⟩) = Kr (ix3 b q r) := by
  refine (second_at _ b q h _ _ _ r (by omega)).trans
    ((broadcastInDim_apply _ _ _ _ (ix4 b q 0 r) ?_).trans (broadcastInDim_apply _ _ _ _ (ix3 b q r) ?_))
  · intro a; match a with
    | 0 => rfl
    | 1 => rfl
    | 2 => rfl
    | 3 => rfl
  · intro a; match a with
    | 0 => rfl
    | 1 => rfl
    | 2 => rfl

theorem packV_value (d : Fin 64) : packV W (ix4 b q h ⟨d.val, by omega⟩) = W (ix4 b q h d) := first_at _ b q h _ _ _ d

theorem packV_one : packV W (ix4 b q h 64) = (1 : EReal) :=
  (second_at _ b q h (n := 1) _ _ _ 0 (by decide)).trans ((broadcastInDim_scalar_apply _ _ _).trans Ideal.ofBits_one_f32)

end Packed

/-! ## The scores of finite queries and keys -/

theorem sum_lanes (f : Fin 128 → EReal) :
    ∑ d, f d = ((∑ d : Fin 64, f ⟨d.val, by omega⟩) + ∑ r : Fin 32, f ⟨64 + r.val, by omega⟩) + ∑ r : Fin 32, f ⟨96 + r.val, by omega⟩ :=
  (Fin.sum_univ_add (a := 96) (b := 32) f).trans
    (congrArg (fun x : EReal => x + ∑ r : Fin 32, f ⟨96 + r.val, by omega⟩)
      (Fin.sum_univ_add (a := 64) (b := 32) fun d : Fin 96 => f ⟨d.val, by omega⟩))

/-- The product of a query and a key, in the reals. -/
def rawReal (Q : S16x4096x8x64.Idx → ℝ) (Qr : S16x4096x8x32.Idx → ℝ) (K : S16x4096x8x64.Idx → ℝ) (Kr : S16x4096x32.Idx → ℝ)
    (b : Fin 16) (h : Fin 8) (q k : Fin 4096) : ℝ :=
  (∑ d : Fin 64, Q (ix4 b q h d) * K (ix4 b k h d)) + ∑ r : Fin 32, Qr (ix4 b q h r) * Kr (ix3 b k r)

section Scores

variable {Q : FVec Ideal S16x4096x8x64 .f32} {Qr : FVec Ideal S16x4096x8x32 .f32} {K : FVec Ideal S16x4096x8x64 .f32}
  {Kr : FVec Ideal S16x4096x32 .f32} {Qx : S16x4096x8x64.Idx → ℝ} {Qrx : S16x4096x8x32.Idx → ℝ} {Kx : S16x4096x8x64.Idx → ℝ}
  {Krx : S16x4096x32.Idx → ℝ} (hQ : ∀ i, Q i = ((Qx i : ℝ) : EReal)) (hQr : ∀ i, Qr i = ((Qrx i : ℝ) : EReal))
  (hK : ∀ i, K i = ((Kx i : ℝ) : EReal)) (hKr : ∀ i, Kr i = ((Krx i : ℝ) : EReal)) (b : Fin 16) (h : Fin 8) (q k : Fin 4096)

include hQ hQr hK hKr

theorem score_real : score Q Qr K Kr b h q k = ((rawReal Qx Qrx Kx Krx b h q k * (1 / Real.sqrt 96) : ℝ) : EReal) := by
  have e0 : ∑ d : Fin 64, (Q (ix4 b q h d) * K (ix4 b k h d) : EReal) = ((∑ d : Fin 64, Qx (ix4 b q h d) * Kx (ix4 b k h d) : ℝ) : EReal) := by
    rw [← sum_coe]
    exact Finset.sum_congr rfl fun d _ => by rw [hQ, hK, EReal.coe_mul]
  have e1 : ∑ r : Fin 32, (Qr (ix4 b q h r) * Kr (ix3 b k r) : EReal) = ((∑ r : Fin 32, Qrx (ix4 b q h r) * Krx (ix3 b k r) : ℝ) : EReal) := by
    rw [← sum_coe]
    exact Finset.sum_congr rfl fun d _ => by rw [hQr, hKr, EReal.coe_mul]
  unfold score raw rawReal
  rw [e0, e1, unscaled, ← EReal.coe_add, ← EReal.coe_mul]

theorem packed_dot : ∑ d : Fin 128, (packQ Q Qr (ix4 b q h d) * packK K Kr (ix4 b k h d) : EReal)
    = ((rawReal Qx Qrx Kx Krx b h q k * (1 / Real.sqrt 96) * (Real.log 2)⁻¹ : ℝ) : EReal) := by
  have e0 : ∑ d : Fin 64, (packQ Q Qr (ix4 b q h ⟨d.val, by omega⟩) * packK K Kr (ix4 b k h ⟨d.val, by omega⟩) : EReal)
      = ((∑ d : Fin 64, Qx (ix4 b q h d) * (1 / (Real.sqrt 96 * Real.log 2)) * Kx (ix4 b k h d) : ℝ) : EReal) := by
    rw [← sum_coe]
    exact Finset.sum_congr rfl fun d _ => by rw [packQ_nope, packK_nope, hQ, hK, EReal.coe_mul, EReal.coe_mul]
  have e1 : ∑ r : Fin 32, (packQ Q Qr (ix4 b q h ⟨64 + r.val, by omega⟩) * packK K Kr (ix4 b k h ⟨64 + r.val, by omega⟩) : EReal)
      = ((∑ r : Fin 32, Qrx (ix4 b q h r) * (1 / (Real.sqrt 96 * Real.log 2)) * Krx (ix3 b k r) : ℝ) : EReal) := by
    rw [← sum_coe]
    exact Finset.sum_congr rfl fun d _ => by rw [packQ_rope, packK_rope, hQr, hKr, EReal.coe_mul, EReal.coe_mul]
  have e2 : ∑ r : Fin 32, (packQ Q Qr (ix4 b q h ⟨96 + r.val, by omega⟩) * packK K Kr (ix4 b k h ⟨96 + r.val, by omega⟩) : EReal) = 0 :=
    Finset.sum_eq_zero fun r _ => by rw [packQ_pad, zero_mul]
  refine (sum_lanes _).trans ?_
  rw [e0, e1, e2, add_zero, ← EReal.coe_add]
  refine congrArg (fun x : ℝ => (x : EReal)) ?_
  unfold rawReal
  rw [add_mul, add_mul, Finset.sum_mul, Finset.sum_mul, Finset.sum_mul, Finset.sum_mul]
  refine congrArg₂ (· + ·) (Finset.sum_congr rfl fun d _ => ?_) (Finset.sum_congr rfl fun d _ => ?_) <;> rw [one_div, one_div, mul_inv] <;> ring

end Scores

/-! ## The result -/

section Result

variable (m : (ℓ : Loc nD τ sig) → Buf (Elt Ideal) ℓ) (c : Dev nD)

/-- The queries and keys are finite. -/
structure Finite (Q : S16x4096x8x64.Idx → EReal) (Qr : S16x4096x8x32.Idx → EReal) (K : S16x4096x8x64.Idx → EReal) (Kr : S16x4096x32.Idx → EReal) : Prop where
  q : ∃ x : S16x4096x8x64.Idx → ℝ, ∀ i, Q i = ((x i : ℝ) : EReal)
  qr : ∃ x : S16x4096x8x32.Idx → ℝ, ∀ i, Qr i = ((x i : ℝ) : EReal)
  k : ∃ x : S16x4096x8x64.Idx → ℝ, ∀ i, K i = ((x i : ℝ) : EReal)
  kr : ∃ x : S16x4096x32.Idx → ℝ, ∀ i, Kr i = ((x i : ℝ) : EReal)

variable (fin : Finite (qIn m c) (qrIn m c) (kIn m c) (krIn m c))

include fin in
/-- One head of a point's block is the reference's mixture. -/
theorem quotient_at (t : Fin cfg0.N) (o : Nat) (ho : o ≤ 128) (p : Fin 512) (l : Fin 128) (b : Fin 16) (q : Fin 4096) (hd : Fin 8) (d : Fin 64)
    (eb : b.val = t.val / 32) (eq : q.val = 512 * (t.val % 8) + p.val) (eh : 128 * hd.val = 256 * (t.val / 8 % 4) + o) (el : l.val = d.val) :
    Tile.blockQuotient (iblk m c 0 t) (iblk m c 1 t) (iblk m c 2 t) o ho p l = mixed (qIn m c) (qrIn m c) (kIn m c) (krIn m c) (vIn m c) b q hd d := by
  obtain ⟨⟨Qx, hQ⟩, ⟨Qrx, hQr⟩, ⟨Kx, hK⟩, ⟨Krx, hKr⟩⟩ := fin
  have es : Tile.blockScore (iblk m c 0 t) (iblk m c 1 t) o ho p
      = fun k : Fin 4096 => ((rawReal Qx Qrx Kx Krx b hd q k * (1 / Real.sqrt 96) * (Real.log 2)⁻¹ : ℝ) : EReal) := by
    funext k
    refine Eq.trans ?_ (packed_dot hQ hQr hK hKr b hd q k)
    exact Finset.sum_congr rfl fun e _ => congrArg₂ (fun x y : EReal => x * y)
      (block0_at m c t p ⟨o + e.val, by omega⟩ b q hd e eb eq (by show 128 * hd.val + e.val = 256 * (t.val / 8 % 4) + (o + e.val); omega))
      (block1_at m c t k ⟨o + e.val, by omega⟩ b hd e eb (by show 128 * hd.val + e.val = 256 * (t.val / 8 % 4) + (o + e.val); omega))
  have ev : (fun j : Fin 4096 => (iblk m c 2 t (ix3 0 j ⟨o + l.val, by omega⟩ : S1x4096x256.Idx) : EReal)) = fun j => vIn m c (ix4 b j hd d) :=
    funext fun j => (block2_at m c t j ⟨o + l.val, by omega⟩ b hd ⟨d.val, by omega⟩ eb
      (by show 128 * hd.val + d.val = 256 * (t.val / 8 % 4) + (o + l.val); omega)).trans (packV_value b j hd (vIn m c) d)
  have e1 : (fun j : Fin 4096 => (iblk m c 2 t (ix3 0 j ⟨o + 64, by omega⟩ : S1x4096x256.Idx) : EReal)) = fun _ => (1 : EReal) :=
    funext fun j => (block2_at m c t j ⟨o + 64, by omega⟩ b hd 64 eb
      (by show 128 * hd.val + 64 = 256 * (t.val / 8 % 4) + (o + 64); omega)).trans (packV_one b j hd (vIn m c))
  refine (congrArg₂ Ideal.div (congrArg₂ grown es ev) (congrArg₂ grown es e1)).trans
    ((grown_div (fun k => rawReal Qx Qrx Kx Krx b hd q k * (1 / Real.sqrt 96)) _).trans ?_)
  exact congrArg (fun y => weighed y fun k => vIn m c (ix4 b k hd d)) (funext fun k => (score_real hQ hQr hK hKr b hd q k).symm)

include fin in
/-- What the run leaves is the reference's result. -/
theorem value : finished m c = truncf .bf16 (shapeCast S16x4096x512 (Ref.heads (qIn m c) (qrIn m c) (kIn m c) (krIn m c) (vIn m c))
    Cert.Reference3Ideal.Gen.shapeCasts_S16x4096x8x64_S16x4096x512) Cert.Reference3Ideal.Gen.bitsLt_bf16_f32 := by
  funext i
  have h0 : (i 0).val < 16 := (i 0).isLt
  have h1 : (i 1).val < 4096 := (i 1).isLt
  have h2 : (i 2).val < 512 := (i 2).isLt
  let hd : Fin 8 := ⟨(i 2).val / 64, by omega⟩
  let d : Fin 64 := ⟨(i 2).val % 64, by omega⟩
  refine Eq.trans ?_ ((shapeCast_apply _ _ i (ix4 (i 0) (i 1) hd d) ?_).trans
    (Ref.heads_at (qIn m c) (qrIn m c) (kIn m c) (krIn m c) (vIn m c) (i 0) (i 1) hd d)).symm
  swap
  · rw [Shape.rowMajor_val_four, Shape.rowMajor_val_three]
    show (((i 0).val * 4096 + (i 1).val) * 8 + (i 2).val / 64) * 64 + (i 2).val % 64 = ((i 0).val * 4096 + (i 1).val) * 512 + (i 2).val
    omega
  have hb : 32 * (i 0).val + 8 * ((i 2).val / 128) + (i 1).val / 512 < 512 := by omega
  refine (Tile.out_at _ _ _ _ _).trans ?_
  by_cases hl : (i 2).val % 128 < 64
  · rw [if_pos hl]
    refine quotient_at m c fin _ 0 _ _ _ _ _ _ _ ?_ ?_ ?_ ?_
    · show (i 0).val = (32 * (i 0).val + 8 * ((i 2).val / 128) + (i 1).val / 512) / 32; omega
    · show (i 1).val = 512 * ((32 * (i 0).val + 8 * ((i 2).val / 128) + (i 1).val / 512) % 8) + (i 1).val % 512; omega
    · show 128 * ((i 2).val / 64) = 256 * ((32 * (i 0).val + 8 * ((i 2).val / 128) + (i 1).val / 512) / 8 % 4) + 0; omega
    · show (i 2).val % 128 = (i 2).val % 64; omega
  · rw [if_neg hl]
    refine quotient_at m c fin _ 128 _ _ _ _ _ _ _ ?_ ?_ ?_ ?_
    · show (i 0).val = (32 * (i 0).val + 8 * ((i 2).val / 128) + (i 1).val / 512) / 32; omega
    · show (i 1).val = 512 * ((32 * (i 0).val + 8 * ((i 2).val / 128) + (i 1).val / 512) % 8) + (i 1).val % 512; omega
    · show 128 * ((i 2).val / 64) = 256 * ((32 * (i 0).val + 8 * ((i 2).val / 128) + (i 1).val / 512) / 8 % 4) + 128; omega
    · show ((i 2).val % 128 + 64) % 128 = (i 2).val % 64; omega

end Result

/-! ## The precondition -/

theorem ofBool_one {p : Bool} (e : BitVec.ofBool p = 1#1) : p = true := by revert e; cases p <;> decide

theorem real_of_olt (x : EReal) (e : Ideal.cmp .olt (max x (-x)) (Ideal.ofBits .f32 0x7F800000#32) = 1#1) : ∃ r : ℝ, x = ((r : ℝ) : EReal) := by
  have top : Ideal.ofBits .f32 0x7F800000#32 = ⊤ := by simp [Ideal.ofBits, Ideal.ieee]
  rw [top] at e
  have lt : max x (-x) < ⊤ := of_decide_eq_true (ofBool_one e)
  induction x using EReal.rec with
  | bot => exact absurd lt (by simp)
  | coe r => exact ⟨r, rfl⟩
  | top => exact absurd lt (by simp)

theorem finite_of_pre (Q : S16x4096x8x64.Idx → EReal) (Qr : S16x4096x8x32.Idx → EReal) (K : S16x4096x8x64.Idx → EReal) (Kr : S16x4096x32.Idx → EReal)
    (W : S16x4096x8x64.Idx → EReal) (h : Cert.Pre_finite_scores.fn (F := Ideal) Q Qr K Kr W = fun _ => 1#1) : Finite Q Qr K Kr := by
  have e := congrFun h (fun a => a.elim0)
  dsimp only [Cert.Pre_finite_scores.fn, Cert.Pre_finite_scores.fn_part1] at e
  obtain ⟨e012, e3⟩ := IntOp.andi_eq_one.mp e
  obtain ⟨e01, e2⟩ := IntOp.andi_eq_one.mp e012
  obtain ⟨e0, e1⟩ := IntOp.andi_eq_one.mp e01
  have a0 : ∀ i, ∃ r : ℝ, Q i = ((r : ℝ) : EReal) := fun i => real_of_olt _ (Host.reduce_andi_all _ _ _ _ _ e0 i)
  have a1 : ∀ i, ∃ r : ℝ, Qr i = ((r : ℝ) : EReal) := fun i => real_of_olt _ (Host.reduce_andi_all _ _ _ _ _ e1 i)
  have a2 : ∀ i, ∃ r : ℝ, K i = ((r : ℝ) : EReal) := fun i => real_of_olt _ (Host.reduce_andi_all _ _ _ _ _ e2 i)
  have a3 : ∀ i, ∃ r : ℝ, Kr i = ((r : ℝ) : EReal) := fun i => real_of_olt _ (Host.reduce_andi_all _ _ _ _ _ e3 i)
  exact ⟨⟨fun i => (a0 i).choose, fun i => (a0 i).choose_spec⟩, ⟨fun i => (a1 i).choose, fun i => (a1 i).choose_spec⟩,
    ⟨fun i => (a2 i).choose, fun i => (a2 i).choose_spec⟩, ⟨fun i => (a3 i).choose, fun i => (a3 i).choose_spec⟩⟩

end Cert.Proof.Attend

end
-- ==== Proof.Combine.lean ====
/-
  What the `_combine` call should make of a token: the norm of the token times the residual's factor plus its experts' results.
-/
module

public import Idealize.ShloMosaic.Lib.IdealHost

@[expose] public section

noncomputable section

namespace Cert.Proof.Combine

open Idealize.ShloMosaic
open scoped BigOperators

/-- The number of a row's elements. -/
abbrev width : EReal := Ideal.ofBits .f32 0x44800000#32

/-- What the variance is raised by. -/
abbrev tiny : EReal := Ideal.ofBits .f32 0x3727C5AC#32

/-- A token's element before the norm: the residual's factor times it, plus what its experts make of it. -/
abbrev residual (x y : EReal) : EReal := Ideal.ofBits .f32 0x3F9837F0#32 * x + y

/-- The mean of a row. -/
def average (r : Fin 1024 → EReal) : EReal := Ideal.div (∑ k, r k) width

/-- The row after the norm, one element of it. -/
def normed (r : Fin 1024 → EReal) (g b : EReal) (d : Fin 1024) : EReal :=
  (r d - average r) * Ideal.rsqrt ((average fun k => (r k - average r) * (r k - average r)) + tiny) * g + b

end Cert.Proof.Combine

end
-- ==== Proof.CombineTile.lean ====
/-
  One tile of the `_combine` call, over any floats: what a point stores, and the tile's element by element over the extended reals.
-/
module

public import proofs.«01_k».proof.Proof.Gen.Kernel4Ideal.Frame
public import proofs.«01_k».proof.Proof.Combine
public import Idealize.ShloMosaic.Lib.VecWindow
public import Idealize.ShloMosaic.Lib.ValueIdx
public import Idealize.ShloMosaic.Lib.IdealHost
public import Idealize.ShloMosaic.Lib.Pointwise.Reduce
public import Idealize.ShloMosaic.Lib.Pipeline.Value

@[expose] public section

set_option maxRecDepth 16384

noncomputable section

namespace Cert.Proof.Combine

open Cert.Kernel4Ideal Cert.Kernel4Ideal.Gen
open Idealize.ShloMosaic hiding ix1 ix2 ix3
open Idealize.ShloMosaic.TcCoe
open Idealize.ShloMosaic.ValueIdx
open scoped BigOperators

variable {F : FTy → Type} [FloatOps F]

/-- Lane group `j` of a tile of rows: row `r` of it is row `8 r + j` of the tile's array of 128-wide rows. -/
def lane (j : Fin 8) (x : S4096x128.Idx → Elt F .f32) : S512x128.Idx → Elt F .f32 := fun z =>
  x (ix2 ⟨8 * (z 0).val + j.val, by have h : (z 0).val < 512 := (z 0).isLt; have := j.isLt; omega⟩ ⟨(z 1).val, (z 1).isLt⟩)

/-- A strided read of a tile is its lane group. -/
theorem readAt_lane (j : Fin 8) (a : Memref sig .tc .vmem S4096x128 .f32) (ha : a.IsWhole) (x : S4096x128.Idx → Elt F .f32)
    (inb : ∀ a, S512x128.size a = 0 ∨ (![j.val, 0] : Fin 2 → Nat) a + (![8, 1] : Fin 2 → Nat) a * (S512x128.size a - 1) < S4096x128.size a) :
    View.readAt (Elt F) a.view (⟨![j.val, 0], S512x128.size, ![8, 1], inb⟩ : LoadRect S4096x128) (ha.unread x) = lane (F := F) j x := by
  funext z
  rw [View.readAt_apply, ha.read_unread]
  unfold lane
  refine congrArg x (funext fun b => Fin.ext ?_)
  match b with
  | ⟨0, _⟩ => show j.val + 8 * (z 0).val = 8 * (z 0).val + j.val; omega
  | ⟨1, _⟩ => show 0 + 1 * (z 1).val = (z 1).val; omega

section Reads

variable (a : Memref sig .tc .vmem S4096x128 .f32) (ha : a.IsWhole) (x : S4096x128.Idx → Elt F .f32)

theorem read0 : View.readAt (Elt F) a.view (⟨![0, 0], S512x128.size, ![8, 1], inb_S4096x128_S512x128_0_0_s_8_1⟩ : LoadRect S4096x128) (ha.unread x) = lane (F := F) 0 x :=
  readAt_lane 0 a ha x _
theorem read1 : View.readAt (Elt F) a.view (⟨![1, 0], S512x128.size, ![8, 1], inb_S4096x128_S512x128_1_0_s_8_1⟩ : LoadRect S4096x128) (ha.unread x) = lane (F := F) 1 x :=
  readAt_lane 1 a ha x _
theorem read2 : View.readAt (Elt F) a.view (⟨![2, 0], S512x128.size, ![8, 1], inb_S4096x128_S512x128_2_0_s_8_1⟩ : LoadRect S4096x128) (ha.unread x) = lane (F := F) 2 x :=
  readAt_lane 2 a ha x _
theorem read3 : View.readAt (Elt F) a.view (⟨![3, 0], S512x128.size, ![8, 1], inb_S4096x128_S512x128_3_0_s_8_1⟩ : LoadRect S4096x128) (ha.unread x) = lane (F := F) 3 x :=
  readAt_lane 3 a ha x _
theorem read4 : View.readAt (Elt F) a.view (⟨![4, 0], S512x128.size, ![8, 1], inb_S4096x128_S512x128_4_0_s_8_1⟩ : LoadRect S4096x128) (ha.unread x) = lane (F := F) 4 x :=
  readAt_lane 4 a ha x _
theorem read5 : View.readAt (Elt F) a.view (⟨![5, 0], S512x128.size, ![8, 1], inb_S4096x128_S512x128_5_0_s_8_1⟩ : LoadRect S4096x128) (ha.unread x) = lane (F := F) 5 x :=
  readAt_lane 5 a ha x _
theorem read6 : View.readAt (Elt F) a.view (⟨![6, 0], S512x128.size, ![8, 1], inb_S4096x128_S512x128_6_0_s_8_1⟩ : LoadRect S4096x128) (ha.unread x) = lane (F := F) 6 x :=
  readAt_lane 6 a ha x _
theorem read7 : View.readAt (Elt F) a.view (⟨![7, 0], S512x128.size, ![8, 1], inb_S4096x128_S512x128_7_0_s_8_1⟩ : LoadRect S4096x128) (ha.unread x) = lane (F := F) 7 x :=
  readAt_lane 7 a ha x _

end Reads

/-- A whole read of a row is the row. -/
theorem readAt_row (a : Memref sig .tc .vmem S1x1024 .f32) (ha : a.IsWhole) (x : S1x1024.Idx → Elt F .f32) :
    View.readAt (Elt F) a.view (Rect.unit (s := S1x1024) ![0, 0] S1x1024.size inb_S1x1024_S1x1024_0_0).toLoadRect (ha.unread x) = x := by
  funext z
  rw [View.readAt_apply, ha.read_unread]
  refine congrArg x (funext fun b => Fin.ext ?_)
  match b with
  | ⟨0, _⟩ => show 0 + 1 * (z 0).val = (z 0).val; omega
  | ⟨1, _⟩ => show 0 + 1 * (z 1).val = (z 1).val; omega

/-- The lane groups side by side: the tile's rows. -/
abbrev joined (x : S4096x128.Idx → Elt F .f32) : FVec F S512x1024 .f32 :=
  k0_pay2 (lane (F := F) 0 x) (lane (F := F) 1 x) (lane (F := F) 2 x) (lane (F := F) 3 x) (lane (F := F) 4 x) (lane (F := F) 5 x) (lane (F := F) 6 x) (lane (F := F) 7 x)

/-- The rows before the norm: the tokens times the residual's factor, and the two experts' results. -/
abbrev summed (x0 x1 x2 : S4096x128.Idx → Elt F .f32) : FVec F S512x1024 .f32 :=
  addf (mulf (broadcast S512x1024 (Scalar.ofBits .f32 0x3F9837F0#32)) (joined x0)) (addf (joined x1) (joined x2))

/-- Each row's mean, along the row. -/
abbrev mean (v : FVec F S512x1024 .f32) : FVec F S512x1024 .f32 :=
  broadcastTo S512x1024 (divf (shapeCast S512x1 (multiReduction .add [1] S512 v 0x00000000#32 reduces_S512x1024_S512 (.inl rfl) rfl) shapeCasts_S512_S512x1)
    (broadcast S512x1 (Scalar.ofBits .f32 0x44800000#32))) broadcasts_S512x1_S512x1024

/-- The tile's rows after the norm. -/
abbrev tile (x0 x1 x2 : S4096x128.Idx → Elt F .f32) (x3 x4 : S1x1024.Idx → Elt F .f32) : FVec F S512x1024 .f32 :=
  k0_pay1 (summed x0 x1 x2) (k0_pay10 x3) (k0_pay11 x4) (mean (summed x0 x1 x2))

theorem r_0 (c : Dev nD) (a : Memref sig .tc .vmem S4096x128 .f32) (ha : a.IsWhole) (x : Vec F S4096x128 .f32) :
    kernelRun0_A.sl.r c a ha x = joined x := by
  unfold kernelRun0_A.sl.r
  rw [read0, read1, read2, read3, read4, read5, read6, read7]

theorem r_1 (c : Dev nD) (a : Memref sig .tc .vmem S4096x128 .f32) (ha : a.IsWhole) (x : Vec F S4096x128 .f32) :
    kernelRun0_A.sl.r_1 c a ha x = k0_pay3 (lane (F := F) 0 x) := by
  unfold kernelRun0_A.sl.r_1
  rw [read0]

theorem r_2 (c : Dev nD) (a : Memref sig .tc .vmem S4096x128 .f32) (ha : a.IsWhole) (x : Vec F S4096x128 .f32) :
    kernelRun0_A.sl.r_2 c a ha x = k0_pay4 (lane (F := F) 1 x) := by
  unfold kernelRun0_A.sl.r_2
  rw [read1]

theorem r_3 (c : Dev nD) (a : Memref sig .tc .vmem S4096x128 .f32) (ha : a.IsWhole) (x : Vec F S4096x128 .f32) :
    kernelRun0_A.sl.r_3 c a ha x = k0_pay5 (lane (F := F) 2 x) := by
  unfold kernelRun0_A.sl.r_3
  rw [read2]

theorem r_4 (c : Dev nD) (a : Memref sig .tc .vmem S4096x128 .f32) (ha : a.IsWhole) (x : Vec F S4096x128 .f32) :
    kernelRun0_A.sl.r_4 c a ha x = k0_pay6 (lane (F := F) 3 x) := by
  unfold kernelRun0_A.sl.r_4
  rw [read3]

theorem r_5 (c : Dev nD) (a : Memref sig .tc .vmem S4096x128 .f32) (ha : a.IsWhole) (x : Vec F S4096x128 .f32) :
    kernelRun0_A.sl.r_5 c a ha x = k0_pay7 (lane (F := F) 4 x) := by
  unfold kernelRun0_A.sl.r_5
  rw [read4]

theorem r_6 (c : Dev nD) (a : Memref sig .tc .vmem S4096x128 .f32) (ha : a.IsWhole) (x : Vec F S4096x128 .f32) :
    kernelRun0_A.sl.r_6 c a ha x = k0_pay8 (lane (F := F) 5 x) := by
  unfold kernelRun0_A.sl.r_6
  rw [read5]

/-- What a point stores. -/
theorem out_eq (c : Dev nD) (i : grid0.Coords) (arg1 : Memref sig .tc .vmem S4096x128 .f32) (harg1 : arg1.IsWhole)
    (arg2 : Memref sig .tc .vmem S4096x128 .f32) (harg2 : arg2.IsWhole) (arg3 : Memref sig .tc .vmem S4096x128 .f32) (harg3 : arg3.IsWhole)
    (arg4 : Memref sig .tc .vmem S1x1024 .f32) (harg4 : arg4.IsWhole) (arg5 : Memref sig .tc .vmem S1x1024 .f32) (harg5 : arg5.IsWhole)
    (arg6 : Memref sig .tc .vmem S512x1024 .f32) (harg6 : arg6.IsWhole)
    (x0 x1 x2 : Vec F S4096x128 .f32) (x3 x4 : Vec F S1x1024 .f32) :
    out0_A_5 c i arg1 harg1 arg2 harg2 arg3 harg3 arg4 harg4 arg5 harg5 arg6 harg6 x0 x1 x2 x3 x4 = tile x0 x1 x2 x3 x4 := by
  funext y
  unfold out0_A_5 kernelRun0_A
  dsimp only
  have h := View.read_writes_cons_emb (v := VO0_5) (f := VO0_5.junk) (Val := Elt F)
    (Rect.unit (s := S512x1024) ![0, 0] S512x1024.size inb_S512x1024_S512x1024_0_0) (tile x0 x1 x2 x3 x4) [] y
  rw [Rect.emb_unit_full] at h
  refine Eq.trans ?_ h
  rw [show kernelRun0_A.sl.r_7 c arg1 harg1 arg2 harg2 arg3 harg3 x0 x1 x2 = summed x0 x1 x2 from ?_,
    show kernelRun0_A.sl.r_8 c arg4 harg4 x3 = k0_pay10 x3 from ?_, show kernelRun0_A.sl.r_9 c arg5 harg5 x4 = k0_pay11 x4 from ?_,
    show kernelRun0_A.sl.r_10 c arg1 harg1 arg2 harg2 arg3 harg3 x0 x1 x2 = mean (summed x0 x1 x2) from ?_]
  · unfold kernelRun0_A.sl.r_10
    rw [r_0, r_1, r_2, r_3, r_4, r_5, r_6, read6, read7, read0, read1, read2, read3, read4, read5, read6, read7]
    rfl
  · unfold kernelRun0_A.sl.r_9
    rw [readAt_row]
  · unfold kernelRun0_A.sl.r_8
    rw [readAt_row]
  · unfold kernelRun0_A.sl.r_7
    rw [r_0, r_1, r_2, r_3, r_4, r_5, r_6, read6, read7, read0, read1, read2, read3, read4, read5, read6, read7]
    rfl

/-! ## Element by element, over the extended reals -/

/-- Row `p` of a tile, column `k`. -/
abbrev row (x : S4096x128.Idx → EReal) (p : Fin 512) (k : Fin 1024) : EReal :=
  x (ix2 ⟨8 * p.val + k.val / 128, by omega⟩ ⟨k.val % 128, by omega⟩)

theorem joined_at (x : FVec Ideal S4096x128 .f32) (p : Fin 512) (k : Fin 1024) : joined (F := Ideal) x (ix2 p k) = row x p k := by
  refine (concatenate_ofFn_apply (s₁ := S512x128) 1 (fun n : Fin 8 => shapeCast S512x128 (lane (F := Ideal) n x) shapeCasts_S512x128_S512x128)
    concatenates_S512x128_S512x128_S512x128_S512x128_S512x128_S512x128_S512x128_S512x128_S512x1024_d1 rfl 128 rfl (ix2 p k)
    ⟨k.val / 128, by omega⟩ rfl (ix2 p ⟨k.val % 128, by omega⟩) rfl ?_).trans ?_
  · intro b hb
    match b with
    | ⟨0, _⟩ => rfl
    | ⟨1, _⟩ => exact absurd rfl hb
  exact shapeCast_apply _ _ _ (ix2 p ⟨k.val % 128, by omega⟩) rfl

/-- Row `p` of the tokens before the norm. -/
abbrev before (x0 x1 x2 : S4096x128.Idx → EReal) (p : Fin 512) (k : Fin 1024) : EReal :=
  residual (row x0 p k) (row x1 p k + row x2 p k)

theorem summed_at (x0 x1 x2 : FVec Ideal S4096x128 .f32) (p : Fin 512) (k : Fin 1024) :
    summed (F := Ideal) x0 x1 x2 (ix2 p k) = before x0 x1 x2 p k := by
  refine Eq.trans ?_ (congrArg₂ (fun a b : EReal => residual a b) (joined_at x0 p k)
    (congrArg₂ (fun a b : EReal => a + b) (joined_at x1 p k) (joined_at x2 p k)))
  rfl

/-- The sum of a row. -/
theorem sum_at (v : FVec Ideal S512x1024 .f32) (p : Fin 512) :
    multiReduction .add [1] S512 v 0x00000000#32 reduces_S512x1024_S512 (.inl rfl) rfl (ix1 p) = ∑ k : Fin 1024, (v (ix2 p k) : EReal) := by
  refine (multiReduction_add_apply v _ _ _ _ (ix1 p)).trans ?_
  show Ideal.reduceAdd reduces_S512x1024_S512 v (ix1 p) = _
  exact Ideal.reduceAdd_r2_a1 reduces_S512x1024_S512 v (ix1 p)

theorem column_at (v : FVec Ideal S512x1024 .f32) (p : Fin 512) :
    divf (shapeCast S512x1 (multiReduction .add [1] S512 v 0x00000000#32 reduces_S512x1024_S512 (.inl rfl) rfl) shapeCasts_S512_S512x1)
      (broadcast S512x1 (Scalar.ofBits .f32 0x44800000#32)) (ix2 p 0) = average fun k => v (ix2 p k) := by
  have e : shapeCast S512x1 (multiReduction .add [1] S512 v 0x00000000#32 reduces_S512x1024_S512 (.inl rfl) rfl) shapeCasts_S512_S512x1 (ix2 p 0)
      = ∑ k : Fin 1024, (v (ix2 p k) : EReal) := by
    refine (shapeCast_apply _ _ _ (ix1 p) ?_).trans (sum_at v p)
    rw [Shape.rowMajor_val_one, Shape.rowMajor_val_two]
    show p.val = p.val * 1 + 0
    omega
  exact congrArg (fun a : EReal => Ideal.div a width) e

/-- A column along its rows. -/
theorem along_at (v : FVec Ideal S512x1 .f32) (p : Fin 512) (d : Fin 1024) :
    broadcastTo S512x1024 v broadcasts_S512x1_S512x1024 (ix2 p d) = v (ix2 p 0) := by
  refine broadcastTo_apply _ _ (ix2 p d) (ix2 p 0) ?_
  intro a; match a with
  | ⟨0, _⟩ => rfl
  | ⟨1, _⟩ => rfl

theorem mean_at (v : FVec Ideal S512x1024 .f32) (p : Fin 512) (d : Fin 1024) :
    mean (F := Ideal) v (ix2 p d) = average fun k => v (ix2 p k) := (along_at _ p d).trans (column_at v p)

/-- A row of the parameters, for every row of the tile. -/
theorem param_at (x : FVec Ideal S1x1024 .f32) (p : Fin 512) (d : Fin 1024) :
    broadcastTo S512x1024 (shapeCast S1x1024 x shapeCasts_S1x1024_S1x1024) broadcasts_S1x1024_S512x1024 (ix2 p d) = x (ix2 0 d) := by
  refine (broadcastTo_apply _ _ (ix2 p d) (ix2 0 d) ?_).trans (shapeCast_apply _ _ _ (ix2 0 d) rfl)
  intro a; match a with
  | ⟨0, _⟩ => rfl
  | ⟨1, _⟩ => rfl

/-- The norm of a tile's rows. -/
theorem pay1_at (v M : FVec Ideal S512x1024 .f32) (g b : FVec Ideal S1x1024 .f32) (p : Fin 512) (d : Fin 1024)
    (r : Fin 1024 → EReal) (hv : ∀ k, v (ix2 p k) = r k) (hM : ∀ k, M (ix2 p k) = average r) :
    k0_pay1 (F := Ideal) v (k0_pay10 g) (k0_pay11 b) M (ix2 p d) = normed r (g (ix2 0 d)) (b (ix2 0 d)) d := by
  let D : FVec Ideal S512x1024 .f32 := subf v M
  have hD : ∀ k, D (ix2 p k) = r k - average r := fun k => congrArg₂ (fun a b : EReal => a - b) (hv k) (hM k)
  have hs := column_at (mulf D D) p
  have hq : (average fun k => mulf D D (ix2 p k)) = average fun k => (r k - average r) * (r k - average r) :=
    congrArg average (funext fun k => congrArg₂ (fun a b : EReal => a * b) (hD k) (hD k))
  have hr := (along_at (rsqrt (addf (divf (shapeCast S512x1 (multiReduction .add [1] S512 (mulf D D) 0x00000000#32 reduces_S512x1024_S512 (.inl rfl) rfl) shapeCasts_S512_S512x1)
      (broadcast S512x1 (Scalar.ofBits .f32 0x44800000#32))) (broadcast S512x1 (Scalar.ofBits .f32 0x3727C5AC#32)))) p d).trans
    (congrArg (fun a : EReal => Ideal.rsqrt (a + tiny)) (hs.trans hq))
  refine Eq.trans ?_ (congrArg₂ (fun a b : EReal => a + b) (congrArg₂ (fun a b : EReal => a * b)
    (congrArg₂ (fun a b : EReal => a * b) (hD d) hr) (param_at g p d)) (param_at b p d))
  rfl

/-- What a point stores, element by element. -/
theorem tile_at (x0 x1 x2 : FVec Ideal S4096x128 .f32) (x3 x4 : FVec Ideal S1x1024 .f32) (p : Fin 512) (d : Fin 1024) :
    tile (F := Ideal) x0 x1 x2 x3 x4 (ix2 p d) = normed (before x0 x1 x2 p) (x3 (ix2 0 d)) (x4 (ix2 0 d)) d :=
  pay1_at _ _ x3 x4 p d _ (fun k => summed_at x0 x1 x2 p k)
    fun k => (mean_at _ p k).trans (congrArg average (funext fun k => summed_at x0 x1 x2 p k))

end Cert.Proof.Combine

end
-- ==== Proof.CombineFinal.lean ====
/-
  What the `_combine` call leaves, over any floats: its result array block by block, and the arguments its blocks are cut from.
-/
module

public import proofs.«01_k».proof.Proof.Gen.Kernel4Ideal.Value
public import proofs.«01_k».proof.Proof.CombineTile
public import Idealize.ShloMosaic.Lib.Pipeline.ValueKit.Geometry

@[expose] public section

set_option maxRecDepth 16384

noncomputable section

namespace Cert.Proof.Combine

open Cert.Kernel4Ideal Cert.Kernel4Ideal.Gen
open Idealize.ShloMosaic hiding ix1 ix2 ix3
open Idealize.ShloMosaic.TcCoe Idealize.ShloMosaic.StableHlo
open Idealize.ShloMosaic.ValueIdx
open Idealize.SL.Sem
open Idealize.ShloMosaic.Pipeline (Dat Cfg Window)

variable {F : FTy → Type} [FloatOps F]
variable (m : (ℓ : Loc nD τ sig) → Buf (Elt F) ℓ) (c : Dev nD)

/-! ## Points and blocks -/

theorem points : grid0.N = 128 := by decide

theorem lt_points (t : Fin cfg0.N) : t.val < 128 := lt_of_lt_of_eq t.isLt points

/-- The point of a stretch of tokens. -/
abbrev point (q : Nat) (hq : q < 128) : Fin cfg0.N := ⟨q, lt_of_lt_of_eq hq points.symm⟩

theorem coord0 (t : Fin cfg0.N) : (grid0.coords t 0).val = t.val := by
  have e := Pipeline.Grid.coords_val (G := grid0) t 0 (S := 1) (B := 128) (by decide) rfl
  have ht := lt_points t
  rw [Nat.div_one] at e
  exact e.trans (Nat.mod_eq_of_lt ht)

theorem word_val (n : Nat) (h : n < 256) : (BitVec.ofNat 32 n).toNat = n := by
  rw [BitVec.toNat_ofNat, Nat.mod_eq_of_lt (by omega)]

theorem index5 (t : Fin cfg0.N) : (cfg0.win (5 : Fin 6)).index t = ![t.val, 0] := by
  have ht := lt_points t
  show cc0_transform_5 (grid0.coords t) = _
  unfold cc0_transform_5
  dsimp only
  rw [coord0, word_val _ (show t.val < 256 by omega)]
  rfl

theorem index0 (t : Fin cfg0.N) : (cfg0.win (0 : Fin 6)).index t = ![t.val, 0] := index5 t

theorem index1 (t : Fin cfg0.N) : (cfg0.win (1 : Fin 6)).index t = ![t.val, 0] := index5 t

theorem index2 (t : Fin cfg0.N) : (cfg0.win (2 : Fin 6)).index t = ![128 + t.val, 0] := by
  have ht := lt_points t
  show cc0_transform_2 (grid0.coords t) = _
  unfold cc0_transform_2
  dsimp only
  have e : (Scalar.addi (BitVec.ofNat 32 (grid0.coords t 0).val) 128#32).toNat = 128 + t.val := by
    rw [coord0]
    show (BitVec.ofNat 32 t.val + 128#32).toNat = _
    rw [BitVec.toNat_add, word_val _ (show t.val < 256 by omega)]
    show (t.val + 128) % 4294967296 = 128 + t.val
    omega
  rw [e]
  rfl

theorem index3 (t : Fin cfg0.N) : (cfg0.win (3 : Fin 6)).index t = ![0, 0] := rfl

theorem index4 (t : Fin cfg0.N) : (cfg0.win (4 : Fin 6)).index t = ![0, 0] := rfl

/-- A block of the output, placed. -/
theorem place5 (t : Fin cfg0.N) (y : S512x1024.Idx) :
    ((cfg0.win (5 : Fin 6)).blk t).view.emb y
      = ix2 (n0 := 65536) (n1 := 1024)
          ⟨512 * t.val + (y 0).val, by have ht := lt_points t; have hy : (y 0).val < 512 := (y 0).isLt; omega⟩
          ⟨(y 1).val, (y 1).isLt⟩ := by
  funext a; apply Fin.ext
  refine (Window.rect_emb_val (cfg0.win (5 : Fin 6)) t y a).trans ?_
  rw [index5]
  match a with
  | ⟨0, _⟩ => show t.val * 512 + (y 0).val = 512 * t.val + (y 0).val; omega
  | ⟨1, _⟩ => show 0 * 1024 + (y 1).val = (y 1).val; omega

/-! ## The result -/

/-- What a point leaves of its output block. -/
def left (t : Fin cfg0.N) : S512x1024.Idx → Elt F .f32 := tile (iblk m c 0 t) (iblk m c 1 t) (iblk m c 2 t) (iblk m c 3 t) (iblk m c 4 t)

/-- The result array, block by block. -/
def finished : S65536x1024.Idx → Elt F .f32 := fun i =>
  left m c (point ((i 0).val / 512) (by have hi : (i 0).val < 65536 := (i 0).isLt; omega))
    (ix2 ⟨(i 0).val % 512, by omega⟩ ⟨(i 1).val, (i 1).isLt⟩)

theorem left_at {t t' : Fin cfg0.N} {y y' : S512x1024.Idx} (e : t = t') (e' : y = y') : left m c t y = left m c t' y' := by
  subst e e'; rfl

theorem after_left (t : Fin cfg0.N) : (dats m 0 c).after (5 : Fin 6) t = left m c t :=
  (after0_5 m c t).trans (by unfold outsAt0; exact out_eq c _ _ _ _ _ _ _ _ _ _ _ _ _ _ _ _ _ _)

/-- Every element of the output is placed by some block. -/
theorem covered (i : S65536x1024.Idx) : ∃ (t : Fin cfg0.N) (y : S512x1024.Idx), ((cfg0.win (5 : Fin 6)).blk t).view.emb y = i := by
  have h0 : (i 0).val < 65536 := (i 0).isLt
  refine ⟨point ((i 0).val / 512) (by omega), ix2 ⟨(i 0).val % 512, by omega⟩ ⟨(i 1).val, (i 1).isLt⟩, ?_⟩
  refine (place5 _ _).trans (funext fun b => Fin.ext ?_)
  match b with
  | ⟨0, _⟩ => show 512 * ((i 0).val / 512) + (i 0).val % 512 = (i 0).val; omega
  | ⟨1, _⟩ => rfl

/-- What the write-backs make of the output array. -/
theorem final5 : (dats m 0 c).arrAt (5 : Fin 6) cfg0.N = finished m c := by
  refine (dats m 0 c).arrAt_eq_of_emb (5 : Fin 6) (finished m c) (fun t _ y => ?_) (fun i => ?_)
  · refine Eq.trans ?_ (congrArg (finished m c) (place5 t y)).symm
    have ht := lt_points t
    have hy0 : (y 0).val < 512 := (y 0).isLt
    refine Eq.trans (b := left m c t y) (congrFun (after_left m c t) y) ?_
    show _ = left m c _ _
    refine left_at m c (Fin.ext ?_) (funext fun b => Fin.ext ?_)
    · show t.val = (512 * t.val + (y 0).val) / 512; omega
    · match b with
      | ⟨0, _⟩ => show (y 0).val = (512 * t.val + (y 0).val) % 512; omega
      | ⟨1, _⟩ => rfl
  · obtain ⟨t, y, e⟩ := covered i
    refine ⟨t, flush0_5 t, ?_⟩
    have e' := View.emb_mem_set ((cfg0.win (5 : Fin 6)).blk t).view y
    rw [e] at e'
    exact e'

/-! ## The arguments -/

/-- The program's arguments. -/
abbrev xIn : S65536x1024.Idx → Elt F .f32 := m ((c.tc : Thread nD τ).loc main_arg0)
abbrev yIn : S2x65536x1024.Idx → Elt F .f32 := m ((c.tc : Thread nD τ).loc main_arg1)
abbrev gIn : S1024.Idx → Elt F .f32 := m ((c.tc : Thread nD τ).loc main_arg2)
abbrev bIn : S1024.Idx → Elt F .f32 := m ((c.tc : Thread nD τ).loc main_arg3)

theorem entry_x : V m c main_v2 = shapeCast S524288x128 (xIn m c) shapeCasts_S65536x1024_S524288x128 := by
  show after hostOps0 _ _ = _
  after_results <;> rfl

theorem entry_y : V m c main_v3 = shapeCast S1048576x128 (yIn m c) shapeCasts_S2x65536x1024_S1048576x128 := by
  show after hostOps0 _ _ = _
  after_results <;> rfl

theorem entry_g : V m c main_v0 = shapeCast S1x1024 (gIn m c) shapeCasts_S1024_S1x1024 := by
  show after hostOps0 _ _ = _
  after_results <;> rfl

theorem entry_b : V m c main_v1 = shapeCast S1x1024 (bIn m c) shapeCasts_S1024_S1x1024 := by
  show after hostOps0 _ _ = _
  after_results <;> rfl

/-! ## The blocks -/

theorem block0_at (t : Fin cfg0.N) (p : Fin 512) (k : Fin 1024) (n : Fin 65536) (en : n.val = 512 * t.val + p.val) :
    iblk m c 0 t (ix2 ⟨8 * p.val + k.val / 128, by omega⟩ ⟨k.val % 128, by omega⟩ : S4096x128.Idx) = xIn m c (ix2 n k) := by
  refine (congrFun (entry_x m c) _).trans (shapeCast_apply _ _ _ (ix2 n k) ?_)
  have p0 := Window.rect_emb_val (cfg0.win (0 : Fin 6)) t (ix2 ⟨8 * p.val + k.val / 128, by omega⟩ ⟨k.val % 128, by omega⟩ : S4096x128.Idx) (0 : Fin 2)
  have p1 := Window.rect_emb_val (cfg0.win (0 : Fin 6)) t (ix2 ⟨8 * p.val + k.val / 128, by omega⟩ ⟨k.val % 128, by omega⟩ : S4096x128.Idx) (1 : Fin 2)
  rw [index0] at p0 p1
  rw [Shape.rowMajor_val_two, Shape.rowMajor_val_two]
  refine Eq.trans ?_ (congrArg₂ (fun a b : ℕ => a * 128 + b) p0 p1).symm
  show n.val * 1024 + k.val = (t.val * 4096 + (8 * p.val + k.val / 128)) * 128 + (0 * 128 + k.val % 128)
  omega

theorem block1_at (t : Fin cfg0.N) (p : Fin 512) (k : Fin 1024) (n : Fin 65536) (en : n.val = 512 * t.val + p.val) :
    iblk m c 1 t (ix2 ⟨8 * p.val + k.val / 128, by omega⟩ ⟨k.val % 128, by omega⟩ : S4096x128.Idx) = yIn m c (ix3 0 n k) := by
  refine (congrFun (entry_y m c) _).trans (shapeCast_apply _ _ _ (ix3 0 n k) ?_)
  have p0 := Window.rect_emb_val (cfg0.win (1 : Fin 6)) t (ix2 ⟨8 * p.val + k.val / 128, by omega⟩ ⟨k.val % 128, by omega⟩ : S4096x128.Idx) (0 : Fin 2)
  have p1 := Window.rect_emb_val (cfg0.win (1 : Fin 6)) t (ix2 ⟨8 * p.val + k.val / 128, by omega⟩ ⟨k.val % 128, by omega⟩ : S4096x128.Idx) (1 : Fin 2)
  rw [index1] at p0 p1
  rw [Shape.rowMajor_val_three, Shape.rowMajor_val_two]
  refine Eq.trans ?_ (congrArg₂ (fun a b : ℕ => a * 128 + b) p0 p1).symm
  show (0 * 65536 + n.val) * 1024 + k.val = (t.val * 4096 + (8 * p.val + k.val / 128)) * 128 + (0 * 128 + k.val % 128)
  omega

theorem block2_at (t : Fin cfg0.N) (p : Fin 512) (k : Fin 1024) (n : Fin 65536) (en : n.val = 512 * t.val + p.val) :
    iblk m c 2 t (ix2 ⟨8 * p.val + k.val / 128, by omega⟩ ⟨k.val % 128, by omega⟩ : S4096x128.Idx) = yIn m c (ix3 1 n k) := by
  refine (congrFun (entry_y m c) _).trans (shapeCast_apply _ _ _ (ix3 1 n k) ?_)
  have p0 := Window.rect_emb_val (cfg0.win (2 : Fin 6)) t (ix2 ⟨8 * p.val + k.val / 128, by omega⟩ ⟨k.val % 128, by omega⟩ : S4096x128.Idx) (0 : Fin 2)
  have p1 := Window.rect_emb_val (cfg0.win (2 : Fin 6)) t (ix2 ⟨8 * p.val + k.val / 128, by omega⟩ ⟨k.val % 128, by omega⟩ : S4096x128.Idx) (1 : Fin 2)
  rw [index2] at p0 p1
  rw [Shape.rowMajor_val_three, Shape.rowMajor_val_two]
  refine Eq.trans ?_ (congrArg₂ (fun a b : ℕ => a * 128 + b) p0 p1).symm
  show (1 * 65536 + n.val) * 1024 + k.val = ((128 + t.val) * 4096 + (8 * p.val + k.val / 128)) * 128 + (0 * 128 + k.val % 128)
  omega

theorem block3_at (t : Fin cfg0.N) (k : Fin 1024) : iblk m c 3 t (ix2 0 k : S1x1024.Idx) = gIn m c (ix1 k) := by
  refine (congrFun (entry_g m c) _).trans (shapeCast_apply _ _ _ (ix1 k) ?_)
  have p0 := Window.rect_emb_val (cfg0.win (3 : Fin 6)) t (ix2 0 k : S1x1024.Idx) (0 : Fin 2)
  have p1 := Window.rect_emb_val (cfg0.win (3 : Fin 6)) t (ix2 0 k : S1x1024.Idx) (1 : Fin 2)
  rw [index3] at p0 p1
  rw [Shape.rowMajor_val_one, Shape.rowMajor_val_two]
  refine Eq.trans ?_ (congrArg₂ (fun a b : ℕ => a * 1024 + b) p0 p1).symm
  show k.val = (0 * 1 + 0) * 1024 + (0 * 1024 + k.val)
  omega

theorem block4_at (t : Fin cfg0.N) (k : Fin 1024) : iblk m c 4 t (ix2 0 k : S1x1024.Idx) = bIn m c (ix1 k) := by
  refine (congrFun (entry_b m c) _).trans (shapeCast_apply _ _ _ (ix1 k) ?_)
  have p0 := Window.rect_emb_val (cfg0.win (4 : Fin 6)) t (ix2 0 k : S1x1024.Idx) (0 : Fin 2)
  have p1 := Window.rect_emb_val (cfg0.win (4 : Fin 6)) t (ix2 0 k : S1x1024.Idx) (1 : Fin 2)
  rw [index4] at p0 p1
  rw [Shape.rowMajor_val_one, Shape.rowMajor_val_two]
  refine Eq.trans ?_ (congrArg₂ (fun a b : ℕ => a * 1024 + b) p0 p1).symm
  show k.val = (0 * 1 + 0) * 1024 + (0 * 1024 + k.val)
  omega

end Cert.Proof.Combine

end
-- ==== Proof.CombineRef.lean ====
/-
  The `_combine` call's reference over the extended reals, element by element.
-/
module

public import proofs.«01_k».proof.Proof.Gen.Reference4Ideal.Run
public import proofs.«01_k».proof.Proof.Combine
public import Idealize.ShloMosaic.Lib.IdealHost
public import Idealize.ShloMosaic.Lib.ValueIdx
public import Idealize.ShloMosaic.Lib.Pointwise.Reduce
public import Idealize.ShloMosaic.Lib.Pipeline.Value

@[expose] public section

set_option maxRecDepth 16384

noncomputable section

namespace Cert.Proof.Combine.Ref

open Cert.Reference4Ideal Cert.Reference4Ideal.Gen
open Idealize.ShloMosaic hiding ix1 ix2 ix3
open Idealize.ShloMosaic.ValueIdx
open scoped BigOperators

/-! ## The reference's arrays, named -/

/-- The tokens before the norm. -/
abbrev summed (X : FVec Ideal S65536x1024 .f32) (Y : FVec Ideal S2x65536x1024 .f32) : FVec Ideal S65536x1024 .f32 :=
  addf (mulf (broadcastInDim S65536x1024 ![] bcast_S_S65536x1024 (constant S_ .f32 0x3F9837F0#32)) X)
    (Host.reduceAdd Y (constant S_ .f32 0x00000000#32) reducesTo_S2x65536x1024_S65536x1024_d0 h_S_)

/-- Each token's mean. -/
abbrev column (v : FVec Ideal S65536x1024 .f32) : FVec Ideal S65536x1 .f32 :=
  Host.divf (broadcastInDim S65536x1 ![0] bcast_S65536_S65536x1_0
      (Host.reduceAdd v (constant S_ .f32 0x00000000#32) reducesTo_S65536x1024_S65536_d1 h_S_))
    (broadcastInDim S65536x1 ![] bcast_S_S65536x1 (constant S_ .f32 0x44800000#32))

/-- A value of every token, along its row. -/
abbrev along (v : FVec Ideal S65536x1 .f32) : FVec Ideal S65536x1024 .f32 :=
  broadcastInDim S65536x1024 ![0, 1] bcast_S65536x1_S65536x1024_0_1 v

/-- A row of the parameters, for every token. -/
abbrev param (g : FVec Ideal S1024 .f32) : FVec Ideal S65536x1024 .f32 :=
  broadcastInDim S65536x1024 ![0, 1] bcast_S1x1024_S65536x1024_0_1 (broadcastInDim S1x1024 ![1] bcast_S1024_S1x1024_1 g)

/-- The tokens' differences from their means. -/
abbrev off (v : FVec Ideal S65536x1024 .f32) : FVec Ideal S65536x1024 .f32 := subf v (along (column v))

/-- The norm. -/
abbrev norm (v : FVec Ideal S65536x1024 .f32) (g b : FVec Ideal S1024 .f32) : FVec Ideal S65536x1024 .f32 :=
  addf (mulf (mulf (off v) (along (Host.rsqrt (addf (column (mulf (off v) (off v)))
    (broadcastInDim S65536x1 ![] bcast_S_S65536x1 (constant S_ .f32 0x3727C5AC#32)))))) (param g)) (param b)

/-! ## Element by element -/

theorem zero_bits : Ideal.ofBits .f32 0x00000000#32 = (0 : EReal) := by simp [Ideal.ofBits, Ideal.ieee]

theorem pair_at (Y : FVec Ideal S2x65536x1024 .f32) (n : Fin 65536) (k : Fin 1024) :
    Host.reduceAdd Y (constant S_ .f32 0x00000000#32) reducesTo_S2x65536x1024_S65536x1024_d0 h_S_ (ix2 n k)
      = (Y (ix3 0 n k) : EReal) + Y (ix3 1 n k) := by
  refine (hostReduceAdd_apply Y _ _ _ (ix2 n k)).trans ?_
  refine (Ideal.hostReduceAdd_r3_a0 reducesTo_S2x65536x1024_S65536x1024_d0 Y _ (ix2 n k)).trans ?_
  show Ideal.ofBits .f32 0x00000000#32 + ∑ e : Fin 2, (Y (ix3 e n k) : EReal) = _
  rw [zero_bits, zero_add, Fin.sum_univ_two]

theorem summed_at (X : FVec Ideal S65536x1024 .f32) (Y : FVec Ideal S2x65536x1024 .f32) (n : Fin 65536) (k : Fin 1024) :
    summed X Y (ix2 n k) = residual (X (ix2 n k)) ((Y (ix3 0 n k) : EReal) + Y (ix3 1 n k)) := by
  have e := broadcastInDim_scalar_apply bcast_S_S65536x1024 (constant (F := Ideal) S_ .f32 0x3F9837F0#32) (ix2 n k)
  exact congrArg₂ (fun a b : EReal => a + b) (congrArg (fun a : EReal => a * X (ix2 n k)) e) (pair_at Y n k)

theorem sum_at (v : FVec Ideal S65536x1024 .f32) (n : Fin 65536) :
    Host.reduceAdd v (constant S_ .f32 0x00000000#32) reducesTo_S65536x1024_S65536_d1 h_S_ (ix1 n) = ∑ k : Fin 1024, (v (ix2 n k) : EReal) := by
  refine (hostReduceAdd_apply v _ _ _ (ix1 n)).trans ?_
  refine (Ideal.hostReduceAdd_r2_a1 reducesTo_S65536x1024_S65536_d1 v _ (ix1 n)).trans ?_
  show Ideal.ofBits .f32 0x00000000#32 + ∑ k : Fin 1024, (v (ix2 n k) : EReal) = _
  rw [zero_bits, zero_add]

theorem column_at (v : FVec Ideal S65536x1024 .f32) (n : Fin 65536) : column v (ix2 n 0) = average fun k => v (ix2 n k) := by
  have e := broadcastInDim_scalar_apply bcast_S_S65536x1 (constant (F := Ideal) S_ .f32 0x44800000#32) (ix2 n 0)
  refine congrArg₂ (fun a b : EReal => Ideal.div a b) (Eq.trans ?_ (sum_at v n)) e
  refine broadcastInDim_apply _ _ _ (ix2 n 0) (ix1 n) ?_
  intro a; match a with
  | ⟨0, _⟩ => rfl

theorem along_at (v : FVec Ideal S65536x1 .f32) (n : Fin 65536) (d : Fin 1024) : along v (ix2 n d) = v (ix2 n 0) := by
  refine broadcastInDim_apply _ _ _ (ix2 n d) (ix2 n 0) ?_
  intro a; match a with
  | ⟨0, _⟩ => rfl
  | ⟨1, _⟩ => rfl

theorem param_at (g : FVec Ideal S1024 .f32) (n : Fin 65536) (d : Fin 1024) : param g (ix2 n d) = g (ix1 d) := by
  refine (broadcastInDim_apply _ _ _ (ix2 n d) (ix2 0 d) ?_).trans (broadcastInDim_apply _ _ _ (ix2 0 d) (ix1 d) ?_)
  · intro a; match a with
    | ⟨0, _⟩ => rfl
    | ⟨1, _⟩ => rfl
  · intro a; match a with
    | ⟨0, _⟩ => rfl

theorem norm_at (v : FVec Ideal S65536x1024 .f32) (g b : FVec Ideal S1024 .f32) (n : Fin 65536) (d : Fin 1024)
    (r : Fin 1024 → EReal) (hv : ∀ k, v (ix2 n k) = r k) : norm v g b (ix2 n d) = normed r (g (ix1 d)) (b (ix1 d)) d := by
  have hm : ∀ k, along (column v) (ix2 n k) = average r := fun k =>
    (along_at _ n k).trans ((column_at v n).trans (congrArg average (funext hv)))
  have hD : ∀ k, off v (ix2 n k) = r k - average r := fun k => congrArg₂ (fun a b : EReal => a - b) (hv k) (hm k)
  have hq : (average fun k => mulf (off v) (off v) (ix2 n k)) = average fun k => (r k - average r) * (r k - average r) :=
    congrArg average (funext fun k => congrArg₂ (fun a b : EReal => a * b) (hD k) (hD k))
  have et := broadcastInDim_scalar_apply bcast_S_S65536x1 (constant (F := Ideal) S_ .f32 0x3727C5AC#32) (ix2 n 0)
  have hr := (along_at (Host.rsqrt (addf (column (mulf (off v) (off v)))
      (broadcastInDim S65536x1 ![] bcast_S_S65536x1 (constant S_ .f32 0x3727C5AC#32)))) n d).trans
    (congrArg₂ (fun a b : EReal => Ideal.rsqrt (a + b)) ((column_at (mulf (off v) (off v)) n).trans hq) et)
  exact congrArg₂ (fun a b : EReal => a + b) (congrArg₂ (fun a b : EReal => a * b)
    (congrArg₂ (fun a b : EReal => a * b) (hD d) hr) (param_at g n d)) (param_at b n d)

/-- The reference, element by element. -/
theorem result_at (X : FVec Ideal S65536x1024 .f32) (Y : FVec Ideal S2x65536x1024 .f32) (g b : FVec Ideal S1024 .f32) (n : Fin 65536) (d : Fin 1024) :
    norm (summed X Y) g b (ix2 n d)
      = normed (fun k => residual (X (ix2 n k)) ((Y (ix3 0 n k) : EReal) + Y (ix3 1 n k))) (g (ix1 d)) (b (ix1 d)) d :=
  norm_at _ g b n d _ fun k => summed_at X Y n k

end Cert.Proof.Combine.Ref

end
-- ==== Proof.CombineValue.lean ====
/-
  The `_combine` call's result is the reference's, element by element.
-/
module

public import proofs.«01_k».proof.Proof.CombineFinal
public import proofs.«01_k».proof.Proof.CombineRef

@[expose] public section

set_option maxRecDepth 16384

noncomputable section

namespace Cert.Proof.Combine

open Cert.Kernel4Ideal Cert.Kernel4Ideal.Gen
open Idealize.ShloMosaic hiding ix1 ix2 ix3
open Idealize.ShloMosaic.ValueIdx
open scoped BigOperators

variable (m : (ℓ : Loc nD τ sig) → Buf (Elt Ideal) ℓ) (c : Dev nD)

/-- Over the extended reals the result is the reference's of the arguments. -/
theorem value : finished (F := Ideal) m c = Ref.norm (Ref.summed (xIn m c) (yIn m c)) (gIn m c) (bIn m c) := by
  funext i
  have h0 : (i 0).val < 65536 := (i 0).isLt
  let n : Fin 65536 := ⟨(i 0).val, h0⟩
  let d : Fin 1024 := ⟨(i 1).val, (i 1).isLt⟩
  let t := point ((i 0).val / 512) (by omega)
  let p : Fin 512 := ⟨(i 0).val % 512, by omega⟩
  have hn : n.val = 512 * t.val + p.val := by show (i 0).val = 512 * ((i 0).val / 512) + (i 0).val % 512; omega
  have hi : i = ix2 n d := by
    funext a; match a with
    | ⟨0, _⟩ => rfl
    | ⟨1, _⟩ => rfl
  refine Eq.trans ?_ (congrArg (Ref.norm (Ref.summed (xIn m c) (yIn m c)) (gIn m c) (bIn m c)) hi).symm
  refine Eq.trans ?_ (Ref.result_at (xIn m c) (yIn m c) (gIn m c) (bIn m c) n d).symm
  show left m c t (ix2 p d) = _
  unfold left
  refine (tile_at (iblk m c 0 t) (iblk m c 1 t) (iblk m c 2 t) (iblk m c 3 t) (iblk m c 4 t) p d).trans ?_
  have hr : before (iblk m c 0 t) (iblk m c 1 t) (iblk m c 2 t) p
      = fun k => residual (xIn m c (ix2 n k)) ((yIn m c (ix3 0 n k) : EReal) + yIn m c (ix3 1 n k)) := funext fun k =>
    congrArg₂ (fun a b : EReal => residual a b) (block0_at m c t p k n hn)
      (congrArg₂ (fun a b : EReal => a + b) (block1_at m c t p k n hn) (block2_at m c t p k n hn))
  rw [hr, block3_at, block4_at]

end Cert.Proof.Combine

end
-- ==== Proof.SampleTile.lean ====
/-
  One tile of the `_combine` call at the sample's sizes, over any floats: what a point stores, and the tile's element by element over the extended reals.
-/
module

public import proofs.«01_k».proof.Proof.Gen.Kernel5Ideal.Frame
public import proofs.«01_k».proof.Proof.Combine
public import Idealize.ShloMosaic.Lib.VecWindow
public import Idealize.ShloMosaic.Lib.ValueIdx
public import Idealize.ShloMosaic.Lib.IdealHost
public import Idealize.ShloMosaic.Lib.Pointwise.Reduce
public import Idealize.ShloMosaic.Lib.Pipeline.Value

@[expose] public section

set_option maxRecDepth 16384

noncomputable section

namespace Cert.Proof.Sample

open Cert.Kernel5Ideal Cert.Kernel5Ideal.Gen
open Idealize.ShloMosaic hiding ix1 ix2 ix3
open Idealize.ShloMosaic.TcCoe
open Idealize.ShloMosaic.ValueIdx
open Cert.Proof.Combine (residual average normed width tiny)
open scoped BigOperators

variable {F : FTy → Type} [FloatOps F]

/-- Lane group `j` of a tile of rows: row `r` of it is row `8 r + j` of the tile's array of 128-wide rows. -/
def lane (j : Fin 8) (x : S4096x128.Idx → Elt F .f32) : S512x128.Idx → Elt F .f32 := fun z =>
  x (ix2 ⟨8 * (z 0).val + j.val, by have h : (z 0).val < 512 := (z 0).isLt; have := j.isLt; omega⟩ ⟨(z 1).val, (z 1).isLt⟩)

/-- A strided read of a tile is its lane group. -/
theorem readAt_lane (j : Fin 8) (a : Memref sig .tc .vmem S4096x128 .f32) (ha : a.IsWhole) (x : S4096x128.Idx → Elt F .f32)
    (inb : ∀ a, S512x128.size a = 0 ∨ (![j.val, 0] : Fin 2 → Nat) a + (![8, 1] : Fin 2 → Nat) a * (S512x128.size a - 1) < S4096x128.size a) :
    View.readAt (Elt F) a.view (⟨![j.val, 0], S512x128.size, ![8, 1], inb⟩ : LoadRect S4096x128) (ha.unread x) = lane (F := F) j x := by
  funext z
  rw [View.readAt_apply, ha.read_unread]
  unfold lane
  refine congrArg x (funext fun b => Fin.ext ?_)
  match b with
  | ⟨0, _⟩ => show j.val + 8 * (z 0).val = 8 * (z 0).val + j.val; omega
  | ⟨1, _⟩ => show 0 + 1 * (z 1).val = (z 1).val; omega

section Reads

variable (a : Memref sig .tc .vmem S4096x128 .f32) (ha : a.IsWhole) (x : S4096x128.Idx → Elt F .f32)

theorem read0 : View.readAt (Elt F) a.view (⟨![0, 0], S512x128.size, ![8, 1], inb_S4096x128_S512x128_0_0_s_8_1⟩ : LoadRect S4096x128) (ha.unread x) = lane (F := F) 0 x :=
  readAt_lane 0 a ha x _
theorem read1 : View.readAt (Elt F) a.view (⟨![1, 0], S512x128.size, ![8, 1], inb_S4096x128_S512x128_1_0_s_8_1⟩ : LoadRect S4096x128) (ha.unread x) = lane (F := F) 1 x :=
  readAt_lane 1 a ha x _
theorem read2 : View.readAt (Elt F) a.view (⟨![2, 0], S512x128.size, ![8, 1], inb_S4096x128_S512x128_2_0_s_8_1⟩ : LoadRect S4096x128) (ha.unread x) = lane (F := F) 2 x :=
  readAt_lane 2 a ha x _
theorem read3 : View.readAt (Elt F) a.view (⟨![3, 0], S512x128.size, ![8, 1], inb_S4096x128_S512x128_3_0_s_8_1⟩ : LoadRect S4096x128) (ha.unread x) = lane (F := F) 3 x :=
  readAt_lane 3 a ha x _
theorem read4 : View.readAt (Elt F) a.view (⟨![4, 0], S512x128.size, ![8, 1], inb_S4096x128_S512x128_4_0_s_8_1⟩ : LoadRect S4096x128) (ha.unread x) = lane (F := F) 4 x :=
  readAt_lane 4 a ha x _
theorem read5 : View.readAt (Elt F) a.view (⟨![5, 0], S512x128.size, ![8, 1], inb_S4096x128_S512x128_5_0_s_8_1⟩ : LoadRect S4096x128) (ha.unread x) = lane (F := F) 5 x :=
  readAt_lane 5 a ha x _
theorem read6 : View.readAt (Elt F) a.view (⟨![6, 0], S512x128.size, ![8, 1], inb_S4096x128_S512x128_6_0_s_8_1⟩ : LoadRect S4096x128) (ha.unread x) = lane (F := F) 6 x :=
  readAt_lane 6 a ha x _
theorem read7 : View.readAt (Elt F) a.view (⟨![7, 0], S512x128.size, ![8, 1], inb_S4096x128_S512x128_7_0_s_8_1⟩ : LoadRect S4096x128) (ha.unread x) = lane (F := F) 7 x :=
  readAt_lane 7 a ha x _

end Reads

/-- A whole read of a row is the row. -/
theorem readAt_row (a : Memref sig .tc .vmem S1x1024 .f32) (ha : a.IsWhole) (x : S1x1024.Idx → Elt F .f32) :
    View.readAt (Elt F) a.view (Rect.unit (s := S1x1024) ![0, 0] S1x1024.size inb_S1x1024_S1x1024_0_0).toLoadRect (ha.unread x) = x := by
  funext z
  rw [View.readAt_apply, ha.read_unread]
  refine congrArg x (funext fun b => Fin.ext ?_)
  match b with
  | ⟨0, _⟩ => show 0 + 1 * (z 0).val = (z 0).val; omega
  | ⟨1, _⟩ => show 0 + 1 * (z 1).val = (z 1).val; omega

/-- The lane groups side by side: the tile's rows. -/
abbrev joined (x : S4096x128.Idx → Elt F .f32) : FVec F S512x1024 .f32 :=
  k0_pay2 (lane (F := F) 0 x) (lane (F := F) 1 x) (lane (F := F) 2 x) (lane (F := F) 3 x) (lane (F := F) 4 x) (lane (F := F) 5 x) (lane (F := F) 6 x) (lane (F := F) 7 x)

/-- The rows before the norm: the tokens times the residual's factor, and the two experts' results. -/
abbrev summed (x0 x1 x2 : S4096x128.Idx → Elt F .f32) : FVec F S512x1024 .f32 :=
  addf (mulf (broadcast S512x1024 (Scalar.ofBits .f32 0x3F9837F0#32)) (joined x0)) (addf (joined x1) (joined x2))

/-- Each row's mean, along the row. -/
abbrev mean (v : FVec F S512x1024 .f32) : FVec F S512x1024 .f32 :=
  broadcastTo S512x1024 (divf (shapeCast S512x1 (multiReduction .add [1] S512 v 0x00000000#32 reduces_S512x1024_S512 (.inl rfl) rfl) shapeCasts_S512_S512x1)
    (broadcast S512x1 (Scalar.ofBits .f32 0x44800000#32))) broadcasts_S512x1_S512x1024

/-- The tile's rows after the norm. -/
abbrev tile (x0 x1 x2 : S4096x128.Idx → Elt F .f32) (x3 x4 : S1x1024.Idx → Elt F .f32) : FVec F S512x1024 .f32 :=
  k0_pay1 (summed x0 x1 x2) (k0_pay10 x3) (k0_pay11 x4) (mean (summed x0 x1 x2))

theorem r_0 (c : Dev nD) (a : Memref sig .tc .vmem S4096x128 .f32) (ha : a.IsWhole) (x : Vec F S4096x128 .f32) :
    kernelRun0_A.sl.r c a ha x = joined x := by
  unfold kernelRun0_A.sl.r
  rw [read0, read1, read2, read3, read4, read5, read6, read7]

theorem r_1 (c : Dev nD) (a : Memref sig .tc .vmem S4096x128 .f32) (ha : a.IsWhole) (x : Vec F S4096x128 .f32) :
    kernelRun0_A.sl.r_1 c a ha x = k0_pay3 (lane (F := F) 0 x) := by
  unfold kernelRun0_A.sl.r_1
  rw [read0]

theorem r_2 (c : Dev nD) (a : Memref sig .tc .vmem S4096x128 .f32) (ha : a.IsWhole) (x : Vec F S4096x128 .f32) :
    kernelRun0_A.sl.r_2 c a ha x = k0_pay4 (lane (F := F) 1 x) := by
  unfold kernelRun0_A.sl.r_2
  rw [read1]

theorem r_3 (c : Dev nD) (a : Memref sig .tc .vmem S4096x128 .f32) (ha : a.IsWhole) (x : Vec F S4096x128 .f32) :
    kernelRun0_A.sl.r_3 c a ha x = k0_pay5 (lane (F := F) 2 x) := by
  unfold kernelRun0_A.sl.r_3
  rw [read2]

theorem r_4 (c : Dev nD) (a : Memref sig .tc .vmem S4096x128 .f32) (ha : a.IsWhole) (x : Vec F S4096x128 .f32) :
    kernelRun0_A.sl.r_4 c a ha x = k0_pay6 (lane (F := F) 3 x) := by
  unfold kernelRun0_A.sl.r_4
  rw [read3]

theorem r_5 (c : Dev nD) (a : Memref sig .tc .vmem S4096x128 .f32) (ha : a.IsWhole) (x : Vec F S4096x128 .f32) :
    kernelRun0_A.sl.r_5 c a ha x = k0_pay7 (lane (F := F) 4 x) := by
  unfold kernelRun0_A.sl.r_5
  rw [read4]

theorem r_6 (c : Dev nD) (a : Memref sig .tc .vmem S4096x128 .f32) (ha : a.IsWhole) (x : Vec F S4096x128 .f32) :
    kernelRun0_A.sl.r_6 c a ha x = k0_pay8 (lane (F := F) 5 x) := by
  unfold kernelRun0_A.sl.r_6
  rw [read5]

/-- What a point stores. -/
theorem out_eq (c : Dev nD) (i : grid0.Coords) (arg1 : Memref sig .tc .vmem S4096x128 .f32) (harg1 : arg1.IsWhole)
    (arg2 : Memref sig .tc .vmem S4096x128 .f32) (harg2 : arg2.IsWhole) (arg3 : Memref sig .tc .vmem S4096x128 .f32) (harg3 : arg3.IsWhole)
    (arg4 : Memref sig .tc .vmem S1x1024 .f32) (harg4 : arg4.IsWhole) (arg5 : Memref sig .tc .vmem S1x1024 .f32) (harg5 : arg5.IsWhole)
    (arg6 : Memref sig .tc .vmem S512x1024 .f32) (harg6 : arg6.IsWhole)
    (x0 x1 x2 : Vec F S4096x128 .f32) (x3 x4 : Vec F S1x1024 .f32) :
    out0_A_5 c i arg1 harg1 arg2 harg2 arg3 harg3 arg4 harg4 arg5 harg5 arg6 harg6 x0 x1 x2 x3 x4 = tile x0 x1 x2 x3 x4 := by
  funext y
  unfold out0_A_5 kernelRun0_A
  dsimp only
  have h := View.read_writes_cons_emb (v := VO0_5) (f := VO0_5.junk) (Val := Elt F)
    (Rect.unit (s := S512x1024) ![0, 0] S512x1024.size inb_S512x1024_S512x1024_0_0) (tile x0 x1 x2 x3 x4) [] y
  rw [Rect.emb_unit_full] at h
  refine Eq.trans ?_ h
  rw [show kernelRun0_A.sl.r_7 c arg1 harg1 arg2 harg2 arg3 harg3 x0 x1 x2 = summed x0 x1 x2 from ?_,
    show kernelRun0_A.sl.r_8 c arg4 harg4 x3 = k0_pay10 x3 from ?_, show kernelRun0_A.sl.r_9 c arg5 harg5 x4 = k0_pay11 x4 from ?_,
    show kernelRun0_A.sl.r_10 c arg1 harg1 arg2 harg2 arg3 harg3 x0 x1 x2 = mean (summed x0 x1 x2) from ?_]
  · unfold kernelRun0_A.sl.r_10
    rw [r_0, r_1, r_2, r_3, r_4, r_5, r_6, read6, read7, read0, read1, read2, read3, read4, read5, read6, read7]
    rfl
  · unfold kernelRun0_A.sl.r_9
    rw [readAt_row]
  · unfold kernelRun0_A.sl.r_8
    rw [readAt_row]
  · unfold kernelRun0_A.sl.r_7
    rw [r_0, r_1, r_2, r_3, r_4, r_5, r_6, read6, read7, read0, read1, read2, read3, read4, read5, read6, read7]
    rfl

/-! ## Element by element, over the extended reals -/

/-- Row `p` of a tile, column `k`. -/
abbrev row (x : S4096x128.Idx → EReal) (p : Fin 512) (k : Fin 1024) : EReal :=
  x (ix2 ⟨8 * p.val + k.val / 128, by omega⟩ ⟨k.val % 128, by omega⟩)

theorem joined_at (x : FVec Ideal S4096x128 .f32) (p : Fin 512) (k : Fin 1024) : joined (F := Ideal) x (ix2 p k) = row x p k := by
  refine (concatenate_ofFn_apply (s₁ := S512x128) 1 (fun n : Fin 8 => shapeCast S512x128 (lane (F := Ideal) n x) shapeCasts_S512x128_S512x128)
    concatenates_S512x128_S512x128_S512x128_S512x128_S512x128_S512x128_S512x128_S512x128_S512x1024_d1 rfl 128 rfl (ix2 p k)
    ⟨k.val / 128, by omega⟩ rfl (ix2 p ⟨k.val % 128, by omega⟩) rfl ?_).trans ?_
  · intro b hb
    match b with
    | ⟨0, _⟩ => rfl
    | ⟨1, _⟩ => exact absurd rfl hb
  exact shapeCast_apply _ _ _ (ix2 p ⟨k.val % 128, by omega⟩) rfl

/-- Row `p` of the tokens before the norm. -/
abbrev before (x0 x1 x2 : S4096x128.Idx → EReal) (p : Fin 512) (k : Fin 1024) : EReal :=
  residual (row x0 p k) (row x1 p k + row x2 p k)

theorem summed_at (x0 x1 x2 : FVec Ideal S4096x128 .f32) (p : Fin 512) (k : Fin 1024) :
    summed (F := Ideal) x0 x1 x2 (ix2 p k) = before x0 x1 x2 p k := by
  refine Eq.trans ?_ (congrArg₂ (fun a b : EReal => residual a b) (joined_at x0 p k)
    (congrArg₂ (fun a b : EReal => a + b) (joined_at x1 p k) (joined_at x2 p k)))
  rfl

/-- The sum of a row. -/
theorem sum_at (v : FVec Ideal S512x1024 .f32) (p : Fin 512) :
    multiReduction .add [1] S512 v 0x00000000#32 reduces_S512x1024_S512 (.inl rfl) rfl (ix1 p) = ∑ k : Fin 1024, (v (ix2 p k) : EReal) := by
  refine (multiReduction_add_apply v _ _ _ _ (ix1 p)).trans ?_
  show Ideal.reduceAdd reduces_S512x1024_S512 v (ix1 p) = _
  exact Ideal.reduceAdd_r2_a1 reduces_S512x1024_S512 v (ix1 p)

theorem column_at (v : FVec Ideal S512x1024 .f32) (p : Fin 512) :
    divf (shapeCast S512x1 (multiReduction .add [1] S512 v 0x00000000#32 reduces_S512x1024_S512 (.inl rfl) rfl) shapeCasts_S512_S512x1)
      (broadcast S512x1 (Scalar.ofBits .f32 0x44800000#32)) (ix2 p 0) = average fun k => v (ix2 p k) := by
  have e : shapeCast S512x1 (multiReduction .add [1] S512 v 0x00000000#32 reduces_S512x1024_S512 (.inl rfl) rfl) shapeCasts_S512_S512x1 (ix2 p 0)
      = ∑ k : Fin 1024, (v (ix2 p k) : EReal) := by
    refine (shapeCast_apply _ _ _ (ix1 p) ?_).trans (sum_at v p)
    rw [Shape.rowMajor_val_one, Shape.rowMajor_val_two]
    show p.val = p.val * 1 + 0
    omega
  exact congrArg (fun a : EReal => Ideal.div a width) e

/-- A column along its rows. -/
theorem along_at (v : FVec Ideal S512x1 .f32) (p : Fin 512) (d : Fin 1024) :
    broadcastTo S512x1024 v broadcasts_S512x1_S512x1024 (ix2 p d) = v (ix2 p 0) := by
  refine broadcastTo_apply _ _ (ix2 p d) (ix2 p 0) ?_
  intro a; match a with
  | ⟨0, _⟩ => rfl
  | ⟨1, _⟩ => rfl

theorem mean_at (v : FVec Ideal S512x1024 .f32) (p : Fin 512) (d : Fin 1024) :
    mean (F := Ideal) v (ix2 p d) = average fun k => v (ix2 p k) := (along_at _ p d).trans (column_at v p)

/-- A row of the parameters, for every row of the tile. -/
theorem param_at (x : FVec Ideal S1x1024 .f32) (p : Fin 512) (d : Fin 1024) :
    broadcastTo S512x1024 (shapeCast S1x1024 x shapeCasts_S1x1024_S1x1024) broadcasts_S1x1024_S512x1024 (ix2 p d) = x (ix2 0 d) := by
  refine (broadcastTo_apply _ _ (ix2 p d) (ix2 0 d) ?_).trans (shapeCast_apply _ _ _ (ix2 0 d) rfl)
  intro a; match a with
  | ⟨0, _⟩ => rfl
  | ⟨1, _⟩ => rfl

/-- The norm of a tile's rows. -/
theorem pay1_at (v M : FVec Ideal S512x1024 .f32) (g b : FVec Ideal S1x1024 .f32) (p : Fin 512) (d : Fin 1024)
    (r : Fin 1024 → EReal) (hv : ∀ k, v (ix2 p k) = r k) (hM : ∀ k, M (ix2 p k) = average r) :
    k0_pay1 (F := Ideal) v (k0_pay10 g) (k0_pay11 b) M (ix2 p d) = normed r (g (ix2 0 d)) (b (ix2 0 d)) d := by
  let D : FVec Ideal S512x1024 .f32 := subf v M
  have hD : ∀ k, D (ix2 p k) = r k - average r := fun k => congrArg₂ (fun a b : EReal => a - b) (hv k) (hM k)
  have hs := column_at (mulf D D) p
  have hq : (average fun k => mulf D D (ix2 p k)) = average fun k => (r k - average r) * (r k - average r) :=
    congrArg average (funext fun k => congrArg₂ (fun a b : EReal => a * b) (hD k) (hD k))
  have hr := (along_at (rsqrt (addf (divf (shapeCast S512x1 (multiReduction .add [1] S512 (mulf D D) 0x00000000#32 reduces_S512x1024_S512 (.inl rfl) rfl) shapeCasts_S512_S512x1)
      (broadcast S512x1 (Scalar.ofBits .f32 0x44800000#32))) (broadcast S512x1 (Scalar.ofBits .f32 0x3727C5AC#32)))) p d).trans
    (congrArg (fun a : EReal => Ideal.rsqrt (a + tiny)) (hs.trans hq))
  refine Eq.trans ?_ (congrArg₂ (fun a b : EReal => a + b) (congrArg₂ (fun a b : EReal => a * b)
    (congrArg₂ (fun a b : EReal => a * b) (hD d) hr) (param_at g p d)) (param_at b p d))
  rfl

/-- What a point stores, element by element. -/
theorem tile_at (x0 x1 x2 : FVec Ideal S4096x128 .f32) (x3 x4 : FVec Ideal S1x1024 .f32) (p : Fin 512) (d : Fin 1024) :
    tile (F := Ideal) x0 x1 x2 x3 x4 (ix2 p d) = normed (before x0 x1 x2 p) (x3 (ix2 0 d)) (x4 (ix2 0 d)) d :=
  pay1_at _ _ x3 x4 p d _ (fun k => summed_at x0 x1 x2 p k)
    fun k => (mean_at _ p k).trans (congrArg average (funext fun k => summed_at x0 x1 x2 p k))

end Cert.Proof.Sample

end
-- ==== Proof.SampleFinal.lean ====
/-
  What the `_combine` call at the sample's sizes leaves, over any floats: its result array block by block, and the arguments its blocks are cut from.
-/
module

public import proofs.«01_k».proof.Proof.Gen.Kernel5Ideal.Value
public import proofs.«01_k».proof.Proof.SampleTile
public import Idealize.ShloMosaic.Lib.Pipeline.ValueKit.Geometry

@[expose] public section

set_option maxRecDepth 16384

noncomputable section

namespace Cert.Proof.Sample

open Cert.Kernel5Ideal Cert.Kernel5Ideal.Gen
open Idealize.ShloMosaic hiding ix1 ix2 ix3
open Idealize.ShloMosaic.TcCoe Idealize.ShloMosaic.StableHlo
open Idealize.ShloMosaic.ValueIdx
open Idealize.SL.Sem
open Idealize.ShloMosaic.Pipeline (Dat Cfg Window)

variable {F : FTy → Type} [FloatOps F]
variable (m : (ℓ : Loc nD τ sig) → Buf (Elt F) ℓ) (c : Dev nD)

/-! ## Points and blocks -/

theorem points : grid0.N = 64 := by decide

theorem lt_points (t : Fin cfg0.N) : t.val < 64 := lt_of_lt_of_eq t.isLt points

/-- The point of a stretch of tokens. -/
abbrev point (q : Nat) (hq : q < 64) : Fin cfg0.N := ⟨q, lt_of_lt_of_eq hq points.symm⟩

theorem coord0 (t : Fin cfg0.N) : (grid0.coords t 0).val = t.val := by
  have e := Pipeline.Grid.coords_val (G := grid0) t 0 (S := 1) (B := 64) (by decide) rfl
  have ht := lt_points t
  rw [Nat.div_one] at e
  exact e.trans (Nat.mod_eq_of_lt ht)

theorem word_val (n : Nat) (h : n < 256) : (BitVec.ofNat 32 n).toNat = n := by
  rw [BitVec.toNat_ofNat, Nat.mod_eq_of_lt (by omega)]

theorem index5 (t : Fin cfg0.N) : (cfg0.win (5 : Fin 6)).index t = ![t.val, 0] := by
  have ht := lt_points t
  show cc0_transform_5 (grid0.coords t) = _
  unfold cc0_transform_5
  dsimp only
  rw [coord0, word_val _ (show t.val < 256 by omega)]
  rfl

theorem index0 (t : Fin cfg0.N) : (cfg0.win (0 : Fin 6)).index t = ![t.val, 0] := index5 t

theorem index1 (t : Fin cfg0.N) : (cfg0.win (1 : Fin 6)).index t = ![t.val, 0] := index5 t

theorem index2 (t : Fin cfg0.N) : (cfg0.win (2 : Fin 6)).index t = ![64 + t.val, 0] := by
  have ht := lt_points t
  show cc0_transform_2 (grid0.coords t) = _
  unfold cc0_transform_2
  dsimp only
  have e : (Scalar.addi (BitVec.ofNat 32 (grid0.coords t 0).val) 64#32).toNat = 64 + t.val := by
    rw [coord0]
    show (BitVec.ofNat 32 t.val + 64#32).toNat = _
    rw [BitVec.toNat_add, word_val _ (show t.val < 256 by omega)]
    show (t.val + 64) % 4294967296 = 64 + t.val
    omega
  rw [e]
  rfl

theorem index3 (t : Fin cfg0.N) : (cfg0.win (3 : Fin 6)).index t = ![0, 0] := rfl

theorem index4 (t : Fin cfg0.N) : (cfg0.win (4 : Fin 6)).index t = ![0, 0] := rfl

/-- A block of the output, placed. -/
theorem place5 (t : Fin cfg0.N) (y : S512x1024.Idx) :
    ((cfg0.win (5 : Fin 6)).blk t).view.emb y
      = ix2 (n0 := 32768) (n1 := 1024)
          ⟨512 * t.val + (y 0).val, by have ht := lt_points t; have hy : (y 0).val < 512 := (y 0).isLt; omega⟩
          ⟨(y 1).val, (y 1).isLt⟩ := by
  funext a; apply Fin.ext
  refine (Window.rect_emb_val (cfg0.win (5 : Fin 6)) t y a).trans ?_
  rw [index5]
  match a with
  | ⟨0, _⟩ => show t.val * 512 + (y 0).val = 512 * t.val + (y 0).val; omega
  | ⟨1, _⟩ => show 0 * 1024 + (y 1).val = (y 1).val; omega

/-! ## The result -/

/-- What a point leaves of its output block. -/
def left (t : Fin cfg0.N) : S512x1024.Idx → Elt F .f32 := tile (iblk m c 0 t) (iblk m c 1 t) (iblk m c 2 t) (iblk m c 3 t) (iblk m c 4 t)

/-- The result array, block by block. -/
def finished : S32768x1024.Idx → Elt F .f32 := fun i =>
  left m c (point ((i 0).val / 512) (by have hi : (i 0).val < 32768 := (i 0).isLt; omega))
    (ix2 ⟨(i 0).val % 512, by omega⟩ ⟨(i 1).val, (i 1).isLt⟩)

theorem left_at {t t' : Fin cfg0.N} {y y' : S512x1024.Idx} (e : t = t') (e' : y = y') : left m c t y = left m c t' y' := by
  subst e e'; rfl

theorem after_left (t : Fin cfg0.N) : (dats m 0 c).after (5 : Fin 6) t = left m c t :=
  (after0_5 m c t).trans (by unfold outsAt0; exact out_eq c _ _ _ _ _ _ _ _ _ _ _ _ _ _ _ _ _ _)

/-- Every element of the output is placed by some block. -/
theorem covered (i : S32768x1024.Idx) : ∃ (t : Fin cfg0.N) (y : S512x1024.Idx), ((cfg0.win (5 : Fin 6)).blk t).view.emb y = i := by
  have h0 : (i 0).val < 32768 := (i 0).isLt
  refine ⟨point ((i 0).val / 512) (by omega), ix2 ⟨(i 0).val % 512, by omega⟩ ⟨(i 1).val, (i 1).isLt⟩, ?_⟩
  refine (place5 _ _).trans (funext fun b => Fin.ext ?_)
  match b with
  | ⟨0, _⟩ => show 512 * ((i 0).val / 512) + (i 0).val % 512 = (i 0).val; omega
  | ⟨1, _⟩ => rfl

/-- What the write-backs make of the output array. -/
theorem final5 : (dats m 0 c).arrAt (5 : Fin 6) cfg0.N = finished m c := by
  refine (dats m 0 c).arrAt_eq_of_emb (5 : Fin 6) (finished m c) (fun t _ y => ?_) (fun i => ?_)
  · refine Eq.trans ?_ (congrArg (finished m c) (place5 t y)).symm
    have ht := lt_points t
    have hy0 : (y 0).val < 512 := (y 0).isLt
    refine Eq.trans (b := left m c t y) (congrFun (after_left m c t) y) ?_
    show _ = left m c _ _
    refine left_at m c (Fin.ext ?_) (funext fun b => Fin.ext ?_)
    · show t.val = (512 * t.val + (y 0).val) / 512; omega
    · match b with
      | ⟨0, _⟩ => show (y 0).val = (512 * t.val + (y 0).val) % 512; omega
      | ⟨1, _⟩ => rfl
  · obtain ⟨t, y, e⟩ := covered i
    refine ⟨t, flush0_5 t, ?_⟩
    have e' := View.emb_mem_set ((cfg0.win (5 : Fin 6)).blk t).view y
    rw [e] at e'
    exact e'

/-! ## The arguments -/

/-- The program's arguments. -/
abbrev xIn : S32768x1024.Idx → Elt F .f32 := m ((c.tc : Thread nD τ).loc main_arg0)
abbrev yIn : S2x32768x1024.Idx → Elt F .f32 := m ((c.tc : Thread nD τ).loc main_arg1)
abbrev gIn : S1024.Idx → Elt F .f32 := m ((c.tc : Thread nD τ).loc main_arg2)
abbrev bIn : S1024.Idx → Elt F .f32 := m ((c.tc : Thread nD τ).loc main_arg3)

theorem entry_x : V m c main_v2 = shapeCast S262144x128 (xIn m c) shapeCasts_S32768x1024_S262144x128 := by
  show after hostOps0 _ _ = _
  after_results <;> rfl

theorem entry_y : V m c main_v3 = shapeCast S524288x128 (yIn m c) shapeCasts_S2x32768x1024_S524288x128 := by
  show after hostOps0 _ _ = _
  after_results <;> rfl

theorem entry_g : V m c main_v0 = shapeCast S1x1024 (gIn m c) shapeCasts_S1024_S1x1024 := by
  show after hostOps0 _ _ = _
  after_results <;> rfl

theorem entry_b : V m c main_v1 = shapeCast S1x1024 (bIn m c) shapeCasts_S1024_S1x1024 := by
  show after hostOps0 _ _ = _
  after_results <;> rfl

/-! ## The blocks -/

theorem block0_at (t : Fin cfg0.N) (p : Fin 512) (k : Fin 1024) (n : Fin 32768) (en : n.val = 512 * t.val + p.val) :
    iblk m c 0 t (ix2 ⟨8 * p.val + k.val / 128, by omega⟩ ⟨k.val % 128, by omega⟩ : S4096x128.Idx) = xIn m c (ix2 n k) := by
  refine (congrFun (entry_x m c) _).trans (shapeCast_apply _ _ _ (ix2 n k) ?_)
  have p0 := Window.rect_emb_val (cfg0.win (0 : Fin 6)) t (ix2 ⟨8 * p.val + k.val / 128, by omega⟩ ⟨k.val % 128, by omega⟩ : S4096x128.Idx) (0 : Fin 2)
  have p1 := Window.rect_emb_val (cfg0.win (0 : Fin 6)) t (ix2 ⟨8 * p.val + k.val / 128, by omega⟩ ⟨k.val % 128, by omega⟩ : S4096x128.Idx) (1 : Fin 2)
  rw [index0] at p0 p1
  rw [Shape.rowMajor_val_two, Shape.rowMajor_val_two]
  refine Eq.trans ?_ (congrArg₂ (fun a b : ℕ => a * 128 + b) p0 p1).symm
  show n.val * 1024 + k.val = (t.val * 4096 + (8 * p.val + k.val / 128)) * 128 + (0 * 128 + k.val % 128)
  omega

theorem block1_at (t : Fin cfg0.N) (p : Fin 512) (k : Fin 1024) (n : Fin 32768) (en : n.val = 512 * t.val + p.val) :
    iblk m c 1 t (ix2 ⟨8 * p.val + k.val / 128, by omega⟩ ⟨k.val % 128, by omega⟩ : S4096x128.Idx) = yIn m c (ix3 0 n k) := by
  refine (congrFun (entry_y m c) _).trans (shapeCast_apply _ _ _ (ix3 0 n k) ?_)
  have p0 := Window.rect_emb_val (cfg0.win (1 : Fin 6)) t (ix2 ⟨8 * p.val + k.val / 128, by omega⟩ ⟨k.val % 128, by omega⟩ : S4096x128.Idx) (0 : Fin 2)
  have p1 := Window.rect_emb_val (cfg0.win (1 : Fin 6)) t (ix2 ⟨8 * p.val + k.val / 128, by omega⟩ ⟨k.val % 128, by omega⟩ : S4096x128.Idx) (1 : Fin 2)
  rw [index1] at p0 p1
  rw [Shape.rowMajor_val_three, Shape.rowMajor_val_two]
  refine Eq.trans ?_ (congrArg₂ (fun a b : ℕ => a * 128 + b) p0 p1).symm
  show (0 * 32768 + n.val) * 1024 + k.val = (t.val * 4096 + (8 * p.val + k.val / 128)) * 128 + (0 * 128 + k.val % 128)
  omega

theorem block2_at (t : Fin cfg0.N) (p : Fin 512) (k : Fin 1024) (n : Fin 32768) (en : n.val = 512 * t.val + p.val) :
    iblk m c 2 t (ix2 ⟨8 * p.val + k.val / 128, by omega⟩ ⟨k.val % 128, by omega⟩ : S4096x128.Idx) = yIn m c (ix3 1 n k) := by
  refine (congrFun (entry_y m c) _).trans (shapeCast_apply _ _ _ (ix3 1 n k) ?_)
  have p0 := Window.rect_emb_val (cfg0.win (2 : Fin 6)) t (ix2 ⟨8 * p.val + k.val / 128, by omega⟩ ⟨k.val % 128, by omega⟩ : S4096x128.Idx) (0 : Fin 2)
  have p1 := Window.rect_emb_val (cfg0.win (2 : Fin 6)) t (ix2 ⟨8 * p.val + k.val / 128, by omega⟩ ⟨k.val % 128, by omega⟩ : S4096x128.Idx) (1 : Fin 2)
  rw [index2] at p0 p1
  rw [Shape.rowMajor_val_three, Shape.rowMajor_val_two]
  refine Eq.trans ?_ (congrArg₂ (fun a b : ℕ => a * 128 + b) p0 p1).symm
  show (1 * 32768 + n.val) * 1024 + k.val = ((64 + t.val) * 4096 + (8 * p.val + k.val / 128)) * 128 + (0 * 128 + k.val % 128)
  omega

theorem block3_at (t : Fin cfg0.N) (k : Fin 1024) : iblk m c 3 t (ix2 0 k : S1x1024.Idx) = gIn m c (ix1 k) := by
  refine (congrFun (entry_g m c) _).trans (shapeCast_apply _ _ _ (ix1 k) ?_)
  have p0 := Window.rect_emb_val (cfg0.win (3 : Fin 6)) t (ix2 0 k : S1x1024.Idx) (0 : Fin 2)
  have p1 := Window.rect_emb_val (cfg0.win (3 : Fin 6)) t (ix2 0 k : S1x1024.Idx) (1 : Fin 2)
  rw [index3] at p0 p1
  rw [Shape.rowMajor_val_one, Shape.rowMajor_val_two]
  refine Eq.trans ?_ (congrArg₂ (fun a b : ℕ => a * 1024 + b) p0 p1).symm
  show k.val = (0 * 1 + 0) * 1024 + (0 * 1024 + k.val)
  omega

theorem block4_at (t : Fin cfg0.N) (k : Fin 1024) : iblk m c 4 t (ix2 0 k : S1x1024.Idx) = bIn m c (ix1 k) := by
  refine (congrFun (entry_b m c) _).trans (shapeCast_apply _ _ _ (ix1 k) ?_)
  have p0 := Window.rect_emb_val (cfg0.win (4 : Fin 6)) t (ix2 0 k : S1x1024.Idx) (0 : Fin 2)
  have p1 := Window.rect_emb_val (cfg0.win (4 : Fin 6)) t (ix2 0 k : S1x1024.Idx) (1 : Fin 2)
  rw [index4] at p0 p1
  rw [Shape.rowMajor_val_one, Shape.rowMajor_val_two]
  refine Eq.trans ?_ (congrArg₂ (fun a b : ℕ => a * 1024 + b) p0 p1).symm
  show k.val = (0 * 1 + 0) * 1024 + (0 * 1024 + k.val)
  omega

end Cert.Proof.Sample

end
-- ==== Proof.SampleRef.lean ====
/-
  The `_combine` call's (at the sample's sizes) reference over the extended reals, element by element.
-/
module

public import proofs.«01_k».proof.Proof.Gen.Reference5Ideal.Run
public import proofs.«01_k».proof.Proof.Combine
public import Idealize.ShloMosaic.Lib.IdealHost
public import Idealize.ShloMosaic.Lib.ValueIdx
public import Idealize.ShloMosaic.Lib.Pointwise.Reduce
public import Idealize.ShloMosaic.Lib.Pipeline.Value

@[expose] public section

set_option maxRecDepth 16384

noncomputable section

namespace Cert.Proof.Sample.Ref

open Cert.Reference5Ideal Cert.Reference5Ideal.Gen
open Idealize.ShloMosaic hiding ix1 ix2 ix3
open Idealize.ShloMosaic.ValueIdx
open Cert.Proof.Combine (residual average normed width tiny)
open scoped BigOperators

/-! ## The reference's arrays, named -/

/-- The tokens before the norm. -/
abbrev summed (X : FVec Ideal S32768x1024 .f32) (Y : FVec Ideal S2x32768x1024 .f32) : FVec Ideal S32768x1024 .f32 :=
  addf (mulf (broadcastInDim S32768x1024 ![] bcast_S_S32768x1024 (constant S_ .f32 0x3F9837F0#32)) X)
    (Host.reduceAdd Y (constant S_ .f32 0x00000000#32) reducesTo_S2x32768x1024_S32768x1024_d0 h_S_)

/-- Each token's mean. -/
abbrev column (v : FVec Ideal S32768x1024 .f32) : FVec Ideal S32768x1 .f32 :=
  Host.divf (broadcastInDim S32768x1 ![0] bcast_S32768_S32768x1_0
      (Host.reduceAdd v (constant S_ .f32 0x00000000#32) reducesTo_S32768x1024_S32768_d1 h_S_))
    (broadcastInDim S32768x1 ![] bcast_S_S32768x1 (constant S_ .f32 0x44800000#32))

/-- A value of every token, along its row. -/
abbrev along (v : FVec Ideal S32768x1 .f32) : FVec Ideal S32768x1024 .f32 :=
  broadcastInDim S32768x1024 ![0, 1] bcast_S32768x1_S32768x1024_0_1 v

/-- A row of the parameters, for every token. -/
abbrev param (g : FVec Ideal S1024 .f32) : FVec Ideal S32768x1024 .f32 :=
  broadcastInDim S32768x1024 ![0, 1] bcast_S1x1024_S32768x1024_0_1 (broadcastInDim S1x1024 ![1] bcast_S1024_S1x1024_1 g)

/-- The tokens' differences from their means. -/
abbrev off (v : FVec Ideal S32768x1024 .f32) : FVec Ideal S32768x1024 .f32 := subf v (along (column v))

/-- The norm. -/
abbrev norm (v : FVec Ideal S32768x1024 .f32) (g b : FVec Ideal S1024 .f32) : FVec Ideal S32768x1024 .f32 :=
  addf (mulf (mulf (off v) (along (Host.rsqrt (addf (column (mulf (off v) (off v)))
    (broadcastInDim S32768x1 ![] bcast_S_S32768x1 (constant S_ .f32 0x3727C5AC#32)))))) (param g)) (param b)

/-! ## Element by element -/

theorem zero_bits : Ideal.ofBits .f32 0x00000000#32 = (0 : EReal) := by simp [Ideal.ofBits, Ideal.ieee]

theorem pair_at (Y : FVec Ideal S2x32768x1024 .f32) (n : Fin 32768) (k : Fin 1024) :
    Host.reduceAdd Y (constant S_ .f32 0x00000000#32) reducesTo_S2x32768x1024_S32768x1024_d0 h_S_ (ix2 n k)
      = (Y (ix3 0 n k) : EReal) + Y (ix3 1 n k) := by
  refine (hostReduceAdd_apply Y _ _ _ (ix2 n k)).trans ?_
  refine (Ideal.hostReduceAdd_r3_a0 reducesTo_S2x32768x1024_S32768x1024_d0 Y _ (ix2 n k)).trans ?_
  show Ideal.ofBits .f32 0x00000000#32 + ∑ e : Fin 2, (Y (ix3 e n k) : EReal) = _
  rw [zero_bits, zero_add, Fin.sum_univ_two]

theorem summed_at (X : FVec Ideal S32768x1024 .f32) (Y : FVec Ideal S2x32768x1024 .f32) (n : Fin 32768) (k : Fin 1024) :
    summed X Y (ix2 n k) = residual (X (ix2 n k)) ((Y (ix3 0 n k) : EReal) + Y (ix3 1 n k)) := by
  have e := broadcastInDim_scalar_apply bcast_S_S32768x1024 (constant (F := Ideal) S_ .f32 0x3F9837F0#32) (ix2 n k)
  exact congrArg₂ (fun a b : EReal => a + b) (congrArg (fun a : EReal => a * X (ix2 n k)) e) (pair_at Y n k)

theorem sum_at (v : FVec Ideal S32768x1024 .f32) (n : Fin 32768) :
    Host.reduceAdd v (constant S_ .f32 0x00000000#32) reducesTo_S32768x1024_S32768_d1 h_S_ (ix1 n) = ∑ k : Fin 1024, (v (ix2 n k) : EReal) := by
  refine (hostReduceAdd_apply v _ _ _ (ix1 n)).trans ?_
  refine (Ideal.hostReduceAdd_r2_a1 reducesTo_S32768x1024_S32768_d1 v _ (ix1 n)).trans ?_
  show Ideal.ofBits .f32 0x00000000#32 + ∑ k : Fin 1024, (v (ix2 n k) : EReal) = _
  rw [zero_bits, zero_add]

theorem column_at (v : FVec Ideal S32768x1024 .f32) (n : Fin 32768) : column v (ix2 n 0) = average fun k => v (ix2 n k) := by
  have e := broadcastInDim_scalar_apply bcast_S_S32768x1 (constant (F := Ideal) S_ .f32 0x44800000#32) (ix2 n 0)
  refine congrArg₂ (fun a b : EReal => Ideal.div a b) (Eq.trans ?_ (sum_at v n)) e
  refine broadcastInDim_apply _ _ _ (ix2 n 0) (ix1 n) ?_
  intro a; match a with
  | ⟨0, _⟩ => rfl

theorem along_at (v : FVec Ideal S32768x1 .f32) (n : Fin 32768) (d : Fin 1024) : along v (ix2 n d) = v (ix2 n 0) := by
  refine broadcastInDim_apply _ _ _ (ix2 n d) (ix2 n 0) ?_
  intro a; match a with
  | ⟨0, _⟩ => rfl
  | ⟨1, _⟩ => rfl

theorem param_at (g : FVec Ideal S1024 .f32) (n : Fin 32768) (d : Fin 1024) : param g (ix2 n d) = g (ix1 d) := by
  refine (broadcastInDim_apply _ _ _ (ix2 n d) (ix2 0 d) ?_).trans (broadcastInDim_apply _ _ _ (ix2 0 d) (ix1 d) ?_)
  · intro a; match a with
    | ⟨0, _⟩ => rfl
    | ⟨1, _⟩ => rfl
  · intro a; match a with
    | ⟨0, _⟩ => rfl

theorem norm_at (v : FVec Ideal S32768x1024 .f32) (g b : FVec Ideal S1024 .f32) (n : Fin 32768) (d : Fin 1024)
    (r : Fin 1024 → EReal) (hv : ∀ k, v (ix2 n k) = r k) : norm v g b (ix2 n d) = normed r (g (ix1 d)) (b (ix1 d)) d := by
  have hm : ∀ k, along (column v) (ix2 n k) = average r := fun k =>
    (along_at _ n k).trans ((column_at v n).trans (congrArg average (funext hv)))
  have hD : ∀ k, off v (ix2 n k) = r k - average r := fun k => congrArg₂ (fun a b : EReal => a - b) (hv k) (hm k)
  have hq : (average fun k => mulf (off v) (off v) (ix2 n k)) = average fun k => (r k - average r) * (r k - average r) :=
    congrArg average (funext fun k => congrArg₂ (fun a b : EReal => a * b) (hD k) (hD k))
  have et := broadcastInDim_scalar_apply bcast_S_S32768x1 (constant (F := Ideal) S_ .f32 0x3727C5AC#32) (ix2 n 0)
  have hr := (along_at (Host.rsqrt (addf (column (mulf (off v) (off v)))
      (broadcastInDim S32768x1 ![] bcast_S_S32768x1 (constant S_ .f32 0x3727C5AC#32)))) n d).trans
    (congrArg₂ (fun a b : EReal => Ideal.rsqrt (a + b)) ((column_at (mulf (off v) (off v)) n).trans hq) et)
  exact congrArg₂ (fun a b : EReal => a + b) (congrArg₂ (fun a b : EReal => a * b)
    (congrArg₂ (fun a b : EReal => a * b) (hD d) hr) (param_at g n d)) (param_at b n d)

/-- The reference, element by element. -/
theorem result_at (X : FVec Ideal S32768x1024 .f32) (Y : FVec Ideal S2x32768x1024 .f32) (g b : FVec Ideal S1024 .f32) (n : Fin 32768) (d : Fin 1024) :
    norm (summed X Y) g b (ix2 n d)
      = normed (fun k => residual (X (ix2 n k)) ((Y (ix3 0 n k) : EReal) + Y (ix3 1 n k))) (g (ix1 d)) (b (ix1 d)) d :=
  norm_at _ g b n d _ fun k => summed_at X Y n k

end Cert.Proof.Sample.Ref

end
-- ==== Proof.SampleValue.lean ====
/-
  The `_combine` call's (at the sample's sizes) result is the reference's, element by element.
-/
module

public import proofs.«01_k».proof.Proof.SampleFinal
public import proofs.«01_k».proof.Proof.SampleRef

@[expose] public section

set_option maxRecDepth 16384

noncomputable section

namespace Cert.Proof.Sample

open Cert.Kernel5Ideal Cert.Kernel5Ideal.Gen
open Idealize.ShloMosaic hiding ix1 ix2 ix3
open Idealize.ShloMosaic.ValueIdx
open Cert.Proof.Combine (residual average normed width tiny)
open scoped BigOperators

variable (m : (ℓ : Loc nD τ sig) → Buf (Elt Ideal) ℓ) (c : Dev nD)

/-- Over the extended reals the result is the reference's of the arguments. -/
theorem value : finished (F := Ideal) m c = Ref.norm (Ref.summed (xIn m c) (yIn m c)) (gIn m c) (bIn m c) := by
  funext i
  have h0 : (i 0).val < 32768 := (i 0).isLt
  let n : Fin 32768 := ⟨(i 0).val, h0⟩
  let d : Fin 1024 := ⟨(i 1).val, (i 1).isLt⟩
  let t := point ((i 0).val / 512) (by omega)
  let p : Fin 512 := ⟨(i 0).val % 512, by omega⟩
  have hn : n.val = 512 * t.val + p.val := by show (i 0).val = 512 * ((i 0).val / 512) + (i 0).val % 512; omega
  have hi : i = ix2 n d := by
    funext a; match a with
    | ⟨0, _⟩ => rfl
    | ⟨1, _⟩ => rfl
  refine Eq.trans ?_ (congrArg (Ref.norm (Ref.summed (xIn m c) (yIn m c)) (gIn m c) (bIn m c)) hi).symm
  refine Eq.trans ?_ (Ref.result_at (xIn m c) (yIn m c) (gIn m c) (bIn m c) n d).symm
  show left m c t (ix2 p d) = _
  unfold left
  refine (tile_at (iblk m c 0 t) (iblk m c 1 t) (iblk m c 2 t) (iblk m c 3 t) (iblk m c 4 t) p d).trans ?_
  have hr : before (iblk m c 0 t) (iblk m c 1 t) (iblk m c 2 t) p
      = fun k => residual (xIn m c (ix2 n k)) ((yIn m c (ix3 0 n k) : EReal) + yIn m c (ix3 1 n k)) := funext fun k =>
    congrArg₂ (fun a b : EReal => residual a b) (block0_at m c t p k n hn)
      (congrArg₂ (fun a b : EReal => a + b) (block1_at m c t p k n hn) (block2_at m c t p k n hn))
  rw [hr, block3_at, block4_at]

end Cert.Proof.Sample

end
-- ==== Proof.Project.lean ====
/-
  What the `_in_proj` call should make of a token: a row's root mean square norm, and the rotation of a pair of lanes.
-/
module

public import Idealize.ShloMosaic.Lib.IdealHost
public import Idealize.ShloMosaic.Lib.ValueIdx
public import Idealize.ShloMosaic.Lib.VecWindow
public import Idealize.ShloMosaic.Lib.Pipeline.Value

@[expose] public section

noncomputable section

namespace Cert.Proof.Project

open Idealize.ShloMosaic
open Idealize.ShloMosaic.ValueIdx
open scoped BigOperators

/-- What the mean square is raised by. -/
abbrev tiny : EReal := Ideal.ofBits .f32 0x358637BD#32

/-- The row after its norm, one element of it: `w` is the number of its elements, `g` the gain's element. -/
def normed {n : Nat} (w : EReal) (r : Fin n → EReal) (g : EReal) (j : Fin n) : EReal :=
  r j * Ideal.rsqrt (Ideal.div (∑ k, r k * r k) w + tiny) * g

/-- The widths of the two latent rows. -/
abbrev width384 : EReal := Ideal.ofBits .f32 0x43C00000#32
abbrev width256 : EReal := Ideal.ofBits .f32 0x43800000#32

/-- What the query's channels are scaled by. -/
abbrev scale : EReal := Ideal.ofBits .f32 0x3E16C740#32

section Token

variable (x : (⟨3, ![16, 4096, 1024]⟩ : Shape).Idx → EReal) (w : (⟨2, ![1024, 1184]⟩ : Shape).Idx → EReal)

/-- Token `(b, q)` times column `j` of the input matrix. -/
def projected (b : Fin 16) (q : Fin 4096) (j : Fin 1184) : EReal := ∑ k : Fin 1024, x (ix3 b q k) * w (ix2 k j)

/-- The token's two latent rows after their norms. -/
def latentQ (g : (⟨1, ![384]⟩ : Shape).Idx → EReal) (b : Fin 16) (q : Fin 4096) (i : Fin 384) : EReal :=
  normed width384 (fun j : Fin 384 => projected x w b q ⟨j.val, by omega⟩) (g (ix1 i)) i

def latentKv (g : (⟨1, ![256]⟩ : Shape).Idx → EReal) (b : Fin 16) (q : Fin 4096) (i : Fin 256) : EReal :=
  normed width256 (fun j : Fin 256 => projected x w b q ⟨384 + j.val, by omega⟩) (g (ix1 i)) i

/-- The queries', and the keys' and values', channels of all heads. -/
def upQ (g : (⟨1, ![384]⟩ : Shape).Idx → EReal) (u : (⟨2, ![384, 768]⟩ : Shape).Idx → EReal) (b : Fin 16) (q : Fin 4096) (j : Fin 768) : EReal :=
  ∑ i : Fin 384, latentQ x w g b q i * u (ix2 i j)

def upKv (g : (⟨1, ![256]⟩ : Shape).Idx → EReal) (u : (⟨2, ![256, 1024]⟩ : Shape).Idx → EReal) (b : Fin 16) (q : Fin 4096) (j : Fin 1024) : EReal :=
  ∑ i : Fin 256, latentKv x w g b q i * u (ix2 i j)

end Token

end Cert.Proof.Project

end
-- ==== Proof.ProjectTile.lean ====
/-
  One tile of the `_in_proj` call over the extended reals, element by element: what a point leaves in its four outputs' blocks.
-/
module

public import proofs.«01_k».proof.Proof.Gen.Kernel6Ideal.Frame
public import proofs.«01_k».proof.Proof.Project
public import Idealize.ShloMosaic.Lib.VecWindow
public import Idealize.ShloMosaic.Lib.ValueIdx
public import Idealize.ShloMosaic.Lib.IdealHost
public import Idealize.ShloMosaic.Lib.KernelVsHost
public import Idealize.ShloMosaic.Lib.StackMember
public import Idealize.ShloMosaic.Lib.Pointwise.Reduce
public import Idealize.ShloMosaic.Lib.Pipeline.Value
public import Idealize.ShloMosaic.Lib.Pipeline.ValueKit.Tiles

@[expose] public section

set_option maxRecDepth 16384

noncomputable section

namespace Cert.Proof.Project

open Cert.Kernel6Ideal Cert.Kernel6Ideal.Gen
open Idealize.ShloMosaic hiding ix1 ix2 ix3 ix4
open Idealize.ShloMosaic.ValueIdx
open scoped BigOperators

/-! ## Operations at an element -/

/-- A product of two matrices. -/
theorem matmul_at {m k n : Nat} {φ₁ φ₂ : FTy} (A : FVec Ideal ⟨2, ![m, k]⟩ φ₁) (B : FVec Ideal ⟨2, ![k, n]⟩ φ₂) (p : Fin m) (j : Fin n) :
    matmul (DotDims.plain m k n) none A B (constant ⟨2, ![m, n]⟩ .f32 0x00000000#32) (ix2 p j) = ∑ i : Fin k, (A (ix2 p i) * B (ix2 i j) : EReal) := by
  refine (Ideal.matmul_constant_zero_apply (DotDims.plain m k n) none A B (ix2 p j)).trans ?_
  rw [← Equiv.sum_comp (contrEquiv1 (DotDims.plain m k n) k rfl rfl).symm]
  refine Finset.sum_congr rfl fun i _ => ?_
  have hk := contrEquiv1_symm_val (DotDims.plain m k n) k rfl rfl i
  have el : (DotDims.plain m k n).lhsIdx (ix2 p j) ((contrEquiv1 (DotDims.plain m k n) k rfl rfl).symm i) = ix2 p i := by
    funext a; apply Fin.ext
    match a with
    | ⟨0, _⟩ => rfl
    | ⟨1, _⟩ => exact hk
  have er : (DotDims.plain m k n).rhsIdx (ix2 p j) ((contrEquiv1 (DotDims.plain m k n) k rfl rfl).symm i) = ix2 i j := by
    funext a; apply Fin.ext
    match a with
    | ⟨0, _⟩ => exact hk
    | ⟨1, _⟩ => rfl
  rw [el, er]

/-- A cast to the same shape. -/
theorem same_at {α : Type} {s : Shape} (x : s.Idx → α) (h : s.ShapeCasts s) : shapeCast s x h = x :=
  funext fun i => shapeCast_apply x h i i rfl

/-- Columns of a matrix. -/
theorem columns_at {α : Type} {m n k : Nat} (o : Nat) (x : (⟨2, ![m, n]⟩ : Shape).Idx → α) (h : (⟨2, ![m, n]⟩ : Shape).Slices ![0, o] ⟨2, ![m, k]⟩)
    (p : Fin m) (j : Fin k) (j' : Fin n) (e : j'.val = o + j.val) :
    extractStridedSlice ⟨2, ![m, k]⟩ ![0, o] x h (ix2 p j) = x (ix2 p j') := by
  refine extractStridedSlice_apply _ _ _ _ (ix2 p j') ?_
  intro a; match a with
  | ⟨0, _⟩ => show p.val = 0 + p.val; omega
  | ⟨1, _⟩ => exact e

/-- A column along its rows. -/
theorem along_at {n : Nat} (v : FVec Ideal S512x1 .f32) (h : S512x1.Broadcasts ⟨2, ![512, n]⟩) (p : Fin 512) (d : Fin n) :
    broadcastTo ⟨2, ![512, n]⟩ v h (ix2 p d) = v (ix2 p 0) := by
  refine broadcastTo_apply _ _ (ix2 p d) (ix2 p 0) ?_
  intro a; match a with
  | ⟨0, _⟩ => rfl
  | ⟨1, _⟩ => rfl

/-- A row for every row of the tile. -/
theorem param384_at (v : FVec Ideal S1x384 .f32) (p : Fin 512) (d : Fin 384) :
    broadcastTo S512x384 v broadcasts_S1x384_S512x384 (ix2 p d) = v (ix2 0 d) := by
  refine broadcastTo_apply _ _ (ix2 p d) (ix2 0 d) ?_
  intro a; match a with
  | ⟨0, _⟩ => rfl
  | ⟨1, _⟩ => rfl

theorem param256_at (v : FVec Ideal S1x256 .f32) (p : Fin 512) (d : Fin 256) :
    broadcastTo S512x256 v broadcasts_S1x256_S512x256 (ix2 p d) = v (ix2 0 d) := by
  refine broadcastTo_apply _ _ (ix2 p d) (ix2 0 d) ?_
  intro a; match a with
  | ⟨0, _⟩ => rfl
  | ⟨1, _⟩ => rfl

theorem param1024_at (v : FVec Ideal S1x1024 .f32) (p : Fin 512) (d : Fin 1024) :
    broadcastTo S512x1024 v broadcasts_S1x1024_S512x1024 (ix2 p d) = v (ix2 0 d) := by
  refine broadcastTo_apply _ _ (ix2 p d) (ix2 0 d) ?_
  intro a; match a with
  | ⟨0, _⟩ => rfl
  | ⟨1, _⟩ => rfl

theorem mul_at {s : Shape} (x z : FVec Ideal s .f32) (i : s.Idx) : mulf x z i = (x i : EReal) * z i := rfl
theorem add_at {s : Shape} (x z : FVec Ideal s .f32) (i : s.Idx) : addf x z i = (x i : EReal) + z i := rfl

/-- The norm of a tile's rows. -/
theorem norm384_at (v : FVec Ideal S512x384 .f32) (g : FVec Ideal S1x384 .f32) (p : Fin 512) (d : Fin 384) (r : Fin 384 → EReal)
    (hv : ∀ k, v (ix2 p k) = r k) :
    truncf .bf16 (mulf (mulf v (broadcastTo S512x384 (rsqrt (addf (divf (shapeCast S512x1 (multiReduction .add [1] S512 (mulf v v) 0x00000000#32 reduces_S512x384_S512 (.inl rfl) rfl) shapeCasts_S512_S512x1)
      (broadcast S512x1 (Scalar.ofBits .f32 0x43C00000#32))) (broadcast S512x1 (Scalar.ofBits .f32 0x358637BD#32)))) broadcasts_S512x1_S512x384))
      (broadcastTo S512x384 g broadcasts_S1x384_S512x384)) bitsLt_bf16_f32 (ix2 p d) = normed width384 r (g (ix2 0 d)) d := by
  have hs : shapeCast S512x1 (multiReduction .add [1] S512 (mulf v v) 0x00000000#32 reduces_S512x384_S512 (.inl rfl) rfl) shapeCasts_S512_S512x1 (ix2 p 0)
      = ∑ k : Fin 384, (r k * r k : EReal) := by
    refine (shapeCast_apply _ _ _ (ix1 p) ?_).trans ((multiReduction_add_apply (mulf v v) _ _ _ _ (ix1 p)).trans
      ((Ideal.reduceAdd_r2_a1 reduces_S512x384_S512 (mulf v v) (ix1 p)).trans (Finset.sum_congr rfl fun k _ => ?_)))
    · rw [Shape.rowMajor_val_one, Shape.rowMajor_val_two]
      show p.val = p.val * 1 + 0
      omega
    · exact congrArg₂ (fun a b : EReal => a * b) (hv k) (hv k)
  refine Eq.trans ?_ (congrArg₂ (fun a b : EReal => a * b) (congrArg₂ (fun a b : EReal => a * b) (hv d)
    ((along_at (rsqrt (addf (divf (shapeCast S512x1 (multiReduction .add [1] S512 (mulf v v) 0x00000000#32 reduces_S512x384_S512 (.inl rfl) rfl) shapeCasts_S512_S512x1)
      (broadcast S512x1 (Scalar.ofBits .f32 0x43C00000#32))) (broadcast S512x1 (Scalar.ofBits .f32 0x358637BD#32)))) broadcasts_S512x1_S512x384 p d).trans
      (congrArg (fun a : EReal => Ideal.rsqrt (Ideal.div a width384 + tiny)) hs))) (param384_at g p d))
  rfl

theorem norm256_at (v : FVec Ideal S512x256 .f32) (g : FVec Ideal S1x256 .f32) (p : Fin 512) (d : Fin 256) (r : Fin 256 → EReal)
    (hv : ∀ k, v (ix2 p k) = r k) :
    truncf .bf16 (mulf (mulf v (broadcastTo S512x256 (rsqrt (addf (divf (shapeCast S512x1 (multiReduction .add [1] S512 (mulf v v) 0x00000000#32 reduces_S512x256_S512 (.inl rfl) rfl) shapeCasts_S512_S512x1)
      (broadcast S512x1 (Scalar.ofBits .f32 0x43800000#32))) (broadcast S512x1 (Scalar.ofBits .f32 0x358637BD#32)))) broadcasts_S512x1_S512x256))
      (broadcastTo S512x256 g broadcasts_S1x256_S512x256)) bitsLt_bf16_f32 (ix2 p d) = normed width256 r (g (ix2 0 d)) d := by
  have hs : shapeCast S512x1 (multiReduction .add [1] S512 (mulf v v) 0x00000000#32 reduces_S512x256_S512 (.inl rfl) rfl) shapeCasts_S512_S512x1 (ix2 p 0)
      = ∑ k : Fin 256, (r k * r k : EReal) := by
    refine (shapeCast_apply _ _ _ (ix1 p) ?_).trans ((multiReduction_add_apply (mulf v v) _ _ _ _ (ix1 p)).trans
      ((Ideal.reduceAdd_r2_a1 reduces_S512x256_S512 (mulf v v) (ix1 p)).trans (Finset.sum_congr rfl fun k _ => ?_)))
    · rw [Shape.rowMajor_val_one, Shape.rowMajor_val_two]
      show p.val = p.val * 1 + 0
      omega
    · exact congrArg₂ (fun a b : EReal => a * b) (hv k) (hv k)
  refine Eq.trans ?_ (congrArg₂ (fun a b : EReal => a * b) (congrArg₂ (fun a b : EReal => a * b) (hv d)
    ((along_at (rsqrt (addf (divf (shapeCast S512x1 (multiReduction .add [1] S512 (mulf v v) 0x00000000#32 reduces_S512x256_S512 (.inl rfl) rfl) shapeCasts_S512_S512x1)
      (broadcast S512x1 (Scalar.ofBits .f32 0x43800000#32))) (broadcast S512x1 (Scalar.ofBits .f32 0x358637BD#32)))) broadcasts_S512x1_S512x256 p d).trans
      (congrArg (fun a : EReal => Ideal.rsqrt (Ideal.div a width256 + tiny)) hs))) (param256_at g p d))
  rfl

/-! ## The body's values -/

/-- A row of the tile times a column of the packed matrix. -/
abbrev proj (x : S512x1024.Idx → EReal) (w : S1024x1280.Idx → EReal) (p : Fin 512) (j : Fin 1280) : EReal :=
  ∑ k : Fin 1024, x (ix2 p k) * w (ix2 k j)

/-- The queries' latent row after its norm. -/
abbrev qLat (x : S512x1024.Idx → EReal) (w : S1024x1280.Idx → EReal) (g : S1x384.Idx → EReal) (p : Fin 512) (i : Fin 384) : EReal :=
  normed width384 (fun j : Fin 384 => proj x w p ⟨j.val, by omega⟩) (g (ix2 0 i)) i

/-- The keys' and values' latent row after its norm. -/
abbrev kvLat (x : S512x1024.Idx → EReal) (w : S1024x1280.Idx → EReal) (g : S1x256.Idx → EReal) (p : Fin 512) (i : Fin 256) : EReal :=
  normed width256 (fun j : Fin 256 => proj x w p ⟨384 + j.val, by omega⟩) (g (ix2 0 i)) i

theorem proj_at (x : FVec Ideal S512x1024 .f32) (w : FVec Ideal S1024x1280 .bf16) (p : Fin 512) (j : Fin 1280) :
    k0_pay3 (F := Ideal) x w (ix2 p j) = proj x w p j := by
  unfold k0_pay3
  rw [same_at, same_at]
  exact matmul_at (truncf .bf16 x bitsLt_bf16_f32) w p j

theorem u_at (x : FVec Ideal S512x1024 .f32) (w : FVec Ideal S1024x1280 .bf16) (p : Fin 512) (n : Fin 512) :
    k0_pay4 (F := Ideal) x w (ix2 p n) = proj x w p ⟨640 + n.val, by omega⟩ :=
  (columns_at 640 (k0_pay3 (F := Ideal) x w) slices_S512x1280_o0_640_S512x512 p n ⟨640 + n.val, by omega⟩ rfl).trans (proj_at x w p _)

theorem qLat_at (x : FVec Ideal S512x1024 .f32) (w : FVec Ideal S1024x1280 .bf16) (g : FVec Ideal S1x384 .f32) (p : Fin 512) (i : Fin 384) :
    k0_pay5 (F := Ideal) x w g (ix2 p i) = qLat x w g p i := by
  unfold k0_pay5
  rw [same_at g]
  have hk : ∀ k : Fin 384, extractStridedSlice S512x384 ![0, 0] (k0_pay3 (F := Ideal) x w) slices_S512x1280_o0_0_S512x384 (ix2 p k)
      = proj x w p ⟨k.val, by omega⟩ := fun k =>
    (columns_at 0 (k0_pay3 (F := Ideal) x w) slices_S512x1280_o0_0_S512x384 p k ⟨k.val, by omega⟩ (Nat.zero_add _).symm).trans (proj_at x w p _)
  revert hk
  generalize extractStridedSlice S512x384 ![0, 0] (k0_pay3 (F := Ideal) x w) slices_S512x1280_o0_0_S512x384 = v
  intro hk
  exact norm384_at v g p i (fun j : Fin 384 => proj x w p ⟨j.val, by omega⟩) hk

theorem kvLat_at (x : FVec Ideal S512x1024 .f32) (w : FVec Ideal S1024x1280 .bf16) (g : FVec Ideal S1x256 .f32) (p : Fin 512) (i : Fin 256) :
    k0_pay6 (F := Ideal) x w g (ix2 p i) = kvLat x w g p i := by
  unfold k0_pay6
  rw [same_at g]
  refine (norm256_at (extractStridedSlice S512x256 ![0, 384] (k0_pay3 (F := Ideal) x w) slices_S512x1280_o0_384_S512x256) g p i (fun j : Fin 256 => proj x w p ⟨384 + j.val, by omega⟩) fun k => ?_)
  exact (columns_at 384 (k0_pay3 (F := Ideal) x w) slices_S512x1280_o0_384_S512x256 p k ⟨384 + k.val, by omega⟩ rfl).trans (proj_at x w p _)

theorem up384_at (x : FVec Ideal S512x384 .bf16) (w : FVec Ideal S384x1024 .bf16) (p : Fin 512) (j : Fin 1024) :
    k0_pay7 (F := Ideal) x w (ix2 p j) = ∑ i : Fin 384, (x (ix2 p i) * w (ix2 i j) : EReal) := by
  unfold k0_pay7
  rw [same_at]
  exact matmul_at x w p j

theorem up256_at (x : FVec Ideal S512x256 .bf16) (w : FVec Ideal S256x1024 .bf16) (p : Fin 512) (j : Fin 1024) :
    k0_pay8 (F := Ideal) x w (ix2 p j) = ∑ i : Fin 256, (x (ix2 p i) * w (ix2 i j) : EReal) := by
  unfold k0_pay8
  rw [same_at]
  exact matmul_at x w p j

theorem v_at (x : FVec Ideal S512x256 .bf16) (w : FVec Ideal S256x1024 .bf16) (o : FVec Ideal S1x1024 .f32) (p : Fin 512) (j : Fin 1024) :
    k0_pay9 (F := Ideal) x w o (ix2 p j) = (∑ i : Fin 256, (x (ix2 p i) * w (ix2 i j) : EReal)) + o (ix2 0 j) := by
  refine Eq.trans ?_ (congrArg₂ (fun a b : EReal => a + b) (up256_at x w p j) (param1024_at o p j))
  unfold k0_pay9 k0_pay8
  rw [same_at, same_at]
  rfl

/-! ## Rotated lanes -/

/-- Column `j`'s partner: 32 lanes on, within its group of 128. -/
abbrev partner {n : Nat} (j : Fin (128 * n)) : Fin (128 * n) :=
  ⟨128 * (j.val / 128) + (j.val % 128 + 32) % 128, by have := j.isLt; omega⟩

/-- A group of 128 lanes. -/
abbrev group (o : Nat) (v : FVec Ideal S512x1024 .f32) (h : S512x1024.Slices ![0, o] S512x128) : FVec Ideal S512x128 .f32 :=
  extractStridedSlice S512x128 ![0, o] v h

/-- A group of 128 lanes times a table, and its lanes turned times another. -/
abbrev turned (x a b : FVec Ideal S512x128 .f32) : FVec Ideal S512x128 .f32 :=
  addf (mulf x a) (mulf (dynamicRotate 1 96#32 none x rotates_S512x128_d1) b)

theorem turned_at (x a b : FVec Ideal S512x128 .f32) (p : Fin 512) (l : Fin 128) :
    turned x a b (ix2 p l) = (x (ix2 p l) * a (ix2 p l) + x (ix2 p ⟨(l.val + 32) % 128, by omega⟩) * b (ix2 p l) : EReal) := by
  have e : dynamicRotate 1 96#32 none x rotates_S512x128_d1 (ix2 p l) = x (ix2 p ⟨(l.val + 32) % 128, by omega⟩) := by
    refine dynamicRotate_apply 1 96#32 _ _ _ _ ?_
    intro c; match c with
    | ⟨0, _⟩ => rfl
    | ⟨1, _⟩ => show (l.val + 32) % 128 = (l.val + 128 - 96 % 128) % 128; omega
  exact congrArg (fun t : EReal => x (ix2 p l) * a (ix2 p l) + t * b (ix2 p l)) e

/-- What a point leaves at row `p`, column `j` of the queries' block. -/
abbrev qOut (qa : Fin 1024 → EReal) (a b : S512x128.Idx → EReal) (p : Fin 512) (j : Fin 1024) : EReal :=
  qa j * a (ix2 p ⟨j.val % 128, by omega⟩)
    + qa ⟨128 * (j.val / 128) + (j.val % 128 + 32) % 128, by omega⟩ * b (ix2 p ⟨j.val % 128, by omega⟩)

theorem piece_at (o : Nat) (v : FVec Ideal S512x1024 .f32) (h : S512x1024.Slices ![0, o] S512x128) (a b : FVec Ideal S512x128 .f32)
    (ho : o % 128 = 0) (ho' : o + 128 ≤ 1024) (qa : Fin 512 → Fin 1024 → EReal) (hv : ∀ p j, v (ix2 p j) = qa p j) (p : Fin 512) (j : Fin 1024) :
    View.TileAt (S := S512x1024) (Val := Elt Ideal) (e := .bf16) (ix2 p j) ![0, o] S512x128.size (turned (group o v h) a b) (qOut (qa p) a b p j) := by
  intro x hx
  have h0 : p.val = 0 + (x 0).val := hx 0
  have h1 : j.val = o + (x 1).val := hx 1
  have hx1 : (x 1).val < 128 := (x 1).isLt
  have ex : x = ix2 p ⟨j.val % 128, by omega⟩ := by
    funext c; apply Fin.ext
    match c with
    | ⟨0, _⟩ => show (x 0).val = p.val; omega
    | ⟨1, _⟩ => show (x 1).val = j.val % 128; omega
  rw [ex]
  refine (turned_at _ a b p _).trans ?_
  refine congrArg₂ (fun s t : EReal => s * a (ix2 p ⟨j.val % 128, by omega⟩) + t * b (ix2 p ⟨j.val % 128, by omega⟩)) ?_ ?_
  · refine (columns_at o v h p _ j ?_).trans (hv p j)
    show j.val = o + j.val % 128
    omega
  · refine (columns_at o v h p _ ⟨128 * (j.val / 128) + (j.val % 128 + 32) % 128, by omega⟩ ?_).trans (hv p _)
    show 128 * (j.val / 128) + (j.val % 128 + 32) % 128 = o + (j.val % 128 + 32) % 128
    omega

theorem keyPiece_at (o : Nat) (v : FVec Ideal S512x1024 .f32) (h : S512x1024.Slices ![0, o] S512x128) (a : FVec Ideal S512x128 .f32)
    (ho : o % 128 = 0) (ho' : o + 128 ≤ 1024) (kn : Fin 512 → Fin 1024 → EReal) (hv : ∀ p j, v (ix2 p j) = kn p j) (p : Fin 512) (j : Fin 1024) :
    View.TileAt (S := S512x1024) (Val := Elt Ideal) (e := .bf16) (ix2 p j) ![0, o] S512x128.size (addf (group o v h) a)
      (kn p j + a (ix2 p ⟨j.val % 128, by omega⟩)) := by
  intro x hx
  have h0 : p.val = 0 + (x 0).val := hx 0
  have h1 : j.val = o + (x 1).val := hx 1
  have hx1 : (x 1).val < 128 := (x 1).isLt
  have ex : x = ix2 p ⟨j.val % 128, by omega⟩ := by
    funext c; apply Fin.ext
    match c with
    | ⟨0, _⟩ => show (x 0).val = p.val; omega
    | ⟨1, _⟩ => show (x 1).val = j.val % 128; omega
  rw [ex]
  refine congrArg (fun s : EReal => s + a (ix2 p ⟨j.val % 128, by omega⟩)) ((columns_at o v h p _ j ?_).trans (hv p j))
  show j.val = o + j.val % 128
  omega

/-! ## What a point leaves -/

section Outs

variable (x0 : FVec Ideal S512x1024 .f32) (x1 : FVec Ideal S1024x1280 .bf16) (x2 : FVec Ideal S1x384 .f32) (x3 : FVec Ideal S1x256 .f32)
  (x4 : FVec Ideal S384x1024 .bf16) (x5 x6 : FVec Ideal S256x1024 .bf16) (x7 : FVec Ideal S1x1024 .f32) (x8 x9 x10 x11 : FVec Ideal S512x128 .f32)

/-- The lanes' queries and keys, before the rotation. -/
abbrev qUp (p : Fin 512) (j : Fin 1024) : EReal := ∑ i : Fin 384, qLat x0 x1 x2 p i * x4 (ix2 i j)
abbrev kvUp (w : S256x1024.Idx → EReal) (p : Fin 512) (j : Fin 1024) : EReal := ∑ i : Fin 256, kvLat x0 x1 x3 p i * w (ix2 i j)

theorem load0 : View.ld (Val := Elt Ideal) (e' := .f32) x0 r0_0 = x0 := View.ld_unit_lit _ _ (by decide)
theorem load1 : View.ld (Val := Elt Ideal) (e' := .bf16) x1 r0_1 = x1 := View.ld_unit_lit _ _ (by decide)
theorem load2 : View.ld (Val := Elt Ideal) (e' := .f32) x2 r0_3 = x2 := View.ld_unit_lit _ _ (by decide)
theorem load3 : View.ld (Val := Elt Ideal) (e' := .f32) x3 r0_4 = x3 := View.ld_unit_lit _ _ (by decide)
theorem load4 : View.ld (Val := Elt Ideal) (e' := .bf16) x4 r0_5 = x4 := View.ld_unit_lit _ _ (by decide)
theorem load5 : View.ld (Val := Elt Ideal) (e' := .bf16) x5 r0_6 = x5 := View.ld_unit_lit _ _ (by decide)
theorem load7 : View.ld (Val := Elt Ideal) (e' := .f32) x7 r0_7 = x7 := View.ld_unit_lit _ _ (by decide)
theorem load8 : View.ld (Val := Elt Ideal) (e' := .f32) x8 r0_8 = x8 := View.ld_unit_lit _ _ (by decide)

theorem u_left (p : Fin 512) (n : Fin 512) : out0_15 (F := Ideal) x0 x1 x2 x3 x4 x5 x6 x7 x8 x9 x10 x11 (ix2 p n) = proj x0 x1 p ⟨640 + n.val, by omega⟩ := by
  have e : out0_15 (F := Ideal) x0 x1 x2 x3 x4 x5 x6 x7 x8 x9 x10 x11 = k0_pay4 (F := Ideal) x0 x1 := by
    unfold out0_15
    rw [load0, load1]
    exact View.canon_cons_unit_lit _ _ _ (by decide)
  rw [e, u_at]

theorem pay30_at (p : Fin 512) (i : Fin 384) : k0_pay30 (F := Ideal) x0 x1 x2 x3 x4 x5 x6 x7 x8 x9 x10 x11 (ix2 p i) = qLat x0 x1 x2 p i := by
  unfold k0_pay30
  rw [load0, load1, load2, qLat_at]

theorem pay31_at (p : Fin 512) (i : Fin 256) : k0_pay31 (F := Ideal) x0 x1 x2 x3 x4 x5 x6 x7 x8 x9 x10 x11 (ix2 p i) = kvLat x0 x1 x3 p i := by
  unfold k0_pay31
  rw [load0, load1, load3, kvLat_at]

theorem v_left (p : Fin 512) (j : Fin 1024) :
    out0_14 (F := Ideal) x0 x1 x2 x3 x4 x5 x6 x7 x8 x9 x10 x11 (ix2 p j) = kvUp x0 x1 x3 x6 p j + x7 (ix2 0 j) := by
  have e : out0_14 (F := Ideal) x0 x1 x2 x3 x4 x5 x6 x7 x8 x9 x10 x11
      = k0_pay9 (F := Ideal) (k0_pay31 x0 x1 x2 x3 x4 x5 x6 x7 x8 x9 x10 x11) x6 x7 := by
    unfold out0_14
    rw [load5, load7]
    exact View.canon_cons_unit_lit _ _ _ (by decide)
  rw [e, v_at]
  simp only [pay31_at]

theorem pay32_at (p : Fin 512) (j : Fin 1024) : k0_pay32 (F := Ideal) x0 x1 x2 x3 x4 x5 x6 x7 x8 x9 x10 x11 (ix2 p j) = qUp x0 x1 x2 x4 p j := by
  unfold k0_pay32
  rw [load4, up384_at]
  simp only [pay30_at]

theorem pay33_at (p : Fin 512) (j : Fin 1024) : k0_pay33 (F := Ideal) x0 x1 x2 x3 x4 x5 x6 x7 x8 x9 x10 x11 (ix2 p j) = kvUp x0 x1 x3 x5 p j := by
  unfold k0_pay33
  rw [load5, up256_at]
  simp only [pay31_at]

theorem pay34_eq : k0_pay34 (F := Ideal) x0 x1 x2 x3 x4 x5 x6 x7 x8 x9 x10 x11 = x8 := by
  unfold k0_pay34 k0_pay10
  rw [load8, same_at]

theorem pay35_eq : k0_pay35 (F := Ideal) x0 x1 x2 x3 x4 x5 x6 x7 x8 x9 x10 x11 = x9 := by
  unfold k0_pay35 k0_pay11
  rw [load8, same_at]

theorem pay36_at (p : Fin 512) (l : Fin 128) : k0_pay36 (F := Ideal) x0 x1 x2 x3 x4 x5 x6 x7 x8 x9 x10 x11 (ix2 p l)
    = (proj x0 x1 p ⟨1152 + l.val, by omega⟩ * x10 (ix2 p l) + proj x0 x1 p ⟨1152 + (l.val + 32) % 128, by omega⟩ * x11 (ix2 p l) : EReal) := by
  have e : k0_pay36 (F := Ideal) x0 x1 x2 x3 x4 x5 x6 x7 x8 x9 x10 x11
      = turned (extractStridedSlice S512x128 ![0, 1152] (k0_pay3 (F := Ideal) x0 x1) slices_S512x1280_o0_1152_S512x128) x10 x11 := by
    unfold k0_pay36 k0_pay12
    rw [load0, load1, load8, load8, same_at, same_at]
  rw [e]
  refine (turned_at _ x10 x11 p l).trans ?_
  refine congrArg₂ (fun s t : EReal => s * x10 (ix2 p l) + t * x11 (ix2 p l)) ?_ ?_
  · exact (columns_at 1152 (k0_pay3 (F := Ideal) x0 x1) slices_S512x1280_o0_1152_S512x128 p _ ⟨1152 + l.val, by omega⟩ rfl).trans (proj_at x0 x1 p _)
  · exact (columns_at 1152 (k0_pay3 (F := Ideal) x0 x1) slices_S512x1280_o0_1152_S512x128 p _ ⟨1152 + (l.val + 32) % 128, by omega⟩ rfl).trans (proj_at x0 x1 p _)

theorem q_left (p : Fin 512) (j : Fin 1024) :
    out0_12 (F := Ideal) x0 x1 x2 x3 x4 x5 x6 x7 x8 x9 x10 x11 (ix2 p j) = qOut (qUp x0 x1 x2 x4 p) x8 x9 p j := by
  have hv := pay32_at x0 x1 x2 x3 x4 x5 x6 x7 x8 x9 x10 x11
  unfold out0_12
  refine View.canon_eq_of_allAt _ _ _ (cover0_12 _ _ _ _ _ _ _ _ _) ?_
  have e13 : k0_pay13 (F := Ideal) (k0_pay30 x0 x1 x2 x3 x4 x5 x6 x7 x8 x9 x10 x11) (View.ld x4 r0_5) (View.ld x8 r0_8) (View.ld x9 r0_8)
      = turned (group 0 (k0_pay32 x0 x1 x2 x3 x4 x5 x6 x7 x8 x9 x10 x11) slices_S512x1024_o0_0_S512x128) x8 x9 := by
    unfold k0_pay13 k0_pay10 k0_pay11
    rw [load8, load8, same_at, same_at]
    rfl
  rw [e13, pay34_eq, pay35_eq]
  refine View.allAt_cons_unit _ _ _ _ _ (piece_at 896 _ slices_S512x1024_o0_896_S512x128 x8 x9 rfl (by omega) _ hv p j) ?_
  refine View.allAt_cons_unit _ _ _ _ _ (piece_at 768 _ slices_S512x1024_o0_768_S512x128 x8 x9 rfl (by omega) _ hv p j) ?_
  refine View.allAt_cons_unit _ _ _ _ _ (piece_at 640 _ slices_S512x1024_o0_640_S512x128 x8 x9 rfl (by omega) _ hv p j) ?_
  refine View.allAt_cons_unit _ _ _ _ _ (piece_at 512 _ slices_S512x1024_o0_512_S512x128 x8 x9 rfl (by omega) _ hv p j) ?_
  refine View.allAt_cons_unit _ _ _ _ _ (piece_at 384 _ slices_S512x1024_o0_384_S512x128 x8 x9 rfl (by omega) _ hv p j) ?_
  refine View.allAt_cons_unit _ _ _ _ _ (piece_at 256 _ slices_S512x1024_o0_256_S512x128 x8 x9 rfl (by omega) _ hv p j) ?_
  refine View.allAt_cons_unit _ _ _ _ _ (piece_at 128 _ slices_S512x1024_o0_128_S512x128 x8 x9 rfl (by omega) _ hv p j) ?_
  refine View.allAt_cons_unit _ _ _ _ _ (piece_at 0 _ slices_S512x1024_o0_0_S512x128 x8 x9 rfl (by omega) _ hv p j) ?_
  exact View.allAt_nil _ _

theorem k_left (p : Fin 512) (j : Fin 1024) :
    out0_13 (F := Ideal) x0 x1 x2 x3 x4 x5 x6 x7 x8 x9 x10 x11 (ix2 p j)
      = kvUp x0 x1 x3 x5 p j + (proj x0 x1 p ⟨1152 + j.val % 128, by omega⟩ * x10 (ix2 p ⟨j.val % 128, by omega⟩)
        + proj x0 x1 p ⟨1152 + (j.val % 128 + 32) % 128, by omega⟩ * x11 (ix2 p ⟨j.val % 128, by omega⟩)) := by
  have hv := pay33_at x0 x1 x2 x3 x4 x5 x6 x7 x8 x9 x10 x11
  refine Eq.trans ?_ (congrArg (fun s : EReal => kvUp x0 x1 x3 x5 p j + s) (pay36_at x0 x1 x2 x3 x4 x5 x6 x7 x8 x9 x10 x11 p ⟨j.val % 128, by omega⟩))
  unfold out0_13
  refine View.canon_eq_of_allAt _ _ _ (cover0_13 _ _ _ _ _ _ _ _ _) ?_
  generalize k0_pay36 (F := Ideal) x0 x1 x2 x3 x4 x5 x6 x7 x8 x9 x10 x11 = a
  refine View.allAt_cons_unit _ _ _ _ _ (keyPiece_at 896 _ slices_S512x1024_o0_896_S512x128 a rfl (by omega) _ hv p j) ?_
  refine View.allAt_cons_unit _ _ _ _ _ (keyPiece_at 768 _ slices_S512x1024_o0_768_S512x128 a rfl (by omega) _ hv p j) ?_
  refine View.allAt_cons_unit _ _ _ _ _ (keyPiece_at 640 _ slices_S512x1024_o0_640_S512x128 a rfl (by omega) _ hv p j) ?_
  refine View.allAt_cons_unit _ _ _ _ _ (keyPiece_at 512 _ slices_S512x1024_o0_512_S512x128 a rfl (by omega) _ hv p j) ?_
  refine View.allAt_cons_unit _ _ _ _ _ (keyPiece_at 384 _ slices_S512x1024_o0_384_S512x128 a rfl (by omega) _ hv p j) ?_
  refine View.allAt_cons_unit _ _ _ _ _ (keyPiece_at 256 _ slices_S512x1024_o0_256_S512x128 a rfl (by omega) _ hv p j) ?_
  refine View.allAt_cons_unit _ _ _ _ _ (keyPiece_at 128 _ slices_S512x1024_o0_128_S512x128 a rfl (by omega) _ hv p j) ?_
  refine View.allAt_cons_unit _ _ _ _ _ (keyPiece_at 0 _ slices_S512x1024_o0_0_S512x128 a rfl (by omega) _ hv p j) ?_
  exact View.allAt_nil _ _

end Outs

end Cert.Proof.Project

end
-- ==== Proof.ProjectFinal.lean ====
/-
  What the `_in_proj` call leaves, over any floats: its four result arrays block by block, and the arrays its blocks are cut from.
-/
module

public import proofs.«01_k».proof.Proof.Gen.Kernel6Ideal.Value
public import proofs.«01_k».proof.Proof.ProjectTile
public import Idealize.ShloMosaic.Lib.Pipeline.ValueKit.Geometry

@[expose] public section

set_option maxRecDepth 16384

noncomputable section

namespace Cert.Proof.Project

open Cert.Kernel6Ideal Cert.Kernel6Ideal.Gen
open Idealize.ShloMosaic hiding ix1 ix2 ix3 ix4
open Idealize.ShloMosaic.TcCoe Idealize.ShloMosaic.StableHlo
open Idealize.ShloMosaic.ValueIdx
open Idealize.SL.Sem
open Idealize.ShloMosaic.Pipeline (Dat Cfg Window)

variable {F : FTy → Type} [FloatOps F]
variable (m : (ℓ : Loc nD τ sig) → Buf (Elt F) ℓ) (c : Dev nD)

/-! ## Points and blocks -/

theorem points : grid0.N = 128 := by decide

theorem lt_points (t : Fin cfg0.N) : t.val < 128 := lt_of_lt_of_eq t.isLt points

/-- The point of a stretch of tokens. -/
abbrev point (q : Nat) (hq : q < 128) : Fin cfg0.N := ⟨q, lt_of_lt_of_eq hq points.symm⟩

theorem coord0 (t : Fin cfg0.N) : (grid0.coords t 0).val = t.val := by
  have e := Pipeline.Grid.coords_val (G := grid0) t 0 (S := 1) (B := 128) (by decide) rfl
  have ht := lt_points t
  rw [Nat.div_one] at e
  exact e.trans (Nat.mod_eq_of_lt ht)

theorem word_val (n : Nat) (h : n < 256) : (BitVec.ofNat 32 n).toNat = n := by
  rw [BitVec.toNat_ofNat, Nat.mod_eq_of_lt (by omega)]

theorem index12 (t : Fin cfg0.N) : (cfg0.win (12 : Fin 16)).index t = ![t.val, 0] := by
  have ht := lt_points t
  show cc0_transform_12 (grid0.coords t) = _
  unfold cc0_transform_12
  dsimp only
  rw [coord0, word_val _ (show t.val < 256 by omega)]
  rfl

theorem index0 (t : Fin cfg0.N) : (cfg0.win (0 : Fin 16)).index t = ![t.val, 0] := index12 t
theorem index13 (t : Fin cfg0.N) : (cfg0.win (13 : Fin 16)).index t = ![t.val, 0] := index12 t
theorem index14 (t : Fin cfg0.N) : (cfg0.win (14 : Fin 16)).index t = ![t.val, 0] := index12 t
theorem index15 (t : Fin cfg0.N) : (cfg0.win (15 : Fin 16)).index t = ![t.val, 0] := index12 t

/-- The remainder the tables' blocks are taken by. -/
abbrev eighth (n : Nat) : Nat :=
  let a : BitVec 32 := BitVec.ofNat 32 n
  let b : BitVec 32 := Scalar.select (Scalar.cmpi .eq 8#32 0#32) 1#32 8#32
  let r : BitVec 32 := Scalar.remsi a b
  (Scalar.select (Scalar.andi (Scalar.xori (Scalar.cmpi .slt r 0#32) (Scalar.cmpi .slt b 0#32)) (Scalar.cmpi .ne r 0#32)) (Scalar.addi r b) r : BitVec 32).toNat

theorem eighth_val : ∀ n : Fin 128, eighth n.val = n.val % 8 := by decide +kernel

theorem index8 (t : Fin cfg0.N) : (cfg0.win (8 : Fin 16)).index t = ![t.val % 8, 0] := by
  have ht := lt_points t
  have e : (cfg0.win (8 : Fin 16)).index t = ![eighth (grid0.coords t 0).val, 0] := rfl
  rw [e, coord0, eighth_val ⟨t.val, ht⟩]

theorem index9 (t : Fin cfg0.N) : (cfg0.win (9 : Fin 16)).index t = ![t.val % 8, 0] := index8 t
theorem index10 (t : Fin cfg0.N) : (cfg0.win (10 : Fin 16)).index t = ![t.val % 8, 0] := index8 t
theorem index11 (t : Fin cfg0.N) : (cfg0.win (11 : Fin 16)).index t = ![t.val % 8, 0] := index8 t

/-! ## The results -/

/-- What a point leaves of block 12. -/
def left12 (t : Fin cfg0.N) : S512x1024.Idx → Elt F .bf16 :=
  out0_12 (iblk m c 0 t) (iblk m c 1 t) (iblk m c 2 t) (iblk m c 3 t) (iblk m c 4 t) (iblk m c 5 t) (iblk m c 6 t) (iblk m c 7 t) (iblk m c 8 t)
    (iblk m c 9 t) (iblk m c 10 t) (iblk m c 11 t)

theorem place12 (t : Fin cfg0.N) (y : S512x1024.Idx) :
    ((cfg0.win (12 : Fin 16)).blk t).view.emb y
      = ix2 (n0 := 65536) (n1 := 1024)
          ⟨512 * t.val + (y 0).val, by have ht := lt_points t; have hy : (y 0).val < 512 := (y 0).isLt; omega⟩
          ⟨(y 1).val, (y 1).isLt⟩ := by
  funext a; apply Fin.ext
  refine (Window.rect_emb_val (cfg0.win (12 : Fin 16)) t y a).trans ?_
  rw [index12]
  match a with
  | ⟨0, _⟩ => show t.val * 512 + (y 0).val = 512 * t.val + (y 0).val; omega
  | ⟨1, _⟩ => show 0 * 1024 + (y 1).val = (y 1).val; omega

/-- The result array, block by block. -/
def finished12 : S65536x1024.Idx → Elt F .bf16 := fun i =>
  left12 m c (point ((i 0).val / 512) (by have hi : (i 0).val < 65536 := (i 0).isLt; omega))
    (ix2 ⟨(i 0).val % 512, by omega⟩ ⟨(i 1).val, (i 1).isLt⟩)

theorem left12_at {t t' : Fin cfg0.N} {y y' : S512x1024.Idx} (e : t = t') (e' : y = y') : left12 m c t y = left12 m c t' y' := by
  subst e e'; rfl

theorem after12_left (t : Fin cfg0.N) : (dats m 0 c).after (12 : Fin 16) t = left12 m c t := after0_12 m c t

theorem covered12 (i : S65536x1024.Idx) : ∃ (t : Fin cfg0.N) (y : S512x1024.Idx), ((cfg0.win (12 : Fin 16)).blk t).view.emb y = i := by
  have h0 : (i 0).val < 65536 := (i 0).isLt
  refine ⟨point ((i 0).val / 512) (by omega), ix2 ⟨(i 0).val % 512, by omega⟩ ⟨(i 1).val, (i 1).isLt⟩, ?_⟩
  refine (place12 _ _).trans (funext fun b => Fin.ext ?_)
  match b with
  | ⟨0, _⟩ => show 512 * ((i 0).val / 512) + (i 0).val % 512 = (i 0).val; omega
  | ⟨1, _⟩ => rfl

/-- What the write-backs make of the output array. -/
theorem final12 : (dats m 0 c).arrAt (12 : Fin 16) cfg0.N = finished12 m c := by
  refine (dats m 0 c).arrAt_eq_of_emb (12 : Fin 16) (finished12 m c) (fun t _ y => ?_) (fun i => ?_)
  · refine Eq.trans ?_ (congrArg (finished12 m c) (place12 t y)).symm
    have ht := lt_points t
    have hy0 : (y 0).val < 512 := (y 0).isLt
    refine Eq.trans (b := left12 m c t y) (congrFun (after12_left m c t) y) ?_
    show _ = left12 m c _ _
    refine left12_at m c (Fin.ext ?_) (funext fun b => Fin.ext ?_)
    · show t.val = (512 * t.val + (y 0).val) / 512; omega
    · match b with
      | ⟨0, _⟩ => show (y 0).val = (512 * t.val + (y 0).val) % 512; omega
      | ⟨1, _⟩ => rfl
  · obtain ⟨t, y, e⟩ := covered12 i
    refine ⟨t, flush0_12 t, ?_⟩
    have e' := View.emb_mem_set ((cfg0.win (12 : Fin 16)).blk t).view y
    rw [e] at e'
    exact e'

/-- What a point leaves of block 13. -/
def left13 (t : Fin cfg0.N) : S512x1024.Idx → Elt F .bf16 :=
  out0_13 (iblk m c 0 t) (iblk m c 1 t) (iblk m c 2 t) (iblk m c 3 t) (iblk m c 4 t) (iblk m c 5 t) (iblk m c 6 t) (iblk m c 7 t) (iblk m c 8 t)
    (iblk m c 9 t) (iblk m c 10 t) (iblk m c 11 t)

theorem place13 (t : Fin cfg0.N) (y : S512x1024.Idx) :
    ((cfg0.win (13 : Fin 16)).blk t).view.emb y
      = ix2 (n0 := 65536) (n1 := 1024)
          ⟨512 * t.val + (y 0).val, by have ht := lt_points t; have hy : (y 0).val < 512 := (y 0).isLt; omega⟩
          ⟨(y 1).val, (y 1).isLt⟩ := by
  funext a; apply Fin.ext
  refine (Window.rect_emb_val (cfg0.win (13 : Fin 16)) t y a).trans ?_
  rw [index13]
  match a with
  | ⟨0, _⟩ => show t.val * 512 + (y 0).val = 512 * t.val + (y 0).val; omega
  | ⟨1, _⟩ => show 0 * 1024 + (y 1).val = (y 1).val; omega

/-- The result array, block by block. -/
def finished13 : S65536x1024.Idx → Elt F .bf16 := fun i =>
  left13 m c (point ((i 0).val / 512) (by have hi : (i 0).val < 65536 := (i 0).isLt; omega))
    (ix2 ⟨(i 0).val % 512, by omega⟩ ⟨(i 1).val, (i 1).isLt⟩)

theorem left13_at {t t' : Fin cfg0.N} {y y' : S512x1024.Idx} (e : t = t') (e' : y = y') : left13 m c t y = left13 m c t' y' := by
  subst e e'; rfl

theorem after13_left (t : Fin cfg0.N) : (dats m 0 c).after (13 : Fin 16) t = left13 m c t := after0_13 m c t

theorem covered13 (i : S65536x1024.Idx) : ∃ (t : Fin cfg0.N) (y : S512x1024.Idx), ((cfg0.win (13 : Fin 16)).blk t).view.emb y = i := by
  have h0 : (i 0).val < 65536 := (i 0).isLt
  refine ⟨point ((i 0).val / 512) (by omega), ix2 ⟨(i 0).val % 512, by omega⟩ ⟨(i 1).val, (i 1).isLt⟩, ?_⟩
  refine (place13 _ _).trans (funext fun b => Fin.ext ?_)
  match b with
  | ⟨0, _⟩ => show 512 * ((i 0).val / 512) + (i 0).val % 512 = (i 0).val; omega
  | ⟨1, _⟩ => rfl

/-- What the write-backs make of the output array. -/
theorem final13 : (dats m 0 c).arrAt (13 : Fin 16) cfg0.N = finished13 m c := by
  refine (dats m 0 c).arrAt_eq_of_emb (13 : Fin 16) (finished13 m c) (fun t _ y => ?_) (fun i => ?_)
  · refine Eq.trans ?_ (congrArg (finished13 m c) (place13 t y)).symm
    have ht := lt_points t
    have hy0 : (y 0).val < 512 := (y 0).isLt
    refine Eq.trans (b := left13 m c t y) (congrFun (after13_left m c t) y) ?_
    show _ = left13 m c _ _
    refine left13_at m c (Fin.ext ?_) (funext fun b => Fin.ext ?_)
    · show t.val = (512 * t.val + (y 0).val) / 512; omega
    · match b with
      | ⟨0, _⟩ => show (y 0).val = (512 * t.val + (y 0).val) % 512; omega
      | ⟨1, _⟩ => rfl
  · obtain ⟨t, y, e⟩ := covered13 i
    refine ⟨t, flush0_13 t, ?_⟩
    have e' := View.emb_mem_set ((cfg0.win (13 : Fin 16)).blk t).view y
    rw [e] at e'
    exact e'

/-- What a point leaves of block 14. -/
def left14 (t : Fin cfg0.N) : S512x1024.Idx → Elt F .bf16 :=
  out0_14 (iblk m c 0 t) (iblk m c 1 t) (iblk m c 2 t) (iblk m c 3 t) (iblk m c 4 t) (iblk m c 5 t) (iblk m c 6 t) (iblk m c 7 t) (iblk m c 8 t)
    (iblk m c 9 t) (iblk m c 10 t) (iblk m c 11 t)

theorem place14 (t : Fin cfg0.N) (y : S512x1024.Idx) :
    ((cfg0.win (14 : Fin 16)).blk t).view.emb y
      = ix2 (n0 := 65536) (n1 := 1024)
          ⟨512 * t.val + (y 0).val, by have ht := lt_points t; have hy : (y 0).val < 512 := (y 0).isLt; omega⟩
          ⟨(y 1).val, (y 1).isLt⟩ := by
  funext a; apply Fin.ext
  refine (Window.rect_emb_val (cfg0.win (14 : Fin 16)) t y a).trans ?_
  rw [index14]
  match a with
  | ⟨0, _⟩ => show t.val * 512 + (y 0).val = 512 * t.val + (y 0).val; omega
  | ⟨1, _⟩ => show 0 * 1024 + (y 1).val = (y 1).val; omega

/-- The result array, block by block. -/
def finished14 : S65536x1024.Idx → Elt F .bf16 := fun i =>
  left14 m c (point ((i 0).val / 512) (by have hi : (i 0).val < 65536 := (i 0).isLt; omega))
    (ix2 ⟨(i 0).val % 512, by omega⟩ ⟨(i 1).val, (i 1).isLt⟩)

theorem left14_at {t t' : Fin cfg0.N} {y y' : S512x1024.Idx} (e : t = t') (e' : y = y') : left14 m c t y = left14 m c t' y' := by
  subst e e'; rfl

theorem after14_left (t : Fin cfg0.N) : (dats m 0 c).after (14 : Fin 16) t = left14 m c t := after0_14 m c t

theorem covered14 (i : S65536x1024.Idx) : ∃ (t : Fin cfg0.N) (y : S512x1024.Idx), ((cfg0.win (14 : Fin 16)).blk t).view.emb y = i := by
  have h0 : (i 0).val < 65536 := (i 0).isLt
  refine ⟨point ((i 0).val / 512) (by omega), ix2 ⟨(i 0).val % 512, by omega⟩ ⟨(i 1).val, (i 1).isLt⟩, ?_⟩
  refine (place14 _ _).trans (funext fun b => Fin.ext ?_)
  match b with
  | ⟨0, _⟩ => show 512 * ((i 0).val / 512) + (i 0).val % 512 = (i 0).val; omega
  | ⟨1, _⟩ => rfl

/-- What the write-backs make of the output array. -/
theorem final14 : (dats m 0 c).arrAt (14 : Fin 16) cfg0.N = finished14 m c := by
  refine (dats m 0 c).arrAt_eq_of_emb (14 : Fin 16) (finished14 m c) (fun t _ y => ?_) (fun i => ?_)
  · refine Eq.trans ?_ (congrArg (finished14 m c) (place14 t y)).symm
    have ht := lt_points t
    have hy0 : (y 0).val < 512 := (y 0).isLt
    refine Eq.trans (b := left14 m c t y) (congrFun (after14_left m c t) y) ?_
    show _ = left14 m c _ _
    refine left14_at m c (Fin.ext ?_) (funext fun b => Fin.ext ?_)
    · show t.val = (512 * t.val + (y 0).val) / 512; omega
    · match b with
      | ⟨0, _⟩ => show (y 0).val = (512 * t.val + (y 0).val) % 512; omega
      | ⟨1, _⟩ => rfl
  · obtain ⟨t, y, e⟩ := covered14 i
    refine ⟨t, flush0_14 t, ?_⟩
    have e' := View.emb_mem_set ((cfg0.win (14 : Fin 16)).blk t).view y
    rw [e] at e'
    exact e'

/-- What a point leaves of block 15. -/
def left15 (t : Fin cfg0.N) : S512x512.Idx → Elt F .f32 :=
  out0_15 (iblk m c 0 t) (iblk m c 1 t) (iblk m c 2 t) (iblk m c 3 t) (iblk m c 4 t) (iblk m c 5 t) (iblk m c 6 t) (iblk m c 7 t) (iblk m c 8 t)
    (iblk m c 9 t) (iblk m c 10 t) (iblk m c 11 t)

theorem place15 (t : Fin cfg0.N) (y : S512x512.Idx) :
    ((cfg0.win (15 : Fin 16)).blk t).view.emb y
      = ix2 (n0 := 65536) (n1 := 512)
          ⟨512 * t.val + (y 0).val, by have ht := lt_points t; have hy : (y 0).val < 512 := (y 0).isLt; omega⟩
          ⟨(y 1).val, (y 1).isLt⟩ := by
  funext a; apply Fin.ext
  refine (Window.rect_emb_val (cfg0.win (15 : Fin 16)) t y a).trans ?_
  rw [index15]
  match a with
  | ⟨0, _⟩ => show t.val * 512 + (y 0).val = 512 * t.val + (y 0).val; omega
  | ⟨1, _⟩ => show 0 * 512 + (y 1).val = (y 1).val; omega

/-- The result array, block by block. -/
def finished15 : S65536x512.Idx → Elt F .f32 := fun i =>
  left15 m c (point ((i 0).val / 512) (by have hi : (i 0).val < 65536 := (i 0).isLt; omega))
    (ix2 ⟨(i 0).val % 512, by omega⟩ ⟨(i 1).val, (i 1).isLt⟩)

theorem left15_at {t t' : Fin cfg0.N} {y y' : S512x512.Idx} (e : t = t') (e' : y = y') : left15 m c t y = left15 m c t' y' := by
  subst e e'; rfl

theorem after15_left (t : Fin cfg0.N) : (dats m 0 c).after (15 : Fin 16) t = left15 m c t := after0_15 m c t

theorem covered15 (i : S65536x512.Idx) : ∃ (t : Fin cfg0.N) (y : S512x512.Idx), ((cfg0.win (15 : Fin 16)).blk t).view.emb y = i := by
  have h0 : (i 0).val < 65536 := (i 0).isLt
  refine ⟨point ((i 0).val / 512) (by omega), ix2 ⟨(i 0).val % 512, by omega⟩ ⟨(i 1).val, (i 1).isLt⟩, ?_⟩
  refine (place15 _ _).trans (funext fun b => Fin.ext ?_)
  match b with
  | ⟨0, _⟩ => show 512 * ((i 0).val / 512) + (i 0).val % 512 = (i 0).val; omega
  | ⟨1, _⟩ => rfl

/-- What the write-backs make of the output array. -/
theorem final15 : (dats m 0 c).arrAt (15 : Fin 16) cfg0.N = finished15 m c := by
  refine (dats m 0 c).arrAt_eq_of_emb (15 : Fin 16) (finished15 m c) (fun t _ y => ?_) (fun i => ?_)
  · refine Eq.trans ?_ (congrArg (finished15 m c) (place15 t y)).symm
    have ht := lt_points t
    have hy0 : (y 0).val < 512 := (y 0).isLt
    refine Eq.trans (b := left15 m c t y) (congrFun (after15_left m c t) y) ?_
    show _ = left15 m c _ _
    refine left15_at m c (Fin.ext ?_) (funext fun b => Fin.ext ?_)
    · show t.val = (512 * t.val + (y 0).val) / 512; omega
    · match b with
      | ⟨0, _⟩ => show (y 0).val = (512 * t.val + (y 0).val) % 512; omega
      | ⟨1, _⟩ => rfl
  · obtain ⟨t, y, e⟩ := covered15 i
    refine ⟨t, flush0_15 t, ?_⟩
    have e' := View.emb_mem_set ((cfg0.win (15 : Fin 16)).blk t).view y
    rw [e] at e'
    exact e'

/-! ## The blocks -/

theorem block1 (t : Fin cfg0.N) : (iblk m c 1 t : S1024x1280.Idx → _) = V m c main_v10 := by
  funext y
  refine congrArg (V m c main_v10) (funext fun a => Fin.ext ?_)
  refine (Window.rect_emb_val (cfg0.win (1 : Fin 16)) t y a).trans ?_
  have e : (cfg0.win (1 : Fin 16)).index t = ![0, 0] := rfl
  rw [e]
  match a with
  | ⟨0, _⟩ => show 0 * 1024 + (y 0).val = (y 0).val; omega
  | ⟨1, _⟩ => show 0 * 1280 + (y 1).val = (y 1).val; omega

theorem block2 (t : Fin cfg0.N) : (iblk m c 2 t : S1x384.Idx → _) = V m c main_v11 := by
  funext y
  refine congrArg (V m c main_v11) (funext fun a => Fin.ext ?_)
  refine (Window.rect_emb_val (cfg0.win (2 : Fin 16)) t y a).trans ?_
  have e : (cfg0.win (2 : Fin 16)).index t = ![0, 0] := rfl
  rw [e]
  match a with
  | ⟨0, _⟩ => show 0 * 1 + (y 0).val = (y 0).val; omega
  | ⟨1, _⟩ => show 0 * 384 + (y 1).val = (y 1).val; omega

theorem block3 (t : Fin cfg0.N) : (iblk m c 3 t : S1x256.Idx → _) = V m c main_v12 := by
  funext y
  refine congrArg (V m c main_v12) (funext fun a => Fin.ext ?_)
  refine (Window.rect_emb_val (cfg0.win (3 : Fin 16)) t y a).trans ?_
  have e : (cfg0.win (3 : Fin 16)).index t = ![0, 0] := rfl
  rw [e]
  match a with
  | ⟨0, _⟩ => show 0 * 1 + (y 0).val = (y 0).val; omega
  | ⟨1, _⟩ => show 0 * 256 + (y 1).val = (y 1).val; omega

theorem block4 (t : Fin cfg0.N) : (iblk m c 4 t : S384x1024.Idx → _) = V m c main_v21 := by
  funext y
  refine congrArg (V m c main_v21) (funext fun a => Fin.ext ?_)
  refine (Window.rect_emb_val (cfg0.win (4 : Fin 16)) t y a).trans ?_
  have e : (cfg0.win (4 : Fin 16)).index t = ![0, 0] := rfl
  rw [e]
  match a with
  | ⟨0, _⟩ => show 0 * 384 + (y 0).val = (y 0).val; omega
  | ⟨1, _⟩ => show 0 * 1024 + (y 1).val = (y 1).val; omega

theorem block5 (t : Fin cfg0.N) : (iblk m c 5 t : S256x1024.Idx → _) = V m c main_v27 := by
  funext y
  refine congrArg (V m c main_v27) (funext fun a => Fin.ext ?_)
  refine (Window.rect_emb_val (cfg0.win (5 : Fin 16)) t y a).trans ?_
  have e : (cfg0.win (5 : Fin 16)).index t = ![0, 0] := rfl
  rw [e]
  match a with
  | ⟨0, _⟩ => show 0 * 256 + (y 0).val = (y 0).val; omega
  | ⟨1, _⟩ => show 0 * 1024 + (y 1).val = (y 1).val; omega

theorem block6 (t : Fin cfg0.N) : (iblk m c 6 t : S256x1024.Idx → _) = V m c main_v31 := by
  funext y
  refine congrArg (V m c main_v31) (funext fun a => Fin.ext ?_)
  refine (Window.rect_emb_val (cfg0.win (6 : Fin 16)) t y a).trans ?_
  have e : (cfg0.win (6 : Fin 16)).index t = ![0, 0] := rfl
  rw [e]
  match a with
  | ⟨0, _⟩ => show 0 * 256 + (y 0).val = (y 0).val; omega
  | ⟨1, _⟩ => show 0 * 1024 + (y 1).val = (y 1).val; omega

theorem block7 (t : Fin cfg0.N) : (iblk m c 7 t : S1x1024.Idx → _) = V m c main_v36 := by
  funext y
  refine congrArg (V m c main_v36) (funext fun a => Fin.ext ?_)
  refine (Window.rect_emb_val (cfg0.win (7 : Fin 16)) t y a).trans ?_
  have e : (cfg0.win (7 : Fin 16)).index t = ![0, 0] := rfl
  rw [e]
  match a with
  | ⟨0, _⟩ => show 0 * 1 + (y 0).val = (y 0).val; omega
  | ⟨1, _⟩ => show 0 * 1024 + (y 1).val = (y 1).val; omega

theorem block8_at (t : Fin cfg0.N) (p : Fin 512) (l : Fin 128) :
    iblk m c 8 t (ix2 p l : S512x128.Idx) = V m c main_v61 (ix2 ⟨512 * (t.val % 8) + p.val, by omega⟩ l : S4096x128.Idx) := by
  refine congrArg (V m c main_v61) (funext fun a => Fin.ext ?_)
  refine (Window.rect_emb_val (cfg0.win (8 : Fin 16)) t (ix2 p l : S512x128.Idx) a).trans ?_
  rw [index8]
  match a with
  | ⟨0, _⟩ => show (t.val % 8) * 512 + p.val = 512 * (t.val % 8) + p.val; omega
  | ⟨1, _⟩ => show 0 * 128 + l.val = l.val; omega

theorem block9_at (t : Fin cfg0.N) (p : Fin 512) (l : Fin 128) :
    iblk m c 9 t (ix2 p l : S512x128.Idx) = V m c main_v63 (ix2 ⟨512 * (t.val % 8) + p.val, by omega⟩ l : S4096x128.Idx) := by
  refine congrArg (V m c main_v63) (funext fun a => Fin.ext ?_)
  refine (Window.rect_emb_val (cfg0.win (9 : Fin 16)) t (ix2 p l : S512x128.Idx) a).trans ?_
  rw [index9]
  match a with
  | ⟨0, _⟩ => show (t.val % 8) * 512 + p.val = 512 * (t.val % 8) + p.val; omega
  | ⟨1, _⟩ => show 0 * 128 + l.val = l.val; omega

theorem block10_at (t : Fin cfg0.N) (p : Fin 512) (l : Fin 128) :
    iblk m c 10 t (ix2 p l : S512x128.Idx) = V m c main_v57 (ix2 ⟨512 * (t.val % 8) + p.val, by omega⟩ l : S4096x128.Idx) := by
  refine congrArg (V m c main_v57) (funext fun a => Fin.ext ?_)
  refine (Window.rect_emb_val (cfg0.win (10 : Fin 16)) t (ix2 p l : S512x128.Idx) a).trans ?_
  rw [index10]
  match a with
  | ⟨0, _⟩ => show (t.val % 8) * 512 + p.val = 512 * (t.val % 8) + p.val; omega
  | ⟨1, _⟩ => show 0 * 128 + l.val = l.val; omega

theorem block11_at (t : Fin cfg0.N) (p : Fin 512) (l : Fin 128) :
    iblk m c 11 t (ix2 p l : S512x128.Idx) = V m c main_v59 (ix2 ⟨512 * (t.val % 8) + p.val, by omega⟩ l : S4096x128.Idx) := by
  refine congrArg (V m c main_v59) (funext fun a => Fin.ext ?_)
  refine (Window.rect_emb_val (cfg0.win (11 : Fin 16)) t (ix2 p l : S512x128.Idx) a).trans ?_
  rw [index11]
  match a with
  | ⟨0, _⟩ => show (t.val % 8) * 512 + p.val = 512 * (t.val % 8) + p.val; omega
  | ⟨1, _⟩ => show 0 * 128 + l.val = l.val; omega

theorem block0_at (t : Fin cfg0.N) (p : Fin 512) (k : Fin 1024) :
    iblk m c 0 t (ix2 p k : S512x1024.Idx)
      = V m c main_v64 (ix2 ⟨512 * t.val + p.val, by have := lt_points t; omega⟩ k : S65536x1024.Idx) := by
  refine congrArg (V m c main_v64) (funext fun a => Fin.ext ?_)
  refine (Window.rect_emb_val (cfg0.win (0 : Fin 16)) t (ix2 p k : S512x1024.Idx) a).trans ?_
  rw [index0]
  match a with
  | ⟨0, _⟩ => show t.val * 512 + p.val = 512 * t.val + p.val; omega
  | ⟨1, _⟩ => show 0 * 1024 + k.val = k.val; omega

end Cert.Proof.Project

end
-- ==== Proof.ProjectCat.lean ====
/-
  Arrays side by side along their last axis, element by element: which piece an element is of.
-/
module

public import Idealize.ShloMosaic.Lib.IdealHost
public import Idealize.ShloMosaic.Lib.VecWindow
public import Idealize.ShloMosaic.Lib.ValueIdx
public import Idealize.ShloMosaic.Lib.Pipeline.Value

@[expose] public section

namespace Cert.Proof.Project

open Idealize.ShloMosaic
open Idealize.ShloMosaic.ValueIdx

variable {α : Type}

theorem cat2_2_0 {A n0 n1 N : Nat} (x0 : (⟨2, ![A, n0]⟩ : Shape).Idx → α) (x1 : (⟨2, ![A, n1]⟩ : Shape).Idx → α)
    (h : Shape.Concatenates [⟨2, ![A, n0]⟩, ⟨2, ![A, n1]⟩] ⟨2, ![A, N]⟩ 1) (a : Fin A) (d : Fin n0) (j : Fin N) (e : j.val = 0 + d.val) :
    concatenate ⟨2, ![A, N]⟩ 1 [⟨⟨2, ![A, n0]⟩, x0⟩, ⟨⟨2, ![A, n1]⟩, x1⟩] h (ix2 a j) = x0 (ix2 a d) := by
  refine concatenate_apply_piece (t := ⟨2, ![A, N]⟩) (1 : Fin 2) [⟨⟨2, ![A, n0]⟩, x0⟩, ⟨⟨2, ![A, n1]⟩, x1⟩] h _ 0 (by simp) ⟨2, ![A, n0]⟩ x0 rfl rfl (0) rfl (ix2 a d) ?_ e.symm
  intro f hf; match f with
  | 0 => rfl
  | 1 => exact absurd rfl hf

theorem cat2_2_1 {A n0 n1 N : Nat} (x0 : (⟨2, ![A, n0]⟩ : Shape).Idx → α) (x1 : (⟨2, ![A, n1]⟩ : Shape).Idx → α)
    (h : Shape.Concatenates [⟨2, ![A, n0]⟩, ⟨2, ![A, n1]⟩] ⟨2, ![A, N]⟩ 1) (a : Fin A) (d : Fin n1) (j : Fin N) (e : j.val = n0 + d.val) :
    concatenate ⟨2, ![A, N]⟩ 1 [⟨⟨2, ![A, n0]⟩, x0⟩, ⟨⟨2, ![A, n1]⟩, x1⟩] h (ix2 a j) = x1 (ix2 a d) := by
  refine concatenate_apply_piece (t := ⟨2, ![A, N]⟩) (1 : Fin 2) [⟨⟨2, ![A, n0]⟩, x0⟩, ⟨⟨2, ![A, n1]⟩, x1⟩] h _ 1 (by simp) ⟨2, ![A, n1]⟩ x1 rfl rfl (n0) rfl (ix2 a d) ?_ e.symm
  intro f hf; match f with
  | 0 => rfl
  | 1 => exact absurd rfl hf

theorem cat2_3_0 {A n0 n1 n2 N : Nat} (x0 : (⟨2, ![A, n0]⟩ : Shape).Idx → α) (x1 : (⟨2, ![A, n1]⟩ : Shape).Idx → α) (x2 : (⟨2, ![A, n2]⟩ : Shape).Idx → α)
    (h : Shape.Concatenates [⟨2, ![A, n0]⟩, ⟨2, ![A, n1]⟩, ⟨2, ![A, n2]⟩] ⟨2, ![A, N]⟩ 1) (a : Fin A) (d : Fin n0) (j : Fin N) (e : j.val = 0 + d.val) :
    concatenate ⟨2, ![A, N]⟩ 1 [⟨⟨2, ![A, n0]⟩, x0⟩, ⟨⟨2, ![A, n1]⟩, x1⟩, ⟨⟨2, ![A, n2]⟩, x2⟩] h (ix2 a j) = x0 (ix2 a d) := by
  refine concatenate_apply_piece (t := ⟨2, ![A, N]⟩) (1 : Fin 2) [⟨⟨2, ![A, n0]⟩, x0⟩, ⟨⟨2, ![A, n1]⟩, x1⟩, ⟨⟨2, ![A, n2]⟩, x2⟩] h _ 0 (by simp) ⟨2, ![A, n0]⟩ x0 rfl rfl (0) rfl (ix2 a d) ?_ e.symm
  intro f hf; match f with
  | 0 => rfl
  | 1 => exact absurd rfl hf

theorem cat2_3_1 {A n0 n1 n2 N : Nat} (x0 : (⟨2, ![A, n0]⟩ : Shape).Idx → α) (x1 : (⟨2, ![A, n1]⟩ : Shape).Idx → α) (x2 : (⟨2, ![A, n2]⟩ : Shape).Idx → α)
    (h : Shape.Concatenates [⟨2, ![A, n0]⟩, ⟨2, ![A, n1]⟩, ⟨2, ![A, n2]⟩] ⟨2, ![A, N]⟩ 1) (a : Fin A) (d : Fin n1) (j : Fin N) (e : j.val = n0 + d.val) :
    concatenate ⟨2, ![A, N]⟩ 1 [⟨⟨2, ![A, n0]⟩, x0⟩, ⟨⟨2, ![A, n1]⟩, x1⟩, ⟨⟨2, ![A, n2]⟩, x2⟩] h (ix2 a j) = x1 (ix2 a d) := by
  refine concatenate_apply_piece (t := ⟨2, ![A, N]⟩) (1 : Fin 2) [⟨⟨2, ![A, n0]⟩, x0⟩, ⟨⟨2, ![A, n1]⟩, x1⟩, ⟨⟨2, ![A, n2]⟩, x2⟩] h _ 1 (by simp) ⟨2, ![A, n1]⟩ x1 rfl rfl (n0) rfl (ix2 a d) ?_ e.symm
  intro f hf; match f with
  | 0 => rfl
  | 1 => exact absurd rfl hf

theorem cat2_3_2 {A n0 n1 n2 N : Nat} (x0 : (⟨2, ![A, n0]⟩ : Shape).Idx → α) (x1 : (⟨2, ![A, n1]⟩ : Shape).Idx → α) (x2 : (⟨2, ![A, n2]⟩ : Shape).Idx → α)
    (h : Shape.Concatenates [⟨2, ![A, n0]⟩, ⟨2, ![A, n1]⟩, ⟨2, ![A, n2]⟩] ⟨2, ![A, N]⟩ 1) (a : Fin A) (d : Fin n2) (j : Fin N) (e : j.val = n0 + n1 + d.val) :
    concatenate ⟨2, ![A, N]⟩ 1 [⟨⟨2, ![A, n0]⟩, x0⟩, ⟨⟨2, ![A, n1]⟩, x1⟩, ⟨⟨2, ![A, n2]⟩, x2⟩] h (ix2 a j) = x2 (ix2 a d) := by
  refine concatenate_apply_piece (t := ⟨2, ![A, N]⟩) (1 : Fin 2) [⟨⟨2, ![A, n0]⟩, x0⟩, ⟨⟨2, ![A, n1]⟩, x1⟩, ⟨⟨2, ![A, n2]⟩, x2⟩] h _ 2 (by simp) ⟨2, ![A, n2]⟩ x2 rfl rfl (n0 + n1) rfl (ix2 a d) ?_ e.symm
  intro f hf; match f with
  | 0 => rfl
  | 1 => exact absurd rfl hf

theorem cat2_4_0 {A n0 n1 n2 n3 N : Nat} (x0 : (⟨2, ![A, n0]⟩ : Shape).Idx → α) (x1 : (⟨2, ![A, n1]⟩ : Shape).Idx → α) (x2 : (⟨2, ![A, n2]⟩ : Shape).Idx → α) (x3 : (⟨2, ![A, n3]⟩ : Shape).Idx → α)
    (h : Shape.Concatenates [⟨2, ![A, n0]⟩, ⟨2, ![A, n1]⟩, ⟨2, ![A, n2]⟩, ⟨2, ![A, n3]⟩] ⟨2, ![A, N]⟩ 1) (a : Fin A) (d : Fin n0) (j : Fin N) (e : j.val = 0 + d.val) :
    concatenate ⟨2, ![A, N]⟩ 1 [⟨⟨2, ![A, n0]⟩, x0⟩, ⟨⟨2, ![A, n1]⟩, x1⟩, ⟨⟨2, ![A, n2]⟩, x2⟩, ⟨⟨2, ![A, n3]⟩, x3⟩] h (ix2 a j) = x0 (ix2 a d) := by
  refine concatenate_apply_piece (t := ⟨2, ![A, N]⟩) (1 : Fin 2) [⟨⟨2, ![A, n0]⟩, x0⟩, ⟨⟨2, ![A, n1]⟩, x1⟩, ⟨⟨2, ![A, n2]⟩, x2⟩, ⟨⟨2, ![A, n3]⟩, x3⟩] h _ 0 (by simp) ⟨2, ![A, n0]⟩ x0 rfl rfl (0) rfl (ix2 a d) ?_ e.symm
  intro f hf; match f with
  | 0 => rfl
  | 1 => exact absurd rfl hf

theorem cat2_4_1 {A n0 n1 n2 n3 N : Nat} (x0 : (⟨2, ![A, n0]⟩ : Shape).Idx → α) (x1 : (⟨2, ![A, n1]⟩ : Shape).Idx → α) (x2 : (⟨2, ![A, n2]⟩ : Shape).Idx → α) (x3 : (⟨2, ![A, n3]⟩ : Shape).Idx → α)
    (h : Shape.Concatenates [⟨2, ![A, n0]⟩, ⟨2, ![A, n1]⟩, ⟨2, ![A, n2]⟩, ⟨2, ![A, n3]⟩] ⟨2, ![A, N]⟩ 1) (a : Fin A) (d : Fin n1) (j : Fin N) (e : j.val = n0 + d.val) :
    concatenate ⟨2, ![A, N]⟩ 1 [⟨⟨2, ![A, n0]⟩, x0⟩, ⟨⟨2, ![A, n1]⟩, x1⟩, ⟨⟨2, ![A, n2]⟩, x2⟩, ⟨⟨2, ![A, n3]⟩, x3⟩] h (ix2 a j) = x1 (ix2 a d) := by
  refine concatenate_apply_piece (t := ⟨2, ![A, N]⟩) (1 : Fin 2) [⟨⟨2, ![A, n0]⟩, x0⟩, ⟨⟨2, ![A, n1]⟩, x1⟩, ⟨⟨2, ![A, n2]⟩, x2⟩, ⟨⟨2, ![A, n3]⟩, x3⟩] h _ 1 (by simp) ⟨2, ![A, n1]⟩ x1 rfl rfl (n0) rfl (ix2 a d) ?_ e.symm
  intro f hf; match f with
  | 0 => rfl
  | 1 => exact absurd rfl hf

theorem cat2_4_2 {A n0 n1 n2 n3 N : Nat} (x0 : (⟨2, ![A, n0]⟩ : Shape).Idx → α) (x1 : (⟨2, ![A, n1]⟩ : Shape).Idx → α) (x2 : (⟨2, ![A, n2]⟩ : Shape).Idx → α) (x3 : (⟨2, ![A, n3]⟩ : Shape).Idx → α)
    (h : Shape.Concatenates [⟨2, ![A, n0]⟩, ⟨2, ![A, n1]⟩, ⟨2, ![A, n2]⟩, ⟨2, ![A, n3]⟩] ⟨2, ![A, N]⟩ 1) (a : Fin A) (d : Fin n2) (j : Fin N) (e : j.val = n0 + n1 + d.val) :
    concatenate ⟨2, ![A, N]⟩ 1 [⟨⟨2, ![A, n0]⟩, x0⟩, ⟨⟨2, ![A, n1]⟩, x1⟩, ⟨⟨2, ![A, n2]⟩, x2⟩, ⟨⟨2, ![A, n3]⟩, x3⟩] h (ix2 a j) = x2 (ix2 a d) := by
  refine concatenate_apply_piece (t := ⟨2, ![A, N]⟩) (1 : Fin 2) [⟨⟨2, ![A, n0]⟩, x0⟩, ⟨⟨2, ![A, n1]⟩, x1⟩, ⟨⟨2, ![A, n2]⟩, x2⟩, ⟨⟨2, ![A, n3]⟩, x3⟩] h _ 2 (by simp) ⟨2, ![A, n2]⟩ x2 rfl rfl (n0 + n1) rfl (ix2 a d) ?_ e.symm
  intro f hf; match f with
  | 0 => rfl
  | 1 => exact absurd rfl hf

theorem cat2_4_3 {A n0 n1 n2 n3 N : Nat} (x0 : (⟨2, ![A, n0]⟩ : Shape).Idx → α) (x1 : (⟨2, ![A, n1]⟩ : Shape).Idx → α) (x2 : (⟨2, ![A, n2]⟩ : Shape).Idx → α) (x3 : (⟨2, ![A, n3]⟩ : Shape).Idx → α)
    (h : Shape.Concatenates [⟨2, ![A, n0]⟩, ⟨2, ![A, n1]⟩, ⟨2, ![A, n2]⟩, ⟨2, ![A, n3]⟩] ⟨2, ![A, N]⟩ 1) (a : Fin A) (d : Fin n3) (j : Fin N) (e : j.val = n0 + (n1 + n2) + d.val) :
    concatenate ⟨2, ![A, N]⟩ 1 [⟨⟨2, ![A, n0]⟩, x0⟩, ⟨⟨2, ![A, n1]⟩, x1⟩, ⟨⟨2, ![A, n2]⟩, x2⟩, ⟨⟨2, ![A, n3]⟩, x3⟩] h (ix2 a j) = x3 (ix2 a d) := by
  refine concatenate_apply_piece (t := ⟨2, ![A, N]⟩) (1 : Fin 2) [⟨⟨2, ![A, n0]⟩, x0⟩, ⟨⟨2, ![A, n1]⟩, x1⟩, ⟨⟨2, ![A, n2]⟩, x2⟩, ⟨⟨2, ![A, n3]⟩, x3⟩] h _ 3 (by simp) ⟨2, ![A, n3]⟩ x3 rfl rfl (n0 + (n1 + n2)) rfl (ix2 a d) ?_ e.symm
  intro f hf; match f with
  | 0 => rfl
  | 1 => exact absurd rfl hf

theorem cat3_2_0 {A B n0 n1 N : Nat} (x0 : (⟨3, ![A, B, n0]⟩ : Shape).Idx → α) (x1 : (⟨3, ![A, B, n1]⟩ : Shape).Idx → α)
    (h : Shape.Concatenates [⟨3, ![A, B, n0]⟩, ⟨3, ![A, B, n1]⟩] ⟨3, ![A, B, N]⟩ 2) (a : Fin A) (b : Fin B) (d : Fin n0) (j : Fin N) (e : j.val = 0 + d.val) :
    concatenate ⟨3, ![A, B, N]⟩ 2 [⟨⟨3, ![A, B, n0]⟩, x0⟩, ⟨⟨3, ![A, B, n1]⟩, x1⟩] h (ix3 a b j) = x0 (ix3 a b d) := by
  refine concatenate_apply_piece (t := ⟨3, ![A, B, N]⟩) (2 : Fin 3) [⟨⟨3, ![A, B, n0]⟩, x0⟩, ⟨⟨3, ![A, B, n1]⟩, x1⟩] h _ 0 (by simp) ⟨3, ![A, B, n0]⟩ x0 rfl rfl (0) rfl (ix3 a b d) ?_ e.symm
  intro f hf; match f with
  | 0 => rfl
  | 1 => rfl
  | 2 => exact absurd rfl hf

theorem cat3_2_1 {A B n0 n1 N : Nat} (x0 : (⟨3, ![A, B, n0]⟩ : Shape).Idx → α) (x1 : (⟨3, ![A, B, n1]⟩ : Shape).Idx → α)
    (h : Shape.Concatenates [⟨3, ![A, B, n0]⟩, ⟨3, ![A, B, n1]⟩] ⟨3, ![A, B, N]⟩ 2) (a : Fin A) (b : Fin B) (d : Fin n1) (j : Fin N) (e : j.val = n0 + d.val) :
    concatenate ⟨3, ![A, B, N]⟩ 2 [⟨⟨3, ![A, B, n0]⟩, x0⟩, ⟨⟨3, ![A, B, n1]⟩, x1⟩] h (ix3 a b j) = x1 (ix3 a b d) := by
  refine concatenate_apply_piece (t := ⟨3, ![A, B, N]⟩) (2 : Fin 3) [⟨⟨3, ![A, B, n0]⟩, x0⟩, ⟨⟨3, ![A, B, n1]⟩, x1⟩] h _ 1 (by simp) ⟨3, ![A, B, n1]⟩ x1 rfl rfl (n0) rfl (ix3 a b d) ?_ e.symm
  intro f hf; match f with
  | 0 => rfl
  | 1 => rfl
  | 2 => exact absurd rfl hf

theorem cat4_2_0 {A B C n0 n1 N : Nat} (x0 : (⟨4, ![A, B, C, n0]⟩ : Shape).Idx → α) (x1 : (⟨4, ![A, B, C, n1]⟩ : Shape).Idx → α)
    (h : Shape.Concatenates [⟨4, ![A, B, C, n0]⟩, ⟨4, ![A, B, C, n1]⟩] ⟨4, ![A, B, C, N]⟩ 3) (a : Fin A) (b : Fin B) (c : Fin C) (d : Fin n0) (j : Fin N) (e : j.val = 0 + d.val) :
    concatenate ⟨4, ![A, B, C, N]⟩ 3 [⟨⟨4, ![A, B, C, n0]⟩, x0⟩, ⟨⟨4, ![A, B, C, n1]⟩, x1⟩] h (ix4 a b c j) = x0 (ix4 a b c d) := by
  refine concatenate_apply_piece (t := ⟨4, ![A, B, C, N]⟩) (3 : Fin 4) [⟨⟨4, ![A, B, C, n0]⟩, x0⟩, ⟨⟨4, ![A, B, C, n1]⟩, x1⟩] h _ 0 (by simp) ⟨4, ![A, B, C, n0]⟩ x0 rfl rfl (0) rfl (ix4 a b c d) ?_ e.symm
  intro f hf; match f with
  | 0 => rfl
  | 1 => rfl
  | 2 => rfl
  | 3 => exact absurd rfl hf

theorem cat4_2_1 {A B C n0 n1 N : Nat} (x0 : (⟨4, ![A, B, C, n0]⟩ : Shape).Idx → α) (x1 : (⟨4, ![A, B, C, n1]⟩ : Shape).Idx → α)
    (h : Shape.Concatenates [⟨4, ![A, B, C, n0]⟩, ⟨4, ![A, B, C, n1]⟩] ⟨4, ![A, B, C, N]⟩ 3) (a : Fin A) (b : Fin B) (c : Fin C) (d : Fin n1) (j : Fin N) (e : j.val = n0 + d.val) :
    concatenate ⟨4, ![A, B, C, N]⟩ 3 [⟨⟨4, ![A, B, C, n0]⟩, x0⟩, ⟨⟨4, ![A, B, C, n1]⟩, x1⟩] h (ix4 a b c j) = x1 (ix4 a b c d) := by
  refine concatenate_apply_piece (t := ⟨4, ![A, B, C, N]⟩) (3 : Fin 4) [⟨⟨4, ![A, B, C, n0]⟩, x0⟩, ⟨⟨4, ![A, B, C, n1]⟩, x1⟩] h _ 1 (by simp) ⟨4, ![A, B, C, n1]⟩ x1 rfl rfl (n0) rfl (ix4 a b c d) ?_ e.symm
  intro f hf; match f with
  | 0 => rfl
  | 1 => rfl
  | 2 => rfl
  | 3 => exact absurd rfl hf

theorem cat4_3_0 {A B C n0 n1 n2 N : Nat} (x0 : (⟨4, ![A, B, C, n0]⟩ : Shape).Idx → α) (x1 : (⟨4, ![A, B, C, n1]⟩ : Shape).Idx → α) (x2 : (⟨4, ![A, B, C, n2]⟩ : Shape).Idx → α)
    (h : Shape.Concatenates [⟨4, ![A, B, C, n0]⟩, ⟨4, ![A, B, C, n1]⟩, ⟨4, ![A, B, C, n2]⟩] ⟨4, ![A, B, C, N]⟩ 3) (a : Fin A) (b : Fin B) (c : Fin C) (d : Fin n0) (j : Fin N) (e : j.val = 0 + d.val) :
    concatenate ⟨4, ![A, B, C, N]⟩ 3 [⟨⟨4, ![A, B, C, n0]⟩, x0⟩, ⟨⟨4, ![A, B, C, n1]⟩, x1⟩, ⟨⟨4, ![A, B, C, n2]⟩, x2⟩] h (ix4 a b c j) = x0 (ix4 a b c d) := by
  refine concatenate_apply_piece (t := ⟨4, ![A, B, C, N]⟩) (3 : Fin 4) [⟨⟨4, ![A, B, C, n0]⟩, x0⟩, ⟨⟨4, ![A, B, C, n1]⟩, x1⟩, ⟨⟨4, ![A, B, C, n2]⟩, x2⟩] h _ 0 (by simp) ⟨4, ![A, B, C, n0]⟩ x0 rfl rfl (0) rfl (ix4 a b c d) ?_ e.symm
  intro f hf; match f with
  | 0 => rfl
  | 1 => rfl
  | 2 => rfl
  | 3 => exact absurd rfl hf

theorem cat4_3_1 {A B C n0 n1 n2 N : Nat} (x0 : (⟨4, ![A, B, C, n0]⟩ : Shape).Idx → α) (x1 : (⟨4, ![A, B, C, n1]⟩ : Shape).Idx → α) (x2 : (⟨4, ![A, B, C, n2]⟩ : Shape).Idx → α)
    (h : Shape.Concatenates [⟨4, ![A, B, C, n0]⟩, ⟨4, ![A, B, C, n1]⟩, ⟨4, ![A, B, C, n2]⟩] ⟨4, ![A, B, C, N]⟩ 3) (a : Fin A) (b : Fin B) (c : Fin C) (d : Fin n1) (j : Fin N) (e : j.val = n0 + d.val) :
    concatenate ⟨4, ![A, B, C, N]⟩ 3 [⟨⟨4, ![A, B, C, n0]⟩, x0⟩, ⟨⟨4, ![A, B, C, n1]⟩, x1⟩, ⟨⟨4, ![A, B, C, n2]⟩, x2⟩] h (ix4 a b c j) = x1 (ix4 a b c d) := by
  refine concatenate_apply_piece (t := ⟨4, ![A, B, C, N]⟩) (3 : Fin 4) [⟨⟨4, ![A, B, C, n0]⟩, x0⟩, ⟨⟨4, ![A, B, C, n1]⟩, x1⟩, ⟨⟨4, ![A, B, C, n2]⟩, x2⟩] h _ 1 (by simp) ⟨4, ![A, B, C, n1]⟩ x1 rfl rfl (n0) rfl (ix4 a b c d) ?_ e.symm
  intro f hf; match f with
  | 0 => rfl
  | 1 => rfl
  | 2 => rfl
  | 3 => exact absurd rfl hf

theorem cat4_3_2 {A B C n0 n1 n2 N : Nat} (x0 : (⟨4, ![A, B, C, n0]⟩ : Shape).Idx → α) (x1 : (⟨4, ![A, B, C, n1]⟩ : Shape).Idx → α) (x2 : (⟨4, ![A, B, C, n2]⟩ : Shape).Idx → α)
    (h : Shape.Concatenates [⟨4, ![A, B, C, n0]⟩, ⟨4, ![A, B, C, n1]⟩, ⟨4, ![A, B, C, n2]⟩] ⟨4, ![A, B, C, N]⟩ 3) (a : Fin A) (b : Fin B) (c : Fin C) (d : Fin n2) (j : Fin N) (e : j.val = n0 + n1 + d.val) :
    concatenate ⟨4, ![A, B, C, N]⟩ 3 [⟨⟨4, ![A, B, C, n0]⟩, x0⟩, ⟨⟨4, ![A, B, C, n1]⟩, x1⟩, ⟨⟨4, ![A, B, C, n2]⟩, x2⟩] h (ix4 a b c j) = x2 (ix4 a b c d) := by
  refine concatenate_apply_piece (t := ⟨4, ![A, B, C, N]⟩) (3 : Fin 4) [⟨⟨4, ![A, B, C, n0]⟩, x0⟩, ⟨⟨4, ![A, B, C, n1]⟩, x1⟩, ⟨⟨4, ![A, B, C, n2]⟩, x2⟩] h _ 2 (by simp) ⟨4, ![A, B, C, n2]⟩ x2 rfl rfl (n0 + n1) rfl (ix4 a b c d) ?_ e.symm
  intro f hf; match f with
  | 0 => rfl
  | 1 => rfl
  | 2 => rfl
  | 3 => exact absurd rfl hf

end Cert.Proof.Project
-- ==== Proof.ProjectRef.lean ====
/-
  The `_in_proj` call's reference over the extended reals, element by element: a token's norms, its heads' channels and the rotation
  of their last lanes.
-/
module

public import proofs.«01_k».proof.Proof.Gen.Reference6Ideal.Run
public import proofs.«01_k».proof.Proof.Project
public import proofs.«01_k».proof.Proof.ProjectCat
public import Idealize.ShloMosaic.Lib.IdealHost
public import Idealize.ShloMosaic.Lib.ValueIdx
public import Idealize.ShloMosaic.Lib.StackMember
public import Idealize.ShloMosaic.Lib.Pointwise.Reduce
public import Idealize.ShloMosaic.Lib.Pipeline.Value

@[expose] public section

set_option maxRecDepth 16384

noncomputable section

namespace Cert.Proof.Project.Ref

open Cert.Reference6Ideal Cert.Reference6Ideal.Gen
open Idealize.ShloMosaic hiding ix1 ix2 ix3 ix4
open Idealize.ShloMosaic.ValueIdx
open scoped BigOperators

/-! ## Products -/

theorem dot1024_at (A : FVec Ideal S16x4096x1024 .f32) (B : FVec Ideal S1024x1184 .f32) (b : Fin 16) (q : Fin 4096) (j : Fin 1184) :
    Host.dotGeneral dot_S16x4096x1024_S1024x1184_S16x4096x1184_2_0_01_1_n_n none A B (ix3 b q j) = ∑ k : Fin 1024, (A (ix3 b q k) * B (ix2 k j) : EReal) := by
  let D := dot_S16x4096x1024_S1024x1184_S16x4096x1184_2_0_01_1_n_n
  show FloatOps.dotGeneral D none _ A B (ix3 b q j) = _
  rw [Ideal.dotGeneral_apply, ← Equiv.sum_comp (contrEquiv1 D 1024 rfl rfl).symm]
  refine Finset.sum_congr rfl fun k _ => ?_
  have hk := contrEquiv1_symm_val D 1024 rfl rfl k
  have el : D.lhsIdx (ix3 b q j) ((contrEquiv1 D 1024 rfl rfl).symm k) = ix3 b q k := by
    funext a; apply Fin.ext
    match a with
    | ⟨0, _⟩ => rfl
    | ⟨1, _⟩ => rfl
    | ⟨2, _⟩ => exact hk
  have er : D.rhsIdx (ix3 b q j) ((contrEquiv1 D 1024 rfl rfl).symm k) = ix2 k j := by
    funext a; apply Fin.ext
    match a with
    | ⟨0, _⟩ => exact hk
    | ⟨1, _⟩ => rfl
  rw [el, er]

theorem dot384_at (A : FVec Ideal S16x4096x384 .f32) (B : FVec Ideal S384x768 .f32) (b : Fin 16) (q : Fin 4096) (j : Fin 768) :
    Host.dotGeneral dot_S16x4096x384_S384x768_S16x4096x768_2_0_01_1_n_n none A B (ix3 b q j) = ∑ k : Fin 384, (A (ix3 b q k) * B (ix2 k j) : EReal) := by
  let D := dot_S16x4096x384_S384x768_S16x4096x768_2_0_01_1_n_n
  show FloatOps.dotGeneral D none _ A B (ix3 b q j) = _
  rw [Ideal.dotGeneral_apply, ← Equiv.sum_comp (contrEquiv1 D 384 rfl rfl).symm]
  refine Finset.sum_congr rfl fun k _ => ?_
  have hk := contrEquiv1_symm_val D 384 rfl rfl k
  have el : D.lhsIdx (ix3 b q j) ((contrEquiv1 D 384 rfl rfl).symm k) = ix3 b q k := by
    funext a; apply Fin.ext
    match a with
    | ⟨0, _⟩ => rfl
    | ⟨1, _⟩ => rfl
    | ⟨2, _⟩ => exact hk
  have er : D.rhsIdx (ix3 b q j) ((contrEquiv1 D 384 rfl rfl).symm k) = ix2 k j := by
    funext a; apply Fin.ext
    match a with
    | ⟨0, _⟩ => exact hk
    | ⟨1, _⟩ => rfl
  rw [el, er]

theorem dot256_at (A : FVec Ideal S16x4096x256 .f32) (B : FVec Ideal S256x1024 .f32) (b : Fin 16) (q : Fin 4096) (j : Fin 1024) :
    Host.dotGeneral dot_S16x4096x256_S256x1024_S16x4096x1024_2_0_01_1_n_n none A B (ix3 b q j) = ∑ k : Fin 256, (A (ix3 b q k) * B (ix2 k j) : EReal) := by
  let D := dot_S16x4096x256_S256x1024_S16x4096x1024_2_0_01_1_n_n
  show FloatOps.dotGeneral D none _ A B (ix3 b q j) = _
  rw [Ideal.dotGeneral_apply, ← Equiv.sum_comp (contrEquiv1 D 256 rfl rfl).symm]
  refine Finset.sum_congr rfl fun k _ => ?_
  have hk := contrEquiv1_symm_val D 256 rfl rfl k
  have el : D.lhsIdx (ix3 b q j) ((contrEquiv1 D 256 rfl rfl).symm k) = ix3 b q k := by
    funext a; apply Fin.ext
    match a with
    | ⟨0, _⟩ => rfl
    | ⟨1, _⟩ => rfl
    | ⟨2, _⟩ => exact hk
  have er : D.rhsIdx (ix3 b q j) ((contrEquiv1 D 256 rfl rfl).symm k) = ix2 k j := by
    funext a; apply Fin.ext
    match a with
    | ⟨0, _⟩ => exact hk
    | ⟨1, _⟩ => rfl
  rw [el, er]

/-! ## Norms -/

/-- One over the root of every token's mean square, from its sum of squares. -/
abbrev inverse (n : BitVec 32) (s : FVec Ideal S16x4096 .f32) : FVec Ideal S16x4096x1 .f32 :=
  Host.rsqrt (addf (Host.divf (broadcastInDim S16x4096x1 ![0, 1] bcast_S16x4096_S16x4096x1_0_1 s)
    (broadcastInDim S16x4096x1 ![] bcast_S_S16x4096x1 (constant S_ .f32 n)))
    (broadcastInDim S16x4096x1 ![] bcast_S_S16x4096x1 (constant S_ .f32 0x358637BD#32)))

theorem inverse_at (n : BitVec 32) (s : FVec Ideal S16x4096 .f32) (b : Fin 16) (q : Fin 4096) :
    inverse n s (ix3 b q 0) = Ideal.rsqrt (Ideal.div (s (ix2 b q)) (Ideal.ofBits .f32 n) + tiny) := by
  have e1 : broadcastInDim S16x4096x1 ![0, 1] bcast_S16x4096_S16x4096x1_0_1 s (ix3 b q 0) = s (ix2 b q) := by
    refine broadcastInDim_apply _ _ _ _ (ix2 b q) ?_
    intro a; match a with
    | 0 => rfl
    | 1 => rfl
  have e2 := broadcastInDim_scalar_apply bcast_S_S16x4096x1 (constant (F := Ideal) S_ .f32 n) (ix3 b q 0)
  have e3 := broadcastInDim_scalar_apply bcast_S_S16x4096x1 (constant (F := Ideal) S_ .f32 0x358637BD#32) (ix3 b q 0)
  exact congrArg₂ (fun a b : EReal => Ideal.rsqrt (a + b)) (congrArg₂ (fun a b : EReal => Ideal.div a b) e1 e2) e3

/-- The norm of every token's latent row. -/
abbrev norm384 (v : FVec Ideal S16x4096x384 .f32) (g : FVec Ideal S384 .f32) : FVec Ideal S16x4096x384 .f32 :=
  mulf (mulf v (broadcastInDim S16x4096x384 ![0, 1, 2] bcast_S16x4096x1_S16x4096x384_0_1_2 (inverse 0x43C00000#32
      (Host.reduceAdd (mulf v v) (constant S_ .f32 0x00000000#32) reducesTo_S16x4096x384_S16x4096_d2 h_S_))))
    (broadcastInDim S16x4096x384 ![0, 1, 2] bcast_S1x1x384_S16x4096x384_0_1_2 (broadcastInDim S1x1x384 ![2] bcast_S384_S1x1x384_2 g))

theorem norm384_at (v : FVec Ideal S16x4096x384 .f32) (g : FVec Ideal S384 .f32) (b : Fin 16) (q : Fin 4096) (i : Fin 384) (r : Fin 384 → EReal)
    (hv : ∀ k, v (ix3 b q k) = r k) : norm384 v g (ix3 b q i) = normed width384 r (g (ix1 i)) i := by
  have hs : Host.reduceAdd (mulf v v) (constant S_ .f32 0x00000000#32) reducesTo_S16x4096x384_S16x4096_d2 h_S_ (ix2 b q) = ∑ k : Fin 384, (r k * r k : EReal) := by
    refine (hostReduceAdd_apply (mulf v v) _ _ _ (ix2 b q)).trans ((Ideal.hostReduceAdd_r3_a2 reducesTo_S16x4096x384_S16x4096_d2 (mulf v v) _ (ix2 b q)).trans ?_)
    show Ideal.ofBits .f32 0x00000000#32 + ∑ k : Fin 384, (v (ix3 b q k) * v (ix3 b q k) : EReal) = _
    rw [Ideal.ofBits_zero_f32, zero_add]
    exact Finset.sum_congr rfl fun k _ => by rw [hv]
  have e1 : broadcastInDim S16x4096x384 ![0, 1, 2] bcast_S16x4096x1_S16x4096x384_0_1_2 (inverse 0x43C00000#32
      (Host.reduceAdd (mulf v v) (constant S_ .f32 0x00000000#32) reducesTo_S16x4096x384_S16x4096_d2 h_S_)) (ix3 b q i)
      = Ideal.rsqrt (Ideal.div (∑ k, r k * r k) width384 + tiny) := by
    refine (broadcastInDim_apply _ _ _ _ (ix3 b q 0) ?_).trans ((inverse_at _ _ b q).trans ?_)
    · intro a; match a with
      | 0 => rfl
      | 1 => rfl
      | 2 => rfl
    · rw [hs]
  have e2 : broadcastInDim S16x4096x384 ![0, 1, 2] bcast_S1x1x384_S16x4096x384_0_1_2 (broadcastInDim S1x1x384 ![2] bcast_S384_S1x1x384_2 g) (ix3 b q i) = g (ix1 i) := by
    refine (broadcastInDim_apply _ _ _ _ (ix3 0 0 i) ?_).trans (broadcastInDim_apply _ _ _ _ (ix1 i) ?_)
    · intro a; match a with
      | 0 => rfl
      | 1 => rfl
      | 2 => rfl
    · intro a; match a with
      | 0 => rfl
  exact congrArg₂ (fun a b : EReal => a * b) (congrArg₂ (fun a b : EReal => a * b) (hv i) e1) e2

/-- The norm of every token's latent row. -/
abbrev norm256 (v : FVec Ideal S16x4096x256 .f32) (g : FVec Ideal S256 .f32) : FVec Ideal S16x4096x256 .f32 :=
  mulf (mulf v (broadcastInDim S16x4096x256 ![0, 1, 2] bcast_S16x4096x1_S16x4096x256_0_1_2 (inverse 0x43800000#32
      (Host.reduceAdd (mulf v v) (constant S_ .f32 0x00000000#32) reducesTo_S16x4096x256_S16x4096_d2 h_S_))))
    (broadcastInDim S16x4096x256 ![0, 1, 2] bcast_S1x1x256_S16x4096x256_0_1_2 (broadcastInDim S1x1x256 ![2] bcast_S256_S1x1x256_2 g))

theorem norm256_at (v : FVec Ideal S16x4096x256 .f32) (g : FVec Ideal S256 .f32) (b : Fin 16) (q : Fin 4096) (i : Fin 256) (r : Fin 256 → EReal)
    (hv : ∀ k, v (ix3 b q k) = r k) : norm256 v g (ix3 b q i) = normed width256 r (g (ix1 i)) i := by
  have hs : Host.reduceAdd (mulf v v) (constant S_ .f32 0x00000000#32) reducesTo_S16x4096x256_S16x4096_d2 h_S_ (ix2 b q) = ∑ k : Fin 256, (r k * r k : EReal) := by
    refine (hostReduceAdd_apply (mulf v v) _ _ _ (ix2 b q)).trans ((Ideal.hostReduceAdd_r3_a2 reducesTo_S16x4096x256_S16x4096_d2 (mulf v v) _ (ix2 b q)).trans ?_)
    show Ideal.ofBits .f32 0x00000000#32 + ∑ k : Fin 256, (v (ix3 b q k) * v (ix3 b q k) : EReal) = _
    rw [Ideal.ofBits_zero_f32, zero_add]
    exact Finset.sum_congr rfl fun k _ => by rw [hv]
  have e1 : broadcastInDim S16x4096x256 ![0, 1, 2] bcast_S16x4096x1_S16x4096x256_0_1_2 (inverse 0x43800000#32
      (Host.reduceAdd (mulf v v) (constant S_ .f32 0x00000000#32) reducesTo_S16x4096x256_S16x4096_d2 h_S_)) (ix3 b q i)
      = Ideal.rsqrt (Ideal.div (∑ k, r k * r k) width256 + tiny) := by
    refine (broadcastInDim_apply _ _ _ _ (ix3 b q 0) ?_).trans ((inverse_at _ _ b q).trans ?_)
    · intro a; match a with
      | 0 => rfl
      | 1 => rfl
      | 2 => rfl
    · rw [hs]
  have e2 : broadcastInDim S16x4096x256 ![0, 1, 2] bcast_S1x1x256_S16x4096x256_0_1_2 (broadcastInDim S1x1x256 ![2] bcast_S256_S1x1x256_2 g) (ix3 b q i) = g (ix1 i) := by
    refine (broadcastInDim_apply _ _ _ _ (ix3 0 0 i) ?_).trans (broadcastInDim_apply _ _ _ _ (ix1 i) ?_)
    · intro a; match a with
      | 0 => rfl
      | 1 => rfl
      | 2 => rfl
    · intro a; match a with
      | 0 => rfl
  exact congrArg₂ (fun a b : EReal => a * b) (congrArg₂ (fun a b : EReal => a * b) (hv i) e1) e2

/-! ## The token's rows -/

section Rows

variable (x : FVec Ideal S16x4096x1024 .f32) (w : FVec Ideal S1024x1184 .f32) (gq : FVec Ideal S384 .f32) (uq : FVec Ideal S384x768 .f32)
  (gkv : FVec Ideal S256 .f32) (ukv : FVec Ideal S256x1024 .f32) (b : Fin 16) (q : Fin 4096) (h : Fin 8)

abbrev proj : FVec Ideal S16x4096x1184 .f32 := Host.dotGeneral dot_S16x4096x1024_S1024x1184_S16x4096x1184_2_0_01_1_n_n none x w

theorem proj_at (j : Fin 1184) : proj x w (ix3 b q j) = projected x w b q j := dot1024_at x w b q j

/-- Columns of every token's row. -/
theorem columns_at {N n : Nat} (o : Nat) (v : (⟨3, ![16, 4096, N]⟩ : Shape).Idx → EReal) (hs : (⟨3, ![16, 4096, N]⟩ : Shape).Slices ![0, 0, o] ⟨3, ![16, 4096, n]⟩)
    (j : Fin n) (j' : Fin N) (e : j'.val = o + j.val) : extractStridedSlice ⟨3, ![16, 4096, n]⟩ ![0, 0, o] v hs (ix3 b q j) = v (ix3 b q j') := by
  refine extractStridedSlice_apply _ _ _ _ (ix3 b q j') ?_
  intro a; match a with
  | 0 => show b.val = 0 + b.val; omega
  | 1 => show q.val = 0 + q.val; omega
  | 2 => exact e

theorem lanes_at {N n : Nat} (o : Nat) (v : (⟨4, ![16, 4096, 8, N]⟩ : Shape).Idx → EReal)
    (hs : (⟨4, ![16, 4096, 8, N]⟩ : Shape).Slices ![0, 0, 0, o] ⟨4, ![16, 4096, 8, n]⟩)
    (j : Fin n) (j' : Fin N) (e : j'.val = o + j.val) : extractStridedSlice ⟨4, ![16, 4096, 8, n]⟩ ![0, 0, 0, o] v hs (ix4 b q h j) = v (ix4 b q h j') := by
  refine extractStridedSlice_apply _ _ _ _ (ix4 b q h j') ?_
  intro a; match a with
  | 0 => show b.val = 0 + b.val; omega
  | 1 => show q.val = 0 + q.val; omega
  | 2 => show h.val = 0 + h.val; omega
  | 3 => exact e

/-- The queries' channels, head by head. -/
abbrev headsQ : FVec Ideal S16x4096x8x96 .f32 :=
  shapeCast S16x4096x8x96 (Host.dotGeneral dot_S16x4096x384_S384x768_S16x4096x768_2_0_01_1_n_n none
    (norm384 (extractStridedSlice S16x4096x384 ![0, 0, 0] (proj x w) slices_S16x4096x1184_S16x4096x384_0_0_0) gq) uq) shapeCasts_S16x4096x768_S16x4096x8x96

theorem headsQ_at (l : Fin 96) (j : Fin 768) (e : j.val = 96 * h.val + l.val) : headsQ x w gq uq (ix4 b q h l) = upQ x w gq uq b q j := by
  refine (shapeCast_apply _ _ _ (ix3 b q j) ?_).trans ((dot384_at _ uq b q j).trans (Finset.sum_congr rfl fun i _ => ?_))
  · rw [Shape.rowMajor_val_three, Shape.rowMajor_val_four]
    show (b.val * 4096 + q.val) * 768 + j.val = ((b.val * 4096 + q.val) * 8 + h.val) * 96 + l.val
    omega
  · refine congrArg (fun a : EReal => a * uq (ix2 i j)) (norm384_at _ gq b q i _ fun k => ?_)
    exact (columns_at b q 0 (proj x w) slices_S16x4096x1184_S16x4096x384_0_0_0 k ⟨k.val, by omega⟩ (Nat.zero_add _).symm).trans (proj_at x w b q _)

/-- The keys' and values' channels, head by head. -/
abbrev headsKv : FVec Ideal S16x4096x8x128 .f32 :=
  shapeCast S16x4096x8x128 (Host.dotGeneral dot_S16x4096x256_S256x1024_S16x4096x1024_2_0_01_1_n_n none
    (norm256 (extractStridedSlice S16x4096x256 ![0, 0, 384] (proj x w) slices_S16x4096x1184_S16x4096x256_0_0_384) gkv) ukv) shapeCasts_S16x4096x1024_S16x4096x8x128

theorem headsKv_at (l : Fin 128) (j : Fin 1024) (e : j.val = 128 * h.val + l.val) : headsKv x w gkv ukv (ix4 b q h l) = upKv x w gkv ukv b q j := by
  refine (shapeCast_apply _ _ _ (ix3 b q j) ?_).trans ((dot256_at _ ukv b q j).trans (Finset.sum_congr rfl fun i _ => ?_))
  · rw [Shape.rowMajor_val_three, Shape.rowMajor_val_four]
    show (b.val * 4096 + q.val) * 1024 + j.val = ((b.val * 4096 + q.val) * 8 + h.val) * 128 + l.val
    omega
  · refine congrArg (fun a : EReal => a * ukv (ix2 i j)) (norm256_at _ gkv b q i _ fun k => ?_)
    exact (columns_at b q 384 (proj x w) slices_S16x4096x1184_S16x4096x256_0_0_384 k ⟨384 + k.val, by omega⟩ rfl).trans (proj_at x w b q _)

end Rows

/-! ## Rotations -/

section Rotations

variable (b : Fin 16) (q : Fin 4096) (h : Fin 8)

/-- A table for every batch and head. -/
abbrev heads4 (t : FVec Ideal S4096x16 .f32) : FVec Ideal S16x4096x8x16 .f32 :=
  broadcastInDim S16x4096x8x16 ![0, 1, 2, 3] bcast_S1x4096x1x16_S16x4096x8x16_0_1_2_3
    (broadcastInDim S1x4096x1x16 ![1, 2, 3] bcast_S4096x1x16_S1x4096x1x16_1_2_3 (broadcastInDim S4096x1x16 ![0, 2] bcast_S4096x16_S4096x1x16_0_2 t))

theorem heads4_at (t : FVec Ideal S4096x16 .f32) (r : Fin 16) : heads4 t (ix4 b q h r) = t (ix2 q r) := by
  refine (broadcastInDim_apply _ _ _ _ (ix4 0 q 0 r) ?_).trans ((broadcastInDim_apply _ _ _ _ (ix3 q 0 r) ?_).trans (broadcastInDim_apply _ _ _ _ (ix2 q r) ?_))
  · intro a; match a with
    | 0 => rfl
    | 1 => rfl
    | 2 => rfl
    | 3 => rfl
  · intro a; match a with
    | 0 => rfl
    | 1 => rfl
    | 2 => rfl
  · intro a; match a with
    | 0 => rfl
    | 1 => rfl

/-- A table for every batch. -/
abbrev rows3 (t : FVec Ideal S4096x16 .f32) : FVec Ideal S16x4096x16 .f32 :=
  broadcastInDim S16x4096x16 ![0, 1, 2] bcast_S1x4096x16_S16x4096x16_0_1_2 (broadcastInDim S1x4096x16 ![1, 2] bcast_S4096x16_S1x4096x16_1_2 t)

theorem rows3_at (t : FVec Ideal S4096x16 .f32) (r : Fin 16) : rows3 t (ix3 b q r) = t (ix2 q r) := by
  refine (broadcastInDim_apply _ _ _ _ (ix3 0 q r) ?_).trans (broadcastInDim_apply _ _ _ _ (ix2 q r) ?_)
  · intro a; match a with
    | 0 => rfl
    | 1 => rfl
    | 2 => rfl
  · intro a; match a with
    | 0 => rfl
    | 1 => rfl

abbrev low4 (v : FVec Ideal S16x4096x8x32 .f32) : FVec Ideal S16x4096x8x16 .f32 :=
  extractStridedSlice S16x4096x8x16 ![0, 0, 0, 0] v slices_S16x4096x8x32_S16x4096x8x16_0_0_0_0
abbrev high4 (v : FVec Ideal S16x4096x8x32 .f32) : FVec Ideal S16x4096x8x16 .f32 :=
  extractStridedSlice S16x4096x8x16 ![0, 0, 0, 16] v slices_S16x4096x8x32_S16x4096x8x16_0_0_0_16
abbrev low3 (v : FVec Ideal S16x4096x32 .f32) : FVec Ideal S16x4096x16 .f32 :=
  extractStridedSlice S16x4096x16 ![0, 0, 0] v slices_S16x4096x32_S16x4096x16_0_0_0
abbrev high3 (v : FVec Ideal S16x4096x32 .f32) : FVec Ideal S16x4096x16 .f32 :=
  extractStridedSlice S16x4096x16 ![0, 0, 16] v slices_S16x4096x32_S16x4096x16_0_0_16

abbrev rope4 (v : FVec Ideal S16x4096x8x32 .f32) (cos sin : FVec Ideal S4096x16 .f32) : FVec Ideal S16x4096x8x32 .f32 :=
  concatenate S16x4096x8x32 3 [⟨S16x4096x8x16, subf (mulf (low4 v) (heads4 cos)) (mulf (high4 v) (heads4 sin))⟩,
    ⟨S16x4096x8x16, addf (mulf (low4 v) (heads4 sin)) (mulf (high4 v) (heads4 cos))⟩] concatenates_S16x4096x8x16_S16x4096x8x16_S16x4096x8x32_d3

abbrev rope3 (v : FVec Ideal S16x4096x32 .f32) (cos sin : FVec Ideal S4096x16 .f32) : FVec Ideal S16x4096x32 .f32 :=
  concatenate S16x4096x32 2 [⟨S16x4096x16, subf (mulf (low3 v) (rows3 cos)) (mulf (high3 v) (rows3 sin))⟩,
    ⟨S16x4096x16, addf (mulf (low3 v) (rows3 sin)) (mulf (high3 v) (rows3 cos))⟩] concatenates_S16x4096x16_S16x4096x16_S16x4096x32_d2

variable (cos sin : FVec Ideal S4096x16 .f32) (r : Fin 16)

theorem rope4_low (v : FVec Ideal S16x4096x8x32 .f32) (l : Fin 32) (e : l.val = r.val) :
    rope4 v cos sin (ix4 b q h l) = (v (ix4 b q h ⟨r.val, by omega⟩) * cos (ix2 q r) - v (ix4 b q h ⟨16 + r.val, by omega⟩) * sin (ix2 q r) : EReal) := by
  refine (cat4_2_0 (subf (mulf (low4 v) (heads4 cos)) (mulf (high4 v) (heads4 sin))) (addf (mulf (low4 v) (heads4 sin)) (mulf (high4 v) (heads4 cos)))
    _ b q h r l (e.trans (Nat.zero_add _).symm)).trans ?_
  exact congrArg₂ (fun a b : EReal => a - b)
    (congrArg₂ (fun a b : EReal => a * b) (lanes_at b q h 0 v slices_S16x4096x8x32_S16x4096x8x16_0_0_0_0 r ⟨r.val, by omega⟩ (Nat.zero_add _).symm) (heads4_at b q h cos r))
    (congrArg₂ (fun a b : EReal => a * b) (lanes_at b q h 16 v slices_S16x4096x8x32_S16x4096x8x16_0_0_0_16 r ⟨16 + r.val, by omega⟩ rfl) (heads4_at b q h sin r))

theorem rope4_high (v : FVec Ideal S16x4096x8x32 .f32) (l : Fin 32) (e : l.val = 16 + r.val) :
    rope4 v cos sin (ix4 b q h l) = (v (ix4 b q h ⟨r.val, by omega⟩) * sin (ix2 q r) + v (ix4 b q h ⟨16 + r.val, by omega⟩) * cos (ix2 q r) : EReal) := by
  refine (cat4_2_1 (subf (mulf (low4 v) (heads4 cos)) (mulf (high4 v) (heads4 sin))) (addf (mulf (low4 v) (heads4 sin)) (mulf (high4 v) (heads4 cos)))
    _ b q h r l e).trans ?_
  exact congrArg₂ (fun a b : EReal => a + b)
    (congrArg₂ (fun a b : EReal => a * b) (lanes_at b q h 0 v slices_S16x4096x8x32_S16x4096x8x16_0_0_0_0 r ⟨r.val, by omega⟩ (Nat.zero_add _).symm) (heads4_at b q h sin r))
    (congrArg₂ (fun a b : EReal => a * b) (lanes_at b q h 16 v slices_S16x4096x8x32_S16x4096x8x16_0_0_0_16 r ⟨16 + r.val, by omega⟩ rfl) (heads4_at b q h cos r))

theorem rope3_low (v : FVec Ideal S16x4096x32 .f32) (l : Fin 32) (e : l.val = r.val) :
    rope3 v cos sin (ix3 b q l) = (v (ix3 b q ⟨r.val, by omega⟩) * cos (ix2 q r) - v (ix3 b q ⟨16 + r.val, by omega⟩) * sin (ix2 q r) : EReal) := by
  refine (cat3_2_0 (subf (mulf (low3 v) (rows3 cos)) (mulf (high3 v) (rows3 sin))) (addf (mulf (low3 v) (rows3 sin)) (mulf (high3 v) (rows3 cos)))
    _ b q r l (e.trans (Nat.zero_add _).symm)).trans ?_
  exact congrArg₂ (fun a b : EReal => a - b)
    (congrArg₂ (fun a b : EReal => a * b) (columns_at b q 0 v slices_S16x4096x32_S16x4096x16_0_0_0 r ⟨r.val, by omega⟩ (Nat.zero_add _).symm) (rows3_at b q cos r))
    (congrArg₂ (fun a b : EReal => a * b) (columns_at b q 16 v slices_S16x4096x32_S16x4096x16_0_0_16 r ⟨16 + r.val, by omega⟩ rfl) (rows3_at b q sin r))

theorem rope3_high (v : FVec Ideal S16x4096x32 .f32) (l : Fin 32) (e : l.val = 16 + r.val) :
    rope3 v cos sin (ix3 b q l) = (v (ix3 b q ⟨r.val, by omega⟩) * sin (ix2 q r) + v (ix3 b q ⟨16 + r.val, by omega⟩) * cos (ix2 q r) : EReal) := by
  refine (cat3_2_1 (subf (mulf (low3 v) (rows3 cos)) (mulf (high3 v) (rows3 sin))) (addf (mulf (low3 v) (rows3 sin)) (mulf (high3 v) (rows3 cos)))
    _ b q r l e).trans ?_
  exact congrArg₂ (fun a b : EReal => a + b)
    (congrArg₂ (fun a b : EReal => a * b) (columns_at b q 0 v slices_S16x4096x32_S16x4096x16_0_0_0 r ⟨r.val, by omega⟩ (Nat.zero_add _).symm) (rows3_at b q sin r))
    (congrArg₂ (fun a b : EReal => a * b) (columns_at b q 16 v slices_S16x4096x32_S16x4096x16_0_0_16 r ⟨16 + r.val, by omega⟩ rfl) (rows3_at b q cos r))

end Rotations

/-! ## The packed results -/

section Packed

variable (x : FVec Ideal S16x4096x1024 .f32) (w : FVec Ideal S1024x1184 .f32) (gq : FVec Ideal S384 .f32) (uq : FVec Ideal S384x768 .f32)
  (gkv : FVec Ideal S256 .f32) (ukv : FVec Ideal S256x1024 .f32) (cos sin : FVec Ideal S4096x16 .f32) (b : Fin 16) (q : Fin 4096) (h : Fin 8)

abbrev blank : FVec Ideal S16x4096x8x32 .f32 := broadcastInDim S16x4096x8x32 ![] bcast_S_S16x4096x8x32 (constant S_ .f32 0x00000000#32)

abbrev packQ : FVec Ideal S16x4096x8x128 .f32 :=
  concatenate S16x4096x8x128 3 [⟨S16x4096x8x64, mulf (extractStridedSlice S16x4096x8x64 ![0, 0, 0, 0] (headsQ x w gq uq) slices_S16x4096x8x96_S16x4096x8x64_0_0_0_0)
      (broadcastInDim S16x4096x8x64 ![] bcast_S_S16x4096x8x64 (constant S_ .f32 0x3E16C740#32))⟩,
    ⟨S16x4096x8x32, mulf (rope4 (extractStridedSlice S16x4096x8x32 ![0, 0, 0, 64] (headsQ x w gq uq) slices_S16x4096x8x96_S16x4096x8x32_0_0_0_64) cos sin)
      (broadcastInDim S16x4096x8x32 ![] bcast_S_S16x4096x8x32 (constant S_ .f32 0x3E16C740#32))⟩,
    ⟨S16x4096x8x32, blank⟩] concatenates_S16x4096x8x64_S16x4096x8x32_S16x4096x8x32_S16x4096x8x128_d3

abbrev packK : FVec Ideal S16x4096x8x128 .f32 :=
  concatenate S16x4096x8x128 3 [⟨S16x4096x8x64, extractStridedSlice S16x4096x8x64 ![0, 0, 0, 0] (headsKv x w gkv ukv) slices_S16x4096x8x128_S16x4096x8x64_0_0_0_0⟩,
    ⟨S16x4096x8x32, broadcastInDim S16x4096x8x32 ![0, 1, 2, 3] bcast_S16x4096x1x32_S16x4096x8x32_0_1_2_3 (broadcastInDim S16x4096x1x32 ![0, 1, 3]
      bcast_S16x4096x32_S16x4096x1x32_0_1_3 (rope3 (extractStridedSlice S16x4096x32 ![0, 0, 640] (proj x w) slices_S16x4096x1184_S16x4096x32_0_0_640) cos sin))⟩,
    ⟨S16x4096x8x32, blank⟩] concatenates_S16x4096x8x64_S16x4096x8x32_S16x4096x8x32_S16x4096x8x128_d3

abbrev packV : FVec Ideal S16x4096x8x128 .f32 :=
  concatenate S16x4096x8x128 3 [⟨S16x4096x8x64, extractStridedSlice S16x4096x8x64 ![0, 0, 0, 64] (headsKv x w gkv ukv) slices_S16x4096x8x128_S16x4096x8x64_0_0_0_64⟩,
    ⟨S16x4096x8x1, (broadcastInDim S16x4096x8x1 ![] bcast_S_S16x4096x8x1 (constant S_ .f32 0x3F800000#32) : FVec Ideal S16x4096x8x1 .f32)⟩,
    ⟨S16x4096x8x63, (broadcastInDim S16x4096x8x63 ![] bcast_S_S16x4096x8x63 (constant S_ .f32 0x00000000#32) : FVec Ideal S16x4096x8x63 .f32)⟩]
    concatenates_S16x4096x8x64_S16x4096x8x1_S16x4096x8x63_S16x4096x8x128_d3

theorem packQ_nope (d : Fin 64) (l : Fin 128) (e : l.val = d.val) :
    packQ x w gq uq cos sin (ix4 b q h l) = upQ x w gq uq b q ⟨96 * h.val + d.val, by omega⟩ * scale := by
  refine (cat4_3_0 _ _ _ _ b q h d l (e.trans (Nat.zero_add _).symm)).trans ?_
  exact congrArg₂ (fun a b : EReal => a * b) ((lanes_at b q h 0 (headsQ x w gq uq) slices_S16x4096x8x96_S16x4096x8x64_0_0_0_0 d ⟨d.val, by omega⟩ (Nat.zero_add _).symm).trans
    (headsQ_at x w gq uq b q h _ _ rfl)) (broadcastInDim_scalar_apply _ _ _)

theorem packQ_low (r : Fin 16) (l : Fin 128) (e : l.val = 64 + r.val) :
    packQ x w gq uq cos sin (ix4 b q h l) = (upQ x w gq uq b q ⟨96 * h.val + (64 + r.val), by omega⟩ * cos (ix2 q r)
      - upQ x w gq uq b q ⟨96 * h.val + (80 + r.val), by omega⟩ * sin (ix2 q r)) * scale := by
  refine (cat4_3_1 _ _ _ _ b q h (⟨r.val, by omega⟩ : Fin 32) l e).trans ?_
  refine congrArg₂ (fun a b : EReal => a * b) ((rope4_low b q h cos sin r _ _ rfl).trans ?_) (broadcastInDim_scalar_apply _ _ _)
  exact congrArg₂ (fun s t : EReal => s * cos (ix2 q r) - t * sin (ix2 q r))
    ((lanes_at b q h 64 (headsQ x w gq uq) slices_S16x4096x8x96_S16x4096x8x32_0_0_0_64 ⟨r.val, by omega⟩ ⟨64 + r.val, by omega⟩ rfl).trans (headsQ_at x w gq uq b q h _ _ rfl))
    ((lanes_at b q h 64 (headsQ x w gq uq) slices_S16x4096x8x96_S16x4096x8x32_0_0_0_64 ⟨16 + r.val, by omega⟩ ⟨80 + r.val, by omega⟩ (by show 80 + r.val = 64 + (16 + r.val); omega)).trans
      (headsQ_at x w gq uq b q h _ _ rfl))

theorem packQ_high (r : Fin 16) (l : Fin 128) (e : l.val = 80 + r.val) :
    packQ x w gq uq cos sin (ix4 b q h l) = (upQ x w gq uq b q ⟨96 * h.val + (64 + r.val), by omega⟩ * sin (ix2 q r)
      + upQ x w gq uq b q ⟨96 * h.val + (80 + r.val), by omega⟩ * cos (ix2 q r)) * scale := by
  refine (cat4_3_1 _ _ _ _ b q h ⟨16 + r.val, by omega⟩ l (by show l.val = 64 + (16 + r.val); omega)).trans ?_
  refine congrArg₂ (fun a b : EReal => a * b) ((rope4_high b q h cos sin r _ _ rfl).trans ?_) (broadcastInDim_scalar_apply _ _ _)
  exact congrArg₂ (fun s t : EReal => s * sin (ix2 q r) + t * cos (ix2 q r))
    ((lanes_at b q h 64 (headsQ x w gq uq) slices_S16x4096x8x96_S16x4096x8x32_0_0_0_64 ⟨r.val, by omega⟩ ⟨64 + r.val, by omega⟩ rfl).trans (headsQ_at x w gq uq b q h _ _ rfl))
    ((lanes_at b q h 64 (headsQ x w gq uq) slices_S16x4096x8x96_S16x4096x8x32_0_0_0_64 ⟨16 + r.val, by omega⟩ ⟨80 + r.val, by omega⟩ (by show 80 + r.val = 64 + (16 + r.val); omega)).trans
      (headsQ_at x w gq uq b q h _ _ rfl))

theorem packQ_pad (r : Fin 32) (l : Fin 128) (e : l.val = 96 + r.val) : packQ x w gq uq cos sin (ix4 b q h l) = (0 : EReal) :=
  (cat4_3_2 _ _ _ _ b q h r l e).trans ((broadcastInDim_scalar_apply _ _ _).trans Ideal.ofBits_zero_f32)

theorem packK_nope (d : Fin 64) (l : Fin 128) (e : l.val = d.val) :
    packK x w gkv ukv cos sin (ix4 b q h l) = upKv x w gkv ukv b q ⟨128 * h.val + d.val, by omega⟩ := by
  refine (cat4_3_0 _ _ _ _ b q h d l (e.trans (Nat.zero_add _).symm)).trans ?_
  exact (lanes_at b q h 0 (headsKv x w gkv ukv) slices_S16x4096x8x128_S16x4096x8x64_0_0_0_0 d ⟨d.val, by omega⟩ (Nat.zero_add _).symm).trans
    (headsKv_at x w gkv ukv b q h _ _ rfl)

/-- The keys' rotated lanes are every head's. -/
theorem every_at (v : FVec Ideal S16x4096x32 .f32) (r : Fin 32) :
    broadcastInDim S16x4096x8x32 ![0, 1, 2, 3] bcast_S16x4096x1x32_S16x4096x8x32_0_1_2_3 (broadcastInDim S16x4096x1x32 ![0, 1, 3]
      bcast_S16x4096x32_S16x4096x1x32_0_1_3 v) (ix4 b q h r) = v (ix3 b q r) := by
  refine (broadcastInDim_apply _ _ _ _ (ix4 b q 0 r) ?_).trans (broadcastInDim_apply _ _ _ _ (ix3 b q r) ?_)
  · intro a; match a with
    | 0 => rfl
    | 1 => rfl
    | 2 => rfl
    | 3 => rfl
  · intro a; match a with
    | 0 => rfl
    | 1 => rfl
    | 2 => rfl

theorem packK_low (r : Fin 16) (l : Fin 128) (e : l.val = 64 + r.val) :
    packK x w gkv ukv cos sin (ix4 b q h l)
      = projected x w b q ⟨640 + r.val, by omega⟩ * cos (ix2 q r) - projected x w b q ⟨656 + r.val, by omega⟩ * sin (ix2 q r) := by
  refine (cat4_3_1 _ _ _ _ b q h (⟨r.val, by omega⟩ : Fin 32) l e).trans ((every_at b q h _ _).trans ((rope3_low b q cos sin r _ _ rfl).trans ?_))
  exact congrArg₂ (fun s t : EReal => s * cos (ix2 q r) - t * sin (ix2 q r))
    ((columns_at b q 640 (proj x w) slices_S16x4096x1184_S16x4096x32_0_0_640 ⟨r.val, by omega⟩ ⟨640 + r.val, by omega⟩ rfl).trans (proj_at x w b q _))
    ((columns_at b q 640 (proj x w) slices_S16x4096x1184_S16x4096x32_0_0_640 ⟨16 + r.val, by omega⟩ ⟨656 + r.val, by omega⟩ (by show 656 + r.val = 640 + (16 + r.val); omega)).trans
      (proj_at x w b q _))

theorem packK_high (r : Fin 16) (l : Fin 128) (e : l.val = 80 + r.val) :
    packK x w gkv ukv cos sin (ix4 b q h l)
      = projected x w b q ⟨640 + r.val, by omega⟩ * sin (ix2 q r) + projected x w b q ⟨656 + r.val, by omega⟩ * cos (ix2 q r) := by
  refine (cat4_3_1 _ _ _ _ b q h ⟨16 + r.val, by omega⟩ l (by show l.val = 64 + (16 + r.val); omega)).trans
    ((every_at b q h _ _).trans ((rope3_high b q cos sin r _ _ rfl).trans ?_))
  exact congrArg₂ (fun s t : EReal => s * sin (ix2 q r) + t * cos (ix2 q r))
    ((columns_at b q 640 (proj x w) slices_S16x4096x1184_S16x4096x32_0_0_640 ⟨r.val, by omega⟩ ⟨640 + r.val, by omega⟩ rfl).trans (proj_at x w b q _))
    ((columns_at b q 640 (proj x w) slices_S16x4096x1184_S16x4096x32_0_0_640 ⟨16 + r.val, by omega⟩ ⟨656 + r.val, by omega⟩ (by show 656 + r.val = 640 + (16 + r.val); omega)).trans
      (proj_at x w b q _))

theorem packK_pad (r : Fin 32) (l : Fin 128) (e : l.val = 96 + r.val) : packK x w gkv ukv cos sin (ix4 b q h l) = (0 : EReal) :=
  (cat4_3_2 _ _ _ _ b q h r l e).trans ((broadcastInDim_scalar_apply _ _ _).trans Ideal.ofBits_zero_f32)

theorem packV_value (d : Fin 64) (l : Fin 128) (e : l.val = d.val) :
    packV x w gkv ukv (ix4 b q h l) = upKv x w gkv ukv b q ⟨128 * h.val + (64 + d.val), by omega⟩ := by
  refine (cat4_3_0 _ _ _ _ b q h d l (e.trans (Nat.zero_add _).symm)).trans ?_
  exact (lanes_at b q h 64 (headsKv x w gkv ukv) slices_S16x4096x8x128_S16x4096x8x64_0_0_0_64 d ⟨64 + d.val, by omega⟩ rfl).trans
    (headsKv_at x w gkv ukv b q h _ _ rfl)

theorem packV_one (l : Fin 128) (e : l.val = 64) : packV x w gkv ukv (ix4 b q h l) = (1 : EReal) :=
  (cat4_3_1 _ _ _ _ b q h 0 l e).trans ((broadcastInDim_scalar_apply _ _ _).trans Ideal.ofBits_one_f32)

theorem packV_pad (r : Fin 63) (l : Fin 128) (e : l.val = 65 + r.val) : packV x w gkv ukv (ix4 b q h l) = (0 : EReal) :=
  (cat4_3_2 _ _ _ _ b q h r l e).trans ((broadcastInDim_scalar_apply _ _ _).trans Ideal.ofBits_zero_f32)

end Packed

end Cert.Proof.Project.Ref

end
-- ==== Proof.ProjectEntry.lean ====
/-
  The `_in_proj` call's operands, over any floats: what its host operations make of the arguments.
-/
module

public import proofs.«01_k».proof.Proof.ProjectFinal

@[expose] public section

set_option maxRecDepth 16384

noncomputable section

namespace Cert.Proof.Project

open Cert.Kernel6Ideal Cert.Kernel6Ideal.Gen
open Idealize.ShloMosaic hiding ix1 ix2 ix3 ix4
open Idealize.ShloMosaic.TcCoe Idealize.ShloMosaic.StableHlo
open Idealize.ShloMosaic.ValueIdx
open Idealize.SL.Sem

variable {F : FTy → Type} [FloatOps F]
variable (m : (ℓ : Loc nD τ sig) → Buf (Elt F) ℓ) (c : Dev nD)

/-! ## The arguments -/

abbrev xIn : S16x4096x1024.Idx → Elt F .f32 := m ((c.tc : Thread nD τ).loc main_arg0)
abbrev wIn : S1024x1184.Idx → Elt F .f32 := m ((c.tc : Thread nD τ).loc main_arg1)
abbrev gqIn : S384.Idx → Elt F .f32 := m ((c.tc : Thread nD τ).loc main_arg2)
abbrev uqIn : S384x768.Idx → Elt F .f32 := m ((c.tc : Thread nD τ).loc main_arg3)
abbrev gkvIn : S256.Idx → Elt F .f32 := m ((c.tc : Thread nD τ).loc main_arg4)
abbrev ukvIn : S256x1024.Idx → Elt F .f32 := m ((c.tc : Thread nD τ).loc main_arg5)

/-! ## What is made of them -/

/-- The rotated lanes' columns. -/
abbrev rotary (w : FVec F S1024x1184 .f32) : FVec F S1024x32 .f32 := extractStridedSlice S1024x32 ![0, 640] w slices_S1024x1184_S1024x32_0_640

/-- Their partners' columns, the first half negated. -/
abbrev partners (r : FVec F S1024x32 .f32) : FVec F S1024x32 .f32 :=
  concatenate S1024x32 1 [⟨S1024x16, Host.negf (extractStridedSlice S1024x16 ![0, 16] r slices_S1024x32_S1024x16_0_16)⟩,
    ⟨S1024x16, extractStridedSlice S1024x16 ![0, 0] r slices_S1024x32_S1024x16_0_0⟩] concatenates_S1024x16_S1024x16_S1024x32_d1

abbrev packR (w : FVec F S1024x1184 .f32) : FVec F S1024x128 .f32 :=
  concatenate S1024x128 1 [⟨S1024x64, (broadcastInDim S1024x64 ![] bcast_S_S1024x64 (constant S_ .f32 0x00000000#32) : FVec F S1024x64 .f32)⟩,
    ⟨S1024x32, rotary w⟩, ⟨S1024x32, partners (rotary w)⟩] concatenates_S1024x64_S1024x32_S1024x32_S1024x128_d1

abbrev packIn (w : FVec F S1024x1184 .f32) : FVec F S1024x1280 .bf16 :=
  truncf .bf16 (concatenate S1024x1280 1 [⟨S1024x640, extractStridedSlice S1024x640 ![0, 0] w slices_S1024x1184_S1024x640_0_0⟩,
    ⟨S1024x512, extractStridedSlice S1024x512 ![0, 672] w slices_S1024x1184_S1024x512_0_672⟩, ⟨S1024x128, packR w⟩]
    concatenates_S1024x640_S1024x512_S1024x128_S1024x1280_d1) bitsLt_bf16_f32

abbrev headsQ (w : FVec F S384x768 .f32) : FVec F S384x8x96 .f32 := shapeCast S384x8x96 w shapeCasts_S384x768_S384x8x96

abbrev rotaryQ (w : FVec F S384x768 .f32) : FVec F S384x8x32 .f32 :=
  extractStridedSlice S384x8x32 ![0, 0, 64] (headsQ w) slices_S384x8x96_S384x8x32_0_0_64

abbrev partnersQ (r : FVec F S384x8x32 .f32) : FVec F S384x8x32 .f32 :=
  concatenate S384x8x32 2 [⟨S384x8x16, Host.negf (extractStridedSlice S384x8x16 ![0, 0, 16] r slices_S384x8x32_S384x8x16_0_0_16)⟩,
    ⟨S384x8x16, extractStridedSlice S384x8x16 ![0, 0, 0] r slices_S384x8x32_S384x8x16_0_0_0⟩] concatenates_S384x8x16_S384x8x16_S384x8x32_d2

abbrev packQ3 (w : FVec F S384x768 .f32) : FVec F S384x8x128 .f32 :=
  concatenate S384x8x128 2 [⟨S384x8x96, headsQ w⟩, ⟨S384x8x32, partnersQ (rotaryQ w)⟩] concatenates_S384x8x96_S384x8x32_S384x8x128_d2

abbrev packUq (w : FVec F S384x768 .f32) : FVec F S384x1024 .bf16 :=
  truncf .bf16 (shapeCast S384x1024 (packQ3 w) shapeCasts_S384x8x128_S384x1024) bitsLt_bf16_f32

abbrev headsKv (w : FVec F S256x1024 .f32) : FVec F S256x8x128 .f32 := shapeCast S256x8x128 w shapeCasts_S256x1024_S256x8x128

abbrev zerosKv : FVec F S256x8x64 .f32 := broadcastInDim S256x8x64 ![] bcast_S_S256x8x64 (constant S_ .f32 0x00000000#32)

abbrev packKn3 (w : FVec F S256x1024 .f32) : FVec F S256x8x128 .f32 :=
  concatenate S256x8x128 2 [⟨S256x8x64, extractStridedSlice S256x8x64 ![0, 0, 0] (headsKv w) slices_S256x8x128_S256x8x64_0_0_0⟩,
    ⟨S256x8x64, (zerosKv : FVec F S256x8x64 .f32)⟩] concatenates_S256x8x64_S256x8x64_S256x8x128_d2

abbrev packKn (w : FVec F S256x1024 .f32) : FVec F S256x1024 .bf16 :=
  truncf .bf16 (shapeCast S256x1024 (packKn3 w) shapeCasts_S256x8x128_S256x1024) bitsLt_bf16_f32

abbrev packV3 (w : FVec F S256x1024 .f32) : FVec F S256x8x128 .f32 :=
  concatenate S256x8x128 2 [⟨S256x8x64, extractStridedSlice S256x8x64 ![0, 0, 64] (headsKv w) slices_S256x8x128_S256x8x64_0_0_64⟩,
    ⟨S256x8x64, (zerosKv : FVec F S256x8x64 .f32)⟩] concatenates_S256x8x64_S256x8x64_S256x8x128_d2

abbrev packV (w : FVec F S256x1024 .f32) : FVec F S256x1024 .bf16 :=
  truncf .bf16 (shapeCast S256x1024 (packV3 w) shapeCasts_S256x8x128_S256x1024) bitsLt_bf16_f32

/-- A one in column 64 of every head. -/
abbrev ones3 : FVec F S8x128 .f32 :=
  Host.scatter scatter_S8x128_S1_S8_0_1_1_0 (fun _ b => b) (broadcastInDim S8x128 ![] bcast_S_S8x128 (constant S_ .f32 0x00000000#32) : FVec F S8x128 .f32)
    (broadcastInDim S1 ![] bcast_S_S1 (constantI S_ 32 64#32)) (broadcastInDim S8 ![] bcast_S_S8 (constant S_ .f32 0x3F800000#32) : FVec F S8 .f32)

abbrev onesRow : FVec F S1x1024 .f32 := shapeCast S1x1024 (ones3 : FVec F S8x128 .f32) shapeCasts_S8x128_S1x1024

/-- The angle of every position and pair of lanes. -/
abbrev angles : FVec F S4096x16 .f32 :=
  mulf (broadcastInDim S4096x16 ![0, 1] bcast_S4096x1_S4096x16_0_1 (broadcastInDim S4096x1 ![0] bcast_S4096_S4096x1_0 (sitofp .f32 (iotaInDim S4096 32 0) : FVec F S4096 .f32)))
    (broadcastInDim S4096x16 ![0, 1] bcast_S1x16_S4096x16_0_1 (broadcastInDim S1x16 ![1] bcast_S16_S1x16_1
      (Host.powf (broadcastInDim S16 ![] bcast_S_S16 (constant S_ .f32 0x461C4000#32))
        (Host.divf (Host.negf (addf (broadcastInDim S16 ![] bcast_S_S16 (constant S_ .f32 0x00000000#32))
          (mulf (broadcastInDim S16 ![] bcast_S_S16 (constant S_ .f32 0x40000000#32)) (sitofp .f32 (iotaInDim S16 32 0)))))
          (broadcastInDim S16 ![] bcast_S_S16 (constant S_ .f32 0x42000000#32))) : FVec F S16 .f32)))

abbrev cosines : FVec F S4096x16 .f32 := Host.cos angles
abbrev sines : FVec F S4096x16 .f32 := Host.sin angles

abbrev blank32 : FVec F S4096x32 .f32 := broadcastInDim S4096x32 ![] bcast_S_S4096x32 (constant S_ .f32 0x00000000#32)
abbrev blank64 : FVec F S4096x64 .f32 := broadcastInDim S4096x64 ![] bcast_S_S4096x64 (constant S_ .f32 0x00000000#32)
abbrev full64 : FVec F S4096x64 .f32 := broadcastInDim S4096x64 ![] bcast_S_S4096x64 (constant S_ .f32 0x3F800000#32)

/-- A table's four stretches of lanes. -/
abbrev table (a : FVec F S4096x64 .f32) (b : FVec F S4096x16 .f32) (z : FVec F S4096x32 .f32) : FVec F S4096x128 .f32 :=
  concatenate S4096x128 1 [⟨S4096x64, a⟩, ⟨S4096x16, b⟩, ⟨S4096x16, b⟩, ⟨S4096x32, z⟩] concatenates_S4096x64_S4096x16_S4096x16_S4096x32_S4096x128_d1

abbrev scaled (t : FVec F S4096x128 .f32) : FVec F S4096x128 .f32 :=
  mulf t (broadcastInDim S4096x128 ![] bcast_S_S4096x128 (constant S_ .f32 0x3E16C740#32))

/-! ## The operands -/

theorem entry_x : V m c main_v64 = shapeCast S65536x1024 (xIn m c) shapeCasts_S16x4096x1024_S65536x1024 := by
  show after hostOps0 _ _ = _
  after_results <;> rfl

set_option maxHeartbeats 4000000 in
theorem entry_w : V m c main_v10 = packIn (wIn m c) := by
  show after hostOps0 _ _ = _
  after_results <;> rfl

theorem entry_gq : V m c main_v11 = shapeCast S1x384 (gqIn m c) shapeCasts_S384_S1x384 := by
  show after hostOps0 _ _ = _
  after_results <;> rfl

theorem entry_gkv : V m c main_v12 = shapeCast S1x256 (gkvIn m c) shapeCasts_S256_S1x256 := by
  show after hostOps0 _ _ = _
  after_results <;> rfl

theorem entry_uq : V m c main_v21 = packUq (uqIn m c) := by
  show after hostOps0 _ _ = _
  after_results <;> rfl

theorem entry_kn : V m c main_v27 = packKn (ukvIn m c) := by
  show after hostOps0 _ _ = _
  after_results <;> rfl

theorem entry_v : V m c main_v31 = packV (ukvIn m c) := by
  show after hostOps0 _ _ = _
  after_results <;> rfl

theorem entry_one : V m c main_v36 = (onesRow : FVec F S1x1024 .f32) := by
  show after hostOps0 _ _ = _
  after_results <;> rfl

theorem entry_cosq : V m c main_v61 = scaled (table full64 cosines (blank32 : FVec F S4096x32 .f32)) := by
  show after hostOps0 _ _ = _
  after_results <;> rfl

theorem entry_sinq : V m c main_v63 = scaled (table blank64 sines (blank32 : FVec F S4096x32 .f32)) := by
  show after hostOps0 _ _ = _
  after_results <;> rfl

theorem entry_cos : V m c main_v57 = table full64 cosines (blank32 : FVec F S4096x32 .f32) := by
  show after hostOps0 _ _ = _
  after_results <;> rfl

theorem entry_sin : V m c main_v59 = table blank64 sines (blank32 : FVec F S4096x32 .f32) := by
  show after hostOps0 _ _ = _
  after_results <;> rfl

end Cert.Proof.Project

end
-- ==== Proof.ProjectPack.lean ====
/-
  The `_in_proj` call's operands over the extended reals, element by element: the packed matrices and the packed tables.
-/
module

public import proofs.«01_k».proof.Proof.ProjectEntry
public import proofs.«01_k».proof.Proof.ProjectCat
public import Idealize.ShloMosaic.Lib.Routing.OpsOne
public import Idealize.ShloMosaic.Lib.Routing.OpsSet

@[expose] public section

set_option maxRecDepth 16384

noncomputable section

namespace Cert.Proof.Project

open Cert.Kernel6Ideal Cert.Kernel6Ideal.Gen
open Idealize.ShloMosaic hiding ix1 ix2 ix3 ix4
open Idealize.ShloMosaic.TcCoe Idealize.ShloMosaic.StableHlo
open Idealize.ShloMosaic.ValueIdx
open scoped BigOperators

/-- Columns of a matrix. -/
theorem cut2 {A N n : Nat} (o : Nat) (v : (⟨2, ![A, N]⟩ : Shape).Idx → EReal) (hs : (⟨2, ![A, N]⟩ : Shape).Slices ![0, o] ⟨2, ![A, n]⟩)
    (a : Fin A) (j : Fin n) (j' : Fin N) (e : j'.val = o + j.val) : extractStridedSlice ⟨2, ![A, n]⟩ ![0, o] v hs (ix2 a j) = v (ix2 a j') := by
  refine extractStridedSlice_apply _ _ _ _ (ix2 a j') ?_
  intro f; match f with
  | 0 => show a.val = 0 + a.val; omega
  | 1 => exact e

theorem cut3 {A B N n : Nat} (o : Nat) (v : (⟨3, ![A, B, N]⟩ : Shape).Idx → EReal) (hs : (⟨3, ![A, B, N]⟩ : Shape).Slices ![0, 0, o] ⟨3, ![A, B, n]⟩)
    (a : Fin A) (b : Fin B) (j : Fin n) (j' : Fin N) (e : j'.val = o + j.val) :
    extractStridedSlice ⟨3, ![A, B, n]⟩ ![0, 0, o] v hs (ix3 a b j) = v (ix3 a b j') := by
  refine extractStridedSlice_apply _ _ _ _ (ix3 a b j') ?_
  intro f; match f with
  | 0 => show a.val = 0 + a.val; omega
  | 1 => show b.val = 0 + b.val; omega
  | 2 => exact e

/-! ## The input matrix -/

section In

variable (w : FVec Ideal S1024x1184 .f32) (k : Fin 1024)

theorem packIn_low (d : Fin 640) (j : Fin 1280) (e : j.val = d.val) : packIn w (ix2 k j) = w (ix2 k ⟨d.val, by omega⟩) :=
  (cat2_3_0 _ _ _ concatenates_S1024x640_S1024x512_S1024x128_S1024x1280_d1 k d j (e.trans (Nat.zero_add _).symm)).trans (cut2 0 w _ k d ⟨d.val, by omega⟩ (Nat.zero_add _).symm)

theorem packIn_mid (d : Fin 512) (j : Fin 1280) (e : j.val = 640 + d.val) : packIn w (ix2 k j) = w (ix2 k ⟨672 + d.val, by omega⟩) :=
  (cat2_3_1 _ _ _ concatenates_S1024x640_S1024x512_S1024x128_S1024x1280_d1 k d j e).trans (cut2 672 w _ k d ⟨672 + d.val, by omega⟩ rfl)

theorem packIn_top (d : Fin 128) (j : Fin 1280) (e : j.val = 1152 + d.val) : packIn w (ix2 k j) = packR w (ix2 k d) :=
  cat2_3_2 _ _ _ concatenates_S1024x640_S1024x512_S1024x128_S1024x1280_d1 k d j e

theorem packR_zero (d : Fin 64) (j : Fin 128) (e : j.val = d.val) : packR w (ix2 k j) = (0 : EReal) :=
  (cat2_3_0 _ _ _ _ k d j (e.trans (Nat.zero_add _).symm)).trans ((broadcastInDim_scalar_apply _ _ _).trans Ideal.ofBits_zero_f32)

theorem packR_rotary (d : Fin 32) (j : Fin 128) (e : j.val = 64 + d.val) : packR w (ix2 k j) = w (ix2 k ⟨640 + d.val, by omega⟩) :=
  (cat2_3_1 _ _ _ _ k d j e).trans (cut2 640 w _ k d ⟨640 + d.val, by omega⟩ rfl)

theorem partners_low (v : FVec Ideal S1024x32 .f32) (r : Fin 16) :
    partners v (ix2 k (⟨r.val, by omega⟩ : Fin 32)) = (-v (ix2 k ⟨16 + r.val, by omega⟩) : EReal) := by
  have e := cat2_2_0 (Host.negf (extractStridedSlice S1024x16 ![0, 16] v slices_S1024x32_S1024x16_0_16)) (extractStridedSlice S1024x16 ![0, 0] v slices_S1024x32_S1024x16_0_0)
    concatenates_S1024x16_S1024x16_S1024x32_d1 k r (⟨r.val, by omega⟩ : Fin 32) (Nat.zero_add _).symm
  refine e.trans ?_
  exact congrArg (fun a : EReal => -a) (cut2 16 v slices_S1024x32_S1024x16_0_16 k r ⟨16 + r.val, by omega⟩ rfl)

theorem partners_high (v : FVec Ideal S1024x32 .f32) (r : Fin 16) :
    partners v (ix2 k (⟨16 + r.val, by omega⟩ : Fin 32)) = v (ix2 k ⟨r.val, by omega⟩) := by
  have e := cat2_2_1 (Host.negf (extractStridedSlice S1024x16 ![0, 16] v slices_S1024x32_S1024x16_0_16)) (extractStridedSlice S1024x16 ![0, 0] v slices_S1024x32_S1024x16_0_0)
    concatenates_S1024x16_S1024x16_S1024x32_d1 k r (⟨16 + r.val, by omega⟩ : Fin 32) rfl
  exact e.trans (cut2 0 v slices_S1024x32_S1024x16_0_0 k r ⟨r.val, by omega⟩ (Nat.zero_add _).symm)

theorem packR_low (r : Fin 16) (j : Fin 128) (e : j.val = 96 + r.val) : packR w (ix2 k j) = (-w (ix2 k ⟨656 + r.val, by omega⟩) : EReal) := by
  have e1 : packR w (ix2 k j) = partners (rotary w) (ix2 k (⟨r.val, by omega⟩ : Fin 32)) := cat2_3_2 _ _ _ _ k (⟨r.val, by omega⟩ : Fin 32) j e
  have e2 : rotary w (ix2 k (⟨16 + r.val, by omega⟩ : Fin 32)) = w (ix2 k ⟨656 + r.val, by omega⟩) :=
    cut2 640 w slices_S1024x1184_S1024x32_0_640 k ⟨16 + r.val, by omega⟩ ⟨656 + r.val, by omega⟩ (by show 656 + r.val = 640 + (16 + r.val); omega)
  exact e1.trans ((partners_low k (rotary w) r).trans (congrArg (fun a : EReal => -a) e2))

theorem packR_high (r : Fin 16) (j : Fin 128) (e : j.val = 112 + r.val) : packR w (ix2 k j) = w (ix2 k ⟨640 + r.val, by omega⟩) := by
  have e1 : packR w (ix2 k j) = partners (rotary w) (ix2 k (⟨16 + r.val, by omega⟩ : Fin 32)) :=
    cat2_3_2 _ _ _ _ k (⟨16 + r.val, by omega⟩ : Fin 32) j (by show j.val = 64 + 32 + (16 + r.val); omega)
  have e2 : rotary w (ix2 k (⟨r.val, by omega⟩ : Fin 32)) = w (ix2 k ⟨640 + r.val, by omega⟩) :=
    cut2 640 w slices_S1024x1184_S1024x32_0_640 k ⟨r.val, by omega⟩ ⟨640 + r.val, by omega⟩ rfl
  exact e1.trans ((partners_high k (rotary w) r).trans e2)

end In

/-! ## The queries' matrix -/

section Queries

variable (w : FVec Ideal S384x768 .f32) (i : Fin 384) (h : Fin 8)

theorem headsQ_at (l : Fin 96) : headsQ w (ix3 i h l) = w (ix2 i ⟨96 * h.val + l.val, by omega⟩) := by
  refine shapeCast_apply _ _ _ (ix2 i ⟨96 * h.val + l.val, by omega⟩) ?_
  rw [Shape.rowMajor_val_three, Shape.rowMajor_val_two]
  show i.val * 768 + (96 * h.val + l.val) = (i.val * 8 + h.val) * 96 + l.val
  omega

theorem packUq_at (l : Fin 128) (j : Fin 1024) (e : j.val = 128 * h.val + l.val) : packUq w (ix2 i j) = packQ3 w (ix3 i h l) := by
  refine shapeCast_apply (packQ3 w) shapeCasts_S384x8x128_S384x1024 (ix2 i j) (ix3 i h l) ?_
  rw [Shape.rowMajor_val_three, Shape.rowMajor_val_two]
  show (i.val * 8 + h.val) * 128 + l.val = i.val * 1024 + j.val
  omega

theorem packQ3_own (d : Fin 96) (l : Fin 128) (e : l.val = d.val) : packQ3 w (ix3 i h l) = w (ix2 i ⟨96 * h.val + d.val, by omega⟩) :=
  (cat3_2_0 _ _ _ i h d l (e.trans (Nat.zero_add _).symm)).trans (headsQ_at w i h d)

theorem partnersQ_low (v : FVec Ideal S384x8x32 .f32) (r : Fin 16) :
    partnersQ v (ix3 i h (⟨r.val, by omega⟩ : Fin 32)) = (-v (ix3 i h ⟨16 + r.val, by omega⟩) : EReal) := by
  have e := cat3_2_0 (Host.negf (extractStridedSlice S384x8x16 ![0, 0, 16] v slices_S384x8x32_S384x8x16_0_0_16)) (extractStridedSlice S384x8x16 ![0, 0, 0] v slices_S384x8x32_S384x8x16_0_0_0)
    concatenates_S384x8x16_S384x8x16_S384x8x32_d2 i h r (⟨r.val, by omega⟩ : Fin 32) (Nat.zero_add _).symm
  refine e.trans ?_
  exact congrArg (fun a : EReal => -a) (cut3 16 v slices_S384x8x32_S384x8x16_0_0_16 i h r ⟨16 + r.val, by omega⟩ rfl)

theorem partnersQ_high (v : FVec Ideal S384x8x32 .f32) (r : Fin 16) :
    partnersQ v (ix3 i h (⟨16 + r.val, by omega⟩ : Fin 32)) = v (ix3 i h ⟨r.val, by omega⟩) := by
  have e := cat3_2_1 (Host.negf (extractStridedSlice S384x8x16 ![0, 0, 16] v slices_S384x8x32_S384x8x16_0_0_16)) (extractStridedSlice S384x8x16 ![0, 0, 0] v slices_S384x8x32_S384x8x16_0_0_0)
    concatenates_S384x8x16_S384x8x16_S384x8x32_d2 i h r (⟨16 + r.val, by omega⟩ : Fin 32) rfl
  exact e.trans (cut3 0 v slices_S384x8x32_S384x8x16_0_0_0 i h r ⟨r.val, by omega⟩ (Nat.zero_add _).symm)

theorem packQ3_low (r : Fin 16) (l : Fin 128) (e : l.val = 96 + r.val) :
    packQ3 w (ix3 i h l) = (-w (ix2 i ⟨96 * h.val + (80 + r.val), by omega⟩) : EReal) := by
  have e1 : packQ3 w (ix3 i h l) = partnersQ (rotaryQ w) (ix3 i h (⟨r.val, by omega⟩ : Fin 32)) := cat3_2_1 _ _ _ i h (⟨r.val, by omega⟩ : Fin 32) l e
  have e2 : rotaryQ w (ix3 i h (⟨16 + r.val, by omega⟩ : Fin 32)) = w (ix2 i ⟨96 * h.val + (80 + r.val), by omega⟩) :=
    (cut3 64 (headsQ w) slices_S384x8x96_S384x8x32_0_0_64 i h ⟨16 + r.val, by omega⟩ ⟨80 + r.val, by omega⟩ (by show 80 + r.val = 64 + (16 + r.val); omega)).trans
      (headsQ_at w i h _)
  exact e1.trans ((partnersQ_low i h (rotaryQ w) r).trans (congrArg (fun a : EReal => -a) e2))

theorem packQ3_high (r : Fin 16) (l : Fin 128) (e : l.val = 112 + r.val) :
    packQ3 w (ix3 i h l) = w (ix2 i ⟨96 * h.val + (64 + r.val), by omega⟩) := by
  have e1 : packQ3 w (ix3 i h l) = partnersQ (rotaryQ w) (ix3 i h (⟨16 + r.val, by omega⟩ : Fin 32)) :=
    cat3_2_1 _ _ _ i h (⟨16 + r.val, by omega⟩ : Fin 32) l (by show l.val = 96 + (16 + r.val); omega)
  have e2 : rotaryQ w (ix3 i h (⟨r.val, by omega⟩ : Fin 32)) = w (ix2 i ⟨96 * h.val + (64 + r.val), by omega⟩) :=
    (cut3 64 (headsQ w) slices_S384x8x96_S384x8x32_0_0_64 i h ⟨r.val, by omega⟩ ⟨64 + r.val, by omega⟩ rfl).trans (headsQ_at w i h _)
  exact e1.trans ((partnersQ_high i h (rotaryQ w) r).trans e2)

end Queries

/-! ## The keys' and values' matrices -/

section Values

variable (w : FVec Ideal S256x1024 .f32) (i : Fin 256) (h : Fin 8)

theorem headsKv_at (l : Fin 128) : headsKv w (ix3 i h l) = w (ix2 i ⟨128 * h.val + l.val, by omega⟩) := by
  refine shapeCast_apply _ _ _ (ix2 i ⟨128 * h.val + l.val, by omega⟩) ?_
  rw [Shape.rowMajor_val_three, Shape.rowMajor_val_two]
  show i.val * 1024 + (128 * h.val + l.val) = (i.val * 8 + h.val) * 128 + l.val
  omega

theorem packed_at (v : FVec Ideal S256x8x128 .f32) (l : Fin 128) (j : Fin 1024) (e : j.val = 128 * h.val + l.val) :
    shapeCast S256x1024 v shapeCasts_S256x8x128_S256x1024 (ix2 i j) = v (ix3 i h l) := by
  refine shapeCast_apply _ _ _ (ix3 i h l) ?_
  rw [Shape.rowMajor_val_three, Shape.rowMajor_val_two]
  show (i.val * 8 + h.val) * 128 + l.val = i.val * 1024 + j.val
  omega

theorem packKn_own (d : Fin 64) (j : Fin 1024) (e : j.val = 128 * h.val + d.val) :
    packKn w (ix2 i j) = w (ix2 i ⟨128 * h.val + d.val, by omega⟩) := by
  have e1 : packKn w (ix2 i j) = packKn3 w (ix3 i h (⟨d.val, by omega⟩ : Fin 128)) := packed_at i h (packKn3 w) ⟨d.val, by omega⟩ j e
  have e2 : packKn3 w (ix3 i h (⟨d.val, by omega⟩ : Fin 128)) = extractStridedSlice S256x8x64 ![0, 0, 0] (headsKv w) slices_S256x8x128_S256x8x64_0_0_0 (ix3 i h d) :=
    cat3_2_0 _ _ _ i h d (⟨d.val, by omega⟩ : Fin 128) (Nat.zero_add _).symm
  exact e1.trans (e2.trans ((cut3 0 (headsKv w) _ i h d ⟨d.val, by omega⟩ (Nat.zero_add _).symm).trans (headsKv_at w i h _)))

theorem packKn_zero (d : Fin 64) (j : Fin 1024) (e : j.val = 128 * h.val + (64 + d.val)) : packKn w (ix2 i j) = (0 : EReal) := by
  have e1 : packKn w (ix2 i j) = packKn3 w (ix3 i h (⟨64 + d.val, by omega⟩ : Fin 128)) := packed_at i h (packKn3 w) ⟨64 + d.val, by omega⟩ j e
  have e2 : packKn3 w (ix3 i h (⟨64 + d.val, by omega⟩ : Fin 128)) = zerosKv (F := Ideal) (ix3 i h d) := cat3_2_1 _ _ _ i h d (⟨64 + d.val, by omega⟩ : Fin 128) rfl
  exact e1.trans (e2.trans ((broadcastInDim_scalar_apply _ _ _).trans Ideal.ofBits_zero_f32))

theorem packV_own (d : Fin 64) (j : Fin 1024) (e : j.val = 128 * h.val + d.val) :
    packV w (ix2 i j) = w (ix2 i ⟨128 * h.val + (64 + d.val), by omega⟩) := by
  have e1 : packV w (ix2 i j) = packV3 w (ix3 i h (⟨d.val, by omega⟩ : Fin 128)) := packed_at i h (packV3 w) ⟨d.val, by omega⟩ j e
  have e2 : packV3 w (ix3 i h (⟨d.val, by omega⟩ : Fin 128)) = extractStridedSlice S256x8x64 ![0, 0, 64] (headsKv w) slices_S256x8x128_S256x8x64_0_0_64 (ix3 i h d) :=
    cat3_2_0 _ _ _ i h d (⟨d.val, by omega⟩ : Fin 128) (Nat.zero_add _).symm
  exact e1.trans (e2.trans ((cut3 64 (headsKv w) _ i h d ⟨(64 + d.val), by omega⟩ rfl).trans (headsKv_at w i h _)))

theorem packV_zero (d : Fin 64) (j : Fin 1024) (e : j.val = 128 * h.val + (64 + d.val)) : packV w (ix2 i j) = (0 : EReal) := by
  have e1 : packV w (ix2 i j) = packV3 w (ix3 i h (⟨64 + d.val, by omega⟩ : Fin 128)) := packed_at i h (packV3 w) ⟨64 + d.val, by omega⟩ j e
  have e2 : packV3 w (ix3 i h (⟨64 + d.val, by omega⟩ : Fin 128)) = zerosKv (F := Ideal) (ix3 i h d) := cat3_2_1 _ _ _ i h d (⟨64 + d.val, by omega⟩ : Fin 128) rfl
  exact e1.trans (e2.trans ((broadcastInDim_scalar_apply _ _ _).trans Ideal.ofBits_zero_f32))

end Values

/-! ## The values' ones -/

theorem onesRow_at (h : Fin 8) (l : Fin 128) (j : Fin 1024) (e : j.val = 128 * h.val + l.val) :
    onesRow (F := Ideal) (ix2 0 j) = ones3 (F := Ideal) (ix2 h l) := by
  refine shapeCast_apply _ _ _ (ix2 h l) ?_
  rw [Shape.rowMajor_val_two, Shape.rowMajor_val_two]
  show h.val * 128 + l.val = 0 * 1024 + j.val
  omega

theorem ones3_at (h : Fin 8) (l : Fin 128) : ones3 (F := Ideal) (ix2 h l) = if l.val = 64 then (1 : EReal) else 0 := by
  have hidx : ((broadcastInDim S1 ![] bcast_S_S1 (constantI S_ 32 64#32) : IVec S1 32) (ix1 0)).toInt = ((64 : Fin 128).val : Int) := rfl
  have lands : ∀ j, scatter_S8x128_S1_S8_0_1_1_0.resultIdx? j (broadcastInDim S1 ![] bcast_S_S1 (constantI S_ 32 64#32)) = some (ix2 h l) → j 0 = h ∧ l = 64 :=
    fun j hj => (Idealize.ShloMosaic.Routing.lands_col scatter_S8x128_S1_S8_0_1_1_0 rfl rfl _ 64 hidx (j 0) h l).1
      ((congrArg (fun t => scatter_S8x128_S1_S8_0_1_1_0.resultIdx? t _) (ValueIdx.eq_ix1 j).symm).trans hj)
  by_cases hl : l = 64
  · rw [if_pos (by rw [hl]; rfl)]
    refine (Idealize.ShloMosaic.Routing.scatter_set_hit scatter_S8x128_S1_S8_0_1_1_0 _ _ _ (ix2 h l) (1 : EReal) ?_ (ix1 h)
      ((Idealize.ShloMosaic.Routing.lands_col scatter_S8x128_S1_S8_0_1_1_0 rfl rfl _ 64 hidx h h l).2 ⟨rfl, hl⟩))
    intro j _
    exact (broadcastInDim_scalar_apply _ _ _).trans Ideal.ofBits_one_f32
  · have hn : ¬ l.val = 64 := fun e => hl (Fin.ext e)
    rw [if_neg hn]
    exact (Idealize.ShloMosaic.Routing.scatter_set_miss scatter_S8x128_S1_S8_0_1_1_0 _ _ _ (ix2 h l) fun j hj => hl (lands j hj).2).trans
      ((broadcastInDim_scalar_apply _ _ _).trans Ideal.ofBits_zero_f32)

/-! ## The tables -/

section Tables

variable (a : FVec Ideal S4096x64 .f32) (t : FVec Ideal S4096x16 .f32) (z : FVec Ideal S4096x32 .f32) (q : Fin 4096)

theorem table_full (d : Fin 64) (l : Fin 128) (e : l.val = d.val) : table a t z (ix2 q l) = a (ix2 q d) :=
  cat2_4_0 a t t z _ q d l (e.trans (Nat.zero_add _).symm)

theorem table_low (r : Fin 16) (l : Fin 128) (e : l.val = 64 + r.val) : table a t z (ix2 q l) = t (ix2 q r) := cat2_4_1 a t t z _ q r l e

theorem table_high (r : Fin 16) (l : Fin 128) (e : l.val = 80 + r.val) : table a t z (ix2 q l) = t (ix2 q r) := cat2_4_2 a t t z _ q r l e

theorem table_pad (r : Fin 32) (l : Fin 128) (e : l.val = 96 + r.val) : table a t z (ix2 q l) = z (ix2 q r) :=
  cat2_4_3 a t t z _ q r l (by omega)

theorem scaled_at (u : FVec Ideal S4096x128 .f32) (l : Fin 128) : scaled u (ix2 q l) = (u (ix2 q l) * scale : EReal) :=
  congrArg (fun s : EReal => u (ix2 q l) * s) (broadcastInDim_scalar_apply _ _ _)

theorem full64_at (d : Fin 64) : full64 (F := Ideal) (ix2 q d) = (1 : EReal) := (broadcastInDim_scalar_apply _ _ _).trans Ideal.ofBits_one_f32
theorem blank64_at (d : Fin 64) : blank64 (F := Ideal) (ix2 q d) = (0 : EReal) := (broadcastInDim_scalar_apply _ _ _).trans Ideal.ofBits_zero_f32
theorem blank32_at (d : Fin 32) : blank32 (F := Ideal) (ix2 q d) = (0 : EReal) := (broadcastInDim_scalar_apply _ _ _).trans Ideal.ofBits_zero_f32

end Tables

end Cert.Proof.Project

end
-- ==== Proof.ProjectFinite.lean ====
/-
  The `_in_proj` call's finite inputs: the projected and normed rows are finite, so that a sum of negated products is the negated sum.
-/
module

public import proofs.«01_k».proof.Proof.Project
public import Idealize.ShloMosaic.Lib.Affine

@[expose] public section

noncomputable section

namespace Cert.Proof.Project

open Idealize.ShloMosaic
open Idealize.ShloMosaic.ValueIdx
open scoped BigOperators

/-- Neither infinity. -/
def IsReal (x : EReal) : Prop := ∃ r : ℝ, x = ((r : ℝ) : EReal)

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem sum_real {n : Nat} (r : Fin n → ℝ) (s : Finset (Fin n)) : ∑ k ∈ s, (r k : EReal) = ((∑ k ∈ s, r k : ℝ) : EReal) := by
  classical
  induction s using Finset.induction_on with
  | empty => simp
  | insert a s ha ih => rw [Finset.sum_insert ha, Finset.sum_insert ha, ih, EReal.coe_add]

theorem IsReal.sum {n : Nat} {f : Fin n → EReal} (h : ∀ k, IsReal (f k)) : IsReal (∑ k, f k) := by
  choose r hr using h
  exact ⟨∑ k, r k, (Finset.sum_congr rfl fun k _ => hr k).trans (sum_real r _)⟩

/-- The sum of the negated terms, when they are finite. -/
theorem sum_neg {n : Nat} {f : Fin n → EReal} (h : ∀ k, IsReal (f k)) : ∑ k, -f k = -∑ k, f k := by
  choose r hr using h
  rw [Finset.sum_congr rfl fun k _ => hr k, sum_real r, ← EReal.coe_neg, ← Finset.sum_neg_distrib, ← sum_real]
  exact Finset.sum_congr rfl fun k _ => by rw [hr k, EReal.coe_neg]

theorem sum_mul_neg {n : Nat} {a u : Fin n → EReal} (ha : ∀ k, IsReal (a k)) (hu : ∀ k, IsReal (u k)) : ∑ k, a k * -u k = -∑ k, a k * u k :=
  (Finset.sum_congr rfl fun k _ => mul_neg _ _).trans (sum_neg fun k => (ha k).mul (hu k))

/-! ## The constants -/

theorem tiny_pos : ∃ r : ℝ, 0 < r ∧ tiny = ((r : ℝ) : EReal) := by
  refine ⟨(8796093 : ℝ) * 2 ^ (-43 : ℤ), by positivity, ?_⟩
  simp only [tiny, Ideal.ofBits, Ideal.ieee]
  simp

theorem width384_eq : width384 = ((384 : ℝ) : EReal) := by
  simp only [width384, Ideal.ofBits, Ideal.ieee]
  simp
  rw [← EReal.coe_mul]
  norm_num

theorem scale_pos : ∃ r : ℝ, 0 < r ∧ scale = ((r : ℝ) : EReal) := by
  refine ⟨(9881408 : ℝ) * 2 ^ (-26 : ℤ), by positivity, ?_⟩
  simp only [scale, Ideal.ofBits, Ideal.ieee]
  simp

/-! ## The rows -/

theorem normed_real {r : Fin 384 → EReal} {g : EReal} (hr : ∀ k, IsReal (r k)) (hg : IsReal g) (j : Fin 384) : IsReal (normed width384 r g j) := by
  obtain ⟨t, ht, et⟩ := tiny_pos
  have hi : IsReal (Ideal.rsqrt (Ideal.div (∑ k, r k * r k) width384 + tiny)) := by
    choose v hv using hr
    have es : ∑ k, r k * r k = ((∑ k, v k * v k : ℝ) : EReal) :=
      (Finset.sum_congr rfl fun k _ => by rw [hv k, ← EReal.coe_mul]).trans (sum_real (fun k => v k * v k) _)
    have hs : 0 ≤ ∑ k, v k * v k := Finset.sum_nonneg fun k _ => mul_self_nonneg _
    rw [es, et, width384_eq, Ideal.div_coe (by norm_num), ← EReal.coe_mul, ← EReal.coe_add, Ideal.rsqrt_coe]
    have hp : 0 < (∑ k, v k * v k) * (1 / 384) + t := by positivity
    rw [if_neg (not_lt.mpr hp.le), if_neg hp.ne']
    exact ⟨_, rfl⟩
  exact ((hr j).mul hi).mul hg

section Token

variable {x : (⟨3, ![16, 4096, 1024]⟩ : Shape).Idx → EReal} {w : (⟨2, ![1024, 1184]⟩ : Shape).Idx → EReal}

theorem projected_real (hx : ∀ i, IsReal (x i)) (hw : ∀ i, IsReal (w i)) (b : Fin 16) (q : Fin 4096) (j : Fin 1184) : IsReal (projected x w b q j) :=
  IsReal.sum fun k => (hx _).mul (hw _)

theorem latentQ_real {g : (⟨1, ![384]⟩ : Shape).Idx → EReal} (hx : ∀ i, IsReal (x i)) (hw : ∀ i, IsReal (w i)) (hg : ∀ i, IsReal (g i)) (b : Fin 16) (q : Fin 4096)
    (i : Fin 384) : IsReal (latentQ x w g b q i) :=
  normed_real (fun _ => projected_real hx hw b q _) (hg _) i

end Token

/-! ## The rotation -/

/-- A factor that is positive and finite goes into a sum of two terms. -/
theorem scaled_sum (a b c d : EReal) : a * (c * scale) + b * (d * scale) = (a * c + b * d) * scale := by
  obtain ⟨r, hr, e⟩ := scale_pos
  rw [e, EReal.right_distrib_of_nonneg_of_ne_top (by exact_mod_cast hr.le) (EReal.coe_ne_top r), mul_assoc, mul_assoc]

end Cert.Proof.Project

end
-- ==== Proof.ProjectTiles.lean ====
/-
  One tile of the `_in_proj` call against its reference: what a point stores of a token is the reference's packed rows.
-/
module

public import proofs.«01_k».proof.Proof.ProjectTile
public import proofs.«01_k».proof.Proof.ProjectPack
public import proofs.«01_k».proof.Proof.ProjectFinite
public import proofs.«01_k».proof.Proof.ProjectRef

@[expose] public section

set_option maxRecDepth 16384

noncomputable section

namespace Cert.Proof.Project

open Cert.Kernel6Ideal Cert.Kernel6Ideal.Gen
open Idealize.ShloMosaic hiding ix1 ix2 ix3 ix4
open Idealize.ShloMosaic.ValueIdx
open scoped BigOperators

section Tiles

variable (X : FVec Ideal S16x4096x1024 .f32) (W : FVec Ideal S1024x1184 .f32) (Gq : FVec Ideal S384 .f32) (Uq : FVec Ideal S384x768 .f32)
  (Gkv : FVec Ideal S256 .f32) (Ukv : FVec Ideal S256x1024 .f32) (cos sin : FVec Ideal S4096x16 .f32) (b : Fin 16) (q : Fin 4096) (h : Fin 8)
variable (x0 : FVec Ideal S512x1024 .f32) (p : Fin 512) (hx : ∀ k, x0 (ix2 p k) = X (ix3 b q k))

/-! ## The projected row -/

include hx in
theorem proj_of (j : Fin 1280) (j' : Fin 1184) (e : ∀ k, packIn W (ix2 k j) = W (ix2 k j')) : proj x0 (packIn W) p j = projected X W b q j' :=
  Finset.sum_congr rfl fun k _ => by rw [hx k, e k]

include hx in
theorem proj_low (d : Fin 640) (j : Fin 1280) (e : j.val = d.val) : proj x0 (packIn W) p j = projected X W b q ⟨d.val, by omega⟩ :=
  proj_of X W b q x0 p hx j _ fun k => packIn_low W k d j e

include hx in
theorem proj_mid (d : Fin 512) (j : Fin 1280) (e : j.val = 640 + d.val) : proj x0 (packIn W) p j = projected X W b q ⟨672 + d.val, by omega⟩ :=
  proj_of X W b q x0 p hx j _ fun k => packIn_mid W k d j e

include hx in
theorem proj_rotary (d : Fin 32) (j : Fin 1280) (e : j.val = 1152 + (64 + d.val)) : proj x0 (packIn W) p j = projected X W b q ⟨640 + d.val, by omega⟩ :=
  proj_of X W b q x0 p hx j _ fun k => (packIn_top W k ⟨64 + d.val, by omega⟩ j e).trans (packR_rotary W k d _ rfl)

include hx in
theorem proj_partner_high (r : Fin 16) (j : Fin 1280) (e : j.val = 1152 + (112 + r.val)) : proj x0 (packIn W) p j = projected X W b q ⟨640 + r.val, by omega⟩ :=
  proj_of X W b q x0 p hx j _ fun k => (packIn_top W k ⟨112 + r.val, by omega⟩ j e).trans (packR_high W k r _ rfl)

include hx in
theorem proj_partner_low (fX : ∀ i, IsReal (X i)) (fW : ∀ i, IsReal (W i)) (r : Fin 16) (j : Fin 1280) (e : j.val = 1152 + (96 + r.val)) :
    proj x0 (packIn W) p j = -projected X W b q ⟨656 + r.val, by omega⟩ := by
  refine Eq.trans (Finset.sum_congr rfl fun k _ => ?_) (sum_mul_neg (a := fun k : Fin 1024 => X (ix3 b q k)) (u := fun k : Fin 1024 => W (ix2 k ⟨656 + r.val, by omega⟩))
    (fun k => fX _) (fun k => fW _))
  rw [hx k, packIn_top W k ⟨96 + r.val, by omega⟩ j e, packR_low W k r _ rfl]

/-! ## The latent rows -/

variable (x2 : FVec Ideal S1x384 .f32) (h2 : ∀ i, x2 (ix2 0 i) = Gq (ix1 i)) (x3 : FVec Ideal S1x256 .f32) (h3 : ∀ i, x3 (ix2 0 i) = Gkv (ix1 i))

include hx h2 in
theorem qLat_of (i : Fin 384) : qLat x0 (packIn W) x2 p i = latentQ X W Gq b q i := by
  have e : (fun j : Fin 384 => proj x0 (packIn W) p ⟨j.val, by omega⟩) = fun j : Fin 384 => projected X W b q ⟨j.val, by omega⟩ :=
    funext fun j => proj_low X W b q x0 p hx ⟨j.val, by omega⟩ _ rfl
  show normed width384 (fun j : Fin 384 => proj x0 (packIn W) p ⟨j.val, by omega⟩) (x2 (ix2 0 i)) i = _
  rw [e, h2]
  rfl

include hx h3 in
theorem kvLat_of (i : Fin 256) : kvLat x0 (packIn W) x3 p i = latentKv X W Gkv b q i := by
  have e : (fun j : Fin 256 => proj x0 (packIn W) p ⟨384 + j.val, by omega⟩) = fun j : Fin 256 => projected X W b q ⟨384 + j.val, by omega⟩ :=
    funext fun j => proj_low X W b q x0 p hx ⟨384 + j.val, by omega⟩ _ rfl
  show normed width256 (fun j : Fin 256 => proj x0 (packIn W) p ⟨384 + j.val, by omega⟩) (x3 (ix2 0 i)) i = _
  rw [e, h3]
  rfl

/-! ## The heads' channels -/

include hx h2 in
theorem qUp_of (j : Fin 1024) (j' : Fin 768) (e : ∀ i, packUq Uq (ix2 i j) = Uq (ix2 i j')) :
    qUp x0 (packIn W) x2 (packUq Uq) p j = upQ X W Gq Uq b q j' :=
  Finset.sum_congr rfl fun i _ => by rw [qLat_of X W Gq b q x0 p hx x2 h2 i, e i]

include hx h2 in
theorem qUp_own (d : Fin 96) (j : Fin 1024) (e : j.val = 128 * h.val + d.val) :
    qUp x0 (packIn W) x2 (packUq Uq) p j = upQ X W Gq Uq b q ⟨96 * h.val + d.val, by omega⟩ :=
  qUp_of X W Gq Uq b q x0 p hx x2 h2 j _ fun i => (packUq_at Uq i h ⟨d.val, by omega⟩ j e).trans (packQ3_own Uq i h d _ rfl)

include hx h2 in
theorem qUp_high (r : Fin 16) (j : Fin 1024) (e : j.val = 128 * h.val + (112 + r.val)) :
    qUp x0 (packIn W) x2 (packUq Uq) p j = upQ X W Gq Uq b q ⟨96 * h.val + (64 + r.val), by omega⟩ :=
  qUp_of X W Gq Uq b q x0 p hx x2 h2 j _ fun i => (packUq_at Uq i h ⟨112 + r.val, by omega⟩ j e).trans (packQ3_high Uq i h r _ rfl)

include hx h2 in
theorem qUp_low (fX : ∀ i, IsReal (X i)) (fW : ∀ i, IsReal (W i)) (fG : ∀ i, IsReal (Gq i)) (fU : ∀ i, IsReal (Uq i)) (r : Fin 16) (j : Fin 1024)
    (e : j.val = 128 * h.val + (96 + r.val)) :
    qUp x0 (packIn W) x2 (packUq Uq) p j = -upQ X W Gq Uq b q ⟨96 * h.val + (80 + r.val), by omega⟩ := by
  refine Eq.trans (Finset.sum_congr rfl fun i _ => ?_) (sum_mul_neg (a := fun i : Fin 384 => latentQ X W Gq b q i)
    (u := fun i : Fin 384 => Uq (ix2 i ⟨96 * h.val + (80 + r.val), by omega⟩)) (fun i => latentQ_real fX fW fG b q i) (fun i => fU _))
  rw [qLat_of X W Gq b q x0 p hx x2 h2 i, packUq_at Uq i h ⟨96 + r.val, by omega⟩ j e, packQ3_low Uq i h r _ rfl]

include hx h3 in
theorem kvUp_of (w : FVec Ideal S256x1024 .bf16) (j j' : Fin 1024) (e : ∀ i, w (ix2 i j) = Ukv (ix2 i j')) :
    kvUp x0 (packIn W) x3 w p j = upKv X W Gkv Ukv b q j' :=
  Finset.sum_congr rfl fun i _ => by rw [kvLat_of X W Gkv b q x0 p hx x3 h3 i, e i]

theorem kvUp_zero (x1 : FVec Ideal S1024x1280 .bf16) (w : FVec Ideal S256x1024 .bf16) (j : Fin 1024) (e : ∀ i, w (ix2 i j) = (0 : EReal)) :
    kvUp x0 x1 x3 w p j = 0 :=
  Finset.sum_eq_zero fun i _ => by rw [e i, mul_zero]

/-! ## What a point leaves -/

variable (x5 : FVec Ideal S256x1024 .bf16) (x6 : FVec Ideal S256x1024 .bf16) (x4 : FVec Ideal S384x1024 .bf16) (x7 : FVec Ideal S1x1024 .f32)
  (x8 x9 x10 x11 : FVec Ideal S512x128 .f32)

include hx in
theorem u_tile (n : Fin 512) : out0_15 (F := Ideal) x0 (packIn W) x2 x3 x4 x5 x6 x7 x8 x9 x10 x11 (ix2 p n) = projected X W b q ⟨672 + n.val, by omega⟩ :=
  (u_left x0 (packIn W) x2 x3 x4 x5 x6 x7 x8 x9 x10 x11 p n).trans (proj_mid X W b q x0 p hx n _ rfl)

include hx h3 in
theorem v_tile (l : Fin 128) (j : Fin 1024) (e : j.val = 128 * h.val + l.val) :
    out0_14 (F := Ideal) x0 (packIn W) x2 x3 x4 x5 (packV Ukv) (onesRow (F := Ideal)) x8 x9 x10 x11 (ix2 p j) = Ref.packV X W Gkv Ukv (ix4 b q h l) := by
  refine (v_left x0 (packIn W) x2 x3 x4 x5 (packV Ukv) (onesRow (F := Ideal)) x8 x9 x10 x11 p j).trans ?_
  have eo := (onesRow_at h l j e).trans (ones3_at h l)
  rcases Nat.lt_or_ge l.val 64 with hl | hl
  · rw [eo, if_neg hl.ne, Ref.packV_value X W Gkv Ukv b q h ⟨l.val, hl⟩ l rfl,
      kvUp_of X W Gkv Ukv b q x0 p hx x3 h3 (packV Ukv) j ⟨128 * h.val + (64 + l.val), by omega⟩ fun i => packV_own Ukv i h ⟨l.val, hl⟩ j e, add_zero]
  · have ez : kvUp x0 (packIn W) x3 (packV Ukv) p j = 0 :=
      kvUp_zero x0 p x3 (packIn W) (packV Ukv) j fun i => packV_zero Ukv i h ⟨l.val - 64, by omega⟩ j (by show j.val = 128 * h.val + (64 + (l.val - 64)); omega)
    rw [ez, eo, zero_add]
    rcases Nat.eq_or_lt_of_le hl with hl' | hl'
    · rw [if_pos hl'.symm, Ref.packV_one X W Gkv Ukv b q h l hl'.symm]
    · rw [if_neg hl'.ne', Ref.packV_pad X W Gkv Ukv b q h ⟨l.val - 65, by omega⟩ l (by show l.val = 65 + (l.val - 65); omega)]

variable (fX : ∀ i, IsReal (X i)) (fW : ∀ i, IsReal (W i)) (fG : ∀ i, IsReal (Gq i)) (fU : ∀ i, IsReal (Uq i))

/-- A lane of the keys, from the tables' elements there. -/
theorem k_lane (l : Fin 128) (j : Fin 1024) (e : j.val = 128 * h.val + l.val) (A B C S : EReal) (K : EReal)
    (eK : kvUp x0 (packIn W) x3 x5 p j = K) (eA : proj x0 (packIn W) p ⟨1152 + l.val, by omega⟩ = A)
    (eB : proj x0 (packIn W) p ⟨1152 + (l.val + 32) % 128, by omega⟩ = B) (eC : x10 (ix2 p l) = C) (eS : x11 (ix2 p l) = S) :
    out0_13 (F := Ideal) x0 (packIn W) x2 x3 x4 x5 x6 x7 x8 x9 x10 x11 (ix2 p j) = (K + (A * C + B * S) : EReal) := by
  have hm : j.val % 128 = l.val := by omega
  have el : (⟨j.val % 128, by omega⟩ : Fin 128) = l := Fin.ext hm
  have ea : (⟨1152 + j.val % 128, by omega⟩ : Fin 1280) = ⟨1152 + l.val, by omega⟩ := Fin.ext (by show 1152 + j.val % 128 = 1152 + l.val; omega)
  have eb : (⟨1152 + (j.val % 128 + 32) % 128, by omega⟩ : Fin 1280) = ⟨1152 + (l.val + 32) % 128, by omega⟩ :=
    Fin.ext (by show 1152 + (j.val % 128 + 32) % 128 = 1152 + (l.val + 32) % 128; omega)
  refine (k_left x0 (packIn W) x2 x3 x4 x5 x6 x7 x8 x9 x10 x11 p j).trans ?_
  rw [el, ea, eb, eK, eA, eB, eC, eS]

include hx h3 fX fW in
theorem k_tile (h10 : ∀ l, x10 (ix2 p l) = table full64 cos blank32 (ix2 q l)) (h11 : ∀ l, x11 (ix2 p l) = table blank64 sin blank32 (ix2 q l))
    (l : Fin 128) (j : Fin 1024) (e : j.val = 128 * h.val + l.val) :
    out0_13 (F := Ideal) x0 (packIn W) x2 x3 x4 (packKn Ukv) x6 x7 x8 x9 x10 x11 (ix2 p j) = Ref.packK X W Gkv Ukv cos sin (ix4 b q h l) := by
  rcases Nat.lt_or_ge l.val 64 with hl | hl
  · refine (k_lane W h x0 p x2 x3 (packKn Ukv) x6 x4 x7 x8 x9 x10 x11 l j e _ _ 1 0 _
      (kvUp_of X W Gkv Ukv b q x0 p hx x3 h3 (packKn Ukv) j ⟨128 * h.val + l.val, by omega⟩ fun i => packKn_own Ukv i h ⟨l.val, hl⟩ j e)
      (Finset.sum_eq_zero fun k _ => ?_) rfl ((h10 l).trans ((table_full _ _ _ q ⟨l.val, hl⟩ l rfl).trans (full64_at q _)))
      ((h11 l).trans ((table_full _ _ _ q ⟨l.val, hl⟩ l rfl).trans (blank64_at q _)))).trans ?_
    · rw [packIn_top W k l _ rfl, packR_zero W k ⟨l.val, hl⟩ l rfl, mul_zero]
    · rw [Ref.packK_nope X W Gkv Ukv cos sin b q h ⟨l.val, hl⟩ l rfl, zero_mul, mul_zero, add_zero, add_zero]
  · have ez : kvUp x0 (packIn W) x3 (packKn Ukv) p j = 0 :=
      kvUp_zero x0 p x3 (packIn W) (packKn Ukv) j fun i => packKn_zero Ukv i h ⟨l.val - 64, by omega⟩ j (by show j.val = 128 * h.val + (64 + (l.val - 64)); omega)
    rcases Nat.lt_or_ge l.val 80 with hl1 | hl1
    · have el : l.val = 64 + (⟨l.val - 64, by omega⟩ : Fin 16).val := by show l.val = 64 + (l.val - 64); omega
      generalize (⟨l.val - 64, by omega⟩ : Fin 16) = r at el
      refine (k_lane W h x0 p x2 x3 (packKn Ukv) x6 x4 x7 x8 x9 x10 x11 l j e _ _ _ _ _ ez
        (proj_rotary X W b q x0 p hx ⟨r.val, by omega⟩ _ (by show 1152 + l.val = 1152 + (64 + r.val); omega))
        (proj_partner_low X W b q x0 p hx fX fW r _ (by show 1152 + (l.val + 32) % 128 = 1152 + (96 + r.val); omega))
        ((h10 l).trans (table_low _ _ _ q r l el)) ((h11 l).trans (table_low _ _ _ q r l el))).trans ?_
      rw [Ref.packK_low X W Gkv Ukv cos sin b q h r l el, zero_add, EReal.neg_mul, ← sub_eq_add_neg]
    · rcases Nat.lt_or_ge l.val 96 with hl2 | hl2
      · have el : l.val = 80 + (⟨l.val - 80, by omega⟩ : Fin 16).val := by show l.val = 80 + (l.val - 80); omega
        generalize (⟨l.val - 80, by omega⟩ : Fin 16) = r at el
        have er : (⟨640 + (⟨16 + r.val, by omega⟩ : Fin 32).val, by omega⟩ : Fin 1184) = ⟨656 + r.val, by omega⟩ :=
          Fin.ext (by show 640 + (16 + r.val) = 656 + r.val; omega)
        refine (k_lane W h x0 p x2 x3 (packKn Ukv) x6 x4 x7 x8 x9 x10 x11 l j e _ _ _ _ _ ez
          ((proj_rotary X W b q x0 p hx ⟨16 + r.val, by omega⟩ _ (by show 1152 + l.val = 1152 + (64 + (16 + r.val)); omega)).trans (congrArg _ er))
          (proj_partner_high X W b q x0 p hx r _ (by show 1152 + (l.val + 32) % 128 = 1152 + (112 + r.val); omega))
          ((h10 l).trans (table_high _ _ _ q r l el)) ((h11 l).trans (table_high _ _ _ q r l el))).trans ?_
        rw [Ref.packK_high X W Gkv Ukv cos sin b q h r l el, zero_add, add_comm]
      · have el : l.val = 96 + (⟨l.val - 96, by omega⟩ : Fin 32).val := by show l.val = 96 + (l.val - 96); omega
        generalize (⟨l.val - 96, by omega⟩ : Fin 32) = r at el
        refine (k_lane W h x0 p x2 x3 (packKn Ukv) x6 x4 x7 x8 x9 x10 x11 l j e _ _ 0 0 _ ez rfl rfl
          ((h10 l).trans ((table_pad _ _ _ q r l el).trans (blank32_at q _))) ((h11 l).trans ((table_pad _ _ _ q r l el).trans (blank32_at q _)))).trans ?_
        rw [Ref.packK_pad X W Gkv Ukv cos sin b q h r l el, mul_zero, mul_zero, add_zero, add_zero]

/-- A lane of the queries, from the tables' elements there. -/
theorem q_lane (x1 : FVec Ideal S1024x1280 .bf16) (l : Fin 128) (j j' : Fin 1024) (e : j.val = 128 * h.val + l.val) (e' : j'.val = 128 * h.val + (l.val + 32) % 128) (A B C S : EReal)
    (eA : qUp x0 x1 x2 x4 p j = A) (eB : qUp x0 x1 x2 x4 p j' = B) (eC : x8 (ix2 p l) = C) (eS : x9 (ix2 p l) = S) :
    out0_12 (F := Ideal) x0 x1 x2 x3 x4 x5 x6 x7 x8 x9 x10 x11 (ix2 p j) = (A * C + B * S : EReal) := by
  have hm : j.val % 128 = l.val := by omega
  have el : (⟨j.val % 128, by omega⟩ : Fin 128) = l := Fin.ext hm
  have eb : (⟨128 * (j.val / 128) + (j.val % 128 + 32) % 128, by omega⟩ : Fin 1024) = j' :=
    Fin.ext (by show 128 * (j.val / 128) + (j.val % 128 + 32) % 128 = j'.val; omega)
  refine (q_left x0 x1 x2 x3 x4 x5 x6 x7 x8 x9 x10 x11 p j).trans ?_
  show qUp x0 x1 x2 x4 p j * x8 (ix2 p ⟨j.val % 128, by omega⟩) + qUp x0 x1 x2 x4 p ⟨128 * (j.val / 128) + (j.val % 128 + 32) % 128, by omega⟩ * x9 (ix2 p ⟨j.val % 128, by omega⟩) = _
  rw [el, eb, eA, eB, eC, eS]

include hx h2 fX fW fG fU in
theorem q_tile (h8 : ∀ l, x8 (ix2 p l) = scaled (table full64 cos blank32) (ix2 q l)) (h9 : ∀ l, x9 (ix2 p l) = scaled (table blank64 sin blank32) (ix2 q l))
    (l : Fin 128) (j : Fin 1024) (e : j.val = 128 * h.val + l.val) :
    out0_12 (F := Ideal) x0 (packIn W) x2 x3 (packUq Uq) x5 x6 x7 x8 x9 x10 x11 (ix2 p j) = Ref.packQ X W Gq Uq cos sin (ix4 b q h l) := by
  have c8 : ∀ t : EReal, table full64 cos blank32 (ix2 q l) = t → x8 (ix2 p l) = (t * scale : EReal) := fun t et =>
    (h8 l).trans ((scaled_at q _ l).trans (congrArg (fun s : EReal => s * scale) et))
  have c9 : ∀ t : EReal, table blank64 sin blank32 (ix2 q l) = t → x9 (ix2 p l) = (t * scale : EReal) := fun t et =>
    (h9 l).trans ((scaled_at q _ l).trans (congrArg (fun s : EReal => s * scale) et))
  have e' : (⟨128 * h.val + (l.val + 32) % 128, by omega⟩ : Fin 1024).val = 128 * h.val + (l.val + 32) % 128 := rfl
  generalize (⟨128 * h.val + (l.val + 32) % 128, by omega⟩ : Fin 1024) = j' at e'
  have lane := q_lane h x0 p x2 x3 x5 x6 (packUq Uq) x7 x8 x9 x10 x11 (packIn W) l j j' e e'
  rcases Nat.lt_or_ge l.val 64 with hl | hl
  · refine (lane _ _ _ _ (qUp_own X W Gq Uq b q h x0 p hx x2 h2 ⟨l.val, by omega⟩ j e) rfl (c8 1 ((table_full _ _ _ q ⟨l.val, hl⟩ l rfl).trans (full64_at q _)))
      (c9 0 ((table_full _ _ _ q ⟨l.val, hl⟩ l rfl).trans (blank64_at q _)))).trans ?_
    rw [Ref.packQ_nope X W Gq Uq cos sin b q h ⟨l.val, hl⟩ l rfl, one_mul, zero_mul, mul_zero, add_zero]
  · rcases Nat.lt_or_ge l.val 80 with hl1 | hl1
    · have el : l.val = 64 + (⟨l.val - 64, by omega⟩ : Fin 16).val := by show l.val = 64 + (l.val - 64); omega
      generalize (⟨l.val - 64, by omega⟩ : Fin 16) = r at el
      refine (lane _ _ _ _ (qUp_own X W Gq Uq b q h x0 p hx x2 h2 ⟨64 + r.val, by omega⟩ j (by show j.val = 128 * h.val + (64 + r.val); omega))
        (qUp_low X W Gq Uq b q h x0 p hx x2 h2 fX fW fG fU r j' (by omega))
        (c8 _ (table_low _ _ _ q r l el)) (c9 _ (table_low _ _ _ q r l el))).trans ?_
      rw [Ref.packQ_low X W Gq Uq cos sin b q h r l el, scaled_sum, EReal.neg_mul, ← sub_eq_add_neg]
    · rcases Nat.lt_or_ge l.val 96 with hl2 | hl2
      · have el : l.val = 80 + (⟨l.val - 80, by omega⟩ : Fin 16).val := by show l.val = 80 + (l.val - 80); omega
        generalize (⟨l.val - 80, by omega⟩ : Fin 16) = r at el
        refine (lane _ _ _ _ (qUp_own X W Gq Uq b q h x0 p hx x2 h2 ⟨80 + r.val, by omega⟩ j (by show j.val = 128 * h.val + (80 + r.val); omega))
          (qUp_high X W Gq Uq b q h x0 p hx x2 h2 r j' (by omega))
          (c8 _ (table_high _ _ _ q r l el)) (c9 _ (table_high _ _ _ q r l el))).trans ?_
        rw [Ref.packQ_high X W Gq Uq cos sin b q h r l el, scaled_sum, add_comm]
      · have el : l.val = 96 + (⟨l.val - 96, by omega⟩ : Fin 32).val := by show l.val = 96 + (l.val - 96); omega
        generalize (⟨l.val - 96, by omega⟩ : Fin 32) = r at el
        refine (lane _ _ _ _ rfl rfl (c8 0 ((table_pad _ _ _ q r l el).trans (blank32_at q _))) (c9 0 ((table_pad _ _ _ q r l el).trans (blank32_at q _)))).trans ?_
        rw [Ref.packQ_pad X W Gq Uq cos sin b q h r l el, zero_mul, mul_zero, mul_zero, add_zero]

end Tiles

end Cert.Proof.Project

end
-- ==== Proof.ProjectValue.lean ====
/-
  The `_in_proj` call over the extended reals: what its run leaves is, element by element, what the reference computes, for finite
  tokens and matrices.
-/
module

public import proofs.«01_k».proof.Proof.ProjectTiles
public import proofs.«01_k».proof.Proof.Gen.Pre_finite_weights
public import proofs.«01_k».proof.Defs
public import Idealize.ShloMosaic.Lib.ReduceAll
public import Idealize.ShloMosaic.Lib.Affine

@[expose] public section

set_option maxRecDepth 16384

noncomputable section

namespace Cert.Proof.Project

open Cert.Kernel6Ideal Cert.Kernel6Ideal.Gen
open Idealize.ShloMosaic hiding ix1 ix2 ix3 ix4
open Idealize.ShloMosaic.TcCoe Idealize.ShloMosaic.StableHlo
open Idealize.ShloMosaic.ValueIdx
open Idealize.SL.Sem
open scoped BigOperators

/-! ## The results -/

section Results

variable (X : FVec Ideal S16x4096x1024 .f32) (W : FVec Ideal S1024x1184 .f32) (Gq : FVec Ideal S384 .f32) (Uq : FVec Ideal S384x768 .f32)
  (Gkv : FVec Ideal S256 .f32) (Ukv : FVec Ideal S256x1024 .f32)

abbrev wanted (v : FVec Ideal Cert.Reference6Ideal.S16x4096x8x128 .f32) : FVec Ideal S65536x1024 .bf16 :=
  truncf .bf16 (shapeCast S65536x1024 v Cert.Reference6Ideal.Gen.shapeCasts_S16x4096x8x128_S65536x1024) Cert.Reference6Ideal.Gen.bitsLt_bf16_f32

abbrev wantedQ : FVec Ideal S65536x1024 .bf16 := wanted (Ref.packQ X W Gq Uq cosines sines)
abbrev wantedK : FVec Ideal S65536x1024 .bf16 := wanted (Ref.packK X W Gkv Ukv cosines sines)
abbrev wantedV : FVec Ideal S65536x1024 .bf16 := wanted (Ref.packV X W Gkv Ukv)
abbrev wantedU : FVec Ideal S65536x512 .f32 :=
  shapeCast S65536x512 (extractStridedSlice Cert.Reference6Ideal.S16x4096x512 ![0, 0, 672] (Ref.proj X W) Cert.Reference6Ideal.Gen.slices_S16x4096x1184_S16x4096x512_0_0_672)
    Cert.Reference6Ideal.Gen.shapeCasts_S16x4096x512_S65536x512

theorem wanted_at (v : FVec Ideal Cert.Reference6Ideal.S16x4096x8x128 .f32) (n : Fin 65536) (j : Fin 1024) :
    wanted v (ix2 n j) = v (ix4 ⟨n.val / 4096, by omega⟩ ⟨n.val % 4096, by omega⟩ ⟨j.val / 128, by omega⟩ ⟨j.val % 128, by omega⟩) := by
  refine shapeCast_apply v Cert.Reference6Ideal.Gen.shapeCasts_S16x4096x8x128_S65536x1024 (ix2 n j) _ ?_
  rw [Shape.rowMajor_val_two, Shape.rowMajor_val_four]
  show ((n.val / 4096 * 4096 + n.val % 4096) * 8 + j.val / 128) * 128 + j.val % 128 = n.val * 1024 + j.val
  omega

theorem wantedU_at (n : Fin 65536) (j : Fin 512) :
    wantedU X W (ix2 n j) = projected X W ⟨n.val / 4096, by omega⟩ ⟨n.val % 4096, by omega⟩ ⟨672 + j.val, by omega⟩ := by
  have e := shapeCast_apply (extractStridedSlice Cert.Reference6Ideal.S16x4096x512 ![0, 0, 672] (Ref.proj X W) Cert.Reference6Ideal.Gen.slices_S16x4096x1184_S16x4096x512_0_0_672)
    Cert.Reference6Ideal.Gen.shapeCasts_S16x4096x512_S65536x512 (ix2 n j) (ix3 ⟨n.val / 4096, by omega⟩ ⟨n.val % 4096, by omega⟩ j) (by
      rw [Shape.rowMajor_val_two, Shape.rowMajor_val_three]
      show (n.val / 4096 * 4096 + n.val % 4096) * 512 + j.val = n.val * 512 + j.val
      omega)
  exact e.trans ((Ref.columns_at _ _ 672 (Ref.proj X W) _ j ⟨672 + j.val, by omega⟩ rfl).trans (Ref.proj_at X W _ _ _))

end Results

/-! ## A point's operands -/

variable (m : (ℓ : Loc nD τ sig) → Buf (Elt Ideal) ℓ) (c : Dev nD)

section Point

variable (n : Fin 65536)

abbrev at_ : Fin cfg0.N := point (n.val / 512) (by omega)
abbrev row_ : Fin 512 := ⟨n.val % 512, by omega⟩
abbrev batch : Fin 16 := ⟨n.val / 4096, by omega⟩
abbrev place : Fin 4096 := ⟨n.val % 4096, by omega⟩

abbrev head (j : Fin 1024) : Fin 8 := ⟨j.val / 128, by omega⟩
abbrev lane (j : Fin 1024) : Fin 128 := ⟨j.val % 128, by omega⟩

theorem split (j : Fin 1024) : j.val = 128 * (head j).val + (lane j).val := by
  show j.val = 128 * (j.val / 128) + j.val % 128
  omega

theorem x_row (k : Fin 1024) : (iblk m c 0 (at_ n) : S512x1024.Idx → EReal) (ix2 (row_ n) k) = xIn m c (ix3 (batch n) (place n) k) := by
  refine (block0_at m c (at_ n) (row_ n) k).trans ?_
  rw [entry_x]
  refine shapeCast_apply (xIn m c) shapeCasts_S16x4096x1024_S65536x1024 _ (ix3 (batch n) (place n) k) ?_
  rw [Shape.rowMajor_val_two, Shape.rowMajor_val_three]
  show (n.val / 4096 * 4096 + n.val % 4096) * 1024 + k.val = (512 * (n.val / 512) + n.val % 512) * 1024 + k.val
  omega

theorem w_block (t : Fin cfg0.N) : (iblk m c 1 t : S1024x1280.Idx → EReal) = packIn (wIn m c) := (block1 m c t).trans (entry_w m c)
theorem uq_block (t : Fin cfg0.N) : (iblk m c 4 t : S384x1024.Idx → EReal) = packUq (uqIn m c) := (block4 m c t).trans (entry_uq m c)
theorem kn_block (t : Fin cfg0.N) : (iblk m c 5 t : S256x1024.Idx → EReal) = packKn (ukvIn m c) := (block5 m c t).trans (entry_kn m c)
theorem v_block (t : Fin cfg0.N) : (iblk m c 6 t : S256x1024.Idx → EReal) = packV (ukvIn m c) := (block6 m c t).trans (entry_v m c)
theorem one_block (t : Fin cfg0.N) : (iblk m c 7 t : S1x1024.Idx → EReal) = onesRow (F := Ideal) := (block7 m c t).trans (entry_one m c)

theorem gq_at (t : Fin cfg0.N) (i : Fin 384) : (iblk m c 2 t : S1x384.Idx → EReal) (ix2 0 i) = gqIn m c (ix1 i) := by
  refine (congrFun ((block2 m c t).trans (entry_gq m c)) _).trans ?_
  refine shapeCast_apply (gqIn m c) shapeCasts_S384_S1x384 (ix2 0 i) (ix1 i) ?_
  rw [Shape.rowMajor_val_two, Shape.rowMajor_val_one]
  show i.val = 0 * 384 + i.val
  omega

theorem gkv_at (t : Fin cfg0.N) (i : Fin 256) : (iblk m c 3 t : S1x256.Idx → EReal) (ix2 0 i) = gkvIn m c (ix1 i) := by
  refine (congrFun ((block3 m c t).trans (entry_gkv m c)) _).trans ?_
  refine shapeCast_apply (gkvIn m c) shapeCasts_S256_S1x256 (ix2 0 i) (ix1 i) ?_
  rw [Shape.rowMajor_val_two, Shape.rowMajor_val_one]
  show i.val = 0 * 256 + i.val
  omega

/-- The tables' row of a token. -/
theorem table_row : (⟨512 * ((at_ n).val % 8) + (row_ n).val, by omega⟩ : Fin 4096) = place n :=
  Fin.ext (by show 512 * (n.val / 512 % 8) + n.val % 512 = n.val % 4096; omega)

theorem cosq_at (l : Fin 128) : (iblk m c 8 (at_ n) : S512x128.Idx → EReal) (ix2 (row_ n) l) = scaled (table full64 cosines (blank32 (F := Ideal))) (ix2 (place n) l) := by
  refine (block8_at m c (at_ n) (row_ n) l).trans ?_
  rw [entry_cosq, table_row]

theorem sinq_at (l : Fin 128) : (iblk m c 9 (at_ n) : S512x128.Idx → EReal) (ix2 (row_ n) l) = scaled (table blank64 sines (blank32 (F := Ideal))) (ix2 (place n) l) := by
  refine (block9_at m c (at_ n) (row_ n) l).trans ?_
  rw [entry_sinq, table_row]

theorem cos_at (l : Fin 128) : (iblk m c 10 (at_ n) : S512x128.Idx → EReal) (ix2 (row_ n) l) = table full64 cosines (blank32 (F := Ideal)) (ix2 (place n) l) := by
  refine (block10_at m c (at_ n) (row_ n) l).trans ?_
  rw [entry_cos, table_row]

theorem sin_at (l : Fin 128) : (iblk m c 11 (at_ n) : S512x128.Idx → EReal) (ix2 (row_ n) l) = table blank64 sines (blank32 (F := Ideal)) (ix2 (place n) l) := by
  refine (block11_at m c (at_ n) (row_ n) l).trans ?_
  rw [entry_sin, table_row]

end Point

/-! ## What the run leaves -/

section Values

theorem valueQ (fX : ∀ i, IsReal (xIn m c i)) (fW : ∀ i, IsReal (wIn m c i)) (fG : ∀ i, IsReal (gqIn m c i)) (fU : ∀ i, IsReal (uqIn m c i)) : (finished12 m c : S65536x1024.Idx → EReal) = wantedQ (xIn m c) (wIn m c) (gqIn m c) (uqIn m c) := by
  funext i
  have ei : i = (ix2 (i 0) (i 1) : S65536x1024.Idx) := ValueIdx.eq_ix2 i
  generalize ((i 0 : Fin 65536)) = n at ei
  generalize ((i 1 : Fin 1024)) = j at ei
  subst ei
  have key : ∀ (y1 : FVec Ideal S1024x1280 .bf16) (_ : y1 = packIn (wIn m c)) (y4 : FVec Ideal S384x1024 .bf16) (_ : y4 = packUq (uqIn m c)),
      out0_12 (F := Ideal) (iblk m c 0 (at_ n)) y1 (iblk m c 2 (at_ n)) (iblk m c 3 (at_ n)) y4 (iblk m c 5 (at_ n)) (iblk m c 6 (at_ n)) (iblk m c 7 (at_ n)) (iblk m c 8 (at_ n)) (iblk m c 9 (at_ n)) (iblk m c 10 (at_ n)) (iblk m c 11 (at_ n)) (ix2 (row_ n) j) = wantedQ (xIn m c) (wIn m c) (gqIn m c) (uqIn m c) (ix2 n j) := by
    intro y1 e1 y4 e4
    subst e1 e4
    refine Eq.trans ?_ (wanted_at _ n j).symm
    exact q_tile (xIn m c) (wIn m c) (gqIn m c) (uqIn m c) cosines sines (batch n) (place n) (head j) (iblk m c 0 (at_ n)) (row_ n) (x_row m c n) (iblk m c 2 (at_ n)) (gq_at m c _) (iblk m c 3 (at_ n))
      (iblk m c 5 (at_ n)) (iblk m c 6 (at_ n)) (iblk m c 7 (at_ n)) (iblk m c 8 (at_ n)) (iblk m c 9 (at_ n)) (iblk m c 10 (at_ n)) (iblk m c 11 (at_ n)) fX fW fG fU (cosq_at m c n) (sinq_at m c n) (lane j) j
      (split j)
  exact key _ (w_block m c (at_ n)) _ (uq_block m c (at_ n))

theorem valueK (fX : ∀ i, IsReal (xIn m c i)) (fW : ∀ i, IsReal (wIn m c i)) : (finished13 m c : S65536x1024.Idx → EReal) = wantedK (xIn m c) (wIn m c) (gkvIn m c) (ukvIn m c) := by
  funext i
  have ei : i = (ix2 (i 0) (i 1) : S65536x1024.Idx) := ValueIdx.eq_ix2 i
  generalize ((i 0 : Fin 65536)) = n at ei
  generalize ((i 1 : Fin 1024)) = j at ei
  subst ei
  have key : ∀ (y1 : FVec Ideal S1024x1280 .bf16) (_ : y1 = packIn (wIn m c)) (y5 : FVec Ideal S256x1024 .bf16) (_ : y5 = packKn (ukvIn m c)),
      out0_13 (F := Ideal) (iblk m c 0 (at_ n)) y1 (iblk m c 2 (at_ n)) (iblk m c 3 (at_ n)) (iblk m c 4 (at_ n)) y5 (iblk m c 6 (at_ n)) (iblk m c 7 (at_ n)) (iblk m c 8 (at_ n)) (iblk m c 9 (at_ n)) (iblk m c 10 (at_ n)) (iblk m c 11 (at_ n)) (ix2 (row_ n) j) = wantedK (xIn m c) (wIn m c) (gkvIn m c) (ukvIn m c) (ix2 n j) := by
    intro y1 e1 y5 e5
    subst e1 e5
    refine Eq.trans ?_ (wanted_at _ n j).symm
    exact k_tile (xIn m c) (wIn m c) (gkvIn m c) (ukvIn m c) cosines sines (batch n) (place n) (head j) (iblk m c 0 (at_ n)) (row_ n) (x_row m c n) (iblk m c 2 (at_ n)) (iblk m c 3 (at_ n)) (gkv_at m c _)
      (iblk m c 6 (at_ n)) (iblk m c 4 (at_ n)) (iblk m c 7 (at_ n)) (iblk m c 8 (at_ n)) (iblk m c 9 (at_ n)) (iblk m c 10 (at_ n)) (iblk m c 11 (at_ n)) fX fW (cos_at m c n) (sin_at m c n) (lane j) j
      (split j)
  exact key _ (w_block m c (at_ n)) _ (kn_block m c (at_ n))

theorem valueV : (finished14 m c : S65536x1024.Idx → EReal) = wantedV (xIn m c) (wIn m c) (gkvIn m c) (ukvIn m c) := by
  funext i
  have ei : i = (ix2 (i 0) (i 1) : S65536x1024.Idx) := ValueIdx.eq_ix2 i
  generalize ((i 0 : Fin 65536)) = n at ei
  generalize ((i 1 : Fin 1024)) = j at ei
  subst ei
  have key : ∀ (y1 : FVec Ideal S1024x1280 .bf16) (_ : y1 = packIn (wIn m c)) (y6 : FVec Ideal S256x1024 .bf16) (_ : y6 = packV (ukvIn m c)) (y7 : FVec Ideal S1x1024 .f32) (_ : y7 = onesRow (F := Ideal)),
      out0_14 (F := Ideal) (iblk m c 0 (at_ n)) y1 (iblk m c 2 (at_ n)) (iblk m c 3 (at_ n)) (iblk m c 4 (at_ n)) (iblk m c 5 (at_ n)) y6 y7 (iblk m c 8 (at_ n)) (iblk m c 9 (at_ n)) (iblk m c 10 (at_ n)) (iblk m c 11 (at_ n)) (ix2 (row_ n) j) = wantedV (xIn m c) (wIn m c) (gkvIn m c) (ukvIn m c) (ix2 n j) := by
    intro y1 e1 y6 e6 y7 e7
    subst e1 e6 e7
    refine Eq.trans ?_ (wanted_at _ n j).symm
    exact v_tile (xIn m c) (wIn m c) (gkvIn m c) (ukvIn m c) (batch n) (place n) (head j) (iblk m c 0 (at_ n)) (row_ n) (x_row m c n) (iblk m c 2 (at_ n)) (iblk m c 3 (at_ n)) (gkv_at m c _)
      (iblk m c 5 (at_ n)) (iblk m c 4 (at_ n)) (iblk m c 8 (at_ n)) (iblk m c 9 (at_ n)) (iblk m c 10 (at_ n)) (iblk m c 11 (at_ n)) (lane j) j
      (split j)
  exact key _ (w_block m c (at_ n)) _ (v_block m c (at_ n)) _ (one_block m c (at_ n))

theorem valueU : (finished15 m c : S65536x512.Idx → EReal) = wantedU (xIn m c) (wIn m c) := by
  funext i
  have ei : i = (ix2 (i 0) (i 1) : S65536x512.Idx) := ValueIdx.eq_ix2 i
  generalize ((i 0 : Fin 65536)) = n at ei
  generalize ((i 1 : Fin 512)) = j at ei
  subst ei
  have key : ∀ (y1 : FVec Ideal S1024x1280 .bf16) (_ : y1 = packIn (wIn m c)),
      out0_15 (F := Ideal) (iblk m c 0 (at_ n)) y1 (iblk m c 2 (at_ n)) (iblk m c 3 (at_ n)) (iblk m c 4 (at_ n)) (iblk m c 5 (at_ n)) (iblk m c 6 (at_ n)) (iblk m c 7 (at_ n)) (iblk m c 8 (at_ n)) (iblk m c 9 (at_ n)) (iblk m c 10 (at_ n)) (iblk m c 11 (at_ n)) (ix2 (row_ n) j) = wantedU (xIn m c) (wIn m c) (ix2 n j) := by
    intro y1 e1
    subst e1
    refine Eq.trans ?_ (wantedU_at _ _ n j).symm
    exact u_tile (xIn m c) (wIn m c) (batch n) (place n) (iblk m c 0 (at_ n)) (row_ n) (x_row m c n) (iblk m c 2 (at_ n)) (iblk m c 3 (at_ n))
      (iblk m c 5 (at_ n)) (iblk m c 6 (at_ n)) (iblk m c 4 (at_ n)) (iblk m c 7 (at_ n)) (iblk m c 8 (at_ n)) (iblk m c 9 (at_ n)) (iblk m c 10 (at_ n)) (iblk m c 11 (at_ n)) j
  exact key _ (w_block m c (at_ n))

end Values

/-! ## The precondition -/

theorem ofBool_one {p : Bool} (e : BitVec.ofBool p = 1#1) : p = true := by revert e; cases p <;> decide

theorem real_of_olt (x : EReal) (e : Ideal.cmp .olt (max x (-x)) (Ideal.ofBits .f32 0x7F800000#32) = 1#1) : IsReal x := by
  have top : Ideal.ofBits .f32 0x7F800000#32 = ⊤ := by simp [Ideal.ofBits, Ideal.ieee]
  rw [top] at e
  have lt : max x (-x) < ⊤ := of_decide_eq_true (ofBool_one e)
  induction x using EReal.rec with
  | bot => exact absurd lt (by simp)
  | coe r => exact ⟨r, rfl⟩
  | top => exact absurd lt (by simp)

theorem finite_of_pre (X : S16x4096x1024.Idx → EReal) (W : S1024x1184.Idx → EReal) (Gq : S384.Idx → EReal) (Uq : S384x768.Idx → EReal)
    (Gkv : S256.Idx → EReal) (Ukv : S256x1024.Idx → EReal) (h : Cert.Pre_finite_weights.fn (F := Ideal) X W Gq Uq Gkv Ukv = fun _ => 1#1) :
    (∀ i, IsReal (X i)) ∧ (∀ i, IsReal (W i)) ∧ (∀ i, IsReal (Gq i)) ∧ ∀ i, IsReal (Uq i) := by
  have e := congrFun h (fun a => a.elim0)
  dsimp only [Cert.Pre_finite_weights.fn, Cert.Pre_finite_weights.fn_part1] at e
  obtain ⟨e012, e3⟩ := IntOp.andi_eq_one.mp e
  obtain ⟨e01, e2⟩ := IntOp.andi_eq_one.mp e012
  obtain ⟨e0, e1⟩ := IntOp.andi_eq_one.mp e01
  exact ⟨fun i => real_of_olt _ (Host.reduce_andi_all _ _ _ _ _ e0 i), fun i => real_of_olt _ (Host.reduce_andi_all _ _ _ _ _ e1 i),
    fun i => real_of_olt _ (Host.reduce_andi_all _ _ _ _ _ e2 i), fun i => real_of_olt _ (Host.reduce_andi_all _ _ _ _ _ e3 i)⟩

end Cert.Proof.Project

end
-- ==== Proof.lean ====
/-
  The proof of `Cert.Claim`, for six calls of the layer.

  The dispatch's row gather: the frames of the call and of its reference, at both readings, and the equality of their results
  over the extended reals and bit by bit. The run of the SparseCore program is `Proof/Launch.lean`'s `run_main`; what it leaves,
  compared with the reference, is `Proof/Values.lean`; here the claims are read off `Proof/Gathered.lean`, once at `F := Ideal`
  and once at `F := Bits`.

  The experts: the frames of the call at both readings and of its reference over the extended reals, and the equality of their
  results there. The run is `Proof/ExpertsFinal.lean`'s `leaves`, over any floats; its value is `Proof/ExpertsValue.lean`'s.

  The attention: the frames of the call at both readings and of its reference over the extended reals, and the equality of their
  results there for finite queries and keys. What the call leaves is `Proof/AttendFinal.lean`; that it is the reference's result,
  `Proof/AttendValue.lean`, over the softmax's algebra of `Proof/Attend.lean`.

  The last norm, of each of the two batches: the same frames, and the equality of the results, for any arguments. What the call
  leaves is `Proof/CombineFinal.lean` and `Proof/SampleFinal.lean`; that it is the reference's result, `Proof/CombineValue.lean` and
  `Proof/SampleValue.lean`.

  The projections: the same frames, and the equality of the four results for finite tokens, matrices and gain. What the call leaves is
  `Proof/ProjectFinal.lean`; that it is the reference's results, `Proof/ProjectValue.lean`, over one tile's `Proof/ProjectTiles.lean`.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Reference
public import proofs.«01_k».proof.Proof.Gen.Pre_in_rows
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Pre_in_experts
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Pre_finite_scores
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Pre_finite_weights
public import proofs.«01_k».proof.Proof.Gathered
public import proofs.«01_k».proof.Proof.ExpertsFinal
public import proofs.«01_k».proof.Proof.ExpertsRef
public import proofs.«01_k».proof.Proof.ExpertsTile
public import proofs.«01_k».proof.Proof.ExpertsValue
public import proofs.«01_k».proof.Proof.ExpertsFrame
public import proofs.«01_k».proof.Proof.AttendFinal
public import proofs.«01_k».proof.Proof.AttendRef
public import proofs.«01_k».proof.Proof.AttendValue
public import proofs.«01_k».proof.Proof.CombineFinal
public import proofs.«01_k».proof.Proof.CombineRef
public import proofs.«01_k».proof.Proof.CombineValue
public import proofs.«01_k».proof.Proof.SampleFinal
public import proofs.«01_k».proof.Proof.SampleRef
public import proofs.«01_k».proof.Proof.SampleValue
public import proofs.«01_k».proof.Proof.ProjectFinal
public import proofs.«01_k».proof.Proof.ProjectRef
public import proofs.«01_k».proof.Proof.ProjectValue

@[expose] public section

noncomputable section

namespace Cert.Proof

open Idealize.ShloMosaic Idealize.SL.Sem
open Cert.Proof.Values (taken)

/-! ## The row gather: frames -/

theorem frame_kernel_ideal : Cert.quiescent_KernelIdeal := fun m ρ hpre =>
  (θ_run Cert.KernelIdeal.defs _ _).mono (fun _ h => ⟨fun c => (h.1 c).2, h.2⟩) (Gathered.kernel (F := Ideal) m ρ hpre)

/-- The two programs have the same text: the frame at `Bits` is the same run read there. -/
theorem frame_kernel : Cert.quiescent_Kernel := fun m ρ hpre =>
  (θ_run Cert.KernelIdeal.defs _ _).mono (fun _ h => ⟨fun c => (h.1 c).2, h.2⟩) (Gathered.kernel (F := Bits) m ρ hpre)

theorem frame_reference_ideal : Cert.quiescent_ReferenceIdeal := fun m ρ _ =>
  (θ_run Cert.ReferenceIdeal.defs _ _).mono (fun _ h => ⟨fun c => (h.1 c).2, h.2⟩) (Gathered.reference (F := Ideal) m ρ)

theorem frame_reference : Cert.quiescent_Reference := fun m ρ _ =>
  (θ_run Cert.ReferenceIdeal.defs _ _).mono (fun _ h => ⟨fun c => (h.1 c).2, h.2⟩) (Gathered.reference (F := Bits) m ρ)

/-! ## The row gather: values -/

/-- Over the extended reals the kernel's result is the reference's. -/
theorem algebraic : Cert.algebraic_KernelIdeal_ReferenceIdeal := by
  intro m ρ m' ρ' hpre hagree
  refine ⟨fun c => taken (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    (θ_run Cert.KernelIdeal.defs _ _).mono (fun _ h => h.1) (Gathered.kernel (F := Ideal) m ρ hpre),
    (θ_run Cert.ReferenceIdeal.defs _ _).mono (fun _ h c => ⟨(h.1 c).1.trans ?_, (h.1 c).2⟩) (Gathered.reference (F := Ideal) m' ρ')⟩
  exact congrArg₂ taken (hagree c).1 (hagree c).2

/-- Bit by bit the kernel's result is the reference's. -/
theorem bitexact : Cert.bitexact_Kernel_Reference := by
  intro m ρ m' ρ' hpre hagree
  refine ⟨fun c => taken (F := Bits) (m ((c.tc : Thread Cert.Kernel.nD Cert.Kernel.τ).loc Cert.Kernel.main_arg0))
      (m ((c.tc : Thread Cert.Kernel.nD Cert.Kernel.τ).loc Cert.Kernel.main_arg1)),
    (θ_run Cert.KernelIdeal.defs _ _).mono (fun _ h => h.1) (Gathered.kernel (F := Bits) m ρ hpre),
    (θ_run Cert.ReferenceIdeal.defs _ _).mono (fun _ h c => ⟨(h.1 c).1.trans ?_, (h.1 c).2⟩) (Gathered.reference (F := Bits) m' ρ')⟩
  exact congrArg₂ taken (hagree c).1 (hagree c).2

/-! ## The experts: frames -/

theorem frame_kernel2_ideal : Cert.quiescent_Kernel2Ideal := fun m ρ hpre => Experts.framed Ideal m ρ hpre

/-- The two programs have the same text: the frame at `Bits` is the same run read there. -/
theorem frame_kernel2 : Cert.quiescent_Kernel2 := Experts.same_text.mp (Experts.framed Bits)

theorem frame_reference2_ideal : Cert.quiescent_Reference2Ideal := fun m ρ _ =>
  (θ_run Cert.Reference2Ideal.defs _ _).mono
    (fun r h => ⟨fun c => (h c).2, Idealize.ShloMosaic.sem_eq_zero_of_no_sems (by decide) r.2⟩) (Cert.Reference2Ideal.Value.run m ρ)

/-! ## The experts: values -/

/-- Over the extended reals the experts' result is the reference's. -/
theorem algebraic2 : Cert.algebraic_Kernel2Ideal_Reference2Ideal := by
  intro m ρ m' ρ' hpre hagree
  refine ⟨fun c => Experts.finished m (Experts.in_range m hpre) c,
    (θ_run Cert.Kernel2Ideal.defs _ _).mono (fun _ h => h.1) (Experts.leaves (F := Ideal) m (Experts.in_range m hpre) ρ),
    (θ_run Cert.Reference2Ideal.defs _ _).mono (fun _ h c => ⟨(h c).1.trans ?_, (h c).2⟩) (Cert.Reference2Ideal.Value.run m' ρ')⟩
  obtain ⟨a0, a1, a2, a3, a4, a5, a6⟩ := hagree c
  refine (Experts.Ref.result_eq m' c).trans ?_
  rw [a0, a1, a2, a3, a4, a5, a6]
  exact (Experts.value m (Experts.in_range m hpre) c).symm

/-! ## The attention: frames -/

theorem frame_kernel3 : Cert.quiescent_Kernel3 := fun m ρ _ => Cert.Kernel3.Gen.frame m ρ

theorem frame_kernel3_ideal : Cert.quiescent_Kernel3Ideal := fun m ρ _ => Cert.Kernel3Ideal.Gen.frame m ρ

theorem frame_kernel3_ideal_finite : Cert.quiescent_Kernel3Ideal_pre_finite_scores := fun m ρ _ => Cert.Kernel3Ideal.Gen.frame m ρ

theorem frame_reference3_ideal : Cert.quiescent_Reference3Ideal := fun m ρ _ =>
  (θ_run Cert.Reference3Ideal.defs _ _).mono
    (fun r h => ⟨fun c => (h c).2, Idealize.ShloMosaic.sem_eq_zero_of_no_sems (by decide) r.2⟩) (Cert.Reference3Ideal.Value.run m ρ)

theorem frame_reference3_ideal_finite : Cert.quiescent_Reference3Ideal_pre_finite_scores := fun m ρ _ => frame_reference3_ideal m ρ trivial

/-! ## The attention: values -/

/-- Over the extended reals the attention's result is the reference's, for finite queries and keys. -/
theorem algebraic3 : Cert.algebraic_Kernel3Ideal_Reference3Ideal_pre_finite_scores := by
  intro m ρ m' ρ' hpre hagree
  refine ⟨fun c => Attend.finished m c,
    (θ_run Cert.Kernel3Ideal.defs _ _).mono (fun _ h c => ⟨(h c).1.trans (Attend.final3 m c), (h c).2⟩)
      (Cert.Kernel3Ideal.Value.run_blocks (F := Ideal) m ρ),
    (θ_run Cert.Reference3Ideal.defs _ _).mono (fun _ h c => ⟨(h c).1.trans ?_, (h c).2⟩) (Cert.Reference3Ideal.Value.run m' ρ')⟩
  obtain ⟨a0, a1, a2, a3, a4⟩ := hagree c
  refine Eq.trans ?_ (Attend.value m c (Attend.finite_of_pre _ _ _ _ _ (hpre c))).symm
  rw [a0, a1, a2, a3, a4]
  rfl

/-! ## The last norm: frames -/

theorem frame_kernel4 : Cert.quiescent_Kernel4 := fun m ρ _ => Cert.Kernel4.Gen.frame m ρ

theorem frame_kernel4_ideal : Cert.quiescent_Kernel4Ideal := fun m ρ _ => Cert.Kernel4Ideal.Gen.frame m ρ

theorem frame_reference4_ideal : Cert.quiescent_Reference4Ideal := fun m ρ _ =>
  (θ_run Cert.Reference4Ideal.defs _ _).mono
    (fun r h => ⟨fun c => (h c).2, Idealize.ShloMosaic.sem_eq_zero_of_no_sems (by decide) r.2⟩) (Cert.Reference4Ideal.Value.run m ρ)

/-! ## The last norm: values -/

/-- Over the extended reals the last norm's result is the reference's. -/
theorem algebraic4 : Cert.algebraic_Kernel4Ideal_Reference4Ideal := by
  intro m ρ m' ρ' hpre hagree
  refine ⟨fun c => Combine.finished m c,
    (θ_run Cert.Kernel4Ideal.defs _ _).mono (fun _ h c => ⟨(h c).1.trans (Combine.final5 m c), (h c).2⟩)
      (Cert.Kernel4Ideal.Value.run_blocks (F := Ideal) m ρ),
    (θ_run Cert.Reference4Ideal.defs _ _).mono (fun _ h c => ⟨(h c).1.trans ?_, (h c).2⟩) (Cert.Reference4Ideal.Value.run m' ρ')⟩
  obtain ⟨a0, a1, a2, a3⟩ := hagree c
  refine Eq.trans ?_ (Combine.value m c).symm
  rw [a0, a1, a2, a3]

/-! ## The sample's last norm: frames -/

theorem frame_kernel5 : Cert.quiescent_Kernel5 := fun m ρ _ => Cert.Kernel5.Gen.frame m ρ

theorem frame_kernel5_ideal : Cert.quiescent_Kernel5Ideal := fun m ρ _ => Cert.Kernel5Ideal.Gen.frame m ρ

theorem frame_reference5_ideal : Cert.quiescent_Reference5Ideal := fun m ρ _ =>
  (θ_run Cert.Reference5Ideal.defs _ _).mono
    (fun r h => ⟨fun c => (h c).2, Idealize.ShloMosaic.sem_eq_zero_of_no_sems (by decide) r.2⟩) (Cert.Reference5Ideal.Value.run m ρ)

/-! ## The sample's last norm: values -/

/-- Over the extended reals the sample's last norm's result is the reference's. -/
theorem algebraic5 : Cert.algebraic_Kernel5Ideal_Reference5Ideal := by
  intro m ρ m' ρ' hpre hagree
  refine ⟨fun c => Sample.finished m c,
    (θ_run Cert.Kernel5Ideal.defs _ _).mono (fun _ h c => ⟨(h c).1.trans (Sample.final5 m c), (h c).2⟩)
      (Cert.Kernel5Ideal.Value.run_blocks (F := Ideal) m ρ),
    (θ_run Cert.Reference5Ideal.defs _ _).mono (fun _ h c => ⟨(h c).1.trans ?_, (h c).2⟩) (Cert.Reference5Ideal.Value.run m' ρ')⟩
  obtain ⟨a0, a1, a2, a3⟩ := hagree c
  refine Eq.trans ?_ (Sample.value m c).symm
  rw [a0, a1, a2, a3]

/-! ## The projections: frames -/

theorem frame_kernel6 : Cert.quiescent_Kernel6 := fun m ρ _ => Cert.Kernel6.Gen.frame m ρ

theorem frame_kernel6_ideal : Cert.quiescent_Kernel6Ideal := fun m ρ _ => Cert.Kernel6Ideal.Gen.frame m ρ

theorem frame_kernel6_ideal_finite : Cert.quiescent_Kernel6Ideal_pre_finite_weights := fun m ρ _ => Cert.Kernel6Ideal.Gen.frame m ρ

theorem frame_reference6_ideal : Cert.quiescent_Reference6Ideal := fun m ρ _ =>
  (θ_run Cert.Reference6Ideal.defs _ _).mono
    (fun r h => ⟨fun c => (h c).2.2.2.2, Idealize.ShloMosaic.sem_eq_zero_of_no_sems (by decide) r.2⟩) (Cert.Reference6Ideal.Value.run m ρ)

theorem frame_reference6_ideal_finite : Cert.quiescent_Reference6Ideal_pre_finite_weights := fun m ρ _ => frame_reference6_ideal m ρ trivial

/-! ## The projections: values -/

/-- Over the extended reals the projections' four results are the reference's, for finite tokens, matrices and gain. -/
theorem algebraic6 : Cert.algebraic_Kernel6Ideal_Reference6Ideal_pre_finite_weights := by
  intro m ρ m' ρ' hpre hagree
  refine ⟨fun c => Project.finished12 m c, fun c => Project.finished13 m c, fun c => Project.finished14 m c, fun c => Project.finished15 m c,
    (θ_run Cert.Kernel6Ideal.defs _ _).mono (fun _ h c => ⟨(h c).1.trans (Project.final12 m c), (h c).2.1.trans (Project.final13 m c),
      (h c).2.2.1.trans (Project.final14 m c), (h c).2.2.2.1.trans (Project.final15 m c), (h c).2.2.2.2⟩)
      (Cert.Kernel6Ideal.Value.run_blocks (F := Ideal) m ρ),
    (θ_run Cert.Reference6Ideal.defs _ _).mono (fun _ h c => ⟨(h c).1.trans ?_, (h c).2.1.trans ?_, (h c).2.2.1.trans ?_, (h c).2.2.2.1.trans ?_, (h c).2.2.2.2⟩)
      (Cert.Reference6Ideal.Value.run m' ρ')⟩
  all_goals
    obtain ⟨a0, a1, a2, a3, a4, a5⟩ := hagree c
    obtain ⟨fX, fW, fG, fU⟩ := Project.finite_of_pre _ _ _ _ _ _ (hpre c)
  · refine Eq.trans ?_ (Project.valueQ m c fX fW fG fU).symm
    unfold Cert.Reference6Ideal.Value.res_main_v106
    rw [a0, a1, a2, a3]
    rfl
  · refine Eq.trans ?_ (Project.valueK m c fX fW).symm
    unfold Cert.Reference6Ideal.Value.res_main_v108
    rw [a0, a1, a4, a5]
    rfl
  · refine Eq.trans ?_ (Project.valueV m c).symm
    rw [a0, a1, a4, a5]
  · refine Eq.trans ?_ (Project.valueU m c).symm
    rw [a0, a1]

theorem claim : Cert.Claim :=
  ⟨Cert.Kernel.Gen.facts, Cert.KernelIdeal.Gen.facts, Cert.ReferenceIdeal.Gen.facts, Cert.Reference.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts, Cert.Kernel5.Gen.facts,
    Cert.Kernel5Ideal.Gen.facts, Cert.Reference5Ideal.Gen.facts, Cert.Kernel6.Gen.facts, Cert.Kernel6Ideal.Gen.facts, Cert.Reference6Ideal.Gen.facts,
    Cert.Pre_in_rows.Gen.facts, Cert.Pre_in_experts.Gen.facts, Cert.Pre_finite_scores.Gen.facts, Cert.Pre_finite_weights.Gen.facts,
    frame_kernel, frame_kernel_ideal, frame_reference_ideal, frame_reference, frame_kernel2, frame_kernel2_ideal, frame_reference2_ideal,
    frame_kernel3, frame_kernel3_ideal, frame_kernel3_ideal_finite, frame_reference3_ideal, frame_reference3_ideal_finite,
    frame_kernel4, frame_kernel4_ideal, frame_reference4_ideal, frame_kernel5, frame_kernel5_ideal, frame_reference5_ideal,
    frame_kernel6, frame_kernel6_ideal, frame_kernel6_ideal_finite, frame_reference6_ideal, frame_reference6_ideal_finite,
    trivial, algebraic, bitexact, trivial, algebraic2, trivial, algebraic3, trivial, algebraic4, trivial, algebraic5, trivial, algebraic6⟩

end Cert.Proof

end
